-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_separated [hPre_separated : Cert.Pre_separated.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_separated.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).1 = (fun _ => 1#1)
    ∧ (Cert.Pre_separated.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.1 = (fun _ => 1#1)
    ∧ (Cert.Pre_separated.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.2.1 = (fun _ => 1#1)
    ∧ (Cert.Pre_separated.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.2.2.1 = (fun _ => 1#1)
    ∧ (Cert.Pre_separated.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.2.2.2.1 = (fun _ => 1#1)
    ∧ (Cert.Pre_separated.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.2.2.2.2.1 = (fun _ => 1#1)
    ∧ (Cert.Pre_separated.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.2.2.2.2.2.1 = (fun _ => 1#1)
    ∧ (Cert.Pre_separated.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.2.2.2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_separated [hPre_separated : Cert.Pre_separated.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_separated.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).1 = (fun _ => 1#1)
    ∧ (Cert.Pre_separated.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).2.1 = (fun _ => 1#1)
    ∧ (Cert.Pre_separated.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).2.2.1 = (fun _ => 1#1)
    ∧ (Cert.Pre_separated.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).2.2.2.1 = (fun _ => 1#1)
    ∧ (Cert.Pre_separated.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).2.2.2.2.1 = (fun _ => 1#1)
    ∧ (Cert.Pre_separated.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).2.2.2.2.2.1 = (fun _ => 1#1)
    ∧ (Cert.Pre_separated.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).2.2.2.2.2.2.1 = (fun _ => 1#1)
    ∧ (Cert.Pre_separated.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).2.2.2.2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))).1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))).2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))).1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))).2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_separated4 [hPre_separated4 : Cert.Pre_separated4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_separated4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2))).1 = (fun _ => 1#1)
    ∧ (Cert.Pre_separated4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2))).2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_separated4 [hPre_separated4 : Cert.Pre_separated4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_separated4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2))).1 = (fun _ => 1#1)
    ∧ (Cert.Pre_separated4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2))).2 = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_separated6 [hPre_separated6 : Cert.Pre_separated6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_separated6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7))).1 = (fun _ => 1#1)
    ∧ (Cert.Pre_separated6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7))).2.1 = (fun _ => 1#1)
    ∧ (Cert.Pre_separated6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7))).2.2.1 = (fun _ => 1#1)
    ∧ (Cert.Pre_separated6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7))).2.2.2.1 = (fun _ => 1#1)
    ∧ (Cert.Pre_separated6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7))).2.2.2.2.1 = (fun _ => 1#1)
    ∧ (Cert.Pre_separated6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7))).2.2.2.2.2.1 = (fun _ => 1#1)
    ∧ (Cert.Pre_separated6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7))).2.2.2.2.2.2.1 = (fun _ => 1#1)
    ∧ (Cert.Pre_separated6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7))).2.2.2.2.2.2.2.1 = (fun _ => 1#1)
    ∧ (Cert.Pre_separated6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7))).2.2.2.2.2.2.2.2.1 = (fun _ => 1#1)
    ∧ (Cert.Pre_separated6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7))).2.2.2.2.2.2.2.2.2 = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_separated6 [hPre_separated6 : Cert.Pre_separated6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_separated6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7))).1 = (fun _ => 1#1)
    ∧ (Cert.Pre_separated6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7))).2.1 = (fun _ => 1#1)
    ∧ (Cert.Pre_separated6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7))).2.2.1 = (fun _ => 1#1)
    ∧ (Cert.Pre_separated6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7))).2.2.2.1 = (fun _ => 1#1)
    ∧ (Cert.Pre_separated6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7))).2.2.2.2.1 = (fun _ => 1#1)
    ∧ (Cert.Pre_separated6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7))).2.2.2.2.2.1 = (fun _ => 1#1)
    ∧ (Cert.Pre_separated6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7))).2.2.2.2.2.2.1 = (fun _ => 1#1)
    ∧ (Cert.Pre_separated6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7))).2.2.2.2.2.2.2.1 = (fun _ => 1#1)
    ∧ (Cert.Pre_separated6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7))).2.2.2.2.2.2.2.2.1 = (fun _ => 1#1)
    ∧ (Cert.Pre_separated6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7))).2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Kernel2Ideal_pre_separated [hKernel2Ideal : Cert.Kernel2Ideal.Facts] [hPre_separated : Cert.Pre_separated.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_separated m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Reference2Ideal_pre_separated [hReference2Ideal : Cert.Reference2Ideal.Facts] [hPre_separated : Cert.Pre_separated.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_separated m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Kernel4Ideal_pre_separated4 [hKernel4Ideal : Cert.Kernel4Ideal.Facts] [hPre_separated4 : Cert.Pre_separated4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_separated4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Reference4Ideal_pre_separated4 [hReference4Ideal : Cert.Reference4Ideal.Facts] [hPre_separated4 : Cert.Pre_separated4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_separated4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ r.2.sem = fun _ => 0)

def quiescent_Kernel6Ideal_pre_separated6 [hKernel6Ideal : Cert.Kernel6Ideal.Facts] [hPre_separated6 : Cert.Pre_separated6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_separated6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7))
      ∧ r.2.sem = fun _ => 0)

def quiescent_Reference6Ideal_pre_separated6 [hReference6Ideal : Cert.Reference6Ideal.Facts] [hPre_separated6 : Cert.Pre_separated6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_separated6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7))
      ∧ r.2.sem = fun _ => 0)

def preserves_Kernel_KernelIdeal : Prop :=
  True

def preserves_Kernel2_Kernel2Ideal : Prop :=
  True

def preserves_Kernel3_Kernel3Ideal : Prop :=
  True

def preserves_Kernel4_Kernel4Ideal : Prop :=
  True

def preserves_Kernel5_Kernel5Ideal : Prop :=
  True

def preserves_Kernel6_Kernel6Ideal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v15_0)) (v1 : (c : Dev Cert.KernelIdeal.nD) → Buf (Elt Ideal) ((c.tc : Thread Cert.KernelIdeal.nD Cert.KernelIdeal.τ).loc Cert.KernelIdeal.main_v15_1)) (v2 : (c : Dev Cert.KernelIdeal.nD) → Buf (Elt Ideal) ((c.tc : Thread Cert.KernelIdeal.nD Cert.KernelIdeal.τ).loc Cert.KernelIdeal.main_v15_2)) (v3 : (c : Dev Cert.KernelIdeal.nD) → Buf (Elt Ideal) ((c.tc : Thread Cert.KernelIdeal.nD Cert.KernelIdeal.τ).loc Cert.KernelIdeal.main_v15_3)) (v4 : (c : Dev Cert.KernelIdeal.nD) → Buf (Elt Ideal) ((c.tc : Thread Cert.KernelIdeal.nD Cert.KernelIdeal.τ).loc Cert.KernelIdeal.main_v15_4)) (v5 : (c : Dev Cert.KernelIdeal.nD) → Buf (Elt Ideal) ((c.tc : Thread Cert.KernelIdeal.nD Cert.KernelIdeal.τ).loc Cert.KernelIdeal.main_v15_5)) (v6 : (c : Dev Cert.KernelIdeal.nD) → Buf (Elt Ideal) ((c.tc : Thread Cert.KernelIdeal.nD Cert.KernelIdeal.τ).loc Cert.KernelIdeal.main_v15_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15_0) = v0 c
          ∧ r.2.mem ((c.tc : Thread Cert.KernelIdeal.nD Cert.KernelIdeal.τ).loc Cert.KernelIdeal.main_v15_1) = v1 c
          ∧ r.2.mem ((c.tc : Thread Cert.KernelIdeal.nD Cert.KernelIdeal.τ).loc Cert.KernelIdeal.main_v15_2) = v2 c
          ∧ r.2.mem ((c.tc : Thread Cert.KernelIdeal.nD Cert.KernelIdeal.τ).loc Cert.KernelIdeal.main_v15_3) = v3 c
          ∧ r.2.mem ((c.tc : Thread Cert.KernelIdeal.nD Cert.KernelIdeal.τ).loc Cert.KernelIdeal.main_v15_4) = v4 c
          ∧ r.2.mem ((c.tc : Thread Cert.KernelIdeal.nD Cert.KernelIdeal.τ).loc Cert.KernelIdeal.main_v15_5) = v5 c
          ∧ r.2.mem ((c.tc : Thread Cert.KernelIdeal.nD Cert.KernelIdeal.τ).loc Cert.KernelIdeal.main_v15_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_v77) = v1 c
          ∧ r.2.mem ((c.tc : Thread Cert.ReferenceIdeal.nD Cert.ReferenceIdeal.τ).loc Cert.ReferenceIdeal.main_v112) = v2 c
          ∧ r.2.mem ((c.tc : Thread Cert.ReferenceIdeal.nD Cert.ReferenceIdeal.τ).loc Cert.ReferenceIdeal.main_v117) = v3 c
          ∧ r.2.mem ((c.tc : Thread Cert.ReferenceIdeal.nD Cert.ReferenceIdeal.τ).loc Cert.ReferenceIdeal.main_v96) = v4 c
          ∧ r.2.mem ((c.tc : Thread Cert.ReferenceIdeal.nD Cert.ReferenceIdeal.τ).loc Cert.ReferenceIdeal.main_v101) = v5 c
          ∧ r.2.mem ((c.tc : Thread Cert.ReferenceIdeal.nD Cert.ReferenceIdeal.τ).loc Cert.ReferenceIdeal.main_v121) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def algebraic_Kernel2Ideal_Reference2Ideal_pre_separated [hKernel2Ideal : Cert.Kernel2Ideal.Facts] [hReference2Ideal : Cert.Reference2Ideal.Facts] [hPre_separated : Cert.Pre_separated.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_separated m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v15_0)) (v1 : (c : Dev Cert.Kernel2Ideal.nD) → Buf (Elt Ideal) ((c.tc : Thread Cert.Kernel2Ideal.nD Cert.Kernel2Ideal.τ).loc Cert.Kernel2Ideal.main_v15_1)) (v2 : (c : Dev Cert.Kernel2Ideal.nD) → Buf (Elt Ideal) ((c.tc : Thread Cert.Kernel2Ideal.nD Cert.Kernel2Ideal.τ).loc Cert.Kernel2Ideal.main_v15_2)) (v3 : (c : Dev Cert.Kernel2Ideal.nD) → Buf (Elt Ideal) ((c.tc : Thread Cert.Kernel2Ideal.nD Cert.Kernel2Ideal.τ).loc Cert.Kernel2Ideal.main_v15_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v15_0) = v0 c
          ∧ r.2.mem ((c.tc : Thread Cert.Kernel2Ideal.nD Cert.Kernel2Ideal.τ).loc Cert.Kernel2Ideal.main_v15_1) = v1 c
          ∧ r.2.mem ((c.tc : Thread Cert.Kernel2Ideal.nD Cert.Kernel2Ideal.τ).loc Cert.Kernel2Ideal.main_v15_2) = v2 c
          ∧ r.2.mem ((c.tc : Thread Cert.Kernel2Ideal.nD Cert.Kernel2Ideal.τ).loc Cert.Kernel2Ideal.main_v15_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v23) = v0 c
          ∧ r.2.mem ((c.tc : Thread Cert.Reference2Ideal.nD Cert.Reference2Ideal.τ).loc Cert.Reference2Ideal.main_v24) = v1 c
          ∧ r.2.mem ((c.tc : Thread Cert.Reference2Ideal.nD Cert.Reference2Ideal.τ).loc Cert.Reference2Ideal.main_v137) = v2 c
          ∧ r.2.mem ((c.tc : Thread Cert.Reference2Ideal.nD Cert.Reference2Ideal.τ).loc Cert.Reference2Ideal.main_v142) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v15_0)) (v1 : (c : Dev Cert.Kernel3Ideal.nD) → Buf (Elt Ideal) ((c.tc : Thread Cert.Kernel3Ideal.nD Cert.Kernel3Ideal.τ).loc Cert.Kernel3Ideal.main_v15_1)) (v2 : (c : Dev Cert.Kernel3Ideal.nD) → Buf (Elt Ideal) ((c.tc : Thread Cert.Kernel3Ideal.nD Cert.Kernel3Ideal.τ).loc Cert.Kernel3Ideal.main_v15_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v15_0) = v0 c
          ∧ r.2.mem ((c.tc : Thread Cert.Kernel3Ideal.nD Cert.Kernel3Ideal.τ).loc Cert.Kernel3Ideal.main_v15_1) = v1 c
          ∧ r.2.mem ((c.tc : Thread Cert.Kernel3Ideal.nD Cert.Kernel3Ideal.τ).loc Cert.Kernel3Ideal.main_v15_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v128) = v0 c
          ∧ r.2.mem ((c.tc : Thread Cert.Reference3Ideal.nD Cert.Reference3Ideal.τ).loc Cert.Reference3Ideal.main_v133) = v1 c
          ∧ r.2.mem ((c.tc : Thread Cert.Reference3Ideal.nD Cert.Reference3Ideal.τ).loc Cert.Reference3Ideal.main_v137) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def algebraic_Kernel4Ideal_Reference4Ideal_pre_separated4 [hKernel4Ideal : Cert.Kernel4Ideal.Facts] [hReference4Ideal : Cert.Reference4Ideal.Facts] [hPre_separated4 : Cert.Pre_separated4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_separated4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v9) = v0 c
          ∧ r.2.mem ((c.tc : Thread Cert.Reference4Ideal.nD Cert.Reference4Ideal.τ).loc Cert.Reference4Ideal.main_v10) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v3_0)) (v1 : (c : Dev Cert.Kernel5Ideal.nD) → Buf (Elt Ideal) ((c.tc : Thread Cert.Kernel5Ideal.nD Cert.Kernel5Ideal.τ).loc Cert.Kernel5Ideal.main_v3_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3_0) = v0 c
          ∧ r.2.mem ((c.tc : Thread Cert.Kernel5Ideal.nD Cert.Kernel5Ideal.τ).loc Cert.Kernel5Ideal.main_v3_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_v5) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def algebraic_Kernel6Ideal_Reference6Ideal_pre_separated6 [hKernel6Ideal : Cert.Kernel6Ideal.Facts] [hReference6Ideal : Cert.Reference6Ideal.Facts] [hPre_separated6 : Cert.Pre_separated6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_separated6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)) →
    ∃ (v0 : (c : Dev Cert.Kernel6Ideal.nD) → Buf (Elt Ideal) ((c.tc : Thread Cert.Kernel6Ideal.nD Cert.Kernel6Ideal.τ).loc Cert.Kernel6Ideal.main_v15_0)) (v1 : (c : Dev Cert.Kernel6Ideal.nD) → Buf (Elt Ideal) ((c.tc : Thread Cert.Kernel6Ideal.nD Cert.Kernel6Ideal.τ).loc Cert.Kernel6Ideal.main_v15_1)) (v2 : (c : Dev Cert.Kernel6Ideal.nD) → Buf (Elt Ideal) ((c.tc : Thread Cert.Kernel6Ideal.nD Cert.Kernel6Ideal.τ).loc Cert.Kernel6Ideal.main_v16_0)) (v3 : (c : Dev Cert.Kernel6Ideal.nD) → Buf (Elt Ideal) ((c.tc : Thread Cert.Kernel6Ideal.nD Cert.Kernel6Ideal.τ).loc Cert.Kernel6Ideal.main_v16_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v15_0) = v0 c
          ∧ r.2.mem ((c.tc : Thread Cert.Kernel6Ideal.nD Cert.Kernel6Ideal.τ).loc Cert.Kernel6Ideal.main_v15_1) = v1 c
          ∧ r.2.mem ((c.tc : Thread Cert.Kernel6Ideal.nD Cert.Kernel6Ideal.τ).loc Cert.Kernel6Ideal.main_v16_0) = v2 c
          ∧ r.2.mem ((c.tc : Thread Cert.Kernel6Ideal.nD Cert.Kernel6Ideal.τ).loc Cert.Kernel6Ideal.main_v16_1) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v76) = v0 c
          ∧ r.2.mem ((c.tc : Thread Cert.Reference6Ideal.nD Cert.Reference6Ideal.τ).loc Cert.Reference6Ideal.main_v77) = v1 c
          ∧ r.2.mem ((c.tc : Thread Cert.Reference6Ideal.nD Cert.Reference6Ideal.τ).loc Cert.Reference6Ideal.main_v115) = v2 c
          ∧ r.2.mem ((c.tc : Thread Cert.Reference6Ideal.nD Cert.Reference6Ideal.τ).loc Cert.Reference6Ideal.main_v116) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts) (hPre_separated : Cert.Pre_separated.Facts) (hPre_finite3 : Cert.Pre_finite3.Facts) (hPre_separated4 : Cert.Pre_separated4.Facts) (hPre_separated6 : Cert.Pre_separated6.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_separated (hKernel2Ideal := hKernel2Ideal) (hPre_separated := hPre_separated)
    ∧ quiescent_Reference2Ideal (hReference2Ideal := hReference2Ideal)
    ∧ quiescent_Reference2Ideal_pre_separated (hReference2Ideal := hReference2Ideal) (hPre_separated := hPre_separated)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Kernel4Ideal_pre_separated4 (hKernel4Ideal := hKernel4Ideal) (hPre_separated4 := hPre_separated4)
    ∧ quiescent_Reference4Ideal (hReference4Ideal := hReference4Ideal)
    ∧ quiescent_Reference4Ideal_pre_separated4 (hReference4Ideal := hReference4Ideal) (hPre_separated4 := hPre_separated4)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_separated6 (hKernel6Ideal := hKernel6Ideal) (hPre_separated6 := hPre_separated6)
    ∧ quiescent_Reference6Ideal (hReference6Ideal := hReference6Ideal)
    ∧ quiescent_Reference6Ideal_pre_separated6 (hReference6Ideal := hReference6Ideal) (hPre_separated6 := hPre_separated6)
    ∧ preserves_Kernel_KernelIdeal
    ∧ preserves_Kernel2_Kernel2Ideal
    ∧ preserves_Kernel3_Kernel3Ideal
    ∧ preserves_Kernel4_Kernel4Ideal
    ∧ preserves_Kernel5_Kernel5Ideal
    ∧ preserves_Kernel6_Kernel6Ideal
    ∧ algebraic_KernelIdeal_ReferenceIdeal_pre_finite (hKernelIdeal := hKernelIdeal) (hReferenceIdeal := hReferenceIdeal) (hPre_finite := hPre_finite)
    ∧ algebraic_Kernel2Ideal_Reference2Ideal_pre_separated (hKernel2Ideal := hKernel2Ideal) (hReference2Ideal := hReference2Ideal) (hPre_separated := hPre_separated)
    ∧ algebraic_Kernel3Ideal_Reference3Ideal_pre_finite3 (hKernel3Ideal := hKernel3Ideal) (hReference3Ideal := hReference3Ideal) (hPre_finite3 := hPre_finite3)
    ∧ algebraic_Kernel4Ideal_Reference4Ideal_pre_separated4 (hKernel4Ideal := hKernel4Ideal) (hReference4Ideal := hReference4Ideal) (hPre_separated4 := hPre_separated4)
    ∧ algebraic_Kernel5Ideal_Reference5Ideal (hKernel5Ideal := hKernel5Ideal) (hReference5Ideal := hReference5Ideal)
    ∧ algebraic_Kernel6Ideal_Reference6Ideal_pre_separated6 (hKernel6Ideal := hKernel6Ideal) (hReference6Ideal := hReference6Ideal) (hPre_separated6 := hPre_separated6)
-- ==== Pre_finite.lean ====
abbrev S4x512x512 : Shape := ⟨3, ![4, 512, 512]⟩
abbrev S512x512 : Shape := ⟨2, ![512, 512]⟩
abbrev S_ : Shape := ⟨0, ![]⟩

class Facts : Prop where
  bcast_S_S4x512x512 : S_.BroadcastsInDim S4x512x512 (![] : Fin 0 → Fin S4x512x512.rank)
  bcast_S_S512x512 : S_.BroadcastsInDim S512x512 (![] : Fin 0 → Fin S512x512.rank)

variable [Facts]

def fn_part1 {F : FTy → Type} [FloatOps F] (main_arg6 : FVec F S512x512 .f32) (main_arg7 : FVec F S512x512 .f32) (main_v2 : IVec S4x512x512 1) (main_v5 : IVec S4x512x512 1) (main_v8 : IVec S4x512x512 1) (main_v11 : IVec S4x512x512 1) (main_v14 : IVec S4x512x512 1) (main_v17 : IVec S4x512x512 1) : IVec S4x512x512 1 × IVec S4x512x512 1 × IVec S4x512x512 1 × IVec S4x512x512 1 × IVec S4x512x512 1 × IVec S4x512x512 1 × IVec S512x512 1 × IVec S512x512 1 :=
  let main_v18 : FVec F S512x512 .f32 := Host.absf main_arg6
  let main_cst_5 : FVec F S_ .f32 := constant S_ .f32 0x7F800000#32
  let main_v19 : FVec F S512x512 .f32 := broadcastInDim S512x512 ![] bcast_S_S512x512 main_cst_5
  let main_v20 : IVec S512x512 1 := cmpf .olt main_v18 main_v19
  let main_v21 : FVec F S512x512 .f32 := Host.absf main_arg7
  let main_cst_6 : FVec F S_ .f32 := constant S_ .f32 0x7F800000#32
  let main_v22 : FVec F S512x512 .f32 := broadcastInDim S512x512 ![] bcast_S_S512x512 main_cst_6
  let main_v23 : IVec S512x512 1 := cmpf .olt main_v21 main_v22
  (main_v2, main_v5, main_v8, main_v11, main_v14, main_v17, main_v20, main_v23)

def fn {F : FTy → Type} [FloatOps F] (main_arg0 : FVec F S4x512x512 .f32) (main_arg1 : FVec F S4x512x512 .f32) (main_arg2 : FVec F S4x512x512 .f32) (main_arg3 : FVec F S4x512x512 .f32) (main_arg4 : FVec F S4x512x512 .f32) (main_arg5 : FVec F S4x512x512 .f32) (main_arg6 : FVec F S512x512 .f32) (main_arg7 : FVec F S512x512 .f32) : IVec S4x512x512 1 × IVec S4x512x512 1 × IVec S4x512x512 1 × IVec S4x512x512 1 × IVec S4x512x512 1 × IVec S4x512x512 1 × IVec S512x512 1 × IVec S512x512 1 :=
  let main_v0 : FVec F S4x512x512 .f32 := Host.absf main_arg0
  let main_cst : FVec F S_ .f32 := constant S_ .f32 0x7F800000#32
  let main_v1 : FVec F S4x512x512 .f32 := broadcastInDim S4x512x512 ![] bcast_S_S4x512x512 main_cst
  let main_v2 : IVec S4x512x512 1 := cmpf .olt main_v0 main_v1
  let main_v3 : FVec F S4x512x512 .f32 := Host.absf main_arg1
  let main_cst_0 : FVec F S_ .f32 := constant S_ .f32 0x7F800000#32
  let main_v4 : FVec F S4x512x512 .f32 := broadcastInDim S4x512x512 ![] bcast_S_S4x512x512 main_cst_0
  let main_v5 : IVec S4x512x512 1 := cmpf .olt main_v3 main_v4
  let main_v6 : FVec F S4x512x512 .f32 := Host.absf main_arg2
  let main_cst_1 : FVec F S_ .f32 := constant S_ .f32 0x7F800000#32
  let main_v7 : FVec F S4x512x512 .f32 := broadcastInDim S4x512x512 ![] bcast_S_S4x512x512 main_cst_1
  let main_v8 : IVec S4x512x512 1 := cmpf .olt main_v6 main_v7
  let main_v9 : FVec F S4x512x512 .f32 := Host.absf main_arg3
  let main_cst_2 : FVec F S_ .f32 := constant S_ .f32 0x7F800000#32
  let main_v10 : FVec F S4x512x512 .f32 := broadcastInDim S4x512x512 ![] bcast_S_S4x512x512 main_cst_2
  let main_v11 : IVec S4x512x512 1 := cmpf .olt main_v9 main_v10
  let main_v12 : FVec F S4x512x512 .f32 := Host.absf main_arg4
  let main_cst_3 : FVec F S_ .f32 := constant S_ .f32 0x7F800000#32
  let main_v13 : FVec F S4x512x512 .f32 := broadcastInDim S4x512x512 ![] bcast_S_S4x512x512 main_cst_3
  let main_v14 : IVec S4x512x512 1 := cmpf .olt main_v12 main_v13
  let main_v15 : FVec F S4x512x512 .f32 := Host.absf main_arg5
  let main_cst_4 : FVec F S_ .f32 := constant S_ .f32 0x7F800000#32
  let main_v16 : FVec F S4x512x512 .f32 := broadcastInDim S4x512x512 ![] bcast_S_S4x512x512 main_cst_4
  let main_v17 : IVec S4x512x512 1 := cmpf .olt main_v15 main_v16
  fn_part1 (F := F) main_arg6 main_arg7 main_v2 main_v5 main_v8 main_v11 main_v14 main_v17
-- ==== Pre_finite3.lean ====
abbrev S4x512x512 : Shape := ⟨3, ![4, 512, 512]⟩
abbrev S512x512 : Shape := ⟨2, ![512, 512]⟩
abbrev S_ : Shape := ⟨0, ![]⟩

class Facts : Prop where
  bcast_S_S4x512x512 : S_.BroadcastsInDim S4x512x512 (![] : Fin 0 → Fin S4x512x512.rank)

variable [Facts]

def fn {F : FTy → Type} [FloatOps F] (main_arg0 : FVec F S4x512x512 .f32) (main_arg1 : FVec F S4x512x512 .f32) (main_arg2 : FVec F S512x512 .f32) (main_arg3 : FVec F S512x512 .f32) : IVec S4x512x512 1 × IVec S4x512x512 1 :=
  let main_v0 : FVec F S4x512x512 .f32 := Host.absf main_arg0
  let main_cst : FVec F S_ .f32 := constant S_ .f32 0x7F800000#32
  let main_v1 : FVec F S4x512x512 .f32 := broadcastInDim S4x512x512 ![] bcast_S_S4x512x512 main_cst
  let main_v2 : IVec S4x512x512 1 := cmpf .olt main_v0 main_v1
  let main_v3 : FVec F S4x512x512 .f32 := Host.absf main_arg1
  let main_cst_0 : FVec F S_ .f32 := constant S_ .f32 0x7F800000#32
  let main_v4 : FVec F S4x512x512 .f32 := broadcastInDim S4x512x512 ![] bcast_S_S4x512x512 main_cst_0
  let main_v5 : IVec S4x512x512 1 := cmpf .olt main_v3 main_v4
  (main_v2, main_v5)
-- ==== Pre_separated.lean ====
abbrev S4x512x512 : Shape := ⟨3, ![4, 512, 512]⟩
abbrev S512x512 : Shape := ⟨2, ![512, 512]⟩
abbrev S_ : Shape := ⟨0, ![]⟩
abbrev S1048576 : Shape := ⟨1, ![1048576]⟩
abbrev S2000 : Shape := ⟨1, ![2000]⟩

class Facts : Prop where
  bcast_S_S4x512x512 : S_.BroadcastsInDim S4x512x512 (![] : Fin 0 → Fin S4x512x512.rank)
  bcast_S_S512x512 : S_.BroadcastsInDim S512x512 (![] : Fin 0 → Fin S512x512.rank)
  shapeCasts_S4x512x512_S1048576 : S4x512x512.ShapeCasts S1048576
  sliceFits_S1048576_S2000 : S1048576.Slices (fun _ => 0) S2000
  reducesTo_S2000_S_d0 : S2000.ReducesTo [0] S_
  h_S_ : 0 < S_.numel

variable [Facts]

def fn_part2 {F : FTy → Type} [FloatOps F] (main_v2 : IVec S4x512x512 1) (main_v5 : IVec S4x512x512 1) (main_v8 : IVec S4x512x512 1) (main_v11 : IVec S4x512x512 1) (main_v14 : IVec S512x512 1) (main_v17 : IVec S512x512 1) (main_v28 : IVec S_ 1) (main_v30 : IVec S4x512x512 1) (main_v34 : IVec S4x512x512 1) : IVec S4x512x512 1 × IVec S4x512x512 1 × IVec S4x512x512 1 × IVec S4x512x512 1 × IVec S512x512 1 × IVec S512x512 1 × IVec S_ 1 × IVec S4x512x512 1 :=
  let main_v35 : IVec S4x512x512 1 := ori main_v30 main_v34
  (main_v2, main_v5, main_v8, main_v11, main_v14, main_v17, main_v28, main_v35)

def fn_part1 {F : FTy → Type} [FloatOps F] (main_arg0 : FVec F S4x512x512 .f32) (main_arg1 : FVec F S4x512x512 .f32) (main_arg2 : FVec F S4x512x512 .f32) (main_v2 : IVec S4x512x512 1) (main_v5 : IVec S4x512x512 1) (main_v8 : IVec S4x512x512 1) (main_v11 : IVec S4x512x512 1) (main_v14 : IVec S512x512 1) (main_v17 : IVec S512x512 1) : IVec S4x512x512 1 × IVec S4x512x512 1 × IVec S4x512x512 1 × IVec S4x512x512 1 × IVec S512x512 1 × IVec S512x512 1 × IVec S_ 1 × IVec S4x512x512 1 :=
  let main_v18 : FVec F S1048576 .f32 := shapeCast S1048576 main_arg0 shapeCasts_S4x512x512_S1048576
  let main_values : FVec F S2000 .f32 := (fun x => (Host.topK S2000 0 (FloatOps.cmpfTotal .gt) x sliceFits_S1048576_S2000).1) main_v18
  let main_indices : IVec S2000 32 := (fun x => (Host.topK S2000 0 (FloatOps.cmpfTotal .gt) x sliceFits_S1048576_S2000).2) main_v18
  let main_cst_5 : FVec F S_ .f32 := constant S_ .f32 0x7F800000#32
  let main_v19 : FVec F S_ .f32 := (fun x v => Host.reduce FloatOps.minimumf x v reducesTo_S2000_S_d0 h_S_) main_values main_cst_5
  let main_v20 : FVec F S4x512x512 .f32 := mulf main_arg1 main_arg1
  let main_v21 : FVec F S4x512x512 .f32 := mulf main_arg2 main_arg2
  let main_v22 : FVec F S4x512x512 .f32 := addf main_v20 main_v21
  let main_v23 : FVec F S4x512x512 .f32 := Host.sqrt main_v22
  let main_cst_6 : FVec F S_ .f32 := constant S_ .f32 0x00000000#32
  let main_v24 : IVec S_ 1 := cmpf .ole main_v19 main_cst_6
  let main_cst_7 : FVec F S_ .f32 := constant S_ .f32 0x00800000#32
  let main_v25 : IVec S_ 1 := cmpf .oge main_v19 main_cst_7
  let main_cst_8 : FVec F S_ .f32 := constant S_ .f32 0x7F7FFFFF#32
  let main_v26 : IVec S_ 1 := cmpf .ole main_v19 main_cst_8
  let main_v27 : IVec S_ 1 := andi main_v25 main_v26
  let main_v28 : IVec S_ 1 := ori main_v24 main_v27
  let main_v29 : FVec F S4x512x512 .f32 := broadcastInDim S4x512x512 ![] bcast_S_S4x512x512 main_v19
  let main_v30 : IVec S4x512x512 1 := cmpf .oge main_v23 main_v29
  let main_cst_9 : FVec F S_ .f32 := constant S_ .f32 0x3F800001#32
  let main_v31 : FVec F S4x512x512 .f32 := broadcastInDim S4x512x512 ![] bcast_S_S4x512x512 main_cst_9
  let main_v32 : FVec F S4x512x512 .f32 := mulf main_v23 main_v31
  let main_v33 : FVec F S4x512x512 .f32 := broadcastInDim S4x512x512 ![] bcast_S_S4x512x512 main_v19
  let main_v34 : IVec S4x512x512 1 := cmpf .ole main_v32 main_v33
  fn_part2 (F := F) main_v2 main_v5 main_v8 main_v11 main_v14 main_v17 main_v28 main_v30 main_v34

def fn {F : FTy → Type} [FloatOps F] (main_arg0 : FVec F S4x512x512 .f32) (main_arg1 : FVec F S4x512x512 .f32) (main_arg2 : FVec F S4x512x512 .f32) (main_arg3 : FVec F S4x512x512 .f32) (main_arg4 : FVec F S4x512x512 .f32) (main_arg5 : FVec F S512x512 .f32) (main_arg6 : FVec F S512x512 .f32) : IVec S4x512x512 1 × IVec S4x512x512 1 × IVec S4x512x512 1 × IVec S4x512x512 1 × IVec S512x512 1 × IVec S512x512 1 × IVec S_ 1 × IVec S4x512x512 1 :=
  let main_v0 : FVec F S4x512x512 .f32 := Host.absf main_arg1
  let main_cst : FVec F S_ .f32 := constant S_ .f32 0x7F800000#32
  let main_v1 : FVec F S4x512x512 .f32 := broadcastInDim S4x512x512 ![] bcast_S_S4x512x512 main_cst
  let main_v2 : IVec S4x512x512 1 := cmpf .olt main_v0 main_v1
  let main_v3 : FVec F S4x512x512 .f32 := Host.absf main_arg2
  let main_cst_0 : FVec F S_ .f32 := constant S_ .f32 0x7F800000#32
  let main_v4 : FVec F S4x512x512 .f32 := broadcastInDim S4x512x512 ![] bcast_S_S4x512x512 main_cst_0
  let main_v5 : IVec S4x512x512 1 := cmpf .olt main_v3 main_v4
  let main_v6 : FVec F S4x512x512 .f32 := Host.absf main_arg3
  let main_cst_1 : FVec F S_ .f32 := constant S_ .f32 0x7F800000#32
  let main_v7 : FVec F S4x512x512 .f32 := broadcastInDim S4x512x512 ![] bcast_S_S4x512x512 main_cst_1
  let main_v8 : IVec S4x512x512 1 := cmpf .olt main_v6 main_v7
  let main_v9 : FVec F S4x512x512 .f32 := Host.absf main_arg4
  let main_cst_2 : FVec F S_ .f32 := constant S_ .f32 0x7F800000#32
  let main_v10 : FVec F S4x512x512 .f32 := broadcastInDim S4x512x512 ![] bcast_S_S4x512x512 main_cst_2
  let main_v11 : IVec S4x512x512 1 := cmpf .olt main_v9 main_v10
  let main_v12 : FVec F S512x512 .f32 := Host.absf main_arg5
  let main_cst_3 : FVec F S_ .f32 := constant S_ .f32 0x7F800000#32
  let main_v13 : FVec F S512x512 .f32 := broadcastInDim S512x512 ![] bcast_S_S512x512 main_cst_3
  let main_v14 : IVec S512x512 1 := cmpf .olt main_v12 main_v13
  let main_v15 : FVec F S512x512 .f32 := Host.absf main_arg6
  let main_cst_4 : FVec F S_ .f32 := constant S_ .f32 0x7F800000#32
  let main_v16 : FVec F S512x512 .f32 := broadcastInDim S512x512 ![] bcast_S_S512x512 main_cst_4
  let main_v17 : IVec S512x512 1 := cmpf .olt main_v15 main_v16
  fn_part1 (F := F) main_arg0 main_arg1 main_arg2 main_v2 main_v5 main_v8 main_v11 main_v14 main_v17
-- ==== Pre_separated4.lean ====
abbrev S4x512x512 : Shape := ⟨3, ![4, 512, 512]⟩
abbrev S1048576 : Shape := ⟨1, ![1048576]⟩
abbrev S2000 : Shape := ⟨1, ![2000]⟩
abbrev S_ : Shape := ⟨0, ![]⟩

class Facts : Prop where
  shapeCasts_S4x512x512_S1048576 : S4x512x512.ShapeCasts S1048576
  sliceFits_S1048576_S2000 : S1048576.Slices (fun _ => 0) S2000
  reducesTo_S2000_S_d0 : S2000.ReducesTo [0] S_
  h_S_ : 0 < S_.numel
  bcast_S_S4x512x512 : S_.BroadcastsInDim S4x512x512 (![] : Fin 0 → Fin S4x512x512.rank)

variable [Facts]

def fn_part1 {F : FTy → Type} [FloatOps F] (main_v10 : IVec S_ 1) (main_v12 : IVec S4x512x512 1) (main_v16 : IVec S4x512x512 1) : IVec S_ 1 × IVec S4x512x512 1 :=
  let main_v17 : IVec S4x512x512 1 := ori main_v12 main_v16
  (main_v10, main_v17)

def fn {F : FTy → Type} [FloatOps F] (main_arg0 : FVec F S4x512x512 .f32) (main_arg1 : FVec F S4x512x512 .f32) (main_arg2 : FVec F S4x512x512 .f32) : IVec S_ 1 × IVec S4x512x512 1 :=
  let main_v0 : FVec F S1048576 .f32 := shapeCast S1048576 main_arg0 shapeCasts_S4x512x512_S1048576
  let main_values : FVec F S2000 .f32 := (fun x => (Host.topK S2000 0 (FloatOps.cmpfTotal .gt) x sliceFits_S1048576_S2000).1) main_v0
  let main_indices : IVec S2000 32 := (fun x => (Host.topK S2000 0 (FloatOps.cmpfTotal .gt) x sliceFits_S1048576_S2000).2) main_v0
  let main_cst : FVec F S_ .f32 := constant S_ .f32 0x7F800000#32
  let main_v1 : FVec F S_ .f32 := (fun x v => Host.reduce FloatOps.minimumf x v reducesTo_S2000_S_d0 h_S_) main_values main_cst
  let main_v2 : FVec F S4x512x512 .f32 := mulf main_arg1 main_arg1
  let main_v3 : FVec F S4x512x512 .f32 := mulf main_arg2 main_arg2
  let main_v4 : FVec F S4x512x512 .f32 := addf main_v2 main_v3
  let main_v5 : FVec F S4x512x512 .f32 := Host.sqrt main_v4
  let main_cst_0 : FVec F S_ .f32 := constant S_ .f32 0x00000000#32
  let main_v6 : IVec S_ 1 := cmpf .ole main_v1 main_cst_0
  let main_cst_1 : FVec F S_ .f32 := constant S_ .f32 0x00800000#32
  let main_v7 : IVec S_ 1 := cmpf .oge main_v1 main_cst_1
  let main_cst_2 : FVec F S_ .f32 := constant S_ .f32 0x7F7FFFFF#32
  let main_v8 : IVec S_ 1 := cmpf .ole main_v1 main_cst_2
  let main_v9 : IVec S_ 1 := andi main_v7 main_v8
  let main_v10 : IVec S_ 1 := ori main_v6 main_v9
  let main_v11 : FVec F S4x512x512 .f32 := broadcastInDim S4x512x512 ![] bcast_S_S4x512x512 main_v1
  let main_v12 : IVec S4x512x512 1 := cmpf .oge main_v5 main_v11
  let main_cst_3 : FVec F S_ .f32 := constant S_ .f32 0x3F800001#32
  let main_v13 : FVec F S4x512x512 .f32 := broadcastInDim S4x512x512 ![] bcast_S_S4x512x512 main_cst_3
  let main_v14 : FVec F S4x512x512 .f32 := mulf main_v5 main_v13
  let main_v15 : FVec F S4x512x512 .f32 := broadcastInDim S4x512x512 ![] bcast_S_S4x512x512 main_v1
  let main_v16 : IVec S4x512x512 1 := cmpf .ole main_v14 main_v15
  fn_part1 (F := F) main_v10 main_v12 main_v16
-- ==== Pre_separated6.lean ====
abbrev S4x512x512 : Shape := ⟨3, ![4, 512, 512]⟩
abbrev S512x512 : Shape := ⟨2, ![512, 512]⟩
abbrev S512 : Shape := ⟨1, ![512]⟩
abbrev S_ : Shape := ⟨0, ![]⟩
abbrev S512x1 : Shape := ⟨2, ![512, 1]⟩
abbrev S1x512 : Shape := ⟨2, ![1, 512]⟩
abbrev S1x512x512 : Shape := ⟨3, ![1, 512, 512]⟩
abbrev S4x512x512x1 : Shape := ⟨4, ![4, 512, 512, 1]⟩
abbrev S1x1x512x512 : Shape := ⟨4, ![1, 1, 512, 512]⟩
abbrev S4x512x512x512 : Shape := ⟨4, ![4, 512, 512, 512]⟩
abbrev S4x512x1x512 : Shape := ⟨4, ![4, 512, 1, 512]⟩
abbrev S1x512x512x1 : Shape := ⟨4, ![1, 512, 512, 1]⟩
abbrev S1048576 : Shape := ⟨1, ![1048576]⟩
abbrev S2000 : Shape := ⟨1, ![2000]⟩

class Facts : Prop where
  bcast_S512_S512x1_0 : S512.BroadcastsInDim S512x1 (![0] : Fin 1 → Fin S512x1.rank)
  bcast_S512_S1x512_1 : S512.BroadcastsInDim S1x512 (![1] : Fin 1 → Fin S1x512.rank)
  bcast_S512x1_S512x512_0_1 : S512x1.BroadcastsInDim S512x512 (![0, 1] : Fin 2 → Fin S512x512.rank)
  bcast_S1x512_S512x512_0_1 : S1x512.BroadcastsInDim S512x512 (![0, 1] : Fin 2 → Fin S512x512.rank)
  bcast_S_S512x512 : S_.BroadcastsInDim S512x512 (![] : Fin 0 → Fin S512x512.rank)
  bcast_S512x512_S1x512x512_1_2 : S512x512.BroadcastsInDim S1x512x512 (![1, 2] : Fin 2 → Fin S1x512x512.rank)
  bcast_S1x512x512_S4x512x512_0_1_2 : S1x512x512.BroadcastsInDim S4x512x512 (![0, 1, 2] : Fin 3 → Fin S4x512x512.rank)
  bcast_S4x512x512_S4x512x512x1_0_1_2 : S4x512x512.BroadcastsInDim S4x512x512x1 (![0, 1, 2] : Fin 3 → Fin S4x512x512x1.rank)
  bcast_S512x512_S1x1x512x512_2_3 : S512x512.BroadcastsInDim S1x1x512x512 (![2, 3] : Fin 2 → Fin S1x1x512x512.rank)
  bcast_S4x512x512x1_S4x512x512x512_0_1_2_3 : S4x512x512x1.BroadcastsInDim S4x512x512x512 (![0, 1, 2, 3] : Fin 4 → Fin S4x512x512x512.rank)
  bcast_S1x1x512x512_S4x512x512x512_0_1_2_3 : S1x1x512x512.BroadcastsInDim S4x512x512x512 (![0, 1, 2, 3] : Fin 4 → Fin S4x512x512x512.rank)
  reducesTo_S4x512x512x512_S4x512x512_d2 : S4x512x512x512.ReducesTo [2] S4x512x512
  h_S_ : 0 < S_.numel
  bcast_S4x512x512_S4x512x1x512_0_1_3 : S4x512x512.BroadcastsInDim S4x512x1x512 (![0, 1, 3] : Fin 3 → Fin S4x512x1x512.rank)
  bcast_S512x512_S1x512x512x1_1_2 : S512x512.BroadcastsInDim S1x512x512x1 (![1, 2] : Fin 2 → Fin S1x512x512x1.rank)
  bcast_S4x512x1x512_S4x512x512x512_0_1_2_3 : S4x512x1x512.BroadcastsInDim S4x512x512x512 (![0, 1, 2, 3] : Fin 4 → Fin S4x512x512x512.rank)
  bcast_S1x512x512x1_S4x512x512x512_0_1_2_3 : S1x512x512x1.BroadcastsInDim S4x512x512x512 (![0, 1, 2, 3] : Fin 4 → Fin S4x512x512x512.rank)
  reducesTo_S4x512x512x512_S4x512x512_d1 : S4x512x512x512.ReducesTo [1] S4x512x512
  bcast_S_S4x512x512 : S_.BroadcastsInDim S4x512x512 (![] : Fin 0 → Fin S4x512x512.rank)
  shapeCasts_S4x512x512_S1048576 : S4x512x512.ShapeCasts S1048576
  sliceFits_S1048576_S2000 : S1048576.Slices (fun _ => 0) S2000
  reducesTo_S2000_S_d0 : S2000.ReducesTo [0] S_

variable [Facts]

def fn_part12 {F : FTy → Type} [FloatOps F] (main_v212 : IVec S4x512x512 1) (main_v215 : IVec S4x512x512 1) (main_v218 : IVec S4x512x512 1) (main_v221 : IVec S4x512x512 1) (main_v224 : IVec S4x512x512 1) (main_v227 : IVec S4x512x512 1) (main_v230 : IVec S512x512 1) (main_v233 : IVec S512x512 1) (main_v239 : FVec F S_ .f32) (main_v243 : FVec F S4x512x512 .f32) (main_cst_40 : FVec F S_ .f32) : IVec S4x512x512 1 × IVec S4x512x512 1 × IVec S4x512x512 1 × IVec S4x512x512 1 × IVec S4x512x512 1 × IVec S4x512x512 1 × IVec S512x512 1 × IVec S512x512 1 × IVec S_ 1 × IVec S4x512x512 1 :=
  let main_v244 : IVec S_ 1 := cmpf .ole main_v239 main_cst_40
  let main_cst_41 : FVec F S_ .f32 := constant S_ .f32 0x00800000#32
  let main_v245 : IVec S_ 1 := cmpf .oge main_v239 main_cst_41
  let main_cst_42 : FVec F S_ .f32 := constant S_ .f32 0x7F7FFFFF#32
  let main_v246 : IVec S_ 1 := cmpf .ole main_v239 main_cst_42
  let main_v247 : IVec S_ 1 := andi main_v245 main_v246
  let main_v248 : IVec S_ 1 := ori main_v244 main_v247
  let main_v249 : FVec F S4x512x512 .f32 := broadcastInDim S4x512x512 ![] bcast_S_S4x512x512 main_v239
  let main_v250 : IVec S4x512x512 1 := cmpf .oge main_v243 main_v249
  let main_cst_43 : FVec F S_ .f32 := constant S_ .f32 0x3F800001#32
  let main_v251 : FVec F S4x512x512 .f32 := broadcastInDim S4x512x512 ![] bcast_S_S4x512x512 main_cst_43
  let main_v252 : FVec F S4x512x512 .f32 := mulf main_v243 main_v251
  let main_v253 : FVec F S4x512x512 .f32 := broadcastInDim S4x512x512 ![] bcast_S_S4x512x512 main_v239
  let main_v254 : IVec S4x512x512 1 := cmpf .ole main_v252 main_v253
  let main_v255 : IVec S4x512x512 1 := ori main_v250 main_v254
  (main_v212, main_v215, main_v218, main_v221, main_v224, main_v227, main_v230, main_v233, main_v248, main_v255)

def fn_part11 {F : FTy → Type} [FloatOps F] (main_arg6 : FVec F S512x512 .f32) (main_arg7 : FVec F S512x512 .f32) (main_v196 : FVec F S4x512x512 .f32) (main_v209 : FVec F S4x512x512 .f32) (main_v212 : IVec S4x512x512 1) (main_v215 : IVec S4x512x512 1) (main_v218 : IVec S4x512x512 1) (main_v221 : IVec S4x512x512 1) (main_v224 : IVec S4x512x512 1) (main_v225 : FVec F S4x512x512 .f32) (main_cst_36 : FVec F S_ .f32) : IVec S4x512x512 1 × IVec S4x512x512 1 × IVec S4x512x512 1 × IVec S4x512x512 1 × IVec S4x512x512 1 × IVec S4x512x512 1 × IVec S512x512 1 × IVec S512x512 1 × IVec S_ 1 × IVec S4x512x512 1 :=
  let main_v226 : FVec F S4x512x512 .f32 := broadcastInDim S4x512x512 ![] bcast_S_S4x512x512 main_cst_36
  let main_v227 : IVec S4x512x512 1 := cmpf .olt main_v225 main_v226
  let main_v228 : FVec F S512x512 .f32 := Host.absf main_arg6
  let main_cst_37 : FVec F S_ .f32 := constant S_ .f32 0x7F800000#32
  let main_v229 : FVec F S512x512 .f32 := broadcastInDim S512x512 ![] bcast_S_S512x512 main_cst_37
  let main_v230 : IVec S512x512 1 := cmpf .olt main_v228 main_v229
  let main_v231 : FVec F S512x512 .f32 := Host.absf main_arg7
  let main_cst_38 : FVec F S_ .f32 := constant S_ .f32 0x7F800000#32
  let main_v232 : FVec F S512x512 .f32 := broadcastInDim S512x512 ![] bcast_S_S512x512 main_cst_38
  let main_v233 : IVec S512x512 1 := cmpf .olt main_v231 main_v232
  let main_v234 : FVec F S4x512x512 .f32 := mulf main_v196 main_v196
  let main_v235 : FVec F S4x512x512 .f32 := mulf main_v209 main_v209
  let main_v236 : FVec F S4x512x512 .f32 := addf main_v234 main_v235
  let main_v237 : FVec F S4x512x512 .f32 := Host.sqrt main_v236
  let main_v238 : FVec F S1048576 .f32 := shapeCast S1048576 main_v237 shapeCasts_S4x512x512_S1048576
  let main_values : FVec F S2000 .f32 := (fun x => (Host.topK S2000 0 (FloatOps.cmpfTotal .gt) x sliceFits_S1048576_S2000).1) main_v238
  let main_indices : IVec S2000 32 := (fun x => (Host.topK S2000 0 (FloatOps.cmpfTotal .gt) x sliceFits_S1048576_S2000).2) main_v238
  let main_cst_39 : FVec F S_ .f32 := constant S_ .f32 0x7F800000#32
  let main_v239 : FVec F S_ .f32 := (fun x v => Host.reduce FloatOps.minimumf x v reducesTo_S2000_S_d0 h_S_) main_values main_cst_39
  let main_v240 : FVec F S4x512x512 .f32 := mulf main_v196 main_v196
  let main_v241 : FVec F S4x512x512 .f32 := mulf main_v209 main_v209
  let main_v242 : FVec F S4x512x512 .f32 := addf main_v240 main_v241
  let main_v243 : FVec F S4x512x512 .f32 := Host.sqrt main_v242
  let main_cst_40 : FVec F S_ .f32 := constant S_ .f32 0x00000000#32
  fn_part12 (F := F) main_v212 main_v215 main_v218 main_v221 main_v224 main_v227 main_v230 main_v233 main_v239 main_v243 main_cst_40

def fn_part10 {F : FTy → Type} [FloatOps F] (main_arg0 : FVec F S4x512x512 .f32) (main_arg1 : FVec F S4x512x512 .f32) (main_arg2 : FVec F S4x512x512 .f32) (main_arg3 : FVec F S4x512x512 .f32) (main_arg4 : FVec F S4x512x512 .f32) (main_arg5 : FVec F S4x512x512 .f32) (main_arg6 : FVec F S512x512 .f32) (main_arg7 : FVec F S512x512 .f32) (main_v196 : FVec F S4x512x512 .f32) (main_v202 : FVec F S4x512x512 .f32) (main_v207 : FVec F S4x512x512x512 .f32) (main_cst_30 : FVec F S_ .f32) : IVec S4x512x512 1 × IVec S4x512x512 1 × IVec S4x512x512 1 × IVec S4x512x512 1 × IVec S4x512x512 1 × IVec S4x512x512 1 × IVec S512x512 1 × IVec S512x512 1 × IVec S_ 1 × IVec S4x512x512 1 :=
  let main_v208 : FVec F S4x512x512 .f32 := (fun x v => Host.reduceAdd x v reducesTo_S4x512x512x512_S4x512x512_d1 h_S_) main_v207 main_cst_30
  let main_v209 : FVec F S4x512x512 .f32 := subf main_v202 main_v208
  let main_v210 : FVec F S4x512x512 .f32 := Host.absf main_arg0
  let main_cst_31 : FVec F S_ .f32 := constant S_ .f32 0x7F800000#32
  let main_v211 : FVec F S4x512x512 .f32 := broadcastInDim S4x512x512 ![] bcast_S_S4x512x512 main_cst_31
  let main_v212 : IVec S4x512x512 1 := cmpf .olt main_v210 main_v211
  let main_v213 : FVec F S4x512x512 .f32 := Host.absf main_arg1
  let main_cst_32 : FVec F S_ .f32 := constant S_ .f32 0x7F800000#32
  let main_v214 : FVec F S4x512x512 .f32 := broadcastInDim S4x512x512 ![] bcast_S_S4x512x512 main_cst_32
  let main_v215 : IVec S4x512x512 1 := cmpf .olt main_v213 main_v214
  let main_v216 : FVec F S4x512x512 .f32 := Host.absf main_arg2
  let main_cst_33 : FVec F S_ .f32 := constant S_ .f32 0x7F800000#32
  let main_v217 : FVec F S4x512x512 .f32 := broadcastInDim S4x512x512 ![] bcast_S_S4x512x512 main_cst_33
  let main_v218 : IVec S4x512x512 1 := cmpf .olt main_v216 main_v217
  let main_v219 : FVec F S4x512x512 .f32 := Host.absf main_arg3
  let main_cst_34 : FVec F S_ .f32 := constant S_ .f32 0x7F800000#32
  let main_v220 : FVec F S4x512x512 .f32 := broadcastInDim S4x512x512 ![] bcast_S_S4x512x512 main_cst_34
  let main_v221 : IVec S4x512x512 1 := cmpf .olt main_v219 main_v220
  let main_v222 : FVec F S4x512x512 .f32 := Host.absf main_arg4
  let main_cst_35 : FVec F S_ .f32 := constant S_ .f32 0x7F800000#32
  let main_v223 : FVec F S4x512x512 .f32 := broadcastInDim S4x512x512 ![] bcast_S_S4x512x512 main_cst_35
  let main_v224 : IVec S4x512x512 1 := cmpf .olt main_v222 main_v223
  let main_v225 : FVec F S4x512x512 .f32 := Host.absf main_arg5
  let main_cst_36 : FVec F S_ .f32 := constant S_ .f32 0x7F800000#32
  fn_part11 (F := F) main_arg6 main_arg7 main_v196 main_v209 main_v212 main_v215 main_v218 main_v221 main_v224 main_v225 main_cst_36

def fn_part9 {F : FTy → Type} [FloatOps F] (main_arg0 : FVec F S4x512x512 .f32) (main_arg1 : FVec F S4x512x512 .f32) (main_arg2 : FVec F S4x512x512 .f32) (main_arg3 : FVec F S4x512x512 .f32) (main_arg4 : FVec F S4x512x512 .f32) (main_arg5 : FVec F S4x512x512 .f32) (main_arg6 : FVec F S512x512 .f32) (main_arg7 : FVec F S512x512 .f32) (main_v12 : FVec F S512x512 .f32) (main_v13 : FVec F S512x512 .f32) (main_v170 : FVec F S4x512x512 .f32) (main_v183 : FVec F S4x512x512 .f32) (main_v186 : FVec F S4x512x512x512 .f32) (main_v187 : FVec F S4x512x512x512 .f32) : IVec S4x512x512 1 × IVec S4x512x512 1 × IVec S4x512x512 1 × IVec S4x512x512 1 × IVec S4x512x512 1 × IVec S4x512x512 1 × IVec S512x512 1 × IVec S512x512 1 × IVec S_ 1 × IVec S4x512x512 1 :=
  let main_v188 : FVec F S4x512x512x512 .f32 := mulf main_v186 main_v187
  let main_cst_27 : FVec F S_ .f32 := constant S_ .f32 0x00000000#32
  let main_v189 : FVec F S4x512x512 .f32 := (fun x v => Host.reduceAdd x v reducesTo_S4x512x512x512_S4x512x512_d1 h_S_) main_v188 main_cst_27
  let main_v190 : FVec F S4x512x1x512 .f32 := broadcastInDim S4x512x1x512 ![0, 1, 3] bcast_S4x512x512_S4x512x1x512_0_1_3 main_v183
  let main_v191 : FVec F S1x512x512x1 .f32 := broadcastInDim S1x512x512x1 ![1, 2] bcast_S512x512_S1x512x512x1_1_2 main_v13
  let main_v192 : FVec F S4x512x512x512 .f32 := broadcastInDim S4x512x512x512 ![0, 1, 2, 3] bcast_S4x512x1x512_S4x512x512x512_0_1_2_3 main_v190
  let main_v193 : FVec F S4x512x512x512 .f32 := broadcastInDim S4x512x512x512 ![0, 1, 2, 3] bcast_S1x512x512x1_S4x512x512x512_0_1_2_3 main_v191
  let main_v194 : FVec F S4x512x512x512 .f32 := mulf main_v192 main_v193
  let main_cst_28 : FVec F S_ .f32 := constant S_ .f32 0x00000000#32
  let main_v195 : FVec F S4x512x512 .f32 := (fun x v => Host.reduceAdd x v reducesTo_S4x512x512x512_S4x512x512_d1 h_S_) main_v194 main_cst_28
  let main_v196 : FVec F S4x512x512 .f32 := addf main_v189 main_v195
  let main_v197 : FVec F S4x512x1x512 .f32 := broadcastInDim S4x512x1x512 ![0, 1, 3] bcast_S4x512x512_S4x512x1x512_0_1_3 main_v183
  let main_v198 : FVec F S1x512x512x1 .f32 := broadcastInDim S1x512x512x1 ![1, 2] bcast_S512x512_S1x512x512x1_1_2 main_v12
  let main_v199 : FVec F S4x512x512x512 .f32 := broadcastInDim S4x512x512x512 ![0, 1, 2, 3] bcast_S4x512x1x512_S4x512x512x512_0_1_2_3 main_v197
  let main_v200 : FVec F S4x512x512x512 .f32 := broadcastInDim S4x512x512x512 ![0, 1, 2, 3] bcast_S1x512x512x1_S4x512x512x512_0_1_2_3 main_v198
  let main_v201 : FVec F S4x512x512x512 .f32 := mulf main_v199 main_v200
  let main_cst_29 : FVec F S_ .f32 := constant S_ .f32 0x00000000#32
  let main_v202 : FVec F S4x512x512 .f32 := (fun x v => Host.reduceAdd x v reducesTo_S4x512x512x512_S4x512x512_d1 h_S_) main_v201 main_cst_29
  let main_v203 : FVec F S4x512x1x512 .f32 := broadcastInDim S4x512x1x512 ![0, 1, 3] bcast_S4x512x512_S4x512x1x512_0_1_3 main_v170
  let main_v204 : FVec F S1x512x512x1 .f32 := broadcastInDim S1x512x512x1 ![1, 2] bcast_S512x512_S1x512x512x1_1_2 main_v13
  let main_v205 : FVec F S4x512x512x512 .f32 := broadcastInDim S4x512x512x512 ![0, 1, 2, 3] bcast_S4x512x1x512_S4x512x512x512_0_1_2_3 main_v203
  let main_v206 : FVec F S4x512x512x512 .f32 := broadcastInDim S4x512x512x512 ![0, 1, 2, 3] bcast_S1x512x512x1_S4x512x512x512_0_1_2_3 main_v204
  let main_v207 : FVec F S4x512x512x512 .f32 := mulf main_v205 main_v206
  let main_cst_30 : FVec F S_ .f32 := constant S_ .f32 0x00000000#32
  fn_part10 (F := F) main_arg0 main_arg1 main_arg2 main_arg3 main_arg4 main_arg5 main_arg6 main_arg7 main_v196 main_v202 main_v207 main_cst_30

def fn_part8 {F : FTy → Type} [FloatOps F] (main_arg0 : FVec F S4x512x512 .f32) (main_arg1 : FVec F S4x512x512 .f32) (main_arg2 : FVec F S4x512x512 .f32) (main_arg3 : FVec F S4x512x512 .f32) (main_arg4 : FVec F S4x512x512 .f32) (main_arg5 : FVec F S4x512x512 .f32) (main_arg6 : FVec F S512x512 .f32) (main_arg7 : FVec F S512x512 .f32) (main_v12 : FVec F S512x512 .f32) (main_v13 : FVec F S512x512 .f32) (main_v156 : FVec F S4x512x512 .f32) (main_v157 : FVec F S4x512x512 .f32) (main_v163 : FVec F S4x512x512 .f32) (main_v165 : FVec F S1x1x512x512 .f32) (main_v166 : FVec F S4x512x512x512 .f32) : IVec S4x512x512 1 × IVec S4x512x512 1 × IVec S4x512x512 1 × IVec S4x512x512 1 × IVec S4x512x512 1 × IVec S4x512x512 1 × IVec S512x512 1 × IVec S512x512 1 × IVec S_ 1 × IVec S4x512x512 1 :=
  let main_v167 : FVec F S4x512x512x512 .f32 := broadcastInDim S4x512x512x512 ![0, 1, 2, 3] bcast_S1x1x512x512_S4x512x512x512_0_1_2_3 main_v165
  let main_v168 : FVec F S4x512x512x512 .f32 := mulf main_v166 main_v167
  let main_cst_24 : FVec F S_ .f32 := constant S_ .f32 0x00000000#32
  let main_v169 : FVec F S4x512x512 .f32 := (fun x v => Host.reduceAdd x v reducesTo_S4x512x512x512_S4x512x512_d2 h_S_) main_v168 main_cst_24
  let main_v170 : FVec F S4x512x512 .f32 := addf main_v163 main_v169
  let main_v171 : FVec F S4x512x512x1 .f32 := broadcastInDim S4x512x512x1 ![0, 1, 2] bcast_S4x512x512_S4x512x512x1_0_1_2 main_v157
  let main_v172 : FVec F S1x1x512x512 .f32 := broadcastInDim S1x1x512x512 ![2, 3] bcast_S512x512_S1x1x512x512_2_3 main_v12
  let main_v173 : FVec F S4x512x512x512 .f32 := broadcastInDim S4x512x512x512 ![0, 1, 2, 3] bcast_S4x512x512x1_S4x512x512x512_0_1_2_3 main_v171
  let main_v174 : FVec F S4x512x512x512 .f32 := broadcastInDim S4x512x512x512 ![0, 1, 2, 3] bcast_S1x1x512x512_S4x512x512x512_0_1_2_3 main_v172
  let main_v175 : FVec F S4x512x512x512 .f32 := mulf main_v173 main_v174
  let main_cst_25 : FVec F S_ .f32 := constant S_ .f32 0x00000000#32
  let main_v176 : FVec F S4x512x512 .f32 := (fun x v => Host.reduceAdd x v reducesTo_S4x512x512x512_S4x512x512_d2 h_S_) main_v175 main_cst_25
  let main_v177 : FVec F S4x512x512x1 .f32 := broadcastInDim S4x512x512x1 ![0, 1, 2] bcast_S4x512x512_S4x512x512x1_0_1_2 main_v156
  let main_v178 : FVec F S1x1x512x512 .f32 := broadcastInDim S1x1x512x512 ![2, 3] bcast_S512x512_S1x1x512x512_2_3 main_v13
  let main_v179 : FVec F S4x512x512x512 .f32 := broadcastInDim S4x512x512x512 ![0, 1, 2, 3] bcast_S4x512x512x1_S4x512x512x512_0_1_2_3 main_v177
  let main_v180 : FVec F S4x512x512x512 .f32 := broadcastInDim S4x512x512x512 ![0, 1, 2, 3] bcast_S1x1x512x512_S4x512x512x512_0_1_2_3 main_v178
  let main_v181 : FVec F S4x512x512x512 .f32 := mulf main_v179 main_v180
  let main_cst_26 : FVec F S_ .f32 := constant S_ .f32 0x00000000#32
  let main_v182 : FVec F S4x512x512 .f32 := (fun x v => Host.reduceAdd x v reducesTo_S4x512x512x512_S4x512x512_d2 h_S_) main_v181 main_cst_26
  let main_v183 : FVec F S4x512x512 .f32 := subf main_v176 main_v182
  let main_v184 : FVec F S4x512x1x512 .f32 := broadcastInDim S4x512x1x512 ![0, 1, 3] bcast_S4x512x512_S4x512x1x512_0_1_3 main_v170
  let main_v185 : FVec F S1x512x512x1 .f32 := broadcastInDim S1x512x512x1 ![1, 2] bcast_S512x512_S1x512x512x1_1_2 main_v12
  let main_v186 : FVec F S4x512x512x512 .f32 := broadcastInDim S4x512x512x512 ![0, 1, 2, 3] bcast_S4x512x1x512_S4x512x512x512_0_1_2_3 main_v184
  let main_v187 : FVec F S4x512x512x512 .f32 := broadcastInDim S4x512x512x512 ![0, 1, 2, 3] bcast_S1x512x512x1_S4x512x512x512_0_1_2_3 main_v185
  fn_part9 (F := F) main_arg0 main_arg1 main_arg2 main_arg3 main_arg4 main_arg5 main_arg6 main_arg7 main_v12 main_v13 main_v170 main_v183 main_v186 main_v187

def fn_part7 {F : FTy → Type} [FloatOps F] (main_arg0 : FVec F S4x512x512 .f32) (main_arg1 : FVec F S4x512x512 .f32) (main_arg2 : FVec F S4x512x512 .f32) (main_arg3 : FVec F S4x512x512 .f32) (main_arg4 : FVec F S4x512x512 .f32) (main_arg5 : FVec F S4x512x512 .f32) (main_arg6 : FVec F S512x512 .f32) (main_arg7 : FVec F S512x512 .f32) (main_v12 : FVec F S512x512 .f32) (main_v13 : FVec F S512x512 .f32) (main_v68 : FVec F S4x512x512 .f32) (main_v83 : FVec F S4x512x512 .f32) (main_v140 : FVec F S4x512x512 .f32) (main_v141 : FVec F S4x512x512 .f32) (main_v144 : FVec F S4x512x512 .f32) : IVec S4x512x512 1 × IVec S4x512x512 1 × IVec S4x512x512 1 × IVec S4x512x512 1 × IVec S4x512x512 1 × IVec S4x512x512 1 × IVec S512x512 1 × IVec S512x512 1 × IVec S_ 1 × IVec S4x512x512 1 :=
  let main_v145 : FVec F S4x512x512 .f32 := Host.sqrt main_v144
  let main_cst_22 : FVec F S_ .f32 := constant S_ .f32 0x0DA24260#32
  let main_v146 : FVec F S4x512x512 .f32 := broadcastInDim S4x512x512 ![] bcast_S_S4x512x512 main_cst_22
  let main_v147 : FVec F S4x512x512 .f32 := addf main_v145 main_v146
  let main_v148 : FVec F S4x512x512 .f32 := Host.divf main_v140 main_v147
  let main_v149 : FVec F S4x512x512 .f32 := Host.divf main_v141 main_v147
  let main_v150 : FVec F S4x512x512 .f32 := mulf main_arg4 main_v148
  let main_v151 : FVec F S4x512x512 .f32 := mulf main_arg5 main_v149
  let main_v152 : FVec F S4x512x512 .f32 := subf main_v150 main_v151
  let main_v153 : FVec F S4x512x512 .f32 := mulf main_arg4 main_v149
  let main_v154 : FVec F S4x512x512 .f32 := mulf main_arg5 main_v148
  let main_v155 : FVec F S4x512x512 .f32 := addf main_v153 main_v154
  let main_v156 : FVec F S4x512x512 .f32 := subf main_v152 main_v68
  let main_v157 : FVec F S4x512x512 .f32 := subf main_v155 main_v83
  let main_v158 : FVec F S4x512x512x1 .f32 := broadcastInDim S4x512x512x1 ![0, 1, 2] bcast_S4x512x512_S4x512x512x1_0_1_2 main_v156
  let main_v159 : FVec F S1x1x512x512 .f32 := broadcastInDim S1x1x512x512 ![2, 3] bcast_S512x512_S1x1x512x512_2_3 main_v12
  let main_v160 : FVec F S4x512x512x512 .f32 := broadcastInDim S4x512x512x512 ![0, 1, 2, 3] bcast_S4x512x512x1_S4x512x512x512_0_1_2_3 main_v158
  let main_v161 : FVec F S4x512x512x512 .f32 := broadcastInDim S4x512x512x512 ![0, 1, 2, 3] bcast_S1x1x512x512_S4x512x512x512_0_1_2_3 main_v159
  let main_v162 : FVec F S4x512x512x512 .f32 := mulf main_v160 main_v161
  let main_cst_23 : FVec F S_ .f32 := constant S_ .f32 0x00000000#32
  let main_v163 : FVec F S4x512x512 .f32 := (fun x v => Host.reduceAdd x v reducesTo_S4x512x512x512_S4x512x512_d2 h_S_) main_v162 main_cst_23
  let main_v164 : FVec F S4x512x512x1 .f32 := broadcastInDim S4x512x512x1 ![0, 1, 2] bcast_S4x512x512_S4x512x512x1_0_1_2 main_v157
  let main_v165 : FVec F S1x1x512x512 .f32 := broadcastInDim S1x1x512x512 ![2, 3] bcast_S512x512_S1x1x512x512_2_3 main_v13
  let main_v166 : FVec F S4x512x512x512 .f32 := broadcastInDim S4x512x512x512 ![0, 1, 2, 3] bcast_S4x512x512x1_S4x512x512x512_0_1_2_3 main_v164
  fn_part8 (F := F) main_arg0 main_arg1 main_arg2 main_arg3 main_arg4 main_arg5 main_arg6 main_arg7 main_v12 main_v13 main_v156 main_v157 main_v163 main_v165 main_v166

def fn_part6 {F : FTy → Type} [FloatOps F] (main_arg0 : FVec F S4x512x512 .f32) (main_arg1 : FVec F S4x512x512 .f32) (main_arg2 : FVec F S4x512x512 .f32) (main_arg3 : FVec F S4x512x512 .f32) (main_arg4 : FVec F S4x512x512 .f32) (main_arg5 : FVec F S4x512x512 .f32) (main_arg6 : FVec F S512x512 .f32) (main_arg7 : FVec F S512x512 .f32) (main_v12 : FVec F S512x512 .f32) (main_v13 : FVec F S512x512 .f32) (main_v68 : FVec F S4x512x512 .f32) (main_v83 : FVec F S4x512x512 .f32) (main_v96 : FVec F S4x512x512 .f32) (main_v109 : FVec F S4x512x512 .f32) (main_v122 : FVec F S4x512x512 .f32) (main_v123 : FVec F S4x512x512 .f32) : IVec S4x512x512 1 × IVec S4x512x512 1 × IVec S4x512x512 1 × IVec S4x512x512 1 × IVec S4x512x512 1 × IVec S4x512x512 1 × IVec S512x512 1 × IVec S512x512 1 × IVec S_ 1 × IVec S4x512x512 1 :=
  let main_v124 : FVec F S4x512x512 .f32 := Host.divf main_v122 main_v123
  let main_v125 : FVec F S4x512x1x512 .f32 := broadcastInDim S4x512x1x512 ![0, 1, 3] bcast_S4x512x512_S4x512x1x512_0_1_3 main_v109
  let main_v126 : FVec F S1x512x512x1 .f32 := broadcastInDim S1x512x512x1 ![1, 2] bcast_S512x512_S1x512x512x1_1_2 main_v12
  let main_v127 : FVec F S4x512x512x512 .f32 := broadcastInDim S4x512x512x512 ![0, 1, 2, 3] bcast_S4x512x1x512_S4x512x512x512_0_1_2_3 main_v125
  let main_v128 : FVec F S4x512x512x512 .f32 := broadcastInDim S4x512x512x512 ![0, 1, 2, 3] bcast_S1x512x512x1_S4x512x512x512_0_1_2_3 main_v126
  let main_v129 : FVec F S4x512x512x512 .f32 := mulf main_v127 main_v128
  let main_cst_19 : FVec F S_ .f32 := constant S_ .f32 0x00000000#32
  let main_v130 : FVec F S4x512x512 .f32 := (fun x v => Host.reduceAdd x v reducesTo_S4x512x512x512_S4x512x512_d1 h_S_) main_v129 main_cst_19
  let main_v131 : FVec F S4x512x1x512 .f32 := broadcastInDim S4x512x1x512 ![0, 1, 3] bcast_S4x512x512_S4x512x1x512_0_1_3 main_v96
  let main_v132 : FVec F S1x512x512x1 .f32 := broadcastInDim S1x512x512x1 ![1, 2] bcast_S512x512_S1x512x512x1_1_2 main_v13
  let main_v133 : FVec F S4x512x512x512 .f32 := broadcastInDim S4x512x512x512 ![0, 1, 2, 3] bcast_S4x512x1x512_S4x512x512x512_0_1_2_3 main_v131
  let main_v134 : FVec F S4x512x512x512 .f32 := broadcastInDim S4x512x512x512 ![0, 1, 2, 3] bcast_S1x512x512x1_S4x512x512x512_0_1_2_3 main_v132
  let main_v135 : FVec F S4x512x512x512 .f32 := mulf main_v133 main_v134
  let main_cst_20 : FVec F S_ .f32 := constant S_ .f32 0x00000000#32
  let main_v136 : FVec F S4x512x512 .f32 := (fun x v => Host.reduceAdd x v reducesTo_S4x512x512x512_S4x512x512_d1 h_S_) main_v135 main_cst_20
  let main_v137 : FVec F S4x512x512 .f32 := addf main_v130 main_v136
  let main_cst_21 : FVec F S_ .f32 := constant S_ .f32 0x48800000#32
  let main_v138 : FVec F S4x512x512 .f32 := broadcastInDim S4x512x512 ![] bcast_S_S4x512x512 main_cst_21
  let main_v139 : FVec F S4x512x512 .f32 := Host.divf main_v137 main_v138
  let main_v140 : FVec F S4x512x512 .f32 := addf main_v68 main_v124
  let main_v141 : FVec F S4x512x512 .f32 := addf main_v83 main_v139
  let main_v142 : FVec F S4x512x512 .f32 := mulf main_v140 main_v140
  let main_v143 : FVec F S4x512x512 .f32 := mulf main_v141 main_v141
  let main_v144 : FVec F S4x512x512 .f32 := addf main_v142 main_v143
  fn_part7 (F := F) main_arg0 main_arg1 main_arg2 main_arg3 main_arg4 main_arg5 main_arg6 main_arg7 main_v12 main_v13 main_v68 main_v83 main_v140 main_v141 main_v144

def fn_part5 {F : FTy → Type} [FloatOps F] (main_arg0 : FVec F S4x512x512 .f32) (main_arg1 : FVec F S4x512x512 .f32) (main_arg2 : FVec F S4x512x512 .f32) (main_arg3 : FVec F S4x512x512 .f32) (main_arg4 : FVec F S4x512x512 .f32) (main_arg5 : FVec F S4x512x512 .f32) (main_arg6 : FVec F S512x512 .f32) (main_arg7 : FVec F S512x512 .f32) (main_v12 : FVec F S512x512 .f32) (main_v13 : FVec F S512x512 .f32) (main_v68 : FVec F S4x512x512 .f32) (main_v83 : FVec F S4x512x512 .f32) (main_v96 : FVec F S4x512x512 .f32) (main_v102 : FVec F S4x512x512 .f32) (main_v103 : FVec F S4x512x512x1 .f32) : IVec S4x512x512 1 × IVec S4x512x512 1 × IVec S4x512x512 1 × IVec S4x512x512 1 × IVec S4x512x512 1 × IVec S4x512x512 1 × IVec S512x512 1 × IVec S512x512 1 × IVec S_ 1 × IVec S4x512x512 1 :=
  let main_v104 : FVec F S1x1x512x512 .f32 := broadcastInDim S1x1x512x512 ![2, 3] bcast_S512x512_S1x1x512x512_2_3 main_v13
  let main_v105 : FVec F S4x512x512x512 .f32 := broadcastInDim S4x512x512x512 ![0, 1, 2, 3] bcast_S4x512x512x1_S4x512x512x512_0_1_2_3 main_v103
  let main_v106 : FVec F S4x512x512x512 .f32 := broadcastInDim S4x512x512x512 ![0, 1, 2, 3] bcast_S1x1x512x512_S4x512x512x512_0_1_2_3 main_v104
  let main_v107 : FVec F S4x512x512x512 .f32 := mulf main_v105 main_v106
  let main_cst_15 : FVec F S_ .f32 := constant S_ .f32 0x00000000#32
  let main_v108 : FVec F S4x512x512 .f32 := (fun x v => Host.reduceAdd x v reducesTo_S4x512x512x512_S4x512x512_d2 h_S_) main_v107 main_cst_15
  let main_v109 : FVec F S4x512x512 .f32 := addf main_v102 main_v108
  let main_v110 : FVec F S4x512x1x512 .f32 := broadcastInDim S4x512x1x512 ![0, 1, 3] bcast_S4x512x512_S4x512x1x512_0_1_3 main_v96
  let main_v111 : FVec F S1x512x512x1 .f32 := broadcastInDim S1x512x512x1 ![1, 2] bcast_S512x512_S1x512x512x1_1_2 main_v12
  let main_v112 : FVec F S4x512x512x512 .f32 := broadcastInDim S4x512x512x512 ![0, 1, 2, 3] bcast_S4x512x1x512_S4x512x512x512_0_1_2_3 main_v110
  let main_v113 : FVec F S4x512x512x512 .f32 := broadcastInDim S4x512x512x512 ![0, 1, 2, 3] bcast_S1x512x512x1_S4x512x512x512_0_1_2_3 main_v111
  let main_v114 : FVec F S4x512x512x512 .f32 := mulf main_v112 main_v113
  let main_cst_16 : FVec F S_ .f32 := constant S_ .f32 0x00000000#32
  let main_v115 : FVec F S4x512x512 .f32 := (fun x v => Host.reduceAdd x v reducesTo_S4x512x512x512_S4x512x512_d1 h_S_) main_v114 main_cst_16
  let main_v116 : FVec F S4x512x1x512 .f32 := broadcastInDim S4x512x1x512 ![0, 1, 3] bcast_S4x512x512_S4x512x1x512_0_1_3 main_v109
  let main_v117 : FVec F S1x512x512x1 .f32 := broadcastInDim S1x512x512x1 ![1, 2] bcast_S512x512_S1x512x512x1_1_2 main_v13
  let main_v118 : FVec F S4x512x512x512 .f32 := broadcastInDim S4x512x512x512 ![0, 1, 2, 3] bcast_S4x512x1x512_S4x512x512x512_0_1_2_3 main_v116
  let main_v119 : FVec F S4x512x512x512 .f32 := broadcastInDim S4x512x512x512 ![0, 1, 2, 3] bcast_S1x512x512x1_S4x512x512x512_0_1_2_3 main_v117
  let main_v120 : FVec F S4x512x512x512 .f32 := mulf main_v118 main_v119
  let main_cst_17 : FVec F S_ .f32 := constant S_ .f32 0x00000000#32
  let main_v121 : FVec F S4x512x512 .f32 := (fun x v => Host.reduceAdd x v reducesTo_S4x512x512x512_S4x512x512_d1 h_S_) main_v120 main_cst_17
  let main_v122 : FVec F S4x512x512 .f32 := subf main_v115 main_v121
  let main_cst_18 : FVec F S_ .f32 := constant S_ .f32 0x48800000#32
  let main_v123 : FVec F S4x512x512 .f32 := broadcastInDim S4x512x512 ![] bcast_S_S4x512x512 main_cst_18
  fn_part6 (F := F) main_arg0 main_arg1 main_arg2 main_arg3 main_arg4 main_arg5 main_arg6 main_arg7 main_v12 main_v13 main_v68 main_v83 main_v96 main_v109 main_v122 main_v123

def fn_part4 {F : FTy → Type} [FloatOps F] (main_arg0 : FVec F S4x512x512 .f32) (main_arg1 : FVec F S4x512x512 .f32) (main_arg2 : FVec F S4x512x512 .f32) (main_arg3 : FVec F S4x512x512 .f32) (main_arg4 : FVec F S4x512x512 .f32) (main_arg5 : FVec F S4x512x512 .f32) (main_arg6 : FVec F S512x512 .f32) (main_arg7 : FVec F S512x512 .f32) (main_v12 : FVec F S512x512 .f32) (main_v13 : FVec F S512x512 .f32) (main_v68 : FVec F S4x512x512 .f32) (main_v81 : FVec F S4x512x512 .f32) (main_v82 : FVec F S4x512x512 .f32) : IVec S4x512x512 1 × IVec S4x512x512 1 × IVec S4x512x512 1 × IVec S4x512x512 1 × IVec S4x512x512 1 × IVec S4x512x512 1 × IVec S512x512 1 × IVec S512x512 1 × IVec S_ 1 × IVec S4x512x512 1 :=
  let main_v83 : FVec F S4x512x512 .f32 := Host.divf main_v81 main_v82
  let main_v84 : FVec F S4x512x512x1 .f32 := broadcastInDim S4x512x512x1 ![0, 1, 2] bcast_S4x512x512_S4x512x512x1_0_1_2 main_arg2
  let main_v85 : FVec F S1x1x512x512 .f32 := broadcastInDim S1x1x512x512 ![2, 3] bcast_S512x512_S1x1x512x512_2_3 main_v12
  let main_v86 : FVec F S4x512x512x512 .f32 := broadcastInDim S4x512x512x512 ![0, 1, 2, 3] bcast_S4x512x512x1_S4x512x512x512_0_1_2_3 main_v84
  let main_v87 : FVec F S4x512x512x512 .f32 := broadcastInDim S4x512x512x512 ![0, 1, 2, 3] bcast_S1x1x512x512_S4x512x512x512_0_1_2_3 main_v85
  let main_v88 : FVec F S4x512x512x512 .f32 := mulf main_v86 main_v87
  let main_cst_12 : FVec F S_ .f32 := constant S_ .f32 0x00000000#32
  let main_v89 : FVec F S4x512x512 .f32 := (fun x v => Host.reduceAdd x v reducesTo_S4x512x512x512_S4x512x512_d2 h_S_) main_v88 main_cst_12
  let main_v90 : FVec F S4x512x512x1 .f32 := broadcastInDim S4x512x512x1 ![0, 1, 2] bcast_S4x512x512_S4x512x512x1_0_1_2 main_arg3
  let main_v91 : FVec F S1x1x512x512 .f32 := broadcastInDim S1x1x512x512 ![2, 3] bcast_S512x512_S1x1x512x512_2_3 main_v13
  let main_v92 : FVec F S4x512x512x512 .f32 := broadcastInDim S4x512x512x512 ![0, 1, 2, 3] bcast_S4x512x512x1_S4x512x512x512_0_1_2_3 main_v90
  let main_v93 : FVec F S4x512x512x512 .f32 := broadcastInDim S4x512x512x512 ![0, 1, 2, 3] bcast_S1x1x512x512_S4x512x512x512_0_1_2_3 main_v91
  let main_v94 : FVec F S4x512x512x512 .f32 := mulf main_v92 main_v93
  let main_cst_13 : FVec F S_ .f32 := constant S_ .f32 0x00000000#32
  let main_v95 : FVec F S4x512x512 .f32 := (fun x v => Host.reduceAdd x v reducesTo_S4x512x512x512_S4x512x512_d2 h_S_) main_v94 main_cst_13
  let main_v96 : FVec F S4x512x512 .f32 := subf main_v89 main_v95
  let main_v97 : FVec F S4x512x512x1 .f32 := broadcastInDim S4x512x512x1 ![0, 1, 2] bcast_S4x512x512_S4x512x512x1_0_1_2 main_arg3
  let main_v98 : FVec F S1x1x512x512 .f32 := broadcastInDim S1x1x512x512 ![2, 3] bcast_S512x512_S1x1x512x512_2_3 main_v12
  let main_v99 : FVec F S4x512x512x512 .f32 := broadcastInDim S4x512x512x512 ![0, 1, 2, 3] bcast_S4x512x512x1_S4x512x512x512_0_1_2_3 main_v97
  let main_v100 : FVec F S4x512x512x512 .f32 := broadcastInDim S4x512x512x512 ![0, 1, 2, 3] bcast_S1x1x512x512_S4x512x512x512_0_1_2_3 main_v98
  let main_v101 : FVec F S4x512x512x512 .f32 := mulf main_v99 main_v100
  let main_cst_14 : FVec F S_ .f32 := constant S_ .f32 0x00000000#32
  let main_v102 : FVec F S4x512x512 .f32 := (fun x v => Host.reduceAdd x v reducesTo_S4x512x512x512_S4x512x512_d2 h_S_) main_v101 main_cst_14
  let main_v103 : FVec F S4x512x512x1 .f32 := broadcastInDim S4x512x512x1 ![0, 1, 2] bcast_S4x512x512_S4x512x512x1_0_1_2 main_arg2
  fn_part5 (F := F) main_arg0 main_arg1 main_arg2 main_arg3 main_arg4 main_arg5 main_arg6 main_arg7 main_v12 main_v13 main_v68 main_v83 main_v96 main_v102 main_v103

def fn_part3 {F : FTy → Type} [FloatOps F] (main_arg0 : FVec F S4x512x512 .f32) (main_arg1 : FVec F S4x512x512 .f32) (main_arg2 : FVec F S4x512x512 .f32) (main_arg3 : FVec F S4x512x512 .f32) (main_arg4 : FVec F S4x512x512 .f32) (main_arg5 : FVec F S4x512x512 .f32) (main_arg6 : FVec F S512x512 .f32) (main_arg7 : FVec F S512x512 .f32) (main_v12 : FVec F S512x512 .f32) (main_v13 : FVec F S512x512 .f32) (main_v40 : FVec F S4x512x512 .f32) (main_v53 : FVec F S4x512x512 .f32) (main_v59 : FVec F S4x512x512 .f32) (main_v62 : FVec F S4x512x512x512 .f32) (main_v63 : FVec F S4x512x512x512 .f32) : IVec S4x512x512 1 × IVec S4x512x512 1 × IVec S4x512x512 1 × IVec S4x512x512 1 × IVec S4x512x512 1 × IVec S4x512x512 1 × IVec S512x512 1 × IVec S512x512 1 × IVec S_ 1 × IVec S4x512x512 1 :=
  let main_v64 : FVec F S4x512x512x512 .f32 := mulf main_v62 main_v63
  let main_cst_7 : FVec F S_ .f32 := constant S_ .f32 0x00000000#32
  let main_v65 : FVec F S4x512x512 .f32 := (fun x v => Host.reduceAdd x v reducesTo_S4x512x512x512_S4x512x512_d1 h_S_) main_v64 main_cst_7
  let main_v66 : FVec F S4x512x512 .f32 := subf main_v59 main_v65
  let main_cst_8 : FVec F S_ .f32 := constant S_ .f32 0x48800000#32
  let main_v67 : FVec F S4x512x512 .f32 := broadcastInDim S4x512x512 ![] bcast_S_S4x512x512 main_cst_8
  let main_v68 : FVec F S4x512x512 .f32 := Host.divf main_v66 main_v67
  let main_v69 : FVec F S4x512x1x512 .f32 := broadcastInDim S4x512x1x512 ![0, 1, 3] bcast_S4x512x512_S4x512x1x512_0_1_3 main_v53
  let main_v70 : FVec F S1x512x512x1 .f32 := broadcastInDim S1x512x512x1 ![1, 2] bcast_S512x512_S1x512x512x1_1_2 main_v12
  let main_v71 : FVec F S4x512x512x512 .f32 := broadcastInDim S4x512x512x512 ![0, 1, 2, 3] bcast_S4x512x1x512_S4x512x512x512_0_1_2_3 main_v69
  let main_v72 : FVec F S4x512x512x512 .f32 := broadcastInDim S4x512x512x512 ![0, 1, 2, 3] bcast_S1x512x512x1_S4x512x512x512_0_1_2_3 main_v70
  let main_v73 : FVec F S4x512x512x512 .f32 := mulf main_v71 main_v72
  let main_cst_9 : FVec F S_ .f32 := constant S_ .f32 0x00000000#32
  let main_v74 : FVec F S4x512x512 .f32 := (fun x v => Host.reduceAdd x v reducesTo_S4x512x512x512_S4x512x512_d1 h_S_) main_v73 main_cst_9
  let main_v75 : FVec F S4x512x1x512 .f32 := broadcastInDim S4x512x1x512 ![0, 1, 3] bcast_S4x512x512_S4x512x1x512_0_1_3 main_v40
  let main_v76 : FVec F S1x512x512x1 .f32 := broadcastInDim S1x512x512x1 ![1, 2] bcast_S512x512_S1x512x512x1_1_2 main_v13
  let main_v77 : FVec F S4x512x512x512 .f32 := broadcastInDim S4x512x512x512 ![0, 1, 2, 3] bcast_S4x512x1x512_S4x512x512x512_0_1_2_3 main_v75
  let main_v78 : FVec F S4x512x512x512 .f32 := broadcastInDim S4x512x512x512 ![0, 1, 2, 3] bcast_S1x512x512x1_S4x512x512x512_0_1_2_3 main_v76
  let main_v79 : FVec F S4x512x512x512 .f32 := mulf main_v77 main_v78
  let main_cst_10 : FVec F S_ .f32 := constant S_ .f32 0x00000000#32
  let main_v80 : FVec F S4x512x512 .f32 := (fun x v => Host.reduceAdd x v reducesTo_S4x512x512x512_S4x512x512_d1 h_S_) main_v79 main_cst_10
  let main_v81 : FVec F S4x512x512 .f32 := addf main_v74 main_v80
  let main_cst_11 : FVec F S_ .f32 := constant S_ .f32 0x48800000#32
  let main_v82 : FVec F S4x512x512 .f32 := broadcastInDim S4x512x512 ![] bcast_S_S4x512x512 main_cst_11
  fn_part4 (F := F) main_arg0 main_arg1 main_arg2 main_arg3 main_arg4 main_arg5 main_arg6 main_arg7 main_v12 main_v13 main_v68 main_v81 main_v82

def fn_part2 {F : FTy → Type} [FloatOps F] (main_arg0 : FVec F S4x512x512 .f32) (main_arg1 : FVec F S4x512x512 .f32) (main_arg2 : FVec F S4x512x512 .f32) (main_arg3 : FVec F S4x512x512 .f32) (main_arg4 : FVec F S4x512x512 .f32) (main_arg5 : FVec F S4x512x512 .f32) (main_arg6 : FVec F S512x512 .f32) (main_arg7 : FVec F S512x512 .f32) (main_v12 : FVec F S512x512 .f32) (main_v13 : FVec F S512x512 .f32) (main_v20 : FVec F S4x512x512 .f32) (main_v40 : FVec F S4x512x512 .f32) (main_v41 : FVec F S4x512x512x1 .f32) (main_v42 : FVec F S1x1x512x512 .f32) : IVec S4x512x512 1 × IVec S4x512x512 1 × IVec S4x512x512 1 × IVec S4x512x512 1 × IVec S4x512x512 1 × IVec S4x512x512 1 × IVec S512x512 1 × IVec S512x512 1 × IVec S_ 1 × IVec S4x512x512 1 :=
  let main_v43 : FVec F S4x512x512x512 .f32 := broadcastInDim S4x512x512x512 ![0, 1, 2, 3] bcast_S4x512x512x1_S4x512x512x512_0_1_2_3 main_v41
  let main_v44 : FVec F S4x512x512x512 .f32 := broadcastInDim S4x512x512x512 ![0, 1, 2, 3] bcast_S1x1x512x512_S4x512x512x512_0_1_2_3 main_v42
  let main_v45 : FVec F S4x512x512x512 .f32 := mulf main_v43 main_v44
  let main_cst_4 : FVec F S_ .f32 := constant S_ .f32 0x00000000#32
  let main_v46 : FVec F S4x512x512 .f32 := (fun x v => Host.reduceAdd x v reducesTo_S4x512x512x512_S4x512x512_d2 h_S_) main_v45 main_cst_4
  let main_v47 : FVec F S4x512x512x1 .f32 := broadcastInDim S4x512x512x1 ![0, 1, 2] bcast_S4x512x512_S4x512x512x1_0_1_2 main_v20
  let main_v48 : FVec F S1x1x512x512 .f32 := broadcastInDim S1x1x512x512 ![2, 3] bcast_S512x512_S1x1x512x512_2_3 main_v13
  let main_v49 : FVec F S4x512x512x512 .f32 := broadcastInDim S4x512x512x512 ![0, 1, 2, 3] bcast_S4x512x512x1_S4x512x512x512_0_1_2_3 main_v47
  let main_v50 : FVec F S4x512x512x512 .f32 := broadcastInDim S4x512x512x512 ![0, 1, 2, 3] bcast_S1x1x512x512_S4x512x512x512_0_1_2_3 main_v48
  let main_v51 : FVec F S4x512x512x512 .f32 := mulf main_v49 main_v50
  let main_cst_5 : FVec F S_ .f32 := constant S_ .f32 0x00000000#32
  let main_v52 : FVec F S4x512x512 .f32 := (fun x v => Host.reduceAdd x v reducesTo_S4x512x512x512_S4x512x512_d2 h_S_) main_v51 main_cst_5
  let main_v53 : FVec F S4x512x512 .f32 := addf main_v46 main_v52
  let main_v54 : FVec F S4x512x1x512 .f32 := broadcastInDim S4x512x1x512 ![0, 1, 3] bcast_S4x512x512_S4x512x1x512_0_1_3 main_v40
  let main_v55 : FVec F S1x512x512x1 .f32 := broadcastInDim S1x512x512x1 ![1, 2] bcast_S512x512_S1x512x512x1_1_2 main_v12
  let main_v56 : FVec F S4x512x512x512 .f32 := broadcastInDim S4x512x512x512 ![0, 1, 2, 3] bcast_S4x512x1x512_S4x512x512x512_0_1_2_3 main_v54
  let main_v57 : FVec F S4x512x512x512 .f32 := broadcastInDim S4x512x512x512 ![0, 1, 2, 3] bcast_S1x512x512x1_S4x512x512x512_0_1_2_3 main_v55
  let main_v58 : FVec F S4x512x512x512 .f32 := mulf main_v56 main_v57
  let main_cst_6 : FVec F S_ .f32 := constant S_ .f32 0x00000000#32
  let main_v59 : FVec F S4x512x512 .f32 := (fun x v => Host.reduceAdd x v reducesTo_S4x512x512x512_S4x512x512_d1 h_S_) main_v58 main_cst_6
  let main_v60 : FVec F S4x512x1x512 .f32 := broadcastInDim S4x512x1x512 ![0, 1, 3] bcast_S4x512x512_S4x512x1x512_0_1_3 main_v53
  let main_v61 : FVec F S1x512x512x1 .f32 := broadcastInDim S1x512x512x1 ![1, 2] bcast_S512x512_S1x512x512x1_1_2 main_v13
  let main_v62 : FVec F S4x512x512x512 .f32 := broadcastInDim S4x512x512x512 ![0, 1, 2, 3] bcast_S4x512x1x512_S4x512x512x512_0_1_2_3 main_v60
  let main_v63 : FVec F S4x512x512x512 .f32 := broadcastInDim S4x512x512x512 ![0, 1, 2, 3] bcast_S1x512x512x1_S4x512x512x512_0_1_2_3 main_v61
  fn_part3 (F := F) main_arg0 main_arg1 main_arg2 main_arg3 main_arg4 main_arg5 main_arg6 main_arg7 main_v12 main_v13 main_v40 main_v53 main_v59 main_v62 main_v63

def fn_part1 {F : FTy → Type} [FloatOps F] (main_arg0 : FVec F S4x512x512 .f32) (main_arg1 : FVec F S4x512x512 .f32) (main_arg2 : FVec F S4x512x512 .f32) (main_arg3 : FVec F S4x512x512 .f32) (main_arg4 : FVec F S4x512x512 .f32) (main_arg5 : FVec F S4x512x512 .f32) (main_arg6 : FVec F S512x512 .f32) (main_arg7 : FVec F S512x512 .f32) (main_v12 : FVec F S512x512 .f32) (main_v13 : FVec F S512x512 .f32) (main_v20 : FVec F S4x512x512 .f32) : IVec S4x512x512 1 × IVec S4x512x512 1 × IVec S4x512x512 1 × IVec S4x512x512 1 × IVec S4x512x512 1 × IVec S4x512x512 1 × IVec S512x512 1 × IVec S512x512 1 × IVec S_ 1 × IVec S4x512x512 1 :=
  let main_v21 : FVec F S1x512x512 .f32 := broadcastInDim S1x512x512 ![1, 2] bcast_S512x512_S1x512x512_1_2 main_arg7
  let main_v22 : FVec F S4x512x512 .f32 := broadcastInDim S4x512x512 ![0, 1, 2] bcast_S1x512x512_S4x512x512_0_1_2 main_v21
  let main_v23 : FVec F S4x512x512 .f32 := mulf main_arg0 main_v22
  let main_v24 : FVec F S1x512x512 .f32 := broadcastInDim S1x512x512 ![1, 2] bcast_S512x512_S1x512x512_1_2 main_arg6
  let main_v25 : FVec F S4x512x512 .f32 := broadcastInDim S4x512x512 ![0, 1, 2] bcast_S1x512x512_S4x512x512_0_1_2 main_v24
  let main_v26 : FVec F S4x512x512 .f32 := mulf main_arg1 main_v25
  let main_v27 : FVec F S4x512x512 .f32 := addf main_v23 main_v26
  let main_v28 : FVec F S4x512x512x1 .f32 := broadcastInDim S4x512x512x1 ![0, 1, 2] bcast_S4x512x512_S4x512x512x1_0_1_2 main_v20
  let main_v29 : FVec F S1x1x512x512 .f32 := broadcastInDim S1x1x512x512 ![2, 3] bcast_S512x512_S1x1x512x512_2_3 main_v12
  let main_v30 : FVec F S4x512x512x512 .f32 := broadcastInDim S4x512x512x512 ![0, 1, 2, 3] bcast_S4x512x512x1_S4x512x512x512_0_1_2_3 main_v28
  let main_v31 : FVec F S4x512x512x512 .f32 := broadcastInDim S4x512x512x512 ![0, 1, 2, 3] bcast_S1x1x512x512_S4x512x512x512_0_1_2_3 main_v29
  let main_v32 : FVec F S4x512x512x512 .f32 := mulf main_v30 main_v31
  let main_cst_2 : FVec F S_ .f32 := constant S_ .f32 0x00000000#32
  let main_v33 : FVec F S4x512x512 .f32 := (fun x v => Host.reduceAdd x v reducesTo_S4x512x512x512_S4x512x512_d2 h_S_) main_v32 main_cst_2
  let main_v34 : FVec F S4x512x512x1 .f32 := broadcastInDim S4x512x512x1 ![0, 1, 2] bcast_S4x512x512_S4x512x512x1_0_1_2 main_v27
  let main_v35 : FVec F S1x1x512x512 .f32 := broadcastInDim S1x1x512x512 ![2, 3] bcast_S512x512_S1x1x512x512_2_3 main_v13
  let main_v36 : FVec F S4x512x512x512 .f32 := broadcastInDim S4x512x512x512 ![0, 1, 2, 3] bcast_S4x512x512x1_S4x512x512x512_0_1_2_3 main_v34
  let main_v37 : FVec F S4x512x512x512 .f32 := broadcastInDim S4x512x512x512 ![0, 1, 2, 3] bcast_S1x1x512x512_S4x512x512x512_0_1_2_3 main_v35
  let main_v38 : FVec F S4x512x512x512 .f32 := mulf main_v36 main_v37
  let main_cst_3 : FVec F S_ .f32 := constant S_ .f32 0x00000000#32
  let main_v39 : FVec F S4x512x512 .f32 := (fun x v => Host.reduceAdd x v reducesTo_S4x512x512x512_S4x512x512_d2 h_S_) main_v38 main_cst_3
  let main_v40 : FVec F S4x512x512 .f32 := subf main_v33 main_v39
  let main_v41 : FVec F S4x512x512x1 .f32 := broadcastInDim S4x512x512x1 ![0, 1, 2] bcast_S4x512x512_S4x512x512x1_0_1_2 main_v27
  let main_v42 : FVec F S1x1x512x512 .f32 := broadcastInDim S1x1x512x512 ![2, 3] bcast_S512x512_S1x1x512x512_2_3 main_v12
  fn_part2 (F := F) main_arg0 main_arg1 main_arg2 main_arg3 main_arg4 main_arg5 main_arg6 main_arg7 main_v12 main_v13 main_v20 main_v40 main_v41 main_v42

def fn {F : FTy → Type} [FloatOps F] (main_arg0 : FVec F S4x512x512 .f32) (main_arg1 : FVec F S4x512x512 .f32) (main_arg2 : FVec F S4x512x512 .f32) (main_arg3 : FVec F S4x512x512 .f32) (main_arg4 : FVec F S4x512x512 .f32) (main_arg5 : FVec F S4x512x512 .f32) (main_arg6 : FVec F S512x512 .f32) (main_arg7 : FVec F S512x512 .f32) : IVec S4x512x512 1 × IVec S4x512x512 1 × IVec S4x512x512 1 × IVec S4x512x512 1 × IVec S4x512x512 1 × IVec S4x512x512 1 × IVec S512x512 1 × IVec S512x512 1 × IVec S_ 1 × IVec S4x512x512 1 :=
  let main_v0 : IVec S512 32 := iotaInDim S512 32 0
  let main_v1 : FVec F S512 .f32 := sitofp .f32 main_v0
  let main_cst : FVec F S_ .f32 := constant S_ .f32 0xBF800000#32
  let main_v2 : FVec F S_ .f32 := Host.acos main_cst
  let main_cst_0 : FVec F S_ .f32 := constant S_ .f32 0x40000000#32
  let main_v3 : FVec F S_ .f32 := mulf main_cst_0 main_v2
  let main_cst_1 : FVec F S_ .f32 := constant S_ .f32 0x44000000#32
  let main_v4 : FVec F S_ .f32 := Host.divf main_v3 main_cst_1
  let main_v5 : FVec F S512x1 .f32 := broadcastInDim S512x1 ![0] bcast_S512_S512x1_0 main_v1
  let main_v6 : FVec F S1x512 .f32 := broadcastInDim S1x512 ![1] bcast_S512_S1x512_1 main_v1
  let main_v7 : FVec F S512x512 .f32 := broadcastInDim S512x512 ![0, 1] bcast_S512x1_S512x512_0_1 main_v5
  let main_v8 : FVec F S512x512 .f32 := broadcastInDim S512x512 ![0, 1] bcast_S1x512_S512x512_0_1 main_v6
  let main_v9 : FVec F S512x512 .f32 := mulf main_v7 main_v8
  let main_v10 : FVec F S512x512 .f32 := broadcastInDim S512x512 ![] bcast_S_S512x512 main_v4
  let main_v11 : FVec F S512x512 .f32 := mulf main_v10 main_v9
  let main_v12 : FVec F S512x512 .f32 := Host.cos main_v11
  let main_v13 : FVec F S512x512 .f32 := Host.sin main_v11
  let main_v14 : FVec F S1x512x512 .f32 := broadcastInDim S1x512x512 ![1, 2] bcast_S512x512_S1x512x512_1_2 main_arg6
  let main_v15 : FVec F S4x512x512 .f32 := broadcastInDim S4x512x512 ![0, 1, 2] bcast_S1x512x512_S4x512x512_0_1_2 main_v14
  let main_v16 : FVec F S4x512x512 .f32 := mulf main_arg0 main_v15
  let main_v17 : FVec F S1x512x512 .f32 := broadcastInDim S1x512x512 ![1, 2] bcast_S512x512_S1x512x512_1_2 main_arg7
  let main_v18 : FVec F S4x512x512 .f32 := broadcastInDim S4x512x512 ![0, 1, 2] bcast_S1x512x512_S4x512x512_0_1_2 main_v17
  let main_v19 : FVec F S4x512x512 .f32 := mulf main_arg1 main_v18
  let main_v20 : FVec F S4x512x512 .f32 := subf main_v16 main_v19
  fn_part1 (F := F) main_arg0 main_arg1 main_arg2 main_arg3 main_arg4 main_arg5 main_arg6 main_arg7 main_v12 main_v13 main_v20
-- ==== Kernel.lean ====
abbrev S4x512x512 : Shape := ⟨3, ![4, 512, 512]⟩
abbrev S512x512 : Shape := ⟨2, ![512, 512]⟩
abbrev S_ : Shape := ⟨0, ![]⟩
abbrev S1x512x512 : Shape := ⟨3, ![1, 512, 512]⟩

abbrev nBuf : Space → Nat
  | .hbm => 34
  | .vmem => 32
  | .smem => 0
  | _ => 0

abbrev bufTy : (tb : Table) → Fin (tcTables nBuf tb) → BufTy
  | .hbm, ⟨0, _⟩ => ⟨S4x512x512, .f32⟩
  | .hbm, ⟨1, _⟩ => ⟨S4x512x512, .f32⟩
  | .hbm, ⟨2, _⟩ => ⟨S4x512x512, .f32⟩
  | .hbm, ⟨3, _⟩ => ⟨S4x512x512, .f32⟩
  | .hbm, ⟨4, _⟩ => ⟨S4x512x512, .f32⟩
  | .hbm, ⟨5, _⟩ => ⟨S4x512x512, .f32⟩
  | .hbm, ⟨6, _⟩ => ⟨S512x512, .f32⟩
  | .hbm, ⟨7, _⟩ => ⟨S512x512, .f32⟩
  | .hbm, ⟨8, _⟩ => ⟨S512x512, .i32⟩
  | .hbm, ⟨9, _⟩ => ⟨S512x512, .i32⟩
  | .hbm, ⟨10, _⟩ => ⟨S512x512, .i32⟩
  | .hbm, ⟨11, _⟩ => ⟨S_, .i32⟩
  | .hbm, ⟨12, _⟩ => ⟨S512x512, .i32⟩
  | .hbm, ⟨13, _⟩ => ⟨S512x512, .i32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S512x512, .f32⟩
  | .hbm, ⟨21, _⟩ => ⟨S512x512, .f32⟩
  | .hbm, ⟨22, _⟩ => ⟨S512x512, .f32⟩
  | .hbm, ⟨23, _⟩ => ⟨S512x512, .f32⟩
  | .hbm, ⟨24, _⟩ => ⟨S512x512, .f32⟩
  | .hbm, ⟨25, _⟩ => ⟨S512x512, .f32⟩
  | .hbm, ⟨26, _⟩ => ⟨S512x512, .f32⟩
  | .hbm, ⟨27, _⟩ => ⟨S4x512x512, .f32⟩
  | .hbm, ⟨28, _⟩ => ⟨S4x512x512, .f32⟩
  | .hbm, ⟨29, _⟩ => ⟨S4x512x512, .f32⟩
  | .hbm, ⟨30, _⟩ => ⟨S4x512x512, .f32⟩
  | .hbm, ⟨31, _⟩ => ⟨S4x512x512, .f32⟩
  | .hbm, ⟨32, _⟩ => ⟨S4x512x512, .f32⟩
  | .hbm, ⟨33, _⟩ => ⟨S4x512x512, .f32⟩
  | .local _ .vmem, ⟨0, _⟩ => ⟨S1x512x512, .f32⟩
  | .local _ .vmem, ⟨1, _⟩ => ⟨S1x512x512, .f32⟩
  | .local _ .vmem, ⟨2, _⟩ => ⟨S1x512x512, .f32⟩
  | .local _ .vmem, ⟨3, _⟩ => ⟨S1x512x512, .f32⟩
  | .local _ .vmem, ⟨4, _⟩ => ⟨S1x512x512, .f32⟩
  | .local _ .vmem, ⟨5, _⟩ => ⟨S1x512x512, .f32⟩
  | .local _ .vmem, ⟨6, _⟩ => ⟨S1x512x512, .f32⟩
  | .local _ .vmem, ⟨7, _⟩ => ⟨S1x512x512, .f32⟩
  | .local _ .vmem, ⟨8, _⟩ => ⟨S1x512x512, .f32⟩
  | .local _ .vmem, ⟨9, _⟩ => ⟨S1x512x512, .f32⟩
  | .local _ .vmem, ⟨10, _⟩ => ⟨S1x512x512, .f32⟩
  | .local _ .vmem, ⟨11, _⟩ => ⟨S1x512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S1x512x512, .f32⟩
  | .local _ .vmem, ⟨19, _⟩ => ⟨S1x512x512, .f32⟩
  | .local _ .vmem, ⟨20, _⟩ => ⟨S1x512x512, .f32⟩
  | .local _ .vmem, ⟨21, _⟩ => ⟨S1x512x512, .f32⟩
  | .local _ .vmem, ⟨22, _⟩ => ⟨S1x512x512, .f32⟩
  | .local _ .vmem, ⟨23, _⟩ => ⟨S1x512x512, .f32⟩
  | .local _ .vmem, ⟨24, _⟩ => ⟨S1x512x512, .f32⟩
  | .local _ .vmem, ⟨25, _⟩ => ⟨S1x512x512, .f32⟩
  | .local _ .vmem, ⟨26, _⟩ => ⟨S1x512x512, .f32⟩
  | .local _ .vmem, ⟨27, _⟩ => ⟨S1x512x512, .f32⟩
  | .local _ .vmem, ⟨28, _⟩ => ⟨S1x512x512, .f32⟩
  | .local _ .vmem, ⟨29, _⟩ => ⟨S1x512x512, .f32⟩
  | .local _ .vmem, ⟨30, _⟩ => ⟨S1x512x512, .f32⟩
  | .local _ .vmem, ⟨31, _⟩ => ⟨S1x512x512, .f32⟩
  | _, _ => ⟨S4x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15_0 : Ref sig .tc := ⟨.hbm, 27, rfl⟩
abbrev main_v15_1 : Ref sig .tc := ⟨.hbm, 28, rfl⟩
abbrev main_v15_2 : Ref sig .tc := ⟨.hbm, 29, rfl⟩
abbrev main_v15_3 : Ref sig .tc := ⟨.hbm, 30, rfl⟩
abbrev main_v15_4 : Ref sig .tc := ⟨.hbm, 31, rfl⟩
abbrev main_v15_5 : Ref sig .tc := ⟨.hbm, 32, rfl⟩
abbrev main_v15_6 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem18_1 : DmaSem sig := 31

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S512x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1x512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x512x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x512x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x512x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x512x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x512x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== ReferenceIdeal.lean ====
abbrev S4x512x512 : Shape := ⟨3, ![4, 512, 512]⟩
abbrev S512x512 : Shape := ⟨2, ![512, 512]⟩
abbrev S512 : Shape := ⟨1, ![512]⟩
abbrev S_ : Shape := ⟨0, ![]⟩
abbrev S512x1 : Shape := ⟨2, ![512, 1]⟩
abbrev S1x512 : Shape := ⟨2, ![1, 512]⟩
abbrev S1x512x512 : Shape := ⟨3, ![1, 512, 512]⟩
abbrev S512x4x512 : Shape := ⟨3, ![512, 4, 512]⟩

abbrev nBuf : Space → Nat
  | .hbm => 138
  | .vmem => 0
  | .smem => 0
  | _ => 0

abbrev hbmTy0_0 (i : Nat) : BufTy := match i % 128 with
  | 0 => ⟨S4x512x512, .f32⟩
  | 1 => ⟨S4x512x512, .f32⟩
  | 2 => ⟨S4x512x512, .f32⟩
  | 3 => ⟨S4x512x512, .f32⟩
  | 4 => ⟨S4x512x512, .f32⟩
  | 5 => ⟨S4x512x512, .f32⟩
  | 6 => ⟨S512x512, .f32⟩
  | 7 => ⟨S512x512, .f32⟩
  | 8 => ⟨S512, .i32⟩
  | 9 => ⟨S512, .f32⟩
  | 10 => ⟨S_, .f32⟩
  | 11 => ⟨S_, .f32⟩
  | 12 => ⟨S_, .f32⟩
  | 13 => ⟨S_, .f32⟩
  | 14 => ⟨S_, .f32⟩
  | 15 => ⟨S_, .f32⟩
  | 16 => ⟨S512x1, .f32⟩
  | 17 => ⟨S1x512, .f32⟩
  | 18 => ⟨S512x512, .f32⟩
  | 19 => ⟨S512x512, .f32⟩
  | 20 => ⟨S512x512, .f32⟩
  | 21 => ⟨S512x512, .f32⟩
  | 22 => ⟨S512x512, .f32⟩
  | 23 => ⟨S512x512, .f32⟩
  | 24 => ⟨S512x512, .f32⟩
  | 25 => ⟨S1x512x512, .f32⟩
  | 26 => ⟨S4x512x512, .f32⟩
  | 27 => ⟨S4x512x512, .f32⟩
  | 28 => ⟨S1x512x512, .f32⟩
  | 29 => ⟨S4x512x512, .f32⟩
  | 30 => ⟨S4x512x512, .f32⟩
  | 31 => ⟨S4x512x512, .f32⟩
  | 32 => ⟨S1x512x512, .f32⟩
  | 33 => ⟨S4x512x512, .f32⟩
  | 34 => ⟨S4x512x512, .f32⟩
  | 35 => ⟨S1x512x512, .f32⟩
  | 36 => ⟨S4x512x512, .f32⟩
  | 37 => ⟨S4x512x512, .f32⟩
  | 38 => ⟨S4x512x512, .f32⟩
  | 39 => ⟨S4x512x512, .f32⟩
  | 40 => ⟨S4x512x512, .f32⟩
  | 41 => ⟨S4x512x512, .f32⟩
  | 42 => ⟨S4x512x512, .f32⟩
  | 43 => ⟨S4x512x512, .f32⟩
  | 44 => ⟨S4x512x512, .f32⟩
  | 45 => ⟨S512x4x512, .f32⟩
  | 46 => ⟨S4x512x512, .f32⟩
  | 47 => ⟨S512x4x512, .f32⟩
  | 48 => ⟨S4x512x512, .f32⟩
  | 49 => ⟨S4x512x512, .f32⟩
  | 50 => ⟨S_, .f32⟩
  | 51 => ⟨S4x512x512, .f32⟩
  | 52 => ⟨S4x512x512, .f32⟩
  | 53 => ⟨S512x4x512, .f32⟩
  | 54 => ⟨S4x512x512, .f32⟩
  | 55 => ⟨S512x4x512, .f32⟩
  | 56 => ⟨S4x512x512, .f32⟩
  | 57 => ⟨S4x512x512, .f32⟩
  | 58 => ⟨S_, .f32⟩
  | 59 => ⟨S4x512x512, .f32⟩
  | 60 => ⟨S4x512x512, .f32⟩
  | 61 => ⟨S4x512x512, .f32⟩
  | 62 => ⟨S4x512x512, .f32⟩
  | 63 => ⟨S4x512x512, .f32⟩
  | 64 => ⟨S4x512x512, .f32⟩
  | 65 => ⟨S4x512x512, .f32⟩
  | 66 => ⟨S4x512x512, .f32⟩
  | 67 => ⟨S512x4x512, .f32⟩
  | 68 => ⟨S4x512x512, .f32⟩
  | 69 => ⟨S512x4x512, .f32⟩
  | 70 => ⟨S4x512x512, .f32⟩
  | 71 => ⟨S4x512x512, .f32⟩
  | 72 => ⟨S_, .f32⟩
  | 73 => ⟨S4x512x512, .f32⟩
  | 74 => ⟨S4x512x512, .f32⟩
  | 75 => ⟨S512x4x512, .f32⟩
  | 76 => ⟨S4x512x512, .f32⟩
  | 77 => ⟨S512x4x512, .f32⟩
  | 78 => ⟨S4x512x512, .f32⟩
  | 79 => ⟨S4x512x512, .f32⟩
  | 80 => ⟨S_, .f32⟩
  | 81 => ⟨S4x512x512, .f32⟩
  | 82 => ⟨S4x512x512, .f32⟩
  | 83 => ⟨S4x512x512, .f32⟩
  | 84 => ⟨S4x512x512, .f32⟩
  | 85 => ⟨S4x512x512, .f32⟩
  | 86 => ⟨S4x512x512, .f32⟩
  | 87 => ⟨S4x512x512, .f32⟩
  | 88 => ⟨S4x512x512, .f32⟩
  | 89 => ⟨S_, .f32⟩
  | 90 => ⟨S4x512x512, .f32⟩
  | 91 => ⟨S4x512x512, .f32⟩
  | 92 => ⟨S4x512x512, .f32⟩
  | 93 => ⟨S4x512x512, .f32⟩
  | 94 => ⟨S4x512x512, .f32⟩
  | 95 => ⟨S4x512x512, .f32⟩
  | 96 => ⟨S4x512x512, .f32⟩
  | 97 => ⟨S4x512x512, .f32⟩
  | 98 => ⟨S4x512x512, .f32⟩
  | 99 => ⟨S4x512x512, .f32⟩
  | 100 => ⟨S4x512x512, .f32⟩
  | 101 => ⟨S4x512x512, .f32⟩
  | 102 => ⟨S4x512x512, .f32⟩
  | 103 => ⟨S4x512x512, .f32⟩
  | 104 => ⟨S4x512x512, .f32⟩
  | 105 => ⟨S4x512x512, .f32⟩
  | 106 => ⟨S4x512x512, .f32⟩
  | 107 => ⟨S4x512x512, .f32⟩
  | 108 => ⟨S512x4x512, .f32⟩
  | 109 => ⟨S4x512x512, .f32⟩
  | 110 => ⟨S512x4x512, .f32⟩
  | 111 => ⟨S4x512x512, .f32⟩
  | 112 => ⟨S4x512x512, .f32⟩
  | 113 => ⟨S512x4x512, .f32⟩
  | 114 => ⟨S4x512x512, .f32⟩
  | 115 => ⟨S512x4x512, .f32⟩
  | 116 => ⟨S4x512x512, .f32⟩
  | 117 => ⟨S4x512x512, .f32⟩
  | 118 => ⟨S4x512x512, .f32⟩
  | 119 => ⟨S4x512x512, .f32⟩
  | 120 => ⟨S4x512x512, .f32⟩
  | 121 => ⟨S4x512x512, .f32⟩
  | 122 => ⟨S4x512x512, .f32⟩
  | 123 => ⟨S4x512x512, .f32⟩
  | 124 => ⟨S512x4x512, .f32⟩
  | 125 => ⟨S4x512x512, .f32⟩
  | 126 => ⟨S512x4x512, .f32⟩
  | 127 => ⟨S4x512x512, .f32⟩
  | _ => ⟨S4x512x512, .f32⟩

abbrev hbmTy0_1 (i : Nat) : BufTy := match i % 128 with
  | 0 => ⟨S4x512x512, .f32⟩
  | 1 => ⟨S512x4x512, .f32⟩
  | 2 => ⟨S4x512x512, .f32⟩
  | 3 => ⟨S512x4x512, .f32⟩
  | 4 => ⟨S4x512x512, .f32⟩
  | 5 => ⟨S4x512x512, .f32⟩
  | 6 => ⟨S4x512x512, .f32⟩
  | 7 => ⟨S4x512x512, .f32⟩
  | 8 => ⟨S4x512x512, .f32⟩
  | 9 => ⟨S4x512x512, .f32⟩
  | _ => ⟨S4x512x512, .f32⟩

abbrev hbmTy (i : Nat) : BufTy := match i / 128 with
  | 0 => hbmTy0_0 i
  | 1 => hbmTy0_1 i
  | _ => ⟨S4x512x512, .f32⟩

abbrev bufTy : (tb : Table) → Fin (tcTables nBuf tb) → BufTy
  | .hbm, ⟨i, _⟩ => hbmTy i
  | _, _ => ⟨S4x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_2 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_cst_3 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_cst_4 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_cst_5 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_cst_6 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev main_v112 : Ref sig .tc := ⟨.hbm, 128, rfl⟩
abbrev main_v113 : Ref sig .tc := ⟨.hbm, 129, rfl⟩
abbrev main_v114 : Ref sig .tc := ⟨.hbm, 130, rfl⟩
abbrev main_v115 : Ref sig .tc := ⟨.hbm, 131, rfl⟩
abbrev main_v116 : Ref sig .tc := ⟨.hbm, 132, rfl⟩
abbrev main_v117 : Ref sig .tc := ⟨.hbm, 133, rfl⟩
abbrev main_v118 : Ref sig .tc := ⟨.hbm, 134, rfl⟩
abbrev main_v119 : Ref sig .tc := ⟨.hbm, 135, rfl⟩
abbrev main_v120 : Ref sig .tc := ⟨.hbm, 136, rfl⟩
abbrev main_v121 : Ref sig .tc := ⟨.hbm, 137, rfl⟩

abbrev nD : Nat := 1
abbrev τ : Topo := Topo.v7x

variable {F : FTy → Type} [FloatOps F]
-- ==== Kernel2.lean ====
abbrev S4x512x512 : Shape := ⟨3, ![4, 512, 512]⟩
abbrev S512x512 : Shape := ⟨2, ![512, 512]⟩
abbrev S_ : Shape := ⟨0, ![]⟩
abbrev S1x512x512 : Shape := ⟨3, ![1, 512, 512]⟩
abbrev S1 : Shape := ⟨1, ![1]⟩
abbrev S1x1x1 : Shape := ⟨3, ![1, 1, 1]⟩

abbrev nBuf : Space → Nat
  | .hbm => 30
  | .vmem => 23
  | .smem => 1
  | _ => 0

abbrev bufTy : (tb : Table) → Fin (tcTables nBuf tb) → BufTy
  | .hbm, ⟨0, _⟩ => ⟨S4x512x512, .f32⟩
  | .hbm, ⟨1, _⟩ => ⟨S4x512x512, .f32⟩
  | .hbm, ⟨2, _⟩ => ⟨S4x512x512, .f32⟩
  | .hbm, ⟨3, _⟩ => ⟨S4x512x512, .f32⟩
  | .hbm, ⟨4, _⟩ => ⟨S4x512x512, .f32⟩
  | .hbm, ⟨5, _⟩ => ⟨S512x512, .f32⟩
  | .hbm, ⟨6, _⟩ => ⟨S512x512, .f32⟩
  | .hbm, ⟨7, _⟩ => ⟨S512x512, .i32⟩
  | .hbm, ⟨8, _⟩ => ⟨S512x512, .i32⟩
  | .hbm, ⟨9, _⟩ => ⟨S512x512, .i32⟩
  | .hbm, ⟨10, _⟩ => ⟨S_, .i32⟩
  | .hbm, ⟨11, _⟩ => ⟨S512x512, .i32⟩
  | .hbm, ⟨12, _⟩ => ⟨S512x512, .i32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S512x512, .f32⟩
  | .hbm, ⟨20, _⟩ => ⟨S512x512, .f32⟩
  | .hbm, ⟨21, _⟩ => ⟨S512x512, .f32⟩
  | .hbm, ⟨22, _⟩ => ⟨S512x512, .f32⟩
  | .hbm, ⟨23, _⟩ => ⟨S512x512, .f32⟩
  | .hbm, ⟨24, _⟩ => ⟨S512x512, .f32⟩
  | .hbm, ⟨25, _⟩ => ⟨S512x512, .f32⟩
  | .hbm, ⟨26, _⟩ => ⟨S4x512x512, .f32⟩
  | .hbm, ⟨27, _⟩ => ⟨S4x512x512, .f32⟩
  | .hbm, ⟨28, _⟩ => ⟨S4x512x512, .f32⟩
  | .hbm, ⟨29, _⟩ => ⟨S4x512x512, .f32⟩
  | .local _ .vmem, ⟨0, _⟩ => ⟨S4x512x512, .f32⟩
  | .local _ .vmem, ⟨1, _⟩ => ⟨S1x512x512, .f32⟩
  | .local _ .vmem, ⟨2, _⟩ => ⟨S1x512x512, .f32⟩
  | .local _ .vmem, ⟨3, _⟩ => ⟨S1x512x512, .f32⟩
  | .local _ .vmem, ⟨4, _⟩ => ⟨S1x512x512, .f32⟩
  | .local _ .vmem, ⟨5, _⟩ => ⟨S1x512x512, .f32⟩
  | .local _ .vmem, ⟨6, _⟩ => ⟨S1x512x512, .f32⟩
  | .local _ .vmem, ⟨7, _⟩ => ⟨S1x512x512, .f32⟩
  | .local _ .vmem, ⟨8, _⟩ => ⟨S1x512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S1x512x512, .f32⟩
  | .local _ .vmem, ⟨16, _⟩ => ⟨S1x512x512, .f32⟩
  | .local _ .vmem, ⟨17, _⟩ => ⟨S1x512x512, .f32⟩
  | .local _ .vmem, ⟨18, _⟩ => ⟨S1x512x512, .f32⟩
  | .local _ .vmem, ⟨19, _⟩ => ⟨S1x512x512, .f32⟩
  | .local _ .vmem, ⟨20, _⟩ => ⟨S1x512x512, .f32⟩
  | .local _ .vmem, ⟨21, _⟩ => ⟨S1x512x512, .f32⟩
  | .local _ .vmem, ⟨22, _⟩ => ⟨S1x512x512, .f32⟩
  | .local _ .smem, ⟨0, _⟩ => ⟨S1, .f32⟩
  | _, _ => ⟨S4x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .smem, ⟨0, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15_0 : Ref sig .tc := ⟨.hbm, 26, rfl⟩
abbrev main_v15_1 : Ref sig .tc := ⟨.hbm, 27, rfl⟩
abbrev main_v15_2 : Ref sig .tc := ⟨.hbm, 28, rfl⟩
abbrev main_v15_3 : Ref sig .tc := ⟨.hbm, 29, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_scratch0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_56 : BitVec 32 := 0#32
  let c31_i32 : BitVec 32 := 31#32
  let v94 : BitVec 32 := Scalar.addi c0_i32_56 c31_i32
  let c1_i32 : BitVec 32 := 1#32
  ⟨c0_i32_56, v94, c1_i32⟩
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S4x512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1x512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x512x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference2Ideal.lean ====
abbrev S4x512x512 : Shape := ⟨3, ![4, 512, 512]⟩
abbrev S512x512 : Shape := ⟨2, ![512, 512]⟩
abbrev S512 : Shape := ⟨1, ![512]⟩
abbrev S_ : Shape := ⟨0, ![]⟩
abbrev S512x1 : Shape := ⟨2, ![512, 1]⟩
abbrev S1x512 : Shape := ⟨2, ![1, 512]⟩
abbrev S1048576 : Shape := ⟨1, ![1048576]⟩
abbrev S2000 : Shape := ⟨1, ![2000]⟩
abbrev S512x4x512 : Shape := ⟨3, ![512, 4, 512]⟩
abbrev S1x512x512 : Shape := ⟨3, ![1, 512, 512]⟩

abbrev nBuf : Space → Nat
  | .hbm => 163
  | .vmem => 0
  | .smem => 0
  | _ => 0

abbrev hbmTy0_0 (i : Nat) : BufTy := match i % 128 with
  | 0 => ⟨S4x512x512, .f32⟩
  | 1 => ⟨S4x512x512, .f32⟩
  | 2 => ⟨S4x512x512, .f32⟩
  | 3 => ⟨S4x512x512, .f32⟩
  | 4 => ⟨S4x512x512, .f32⟩
  | 5 => ⟨S512x512, .f32⟩
  | 6 => ⟨S512x512, .f32⟩
  | 7 => ⟨S512, .i32⟩
  | 8 => ⟨S512, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | 15 => ⟨S512x1, .f32⟩
  | 16 => ⟨S1x512, .f32⟩
  | 17 => ⟨S512x512, .f32⟩
  | 18 => ⟨S512x512, .f32⟩
  | 19 => ⟨S512x512, .f32⟩
  | 20 => ⟨S512x512, .f32⟩
  | 21 => ⟨S512x512, .f32⟩
  | 22 => ⟨S512x512, .f32⟩
  | 23 => ⟨S512x512, .f32⟩
  | 24 => ⟨S4x512x512, .f32⟩
  | 25 => ⟨S4x512x512, .f32⟩
  | 26 => ⟨S4x512x512, .f32⟩
  | 27 => ⟨S4x512x512, .f32⟩
  | 28 => ⟨S1048576, .f32⟩
  | 29 => ⟨S2000, .f32⟩
  | 30 => ⟨S2000, .i32⟩
  | 31 => ⟨S_, .f32⟩
  | 32 => ⟨S_, .f32⟩
  | 33 => ⟨S4x512x512, .f32⟩
  | 34 => ⟨S4x512x512, .i1⟩
  | 35 => ⟨S4x512x512, .f32⟩
  | 36 => ⟨S4x512x512, .f32⟩
  | 37 => ⟨S4x512x512, .f32⟩
  | 38 => ⟨S4x512x512, .f32⟩
  | 39 => ⟨S4x512x512, .f32⟩
  | 40 => ⟨S4x512x512, .f32⟩
  | 41 => ⟨S4x512x512, .f32⟩
  | 42 => ⟨S4x512x512, .f32⟩
  | 43 => ⟨S4x512x512, .f32⟩
  | 44 => ⟨S512x4x512, .f32⟩
  | 45 => ⟨S4x512x512, .f32⟩
  | 46 => ⟨S512x4x512, .f32⟩
  | 47 => ⟨S4x512x512, .f32⟩
  | 48 => ⟨S4x512x512, .f32⟩
  | 49 => ⟨S_, .f32⟩
  | 50 => ⟨S4x512x512, .f32⟩
  | 51 => ⟨S4x512x512, .f32⟩
  | 52 => ⟨S512x4x512, .f32⟩
  | 53 => ⟨S4x512x512, .f32⟩
  | 54 => ⟨S512x4x512, .f32⟩
  | 55 => ⟨S4x512x512, .f32⟩
  | 56 => ⟨S4x512x512, .f32⟩
  | 57 => ⟨S_, .f32⟩
  | 58 => ⟨S4x512x512, .f32⟩
  | 59 => ⟨S4x512x512, .f32⟩
  | 60 => ⟨S4x512x512, .f32⟩
  | 61 => ⟨S4x512x512, .f32⟩
  | 62 => ⟨S4x512x512, .f32⟩
  | 63 => ⟨S4x512x512, .f32⟩
  | 64 => ⟨S4x512x512, .f32⟩
  | 65 => ⟨S4x512x512, .f32⟩
  | 66 => ⟨S512x4x512, .f32⟩
  | 67 => ⟨S4x512x512, .f32⟩
  | 68 => ⟨S512x4x512, .f32⟩
  | 69 => ⟨S4x512x512, .f32⟩
  | 70 => ⟨S4x512x512, .f32⟩
  | 71 => ⟨S_, .f32⟩
  | 72 => ⟨S4x512x512, .f32⟩
  | 73 => ⟨S4x512x512, .f32⟩
  | 74 => ⟨S512x4x512, .f32⟩
  | 75 => ⟨S4x512x512, .f32⟩
  | 76 => ⟨S512x4x512, .f32⟩
  | 77 => ⟨S4x512x512, .f32⟩
  | 78 => ⟨S4x512x512, .f32⟩
  | 79 => ⟨S_, .f32⟩
  | 80 => ⟨S4x512x512, .f32⟩
  | 81 => ⟨S4x512x512, .f32⟩
  | 82 => ⟨S4x512x512, .f32⟩
  | 83 => ⟨S4x512x512, .f32⟩
  | 84 => ⟨S4x512x512, .f32⟩
  | 85 => ⟨S4x512x512, .f32⟩
  | 86 => ⟨S4x512x512, .f32⟩
  | 87 => ⟨S4x512x512, .f32⟩
  | 88 => ⟨S4x512x512, .f32⟩
  | 89 => ⟨S4x512x512, .f32⟩
  | 90 => ⟨S512x4x512, .f32⟩
  | 91 => ⟨S4x512x512, .f32⟩
  | 92 => ⟨S512x4x512, .f32⟩
  | 93 => ⟨S4x512x512, .f32⟩
  | 94 => ⟨S4x512x512, .f32⟩
  | 95 => ⟨S512x4x512, .f32⟩
  | 96 => ⟨S4x512x512, .f32⟩
  | 97 => ⟨S512x4x512, .f32⟩
  | 98 => ⟨S4x512x512, .f32⟩
  | 99 => ⟨S4x512x512, .f32⟩
  | 100 => ⟨S512x512, .f32⟩
  | 101 => ⟨S1x512x512, .f32⟩
  | 102 => ⟨S4x512x512, .f32⟩
  | 103 => ⟨S4x512x512, .f32⟩
  | 104 => ⟨S1x512x512, .f32⟩
  | 105 => ⟨S4x512x512, .f32⟩
  | 106 => ⟨S4x512x512, .f32⟩
  | 107 => ⟨S4x512x512, .f32⟩
  | 108 => ⟨S1x512x512, .f32⟩
  | 109 => ⟨S4x512x512, .f32⟩
  | 110 => ⟨S4x512x512, .f32⟩
  | 111 => ⟨S1x512x512, .f32⟩
  | 112 => ⟨S4x512x512, .f32⟩
  | 113 => ⟨S4x512x512, .f32⟩
  | 114 => ⟨S4x512x512, .f32⟩
  | 115 => ⟨S4x512x512, .f32⟩
  | 116 => ⟨S4x512x512, .f32⟩
  | 117 => ⟨S4x512x512, .f32⟩
  | 118 => ⟨S4x512x512, .f32⟩
  | 119 => ⟨S4x512x512, .f32⟩
  | 120 => ⟨S4x512x512, .f32⟩
  | 121 => ⟨S512x4x512, .f32⟩
  | 122 => ⟨S4x512x512, .f32⟩
  | 123 => ⟨S512x4x512, .f32⟩
  | 124 => ⟨S4x512x512, .f32⟩
  | 125 => ⟨S4x512x512, .f32⟩
  | 126 => ⟨S_, .f32⟩
  | 127 => ⟨S4x512x512, .f32⟩
  | _ => ⟨S4x512x512, .f32⟩

abbrev hbmTy0_1 (i : Nat) : BufTy := match i % 128 with
  | 0 => ⟨S4x512x512, .f32⟩
  | 1 => ⟨S512x4x512, .f32⟩
  | 2 => ⟨S4x512x512, .f32⟩
  | 3 => ⟨S512x4x512, .f32⟩
  | 4 => ⟨S4x512x512, .f32⟩
  | 5 => ⟨S4x512x512, .f32⟩
  | 6 => ⟨S_, .f32⟩
  | 7 => ⟨S4x512x512, .f32⟩
  | 8 => ⟨S4x512x512, .f32⟩
  | 9 => ⟨S4x512x512, .f32⟩
  | 10 => ⟨S4x512x512, .f32⟩
  | 11 => ⟨S4x512x512, .f32⟩
  | 12 => ⟨S4x512x512, .f32⟩
  | 13 => ⟨S_, .f32⟩
  | 14 => ⟨S4x512x512, .f32⟩
  | 15 => ⟨S4x512x512, .i1⟩
  | 16 => ⟨S4x512x512, .f32⟩
  | 17 => ⟨S4x512x512, .f32⟩
  | 18 => ⟨S4x512x512, .f32⟩
  | 19 => ⟨S4x512x512, .f32⟩
  | 20 => ⟨S4x512x512, .f32⟩
  | 21 => ⟨S4x512x512, .f32⟩
  | 22 => ⟨S4x512x512, .f32⟩
  | 23 => ⟨S4x512x512, .f32⟩
  | 24 => ⟨S4x512x512, .f32⟩
  | 25 => ⟨S512x4x512, .f32⟩
  | 26 => ⟨S4x512x512, .f32⟩
  | 27 => ⟨S512x4x512, .f32⟩
  | 28 => ⟨S4x512x512, .f32⟩
  | 29 => ⟨S4x512x512, .f32⟩
  | 30 => ⟨S512x4x512, .f32⟩
  | 31 => ⟨S4x512x512, .f32⟩
  | 32 => ⟨S512x4x512, .f32⟩
  | 33 => ⟨S4x512x512, .f32⟩
  | 34 => ⟨S4x512x512, .f32⟩
  | _ => ⟨S4x512x512, .f32⟩

abbrev hbmTy (i : Nat) : BufTy := match i / 128 with
  | 0 => hbmTy0_0 i
  | 1 => hbmTy0_1 i
  | _ => ⟨S4x512x512, .f32⟩

abbrev bufTy : (tb : Table) → Fin (tcTables nBuf tb) → BufTy
  | .hbm, ⟨i, _⟩ => hbmTy i
  | _, _ => ⟨S4x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_values : Ref sig .tc := ⟨.hbm, 29, rfl⟩
abbrev main_indices : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_3 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_4 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_cst_5 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_cst_6 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_cst_7 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_cst_8 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩
abbrev main_v119 : Ref sig .tc := ⟨.hbm, 138, rfl⟩
abbrev main_v120 : Ref sig .tc := ⟨.hbm, 139, rfl⟩
abbrev main_v121 : Ref sig .tc := ⟨.hbm, 140, rfl⟩
abbrev main_cst_9 : Ref sig .tc := ⟨.hbm, 141, rfl⟩
abbrev main_v122 : Ref sig .tc := ⟨.hbm, 142, rfl⟩
abbrev main_v123 : Ref sig .tc := ⟨.hbm, 143, rfl⟩
abbrev main_v124 : Ref sig .tc := ⟨.hbm, 144, rfl⟩
abbrev main_v125 : Ref sig .tc := ⟨.hbm, 145, rfl⟩
abbrev main_v126 : Ref sig .tc := ⟨.hbm, 146, rfl⟩
abbrev main_v127 : Ref sig .tc := ⟨.hbm, 147, rfl⟩
abbrev main_v128 : Ref sig .tc := ⟨.hbm, 148, rfl⟩
abbrev main_v129 : Ref sig .tc := ⟨.hbm, 149, rfl⟩
abbrev main_v130 : Ref sig .tc := ⟨.hbm, 150, rfl⟩
abbrev main_v131 : Ref sig .tc := ⟨.hbm, 151, rfl⟩
abbrev main_v132 : Ref sig .tc := ⟨.hbm, 152, rfl⟩
abbrev main_v133 : Ref sig .tc := ⟨.hbm, 153, rfl⟩
abbrev main_v134 : Ref sig .tc := ⟨.hbm, 154, rfl⟩
abbrev main_v135 : Ref sig .tc := ⟨.hbm, 155, rfl⟩
abbrev main_v136 : Ref sig .tc := ⟨.hbm, 156, rfl⟩
abbrev main_v137 : Ref sig .tc := ⟨.hbm, 157, rfl⟩
abbrev main_v138 : Ref sig .tc := ⟨.hbm, 158, rfl⟩
abbrev main_v139 : Ref sig .tc := ⟨.hbm, 159, rfl⟩
abbrev main_v140 : Ref sig .tc := ⟨.hbm, 160, rfl⟩
abbrev main_v141 : Ref sig .tc := ⟨.hbm, 161, rfl⟩
abbrev main_v142 : Ref sig .tc := ⟨.hbm, 162, rfl⟩

abbrev nD : Nat := 1
abbrev τ : Topo := Topo.v7x

variable {F : FTy → Type} [FloatOps F]
-- ==== Kernel3.lean ====
abbrev S4x512x512 : Shape := ⟨3, ![4, 512, 512]⟩
abbrev S512x512 : Shape := ⟨2, ![512, 512]⟩
abbrev S_ : Shape := ⟨0, ![]⟩
abbrev S1x512x512 : Shape := ⟨3, ![1, 512, 512]⟩

abbrev nBuf : Space → Nat
  | .hbm => 26
  | .vmem => 13
  | .smem => 0
  | _ => 0

abbrev bufTy : (tb : Table) → Fin (tcTables nBuf tb) → BufTy
  | .hbm, ⟨0, _⟩ => ⟨S4x512x512, .f32⟩
  | .hbm, ⟨1, _⟩ => ⟨S4x512x512, .f32⟩
  | .hbm, ⟨2, _⟩ => ⟨S512x512, .f32⟩
  | .hbm, ⟨3, _⟩ => ⟨S512x512, .f32⟩
  | .hbm, ⟨4, _⟩ => ⟨S512x512, .i32⟩
  | .hbm, ⟨5, _⟩ => ⟨S512x512, .i32⟩
  | .hbm, ⟨6, _⟩ => ⟨S512x512, .i32⟩
  | .hbm, ⟨7, _⟩ => ⟨S_, .i32⟩
  | .hbm, ⟨8, _⟩ => ⟨S512x512, .i32⟩
  | .hbm, ⟨9, _⟩ => ⟨S512x512, .i32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S512x512, .f32⟩
  | .hbm, ⟨17, _⟩ => ⟨S512x512, .f32⟩
  | .hbm, ⟨18, _⟩ => ⟨S512x512, .f32⟩
  | .hbm, ⟨19, _⟩ => ⟨S512x512, .f32⟩
  | .hbm, ⟨20, _⟩ => ⟨S512x512, .f32⟩
  | .hbm, ⟨21, _⟩ => ⟨S512x512, .f32⟩
  | .hbm, ⟨22, _⟩ => ⟨S512x512, .f32⟩
  | .hbm, ⟨23, _⟩ => ⟨S4x512x512, .f32⟩
  | .hbm, ⟨24, _⟩ => ⟨S4x512x512, .f32⟩
  | .hbm, ⟨25, _⟩ => ⟨S4x512x512, .f32⟩
  | .local _ .vmem, ⟨0, _⟩ => ⟨S1x512x512, .f32⟩
  | .local _ .vmem, ⟨1, _⟩ => ⟨S1x512x512, .f32⟩
  | .local _ .vmem, ⟨2, _⟩ => ⟨S1x512x512, .f32⟩
  | .local _ .vmem, ⟨3, _⟩ => ⟨S1x512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S1x512x512, .f32⟩
  | .local _ .vmem, ⟨8, _⟩ => ⟨S1x512x512, .f32⟩
  | .local _ .vmem, ⟨9, _⟩ => ⟨S1x512x512, .f32⟩
  | .local _ .vmem, ⟨10, _⟩ => ⟨S1x512x512, .f32⟩
  | .local _ .vmem, ⟨11, _⟩ => ⟨S1x512x512, .f32⟩
  | .local _ .vmem, ⟨12, _⟩ => ⟨S1x512x512, .f32⟩
  | _, _ => ⟨S4x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15_0 : Ref sig .tc := ⟨.hbm, 23, rfl⟩
abbrev main_v15_1 : Ref sig .tc := ⟨.hbm, 24, rfl⟩
abbrev main_v15_2 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference3Ideal.lean ====
abbrev S4x512x512 : Shape := ⟨3, ![4, 512, 512]⟩
abbrev S512x512 : Shape := ⟨2, ![512, 512]⟩
abbrev S512 : Shape := ⟨1, ![512]⟩
abbrev S_ : Shape := ⟨0, ![]⟩
abbrev S512x1 : Shape := ⟨2, ![512, 1]⟩
abbrev S1x512 : Shape := ⟨2, ![1, 512]⟩
abbrev S512x4x512 : Shape := ⟨3, ![512, 4, 512]⟩
abbrev S1x512x512 : Shape := ⟨3, ![1, 512, 512]⟩

abbrev nBuf : Space → Nat
  | .hbm => 151
  | .vmem => 0
  | .smem => 0
  | _ => 0

abbrev hbmTy0_0 (i : Nat) : BufTy := match i % 128 with
  | 0 => ⟨S4x512x512, .f32⟩
  | 1 => ⟨S4x512x512, .f32⟩
  | 2 => ⟨S512x512, .f32⟩
  | 3 => ⟨S512x512, .f32⟩
  | 4 => ⟨S512, .i32⟩
  | 5 => ⟨S512, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S512x1, .f32⟩
  | 13 => ⟨S1x512, .f32⟩
  | 14 => ⟨S512x512, .f32⟩
  | 15 => ⟨S512x512, .f32⟩
  | 16 => ⟨S512x512, .f32⟩
  | 17 => ⟨S512x512, .f32⟩
  | 18 => ⟨S512x512, .f32⟩
  | 19 => ⟨S512x512, .f32⟩
  | 20 => ⟨S512x512, .f32⟩
  | 21 => ⟨S_, .f32⟩
  | 22 => ⟨S4x512x512, .f32⟩
  | 23 => ⟨S_, .f32⟩
  | 24 => ⟨S4x512x512, .f32⟩
  | 25 => ⟨S4x512x512, .f32⟩
  | 26 => ⟨S4x512x512, .f32⟩
  | 27 => ⟨S4x512x512, .f32⟩
  | 28 => ⟨S4x512x512, .f32⟩
  | 29 => ⟨S4x512x512, .f32⟩
  | 30 => ⟨S4x512x512, .f32⟩
  | 31 => ⟨S512x4x512, .f32⟩
  | 32 => ⟨S4x512x512, .f32⟩
  | 33 => ⟨S512x4x512, .f32⟩
  | 34 => ⟨S4x512x512, .f32⟩
  | 35 => ⟨S4x512x512, .f32⟩
  | 36 => ⟨S512x4x512, .f32⟩
  | 37 => ⟨S4x512x512, .f32⟩
  | 38 => ⟨S512x4x512, .f32⟩
  | 39 => ⟨S4x512x512, .f32⟩
  | 40 => ⟨S4x512x512, .f32⟩
  | 41 => ⟨S1x512x512, .f32⟩
  | 42 => ⟨S4x512x512, .f32⟩
  | 43 => ⟨S4x512x512, .f32⟩
  | 44 => ⟨S1x512x512, .f32⟩
  | 45 => ⟨S4x512x512, .f32⟩
  | 46 => ⟨S4x512x512, .f32⟩
  | 47 => ⟨S4x512x512, .f32⟩
  | 48 => ⟨S1x512x512, .f32⟩
  | 49 => ⟨S4x512x512, .f32⟩
  | 50 => ⟨S4x512x512, .f32⟩
  | 51 => ⟨S1x512x512, .f32⟩
  | 52 => ⟨S4x512x512, .f32⟩
  | 53 => ⟨S4x512x512, .f32⟩
  | 54 => ⟨S4x512x512, .f32⟩
  | 55 => ⟨S4x512x512, .f32⟩
  | 56 => ⟨S4x512x512, .f32⟩
  | 57 => ⟨S4x512x512, .f32⟩
  | 58 => ⟨S4x512x512, .f32⟩
  | 59 => ⟨S4x512x512, .f32⟩
  | 60 => ⟨S4x512x512, .f32⟩
  | 61 => ⟨S512x4x512, .f32⟩
  | 62 => ⟨S4x512x512, .f32⟩
  | 63 => ⟨S512x4x512, .f32⟩
  | 64 => ⟨S4x512x512, .f32⟩
  | 65 => ⟨S4x512x512, .f32⟩
  | 66 => ⟨S_, .f32⟩
  | 67 => ⟨S4x512x512, .f32⟩
  | 68 => ⟨S4x512x512, .f32⟩
  | 69 => ⟨S512x4x512, .f32⟩
  | 70 => ⟨S4x512x512, .f32⟩
  | 71 => ⟨S512x4x512, .f32⟩
  | 72 => ⟨S4x512x512, .f32⟩
  | 73 => ⟨S4x512x512, .f32⟩
  | 74 => ⟨S_, .f32⟩
  | 75 => ⟨S4x512x512, .f32⟩
  | 76 => ⟨S4x512x512, .f32⟩
  | 77 => ⟨S4x512x512, .f32⟩
  | 78 => ⟨S4x512x512, .f32⟩
  | 79 => ⟨S4x512x512, .f32⟩
  | 80 => ⟨S4x512x512, .f32⟩
  | 81 => ⟨S4x512x512, .f32⟩
  | 82 => ⟨S4x512x512, .f32⟩
  | 83 => ⟨S512x4x512, .f32⟩
  | 84 => ⟨S4x512x512, .f32⟩
  | 85 => ⟨S512x4x512, .f32⟩
  | 86 => ⟨S4x512x512, .f32⟩
  | 87 => ⟨S4x512x512, .f32⟩
  | 88 => ⟨S512x4x512, .f32⟩
  | 89 => ⟨S4x512x512, .f32⟩
  | 90 => ⟨S512x4x512, .f32⟩
  | 91 => ⟨S4x512x512, .f32⟩
  | 92 => ⟨S4x512x512, .f32⟩
  | 93 => ⟨S4x512x512, .f32⟩
  | 94 => ⟨S4x512x512, .f32⟩
  | 95 => ⟨S4x512x512, .f32⟩
  | 96 => ⟨S4x512x512, .f32⟩
  | 97 => ⟨S4x512x512, .f32⟩
  | 98 => ⟨S4x512x512, .f32⟩
  | 99 => ⟨S512x4x512, .f32⟩
  | 100 => ⟨S4x512x512, .f32⟩
  | 101 => ⟨S512x4x512, .f32⟩
  | 102 => ⟨S4x512x512, .f32⟩
  | 103 => ⟨S4x512x512, .f32⟩
  | 104 => ⟨S_, .f32⟩
  | 105 => ⟨S4x512x512, .f32⟩
  | 106 => ⟨S4x512x512, .f32⟩
  | 107 => ⟨S512x4x512, .f32⟩
  | 108 => ⟨S4x512x512, .f32⟩
  | 109 => ⟨S512x4x512, .f32⟩
  | 110 => ⟨S4x512x512, .f32⟩
  | 111 => ⟨S4x512x512, .f32⟩
  | 112 => ⟨S_, .f32⟩
  | 113 => ⟨S4x512x512, .f32⟩
  | 114 => ⟨S4x512x512, .f32⟩
  | 115 => ⟨S4x512x512, .f32⟩
  | 116 => ⟨S4x512x512, .f32⟩
  | 117 => ⟨S4x512x512, .f32⟩
  | 118 => ⟨S4x512x512, .f32⟩
  | 119 => ⟨S4x512x512, .f32⟩
  | 120 => ⟨S4x512x512, .f32⟩
  | 121 => ⟨S4x512x512, .f32⟩
  | 122 => ⟨S4x512x512, .f32⟩
  | 123 => ⟨S4x512x512, .f32⟩
  | 124 => ⟨S4x512x512, .f32⟩
  | 125 => ⟨S4x512x512, .f32⟩
  | 126 => ⟨S4x512x512, .f32⟩
  | 127 => ⟨S4x512x512, .f32⟩
  | _ => ⟨S4x512x512, .f32⟩

abbrev hbmTy0_1 (i : Nat) : BufTy := match i % 128 with
  | 0 => ⟨S4x512x512, .f32⟩
  | 1 => ⟨S4x512x512, .f32⟩
  | 2 => ⟨S4x512x512, .f32⟩
  | 3 => ⟨S4x512x512, .f32⟩
  | 4 => ⟨S4x512x512, .f32⟩
  | 5 => ⟨S4x512x512, .f32⟩
  | 6 => ⟨S4x512x512, .f32⟩
  | 7 => ⟨S4x512x512, .f32⟩
  | 8 => ⟨S4x512x512, .f32⟩
  | 9 => ⟨S512x4x512, .f32⟩
  | 10 => ⟨S4x512x512, .f32⟩
  | 11 => ⟨S512x4x512, .f32⟩
  | 12 => ⟨S4x512x512, .f32⟩
  | 13 => ⟨S4x512x512, .f32⟩
  | 14 => ⟨S512x4x512, .f32⟩
  | 15 => ⟨S4x512x512, .f32⟩
  | 16 => ⟨S512x4x512, .f32⟩
  | 17 => ⟨S4x512x512, .f32⟩
  | 18 => ⟨S4x512x512, .f32⟩
  | 19 => ⟨S4x512x512, .f32⟩
  | 20 => ⟨S4x512x512, .f32⟩
  | 21 => ⟨S4x512x512, .f32⟩
  | 22 => ⟨S4x512x512, .f32⟩
  | _ => ⟨S4x512x512, .f32⟩

abbrev hbmTy (i : Nat) : BufTy := match i / 128 with
  | 0 => hbmTy0_0 i
  | 1 => hbmTy0_1 i
  | _ => ⟨S4x512x512, .f32⟩

abbrev bufTy : (tb : Table) → Fin (tcTables nBuf tb) → BufTy
  | .hbm, ⟨i, _⟩ => hbmTy i
  | _, _ => ⟨S4x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_cst_4 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_cst_5 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_cst_6 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_cst_7 : Ref sig .tc := ⟨.hbm, 112, rfl⟩
abbrev main_v100 : Ref sig .tc := ⟨.hbm, 113, rfl⟩
abbrev main_v101 : Ref sig .tc := ⟨.hbm, 114, rfl⟩
abbrev main_v102 : Ref sig .tc := ⟨.hbm, 115, rfl⟩
abbrev main_v103 : Ref sig .tc := ⟨.hbm, 116, rfl⟩
abbrev main_v104 : Ref sig .tc := ⟨.hbm, 117, rfl⟩
abbrev main_v105 : Ref sig .tc := ⟨.hbm, 118, rfl⟩
abbrev main_v106 : Ref sig .tc := ⟨.hbm, 119, rfl⟩
abbrev main_v107 : Ref sig .tc := ⟨.hbm, 120, rfl⟩
abbrev main_v108 : Ref sig .tc := ⟨.hbm, 121, rfl⟩
abbrev main_v109 : Ref sig .tc := ⟨.hbm, 122, rfl⟩
abbrev main_v110 : Ref sig .tc := ⟨.hbm, 123, rfl⟩
abbrev main_v111 : Ref sig .tc := ⟨.hbm, 124, rfl⟩
abbrev main_v112 : Ref sig .tc := ⟨.hbm, 125, rfl⟩
abbrev main_v113 : Ref sig .tc := ⟨.hbm, 126, rfl⟩
abbrev main_v114 : Ref sig .tc := ⟨.hbm, 127, rfl⟩
abbrev main_v115 : Ref sig .tc := ⟨.hbm, 128, rfl⟩
abbrev main_v116 : Ref sig .tc := ⟨.hbm, 129, rfl⟩
abbrev main_v117 : Ref sig .tc := ⟨.hbm, 130, rfl⟩
abbrev main_v118 : Ref sig .tc := ⟨.hbm, 131, rfl⟩
abbrev main_v119 : Ref sig .tc := ⟨.hbm, 132, rfl⟩
abbrev main_v120 : Ref sig .tc := ⟨.hbm, 133, rfl⟩
abbrev main_v121 : Ref sig .tc := ⟨.hbm, 134, rfl⟩
abbrev main_v122 : Ref sig .tc := ⟨.hbm, 135, rfl⟩
abbrev main_v123 : Ref sig .tc := ⟨.hbm, 136, rfl⟩
abbrev main_v124 : Ref sig .tc := ⟨.hbm, 137, rfl⟩
abbrev main_v125 : Ref sig .tc := ⟨.hbm, 138, rfl⟩
abbrev main_v126 : Ref sig .tc := ⟨.hbm, 139, rfl⟩
abbrev main_v127 : Ref sig .tc := ⟨.hbm, 140, rfl⟩
abbrev main_v128 : Ref sig .tc := ⟨.hbm, 141, rfl⟩
abbrev main_v129 : Ref sig .tc := ⟨.hbm, 142, rfl⟩
abbrev main_v130 : Ref sig .tc := ⟨.hbm, 143, rfl⟩
abbrev main_v131 : Ref sig .tc := ⟨.hbm, 144, rfl⟩
abbrev main_v132 : Ref sig .tc := ⟨.hbm, 145, rfl⟩
abbrev main_v133 : Ref sig .tc := ⟨.hbm, 146, rfl⟩
abbrev main_v134 : Ref sig .tc := ⟨.hbm, 147, rfl⟩
abbrev main_v135 : Ref sig .tc := ⟨.hbm, 148, rfl⟩
abbrev main_v136 : Ref sig .tc := ⟨.hbm, 149, rfl⟩
abbrev main_v137 : Ref sig .tc := ⟨.hbm, 150, rfl⟩

abbrev nD : Nat := 1
abbrev τ : Topo := Topo.v7x

variable {F : FTy → Type} [FloatOps F]
-- ==== Kernel4.lean ====
abbrev S4x512x512 : Shape := ⟨3, ![4, 512, 512]⟩
abbrev S1x512x512 : Shape := ⟨3, ![1, 512, 512]⟩
abbrev S1 : Shape := ⟨1, ![1]⟩
abbrev S512x512 : Shape := ⟨2, ![512, 512]⟩
abbrev S1x1x1 : Shape := ⟨3, ![1, 1, 1]⟩

abbrev nBuf : Space → Nat
  | .hbm => 5
  | .vmem => 9
  | .smem => 1
  | _ => 0

abbrev bufTy : (tb : Table) → Fin (tcTables nBuf tb) → BufTy
  | .hbm, ⟨0, _⟩ => ⟨S4x512x512, .f32⟩
  | .hbm, ⟨1, _⟩ => ⟨S4x512x512, .f32⟩
  | .hbm, ⟨2, _⟩ => ⟨S4x512x512, .f32⟩
  | .hbm, ⟨3, _⟩ => ⟨S4x512x512, .f32⟩
  | .hbm, ⟨4, _⟩ => ⟨S4x512x512, .f32⟩
  | .local _ .vmem, ⟨0, _⟩ => ⟨S4x512x512, .f32⟩
  | .local _ .vmem, ⟨1, _⟩ => ⟨S1x512x512, .f32⟩
  | .local _ .vmem, ⟨2, _⟩ => ⟨S1x512x512, .f32⟩
  | .local _ .vmem, ⟨3, _⟩ => ⟨S1x512x512, .f32⟩
  | .local _ .vmem, ⟨4, _⟩ => ⟨S1x512x512, .f32⟩
  | .local _ .vmem, ⟨5, _⟩ => ⟨S1x512x512, .f32⟩
  | .local _ .vmem, ⟨6, _⟩ => ⟨S1x512x512, .f32⟩
  | .local _ .vmem, ⟨7, _⟩ => ⟨S1x512x512, .f32⟩
  | .local _ .vmem, ⟨8, _⟩ => ⟨S1x512x512, .f32⟩
  | .local _ .smem, ⟨0, _⟩ => ⟨S1, .f32⟩
  | _, _ => ⟨S4x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_15 : BitVec 32 := 0#32
  let c31_i32 : BitVec 32 := 31#32
  let v24 : BitVec 32 := Scalar.addi c0_i32_15 c31_i32
  let c1_i32 : BitVec 32 := 1#32
  ⟨c0_i32_15, v24, c1_i32⟩
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S4x512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference4Ideal.lean ====
abbrev S4x512x512 : Shape := ⟨3, ![4, 512, 512]⟩
abbrev S1048576 : Shape := ⟨1, ![1048576]⟩
abbrev S2000 : Shape := ⟨1, ![2000]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S4x512x512, .f32⟩
  | .hbm, ⟨1, _⟩ => ⟨S4x512x512, .f32⟩
  | .hbm, ⟨2, _⟩ => ⟨S4x512x512, .f32⟩
  | .hbm, ⟨3, _⟩ => ⟨S4x512x512, .f32⟩
  | .hbm, ⟨4, _⟩ => ⟨S4x512x512, .f32⟩
  | .hbm, ⟨5, _⟩ => ⟨S4x512x512, .f32⟩
  | .hbm, ⟨6, _⟩ => ⟨S4x512x512, .f32⟩
  | .hbm, ⟨7, _⟩ => ⟨S1048576, .f32⟩
  | .hbm, ⟨8, _⟩ => ⟨S2000, .f32⟩
  | .hbm, ⟨9, _⟩ => ⟨S2000, .i32⟩
  | .hbm, ⟨10, _⟩ => ⟨S_, .f32⟩
  | .hbm, ⟨11, _⟩ => ⟨S_, .f32⟩
  | .hbm, ⟨12, _⟩ => ⟨S4x512x512, .f32⟩
  | .hbm, ⟨13, _⟩ => ⟨S4x512x512, .i1⟩
  | .hbm, ⟨14, _⟩ => ⟨S4x512x512, .f32⟩
  | .hbm, ⟨15, _⟩ => ⟨S4x512x512, .f32⟩
  | .hbm, ⟨16, _⟩ => ⟨S4x512x512, .f32⟩
  | _, _ => ⟨S4x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_values : Ref sig .tc := ⟨.hbm, 8, rfl⟩
abbrev main_indices : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]
-- ==== Kernel5.lean ====
abbrev S512x512 : Shape := ⟨2, ![512, 512]⟩
abbrev S1 : Shape := ⟨1, ![1]⟩
abbrev S_ : Shape := ⟨0, ![]⟩
abbrev S1x1 : Shape := ⟨2, ![1, 1]⟩

abbrev nBuf : Space → Nat
  | .hbm => 8
  | .vmem => 4
  | .smem => 0
  | _ => 0

abbrev bufTy : (tb : Table) → Fin (tcTables nBuf tb) → BufTy
  | .hbm, ⟨0, _⟩ => ⟨S512x512, .f32⟩
  | .hbm, ⟨1, _⟩ => ⟨S1, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S1x1, .f32⟩
  | .hbm, ⟨6, _⟩ => ⟨S512x512, .f32⟩
  | .hbm, ⟨7, _⟩ => ⟨S512x512, .f32⟩
  | .local _ .vmem, ⟨0, _⟩ => ⟨S512x512, .f32⟩
  | .local _ .vmem, ⟨1, _⟩ => ⟨S1x1, .f32⟩
  | .local _ .vmem, ⟨2, _⟩ => ⟨S512x512, .f32⟩
  | .local _ .vmem, ⟨3, _⟩ => ⟨S512x512, .f32⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Reference5Ideal.lean ====
abbrev S512x512 : Shape := ⟨2, ![512, 512]⟩
abbrev S1 : Shape := ⟨1, ![1]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S512x512, .f32⟩
  | .hbm, ⟨1, _⟩ => ⟨S1, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S512x512, .f32⟩
  | .hbm, ⟨6, _⟩ => ⟨S512x512, .f32⟩
  | .hbm, ⟨7, _⟩ => ⟨S512x512, .f32⟩
  | .hbm, ⟨8, _⟩ => ⟨S512x512, .f32⟩
  | _, _ => ⟨S512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel6.lean ====
abbrev S4x512x512 : Shape := ⟨3, ![4, 512, 512]⟩
abbrev S512x512 : Shape := ⟨2, ![512, 512]⟩
abbrev S_ : Shape := ⟨0, ![]⟩
abbrev S1x512x512 : Shape := ⟨3, ![1, 512, 512]⟩
abbrev S1 : Shape := ⟨1, ![1]⟩
abbrev S1x1x1 : Shape := ⟨3, ![1, 1, 1]⟩

abbrev nBuf : Space → Nat
  | .hbm => 36
  | .vmem => 41
  | .smem => 1
  | _ => 0

abbrev bufTy : (tb : Table) → Fin (tcTables nBuf tb) → BufTy
  | .hbm, ⟨0, _⟩ => ⟨S4x512x512, .f32⟩
  | .hbm, ⟨1, _⟩ => ⟨S4x512x512, .f32⟩
  | .hbm, ⟨2, _⟩ => ⟨S4x512x512, .f32⟩
  | .hbm, ⟨3, _⟩ => ⟨S4x512x512, .f32⟩
  | .hbm, ⟨4, _⟩ => ⟨S4x512x512, .f32⟩
  | .hbm, ⟨5, _⟩ => ⟨S4x512x512, .f32⟩
  | .hbm, ⟨6, _⟩ => ⟨S512x512, .f32⟩
  | .hbm, ⟨7, _⟩ => ⟨S512x512, .f32⟩
  | .hbm, ⟨8, _⟩ => ⟨S512x512, .i32⟩
  | .hbm, ⟨9, _⟩ => ⟨S512x512, .i32⟩
  | .hbm, ⟨10, _⟩ => ⟨S512x512, .i32⟩
  | .hbm, ⟨11, _⟩ => ⟨S_, .i32⟩
  | .hbm, ⟨12, _⟩ => ⟨S512x512, .i32⟩
  | .hbm, ⟨13, _⟩ => ⟨S512x512, .i32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S512x512, .f32⟩
  | .hbm, ⟨21, _⟩ => ⟨S512x512, .f32⟩
  | .hbm, ⟨22, _⟩ => ⟨S512x512, .f32⟩
  | .hbm, ⟨23, _⟩ => ⟨S512x512, .f32⟩
  | .hbm, ⟨24, _⟩ => ⟨S512x512, .f32⟩
  | .hbm, ⟨25, _⟩ => ⟨S512x512, .f32⟩
  | .hbm, ⟨26, _⟩ => ⟨S512x512, .f32⟩
  | .hbm, ⟨27, _⟩ => ⟨S4x512x512, .f32⟩
  | .hbm, ⟨28, _⟩ => ⟨S4x512x512, .f32⟩
  | .hbm, ⟨29, _⟩ => ⟨S4x512x512, .f32⟩
  | .hbm, ⟨30, _⟩ => ⟨S4x512x512, .f32⟩
  | .hbm, ⟨31, _⟩ => ⟨S4x512x512, .f32⟩
  | .hbm, ⟨32, _⟩ => ⟨S4x512x512, .f32⟩
  | .hbm, ⟨33, _⟩ => ⟨S4x512x512, .f32⟩
  | .hbm, ⟨34, _⟩ => ⟨S4x512x512, .f32⟩
  | .hbm, ⟨35, _⟩ => ⟨S4x512x512, .f32⟩
  | .local _ .vmem, ⟨0, _⟩ => ⟨S1x512x512, .f32⟩
  | .local _ .vmem, ⟨1, _⟩ => ⟨S1x512x512, .f32⟩
  | .local _ .vmem, ⟨2, _⟩ => ⟨S1x512x512, .f32⟩
  | .local _ .vmem, ⟨3, _⟩ => ⟨S1x512x512, .f32⟩
  | .local _ .vmem, ⟨4, _⟩ => ⟨S1x512x512, .f32⟩
  | .local _ .vmem, ⟨5, _⟩ => ⟨S1x512x512, .f32⟩
  | .local _ .vmem, ⟨6, _⟩ => ⟨S1x512x512, .f32⟩
  | .local _ .vmem, ⟨7, _⟩ => ⟨S1x512x512, .f32⟩
  | .local _ .vmem, ⟨8, _⟩ => ⟨S1x512x512, .f32⟩
  | .local _ .vmem, ⟨9, _⟩ => ⟨S1x512x512, .f32⟩
  | .local _ .vmem, ⟨10, _⟩ => ⟨S1x512x512, .f32⟩
  | .local _ .vmem, ⟨11, _⟩ => ⟨S1x512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S1x512x512, .f32⟩
  | .local _ .vmem, ⟨19, _⟩ => ⟨S1x512x512, .f32⟩
  | .local _ .vmem, ⟨20, _⟩ => ⟨S1x512x512, .f32⟩
  | .local _ .vmem, ⟨21, _⟩ => ⟨S1x512x512, .f32⟩
  | .local _ .vmem, ⟨22, _⟩ => ⟨S1x512x512, .f32⟩
  | .local _ .vmem, ⟨23, _⟩ => ⟨S1x512x512, .f32⟩
  | .local _ .vmem, ⟨24, _⟩ => ⟨S1x512x512, .f32⟩
  | .local _ .vmem, ⟨25, _⟩ => ⟨S1x512x512, .f32⟩
  | .local _ .vmem, ⟨26, _⟩ => ⟨S1x512x512, .f32⟩
  | .local _ .vmem, ⟨27, _⟩ => ⟨S1x512x512, .f32⟩
  | .local _ .vmem, ⟨28, _⟩ => ⟨S1x512x512, .f32⟩
  | .local _ .vmem, ⟨29, _⟩ => ⟨S1x512x512, .f32⟩
  | .local _ .vmem, ⟨30, _⟩ => ⟨S1x512x512, .f32⟩
  | .local _ .vmem, ⟨31, _⟩ => ⟨S1x512x512, .f32⟩
  | .local _ .vmem, ⟨32, _⟩ => ⟨S4x512x512, .f32⟩
  | .local _ .vmem, ⟨33, _⟩ => ⟨S1x512x512, .f32⟩
  | .local _ .vmem, ⟨34, _⟩ => ⟨S1x512x512, .f32⟩
  | .local _ .vmem, ⟨35, _⟩ => ⟨S1x512x512, .f32⟩
  | .local _ .vmem, ⟨36, _⟩ => ⟨S1x512x512, .f32⟩
  | .local _ .vmem, ⟨37, _⟩ => ⟨S1x512x512, .f32⟩
  | .local _ .vmem, ⟨38, _⟩ => ⟨S1x512x512, .f32⟩
  | .local _ .vmem, ⟨39, _⟩ => ⟨S1x512x512, .f32⟩
  | .local _ .vmem, ⟨40, _⟩ => ⟨S1x512x512, .f32⟩
  | .local _ .smem, ⟨0, _⟩ => ⟨S1, .f32⟩
  | _, _ => ⟨S4x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .smem, ⟨0, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15_0 : Ref sig .tc := ⟨.hbm, 27, rfl⟩
abbrev main_v15_1 : Ref sig .tc := ⟨.hbm, 28, rfl⟩
abbrev main_v15_2 : Ref sig .tc := ⟨.hbm, 29, rfl⟩
abbrev main_v15_3 : Ref sig .tc := ⟨.hbm, 30, rfl⟩
abbrev main_v15_4 : Ref sig .tc := ⟨.hbm, 31, rfl⟩
abbrev main_v15_5 : Ref sig .tc := ⟨.hbm, 32, rfl⟩
abbrev main_v15_6 : Ref sig .tc := ⟨.hbm, 33, rfl⟩
abbrev main_v16_0 : Ref sig .tc := ⟨.hbm, 34, rfl⟩
abbrev main_v16_1 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc1_stg0_0 : Ref sig .tc := ⟨.vmem, 32, rfl⟩
abbrev cc1_stg1_0 : Ref sig .tc := ⟨.vmem, 33, rfl⟩
abbrev cc1_stg1_1 : Ref sig .tc := ⟨.vmem, 34, rfl⟩
abbrev cc1_stg2_0 : Ref sig .tc := ⟨.vmem, 35, rfl⟩
abbrev cc1_stg2_1 : Ref sig .tc := ⟨.vmem, 36, rfl⟩
abbrev cc1_stg3_0 : Ref sig .tc := ⟨.vmem, 37, rfl⟩
abbrev cc1_stg3_1 : Ref sig .tc := ⟨.vmem, 38, rfl⟩
abbrev cc1_stg4_0 : Ref sig .tc := ⟨.vmem, 39, rfl⟩
abbrev cc1_stg4_1 : Ref sig .tc := ⟨.vmem, 40, rfl⟩
abbrev cc1_scratch0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem18_1 : DmaSem sig := 31
abbrev cc1_sem0_0 : DmaSem sig := 32
abbrev cc1_sem1_0 : DmaSem sig := 33
abbrev cc1_sem1_1 : DmaSem sig := 34
abbrev cc1_sem2_0 : DmaSem sig := 35
abbrev cc1_sem2_1 : DmaSem sig := 36
abbrev cc1_sem3_0 : DmaSem sig := 37
abbrev cc1_sem3_1 : DmaSem sig := 38
abbrev cc1_sem4_0 : DmaSem sig := 39
abbrev cc1_sem4_1 : DmaSem sig := 40

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S512x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1x512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x512x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x512x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x512x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x512x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x512x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev grid1 : Pipeline.Grid := ⟨1, ![4], ![false]⟩

def k1_cond1 (i : grid1.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k1_t1_loop : Scf.Loop 32 :=
  let c0_i32_15 : BitVec 32 := 0#32
  let c31_i32 : BitVec 32 := 31#32
  let v24 : BitVec 32 := Scalar.addi c0_i32_15 c31_i32
  let c1_i32 : BitVec 32 := 1#32
  ⟨c0_i32_15, v24, c1_i32⟩
def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 1 → Memref sig .tc .vmem S4x512x512 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S1x512x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x512x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x512x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x512x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]
-- ==== Reference6Ideal.lean ====
abbrev S4x512x512 : Shape := ⟨3, ![4, 512, 512]⟩
abbrev S512x512 : Shape := ⟨2, ![512, 512]⟩
abbrev S512 : Shape := ⟨1, ![512]⟩
abbrev S_ : Shape := ⟨0, ![]⟩
abbrev S512x1 : Shape := ⟨2, ![512, 1]⟩
abbrev S1x512 : Shape := ⟨2, ![1, 512]⟩
abbrev S1x512x512 : Shape := ⟨3, ![1, 512, 512]⟩
abbrev S512x4x512 : Shape := ⟨3, ![512, 4, 512]⟩
abbrev S1048576 : Shape := ⟨1, ![1048576]⟩
abbrev S2000 : Shape := ⟨1, ![2000]⟩

abbrev nBuf : Space → Nat
  | .hbm => 136
  | .vmem => 0
  | .smem => 0
  | _ => 0

abbrev hbmTy0_0 (i : Nat) : BufTy := match i % 128 with
  | 0 => ⟨S4x512x512, .f32⟩
  | 1 => ⟨S4x512x512, .f32⟩
  | 2 => ⟨S4x512x512, .f32⟩
  | 3 => ⟨S4x512x512, .f32⟩
  | 4 => ⟨S4x512x512, .f32⟩
  | 5 => ⟨S4x512x512, .f32⟩
  | 6 => ⟨S512x512, .f32⟩
  | 7 => ⟨S512x512, .f32⟩
  | 8 => ⟨S512, .i32⟩
  | 9 => ⟨S512, .f32⟩
  | 10 => ⟨S_, .f32⟩
  | 11 => ⟨S_, .f32⟩
  | 12 => ⟨S_, .f32⟩
  | 13 => ⟨S_, .f32⟩
  | 14 => ⟨S_, .f32⟩
  | 15 => ⟨S_, .f32⟩
  | 16 => ⟨S512x1, .f32⟩
  | 17 => ⟨S1x512, .f32⟩
  | 18 => ⟨S512x512, .f32⟩
  | 19 => ⟨S512x512, .f32⟩
  | 20 => ⟨S512x512, .f32⟩
  | 21 => ⟨S512x512, .f32⟩
  | 22 => ⟨S512x512, .f32⟩
  | 23 => ⟨S512x512, .f32⟩
  | 24 => ⟨S512x512, .f32⟩
  | 25 => ⟨S1x512x512, .f32⟩
  | 26 => ⟨S4x512x512, .f32⟩
  | 27 => ⟨S4x512x512, .f32⟩
  | 28 => ⟨S1x512x512, .f32⟩
  | 29 => ⟨S4x512x512, .f32⟩
  | 30 => ⟨S4x512x512, .f32⟩
  | 31 => ⟨S4x512x512, .f32⟩
  | 32 => ⟨S1x512x512, .f32⟩
  | 33 => ⟨S4x512x512, .f32⟩
  | 34 => ⟨S4x512x512, .f32⟩
  | 35 => ⟨S1x512x512, .f32⟩
  | 36 => ⟨S4x512x512, .f32⟩
  | 37 => ⟨S4x512x512, .f32⟩
  | 38 => ⟨S4x512x512, .f32⟩
  | 39 => ⟨S4x512x512, .f32⟩
  | 40 => ⟨S4x512x512, .f32⟩
  | 41 => ⟨S4x512x512, .f32⟩
  | 42 => ⟨S4x512x512, .f32⟩
  | 43 => ⟨S4x512x512, .f32⟩
  | 44 => ⟨S4x512x512, .f32⟩
  | 45 => ⟨S512x4x512, .f32⟩
  | 46 => ⟨S4x512x512, .f32⟩
  | 47 => ⟨S512x4x512, .f32⟩
  | 48 => ⟨S4x512x512, .f32⟩
  | 49 => ⟨S4x512x512, .f32⟩
  | 50 => ⟨S_, .f32⟩
  | 51 => ⟨S4x512x512, .f32⟩
  | 52 => ⟨S4x512x512, .f32⟩
  | 53 => ⟨S512x4x512, .f32⟩
  | 54 => ⟨S4x512x512, .f32⟩
  | 55 => ⟨S512x4x512, .f32⟩
  | 56 => ⟨S4x512x512, .f32⟩
  | 57 => ⟨S4x512x512, .f32⟩
  | 58 => ⟨S_, .f32⟩
  | 59 => ⟨S4x512x512, .f32⟩
  | 60 => ⟨S4x512x512, .f32⟩
  | 61 => ⟨S4x512x512, .f32⟩
  | 62 => ⟨S4x512x512, .f32⟩
  | 63 => ⟨S4x512x512, .f32⟩
  | 64 => ⟨S4x512x512, .f32⟩
  | 65 => ⟨S4x512x512, .f32⟩
  | 66 => ⟨S4x512x512, .f32⟩
  | 67 => ⟨S512x4x512, .f32⟩
  | 68 => ⟨S4x512x512, .f32⟩
  | 69 => ⟨S512x4x512, .f32⟩
  | 70 => ⟨S4x512x512, .f32⟩
  | 71 => ⟨S4x512x512, .f32⟩
  | 72 => ⟨S_, .f32⟩
  | 73 => ⟨S4x512x512, .f32⟩
  | 74 => ⟨S4x512x512, .f32⟩
  | 75 => ⟨S512x4x512, .f32⟩
  | 76 => ⟨S4x512x512, .f32⟩
  | 77 => ⟨S512x4x512, .f32⟩
  | 78 => ⟨S4x512x512, .f32⟩
  | 79 => ⟨S4x512x512, .f32⟩
  | 80 => ⟨S_, .f32⟩
  | 81 => ⟨S4x512x512, .f32⟩
  | 82 => ⟨S4x512x512, .f32⟩
  | 83 => ⟨S4x512x512, .f32⟩
  | 84 => ⟨S4x512x512, .f32⟩
  | 85 => ⟨S4x512x512, .f32⟩
  | 86 => ⟨S4x512x512, .f32⟩
  | 87 => ⟨S4x512x512, .f32⟩
  | 88 => ⟨S4x512x512, .f32⟩
  | 89 => ⟨S_, .f32⟩
  | 90 => ⟨S4x512x512, .f32⟩
  | 91 => ⟨S4x512x512, .f32⟩
  | 92 => ⟨S4x512x512, .f32⟩
  | 93 => ⟨S4x512x512, .f32⟩
  | 94 => ⟨S4x512x512, .f32⟩
  | 95 => ⟨S4x512x512, .f32⟩
  | 96 => ⟨S4x512x512, .f32⟩
  | 97 => ⟨S4x512x512, .f32⟩
  | 98 => ⟨S4x512x512, .f32⟩
  | 99 => ⟨S4x512x512, .f32⟩
  | 100 => ⟨S4x512x512, .f32⟩
  | 101 => ⟨S4x512x512, .f32⟩
  | 102 => ⟨S4x512x512, .f32⟩
  | 103 => ⟨S4x512x512, .f32⟩
  | 104 => ⟨S4x512x512, .f32⟩
  | 105 => ⟨S4x512x512, .f32⟩
  | 106 => ⟨S4x512x512, .f32⟩
  | 107 => ⟨S4x512x512, .f32⟩
  | 108 => ⟨S512x4x512, .f32⟩
  | 109 => ⟨S4x512x512, .f32⟩
  | 110 => ⟨S512x4x512, .f32⟩
  | 111 => ⟨S4x512x512, .f32⟩
  | 112 => ⟨S4x512x512, .f32⟩
  | 113 => ⟨S512x4x512, .f32⟩
  | 114 => ⟨S4x512x512, .f32⟩
  | 115 => ⟨S512x4x512, .f32⟩
  | 116 => ⟨S4x512x512, .f32⟩
  | 117 => ⟨S4x512x512, .f32⟩
  | 118 => ⟨S4x512x512, .f32⟩
  | 119 => ⟨S4x512x512, .f32⟩
  | 120 => ⟨S4x512x512, .f32⟩
  | 121 => ⟨S4x512x512, .f32⟩
  | 122 => ⟨S4x512x512, .f32⟩
  | 123 => ⟨S4x512x512, .f32⟩
  | 124 => ⟨S4x512x512, .f32⟩
  | 125 => ⟨S4x512x512, .f32⟩
  | 126 => ⟨S1048576, .f32⟩
  | 127 => ⟨S2000, .f32⟩
  | _ => ⟨S4x512x512, .f32⟩

abbrev hbmTy0_1 (i : Nat) : BufTy := match i % 128 with
  | 0 => ⟨S2000, .i32⟩
  | 1 => ⟨S_, .f32⟩
  | 2 => ⟨S_, .f32⟩
  | 3 => ⟨S4x512x512, .f32⟩
  | 4 => ⟨S4x512x512, .i1⟩
  | 5 => ⟨S4x512x512, .f32⟩
  | 6 => ⟨S4x512x512, .f32⟩
  | 7 => ⟨S4x512x512, .f32⟩
  | _ => ⟨S4x512x512, .f32⟩

abbrev hbmTy (i : Nat) : BufTy := match i / 128 with
  | 0 => hbmTy0_0 i
  | 1 => hbmTy0_1 i
  | _ => ⟨S4x512x512, .f32⟩

abbrev bufTy : (tb : Table) → Fin (tcTables nBuf tb) → BufTy
  | .hbm, ⟨i, _⟩ => hbmTy i
  | _, _ => ⟨S4x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_2 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_cst_3 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_cst_4 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_cst_5 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_cst_6 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_values : Ref sig .tc := ⟨.hbm, 127, rfl⟩
abbrev main_indices : Ref sig .tc := ⟨.hbm, 128, rfl⟩
abbrev main_cst_7 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩

abbrev nD : Nat := 1
abbrev τ : Topo := Topo.v7x

variable {F : FTy → Type} [FloatOps F]
-- ==== Proof.References.lean ====
module

public import proofs.«01_k».proof.Proof.Gen.ReferenceIdeal.Run
public import proofs.«01_k».proof.Proof.Gen.Reference2Ideal.Run
public import proofs.«01_k».proof.Proof.Gen.Reference3Ideal.Run
public import proofs.«01_k».proof.Proof.Gen.Reference4Ideal.Run
public import proofs.«01_k».proof.Proof.Gen.Reference5Ideal.Run
public import proofs.«01_k».proof.Proof.Gen.Reference6Ideal.Run
public import proofs.«01_k».proof.Defs
public import Idealize.ShloMosaic.Lib.Quiescent

@[expose] public section

noncomputable section

/-! The references run, end with their arguments unchanged, and have no semaphore. -/

namespace Cert.Phase

open Idealize.ShloMosaic Idealize.SL.Sem

/-- The reference of the main call leaves its arguments as they were. -/
theorem kept : Cert.quiescent_ReferenceIdeal := fun m ρ _ =>
  (θ_run _ _ _).mono (fun r h => ⟨fun c => (h c).2.2.2.2.2.2.2, sem_eq_zero_of_no_sems (by decide) r.2⟩) (Cert.ReferenceIdeal.Value.run m ρ)

/-- The reference of the thresholding call leaves its arguments as they were. -/
theorem kept2 : Cert.quiescent_Reference2Ideal := fun m ρ _ =>
  (θ_run _ _ _).mono (fun r h => ⟨fun c => (h c).2.2.2.2, sem_eq_zero_of_no_sems (by decide) r.2⟩) (Cert.Reference2Ideal.Value.run m ρ)

/-- The reference of the first call leaves its arguments as they were. -/
theorem kept3 : Cert.quiescent_Reference3Ideal := fun m ρ _ =>
  (θ_run _ _ _).mono (fun r h => ⟨fun c => (h c).2.2.2, sem_eq_zero_of_no_sems (by decide) r.2⟩) (Cert.Reference3Ideal.Value.run m ρ)

/-- The reference of the masking call leaves its arguments as they were. -/
theorem kept4 : Cert.quiescent_Reference4Ideal := fun m ρ _ =>
  (θ_run _ _ _).mono (fun r h => ⟨fun c => (h c).2.2, sem_eq_zero_of_no_sems (by decide) r.2⟩) (Cert.Reference4Ideal.Value.run m ρ)

/-- The reference of the propagator's call leaves its arguments as they were. -/
theorem kept5 : Cert.quiescent_Reference5Ideal := fun m ρ _ =>
  (θ_run _ _ _).mono (fun r h => ⟨fun c => (h c).2.2, sem_eq_zero_of_no_sems (by decide) r.2⟩) (Cert.Reference5Ideal.Value.run m ρ)

/-- The reference of the last pass leaves its arguments as they were. -/
theorem kept6 : Cert.quiescent_Reference6Ideal := fun m ρ _ =>
  (θ_run _ _ _).mono (fun r h => ⟨fun c => (h c).2.2.2.2, sem_eq_zero_of_no_sems (by decide) r.2⟩) (Cert.Reference6Ideal.Value.run m ρ)

end Cert.Phase
-- ==== Proof.Planes.lean ====
module

public import Idealize.ShloMosaic.PureOps.Ideal.Laws
public import Idealize.ShloMosaic.Lib.ValueIdx
public import Idealize.ShloMosaic.Lib.ValueLayout
public import Mathlib.Data.Matrix.Mul

@[expose] public section

noncomputable section

/-! Real 512 × 512 matrices as float contents, one plane at a time (`up`, `blk`) and four at a time
    (`stack`), and the pointwise operations on them. -/

namespace Cert.Phase

open Idealize.ShloMosaic

/-- A real plane. -/
abbrev Plane := Matrix (Fin 512) (Fin 512) ℝ
/-- The shape of one plane. -/
abbrev S2 : Shape := ⟨2, ![512, 512]⟩
/-- The shape of four planes. -/
abbrev S4 : Shape := ⟨3, ![4, 512, 512]⟩
/-- The shape of a block that holds one plane. -/
abbrev S1 : Shape := ⟨3, ![1, 512, 512]⟩

/-- A plane as float contents. -/
def up (A : Plane) : FVec Ideal S2 .f32 := fun i => ((A (i 0) (i 1) : ℝ) : EReal)
/-- Four planes as float contents. -/
def stack (A : Fin 4 → Plane) : FVec Ideal S4 .f32 := fun i => ((A (i 0) (i 1) (i 2) : ℝ) : EReal)
/-- A plane as the contents of a block. -/
def blk (A : Plane) : FVec Ideal S1 .f32 := fun i => ((A (i 1) (i 2) : ℝ) : EReal)

/-- The entrywise product. -/
def had (A B : Plane) : Plane := Matrix.of fun i j => A i j * B i j
/-- The entrywise quotient. -/
def quot (A B : Plane) : Plane := Matrix.of fun i j => A i j / B i j
/-- The entrywise square root. -/
def root (A : Plane) : Plane := Matrix.of fun i j => Real.sqrt (A i j)
/-- The plane with one value everywhere. -/
def flat (r : ℝ) : Plane := Matrix.of fun _ _ => r
/-- The entrywise modulus of a complex plane. -/
def modulus (A B : Plane) : Plane := root (had A A + had B B)

/-- Sums on real planes. -/
theorem addf_up (A B : Plane) : addf (up A) (up B) = up (A + B) := by
  funext i; exact (EReal.coe_add _ _).symm
/-- Differences on real planes. -/
theorem subf_up (A B : Plane) : subf (up A) (up B) = up (A - B) := by
  funext i; exact (EReal.coe_sub _ _).symm
/-- Products, entry by entry, on real planes. -/
theorem mulf_up (A B : Plane) : mulf (up A) (up B) = up (had A B) := by
  funext i; exact (EReal.coe_mul _ _).symm
/-- Sums on stacks. -/
theorem addf_stack (A B : Fin 4 → Plane) : addf (stack A) (stack B) = stack (fun n => A n + B n) := by
  funext i; exact (EReal.coe_add _ _).symm
/-- Differences on stacks. -/
theorem subf_stack (A B : Fin 4 → Plane) : subf (stack A) (stack B) = stack (fun n => A n - B n) := by
  funext i; exact (EReal.coe_sub _ _).symm
/-- Products, entry by entry, on stacks. -/
theorem mulf_stack (A B : Fin 4 → Plane) : mulf (stack A) (stack B) = stack (fun n => had (A n) (B n)) := by
  funext i; exact (EReal.coe_mul _ _).symm
/-- Negation on stacks. -/
theorem negf_stack (A : Fin 4 → Plane) : Host.negf (stack A) = stack (fun n => -A n) := by
  funext i; exact (EReal.coe_neg _).symm
/-- Negation on planes. -/
theorem negf_up (A : Plane) : Host.negf (up A) = up (-A) := by
  funext i; exact (EReal.coe_neg _).symm

/-- The quotient of reals by a nonzero real. -/
theorem div_real (a b : ℝ) (hb : b ≠ 0) : Ideal.div (a : EReal) (b : EReal) = ((a / b : ℝ) : EReal) := by
  rw [Ideal.div_coe hb, ← EReal.coe_mul, mul_one_div]
/-- The square root of a nonnegative real. -/
theorem sqrt_real (a : ℝ) (ha : 0 ≤ a) : Ideal.sqrt (a : EReal) = ((Real.sqrt a : ℝ) : EReal) := by
  rw [Ideal.sqrt_coe, if_neg (not_lt.mpr ha)]

/-- Quotients on real planes, the divisor nowhere zero. -/
theorem divf_up (A B : Plane) (h : ∀ i j, B i j ≠ 0) : divf (up A) (up B) = up (quot A B) := by
  funext i; exact div_real _ _ (h _ _)
/-- The host's quotients on stacks, the divisor nowhere zero. -/
theorem divf_stack (A B : Fin 4 → Plane) (h : ∀ n i j, B n i j ≠ 0) :
    Host.divf (stack A) (stack B) = stack (fun n => quot (A n) (B n)) := by
  funext i; exact div_real _ _ (h _ _ _)
/-- Square roots on real planes, nowhere negative. -/
theorem sqrt_up (A : Plane) (h : ∀ i j, 0 ≤ A i j) : sqrt (up A) = up (root A) := by
  funext i; exact sqrt_real _ (h _ _)
/-- The host's square roots on stacks, nowhere negative. -/
theorem sqrt_stack (A : Fin 4 → Plane) (h : ∀ n i j, 0 ≤ A n i j) :
    Host.sqrt (stack A) = stack (fun n => root (A n)) := by
  funext i; exact sqrt_real _ (h _ _ _)

/-- A sum of two squares is nowhere negative. -/
theorem squares_nonneg (A B : Plane) (i j : Fin 512) : 0 ≤ (had A A + had B B) i j :=
  add_nonneg (mul_self_nonneg _) (mul_self_nonneg _)
/-- The modulus, as a kernel computes it. -/
theorem modulus_up (A B : Plane) : sqrt (addf (mulf (up A) (up A)) (mulf (up B) (up B))) = up (modulus A B) := by
  rw [mulf_up, mulf_up, addf_up, sqrt_up _ (squares_nonneg A B)]; rfl
/-- The modulus, as the host computes it. -/
theorem modulus_stack (A B : Fin 4 → Plane) :
    Host.sqrt (addf (mulf (stack A) (stack A)) (mulf (stack B) (stack B))) = stack (fun n => modulus (A n) (B n)) := by
  rw [mulf_stack, mulf_stack, addf_stack, sqrt_stack _ (fun n => squares_nonneg (A n) (B n))]; rfl

/-- The modulus is nowhere negative. -/
theorem modulus_nonneg (A B : Plane) (i j : Fin 512) : 0 ≤ modulus A B i j := Real.sqrt_nonneg _

/-- Four planes are what their contents say. -/
theorem stack_inj {A B : Fin 4 → Plane} (h : stack A = stack B) (n : Fin 4) : A n = B n := by
  ext i j
  exact EReal.coe_injective (congrFun h (ValueIdx.ix3 n i j))

/-- One value at every entry of a plane. -/
theorem broadcast_up (r : ℝ) (x : Ideal .f32) (h : x = (r : EReal)) : broadcast S2 x = up (flat r) := by
  funext i; exact h
/-- One value at every entry of a stack. -/
theorem broadcastInDim_stack {u : Shape} (hu : u.rank = 0) (dims : Fin u.rank → Fin 3) (h : u.BroadcastsInDim S4 dims)
    (r : ℝ) (x : FVec Ideal u .f32) (hx : ∀ i, x i = (r : EReal)) :
    broadcastInDim S4 dims h x = stack (fun _ => flat r) := by
  funext i; exact hx _
/-- One value at every entry of a plane, on the host. -/
theorem broadcastInDim_up {u : Shape} (dims : Fin u.rank → Fin 2) (h : u.BroadcastsInDim S2 dims)
    (r : ℝ) (x : FVec Ideal u .f32) (hx : ∀ i, x i = (r : EReal)) :
    broadcastInDim S2 dims h x = up (flat r) := by
  funext i; exact hx _

/-- A scaled plane is the entrywise product with a constant plane. -/
theorem hadamard_flat (A : Plane) (r : ℝ) : had A (flat r) = r • A := by
  ext i j; simp [flat, had, mul_comm]
/-- A quotient by a constant plane scales by the reciprocal. -/
theorem quot_flat (A : Plane) (r : ℝ) : quot A (flat r) = r⁻¹ • A := by
  ext i j; simp [flat, quot, div_eq_inv_mul]

/-- One plane copied into every member of a stack. -/
theorem repeat_stack (A : Plane) (h₁ : S2.BroadcastsInDim S1 ![1, 2]) (h₂ : S1.BroadcastsInDim S4 ![0, 1, 2]) :
    broadcastInDim S4 ![0, 1, 2] h₂ (broadcastInDim S1 ![1, 2] h₁ (up A)) = stack (fun _ => A) := by
  funext i; rfl

/-- Writing a plane as a block. -/
theorem shapeCast_blk (A : Plane) (h : S2.ShapeCasts S1) : shapeCast S1 (up A) h = blk A := by
  funext i
  obtain ⟨u, a, b, rfl⟩ : ∃ (u : Fin 1) (a b : Fin 512), i = ValueIdx.ix3 u a b := ⟨_, _, _, ValueIdx.eq_ix3 i⟩
  exact (ValueIdx.shapeCast_ab_1ab_apply (up A) h u a b).trans rfl
/-- Reading a block as a plane. -/
theorem shapeCast_up (A : Plane) (h : S1.ShapeCasts S2) : shapeCast S2 (blk A) h = up A := by
  funext i
  obtain ⟨a, b, rfl⟩ : ∃ (a b : Fin 512), i = ValueIdx.ix2 a b := ⟨_, _, ValueIdx.eq_ix2 i⟩
  exact (ValueIdx.shapeCast_1ab_ab_apply (blk A) h a b).trans rfl

end Cert.Phase
-- ==== Proof.Products.lean ====
module

public import proofs.«01_k».proof.Proof.Planes
public import Idealize.ShloMosaic.Lib.MatmulPlain
public import Idealize.ShloMosaic.Lib.StackMember

@[expose] public section

noncomputable section

/-! Matrix products of planes: a kernel's product of two planes, and the host's products of a stack
    with one table on either side. -/

namespace Cert.Phase

open Idealize.ShloMosaic Idealize.ShloMosaic.ValueIdx
open scoped BigOperators

/-- A sum of products of reals is the sum of the real products. -/
theorem sum_coe_mul (f g : Fin 512 → ℝ) :
    (∑ k, (f k : EReal) * (g k : EReal)) = ((∑ k, f k * g k : ℝ) : EReal) := by
  have h : ∀ s : Finset (Fin 512), (∑ k ∈ s, (f k : EReal) * (g k : EReal)) = ((∑ k ∈ s, f k * g k : ℝ) : EReal) := by
    intro s
    induction s using Finset.induction_on with
    | empty => simp
    | insert a s ha ih => rw [Finset.sum_insert ha, Finset.sum_insert ha, ih, EReal.coe_add, EReal.coe_mul]
  exact h _

/-- A kernel's product of two planes is their matrix product. -/
theorem matmul_up (prec : Option ContractPrecision) (A B : Plane) :
    matmul (F := Ideal) (φ₁ := .f32) (φ₂ := .f32) (DotDims.plain 512 512 512) prec (up A) (up B) (constant S2 .f32 0x00000000#32) = up (A * B) := by
  funext i
  rw [eq_ix2 i]
  refine (Ideal.matmul_plain_apply prec (up A) (up B) _ (i 0) (i 1)).trans ?_
  rw [show (constant S2 .f32 0x00000000#32 : FVec Ideal S2 .f32) (ix2 (i 0) (i 1)) = 0 from Ideal.ofBits_zero_f32, zero_add]
  exact sum_coe_mul (fun k => A (i 0) k) (fun k => B k (i 1))

/-- The dimension numbers of a stack times a table: the last axis against the table's rows. -/
def rowsDims (wf : DotDims.WF S4 S2 S4 [2] [0] [0, 1] [1] [] []) : DotDims S4 S2 S4 where
  lhsContracting := [2]
  rhsContracting := [0]
  lhsNonContracting := [0, 1]
  rhsNonContracting := [1]
  lhsBatch := []
  rhsBatch := []
  wf := wf

/-- The shape of a table times a stack before its axes are put back in order. -/
abbrev S4' : Shape := ⟨3, ![512, 4, 512]⟩

/-- The dimension numbers of a table against a stack: the table's rows against the stack's middle axis. -/
def colsDims (wf : DotDims.WF S2 S4 S4' [0] [1] [1] [0, 2] [] []) : DotDims S2 S4 S4' where
  lhsContracting := [0]
  rhsContracting := [1]
  lhsNonContracting := [1]
  rhsNonContracting := [0, 2]
  lhsBatch := []
  rhsBatch := []
  wf := wf

/-- Each plane of a stack times a table. -/
theorem rows_stack (wf : DotDims.WF S4 S2 S4 [2] [0] [0, 1] [1] [] []) (prec : Option ContractPrecision) (A : Fin 4 → Plane) (T : Plane) :
    Host.dotGeneral (F := Ideal) (φ₁ := .f32) (φ₂ := .f32) (rowsDims wf) prec (stack A) (up T) = stack (fun n => A n * T) := by
  funext j
  simp only [Host.dotGeneral]
  rw [Ideal.dotGeneral_apply]
  have hr : (rowsDims wf).contr.rank = 1 := rfl
  have hs : (rowsDims wf).contr.size ⟨0, by rw [hr]; exact Nat.one_pos⟩ = 512 := rfl
  rw [← Equiv.sum_comp (contrEquiv1 (rowsDims wf) 512 hr hs).symm]
  refine (Finset.sum_congr rfl fun k _ => ?_).trans (sum_coe_mul (fun k => A (j 0) (j 1) k) (fun k => T k (j 2)))
  have hk := contrEquiv1_symm_val (rowsDims wf) 512 hr hs k
  have el : (rowsDims wf).lhsIdx j ((contrEquiv1 (rowsDims wf) 512 hr hs).symm k) = ix3 (j 0) (j 1) k := by
    funext a; apply Fin.ext
    match a with
    | ⟨0, _⟩ => rfl
    | ⟨1, _⟩ => rfl
    | ⟨2, _⟩ => exact hk
  have er : (rowsDims wf).rhsIdx j ((contrEquiv1 (rowsDims wf) 512 hr hs).symm k) = ix2 k (j 2) := by
    funext a; apply Fin.ext
    match a with
    | ⟨0, _⟩ => exact hk
    | ⟨1, _⟩ => rfl
  rw [el, er]; rfl

/-- A table, transposed, times each plane of a stack. -/
theorem cols_stack (wf : DotDims.WF S2 S4 S4' [0] [1] [1] [0, 2] [] []) (prec : Option ContractPrecision) (A : Fin 4 → Plane) (T : Plane)
    (h : S4'.Transposes [1, 0, 2] S4) :
    transpose S4 [1, 0, 2] (Host.dotGeneral (F := Ideal) (φ₁ := .f32) (φ₂ := .f32) (colsDims wf) prec (up T) (stack A)) h
      = stack (fun n => T.transpose * A n) := by
  funext j
  have hj : j = ix3 (j 0) (j 1) (j 2) := eq_ix3 j
  have ht : transpose S4 [1, 0, 2] (Host.dotGeneral (F := Ideal) (φ₁ := .f32) (φ₂ := .f32) (colsDims wf) prec (up T) (stack A)) h j
      = Host.dotGeneral (F := Ideal) (φ₁ := .f32) (φ₂ := .f32) (colsDims wf) prec (up T) (stack A) (ix3 (j 1) (j 0) (j 2)) :=
    transpose_apply _ _ h j (ix3 (j 1) (j 0) (j 2)) fun a => by
      match a with
      | ⟨0, _⟩ => rfl
      | ⟨1, _⟩ => rfl
      | ⟨2, _⟩ => rfl
  rw [ht]
  simp only [Host.dotGeneral]
  rw [Ideal.dotGeneral_apply]
  have hr : (colsDims wf).contr.rank = 1 := rfl
  have hs : (colsDims wf).contr.size ⟨0, by rw [hr]; exact Nat.one_pos⟩ = 512 := rfl
  rw [← Equiv.sum_comp (contrEquiv1 (colsDims wf) 512 hr hs).symm]
  refine (Finset.sum_congr rfl fun k _ => ?_).trans (sum_coe_mul (fun k => T k (j 1)) (fun k => A (j 0) k (j 2)))
  have hk := contrEquiv1_symm_val (colsDims wf) 512 hr hs k
  have el : (colsDims wf).lhsIdx (ix3 (j 1) (j 0) (j 2)) ((contrEquiv1 (colsDims wf) 512 hr hs).symm k) = ix2 k (j 1) := by
    funext a; apply Fin.ext
    match a with
    | ⟨0, _⟩ => exact hk
    | ⟨1, _⟩ => rfl
  have er : (colsDims wf).rhsIdx (ix3 (j 1) (j 0) (j 2)) ((contrEquiv1 (colsDims wf) 512 hr hs).symm k) = ix3 (j 0) k (j 2) := by
    funext a; apply Fin.ext
    match a with
    | ⟨0, _⟩ => rfl
    | ⟨1, _⟩ => exact hk
    | ⟨2, _⟩ => rfl
  rw [el, er]; rfl

end Cert.Phase
-- ==== Proof.Transform.lean ====
module

public import proofs.«01_k».proof.Proof.Planes
public import Mathlib.Tactic.NoncommRing

@[expose] public section

noncomputable section

/-! The transform of a complex plane by a cosine table `C` and a sine table `S`, its inverse, the
    three-product forms of both, linearity, and that the transform undoes the inverse. -/

namespace Cert.Phase

/-- The transform's real part. -/
def fwdRe (C S a b : Plane) : Plane := C * (a * C + b * S) + S * (b * C - a * S)
/-- The transform's imaginary part. -/
def fwdIm (C S a b : Plane) : Plane := C * (b * C - a * S) - S * (a * C + b * S)
/-- The unscaled inverse's real part. -/
def bwdRe (C S a b : Plane) : Plane := C * (a * C - b * S) - S * (b * C + a * S)
/-- The unscaled inverse's imaginary part. -/
def bwdIm (C S a b : Plane) : Plane := C * (b * C + a * S) + S * (a * C - b * S)
/-- The inverse's real part. -/
def invRe (C S a b : Plane) : Plane := (262144 : ℝ)⁻¹ • bwdRe C S a b
/-- The inverse's imaginary part. -/
def invIm (C S a b : Plane) : Plane := (262144 : ℝ)⁻¹ • bwdIm C S a b

/-- The middle imaginary product of the three-product transform. -/
theorem three_fwd (C S x y : Plane) : (x + y) * (C - S) - x * C + y * S = y * C - x * S := by noncomm_ring
/-- The same with the table on the left. -/
theorem three_fwd_left (C S x y : Plane) : (C - S) * (x + y) - C * x + S * y = C * y - S * x := by noncomm_ring
/-- The middle imaginary product of the three-product inverse. -/
theorem three_bwd (C S x y : Plane) : (x + y) * (C + S) - x * C - y * S = y * C + x * S := by noncomm_ring
/-- The same with the table on the left. -/
theorem three_bwd_left (C S x y : Plane) : (C + S) * (x + y) - C * x - S * y = C * y + S * x := by noncomm_ring

/-- The transform's real part is additive. -/
theorem fwdRe_sub (C S a b a' b' : Plane) : fwdRe C S (a - a') (b - b') = fwdRe C S a b - fwdRe C S a' b' := by
  unfold fwdRe; noncomm_ring
/-- The transform's imaginary part is additive. -/
theorem fwdIm_sub (C S a b a' b' : Plane) : fwdIm C S (a - a') (b - b') = fwdIm C S a b - fwdIm C S a' b' := by
  unfold fwdIm; noncomm_ring
/-- The inverse's real part is additive. -/
theorem invRe_add (C S a b a' b' : Plane) : invRe C S (a + a') (b + b') = invRe C S a b + invRe C S a' b' := by
  unfold invRe; rw [← smul_add]; congr 1; unfold bwdRe; noncomm_ring
/-- The inverse's imaginary part is additive. -/
theorem invIm_add (C S a b a' b' : Plane) : invIm C S (a + a') (b + b') = invIm C S a b + invIm C S a' b' := by
  unfold invIm; rw [← smul_add]; congr 1; unfold bwdIm; noncomm_ring
/-- The inverse's real part of a difference. -/
theorem invRe_sub (C S a b a' b' : Plane) : invRe C S (a - a') (b - b') = invRe C S a b - invRe C S a' b' := by
  unfold invRe; rw [← smul_sub]; congr 1; unfold bwdRe; noncomm_ring
/-- The inverse's imaginary part of a difference. -/
theorem invIm_sub (C S a b a' b' : Plane) : invIm C S (a - a') (b - b') = invIm C S a b - invIm C S a' b' := by
  unfold invIm; rw [← smul_sub]; congr 1; unfold bwdIm; noncomm_ring

/-- The two tables are those of an orthogonal transform. -/
structure Orthogonal (C S : Plane) : Prop where
  /-- The squares add to a multiple of the identity. -/
  squares : C * C + S * S = (512 : ℝ) • (1 : Plane)
  /-- The cosines are orthogonal to the sines. -/
  cs : C * S = 0
  /-- The sines are orthogonal to the cosines. -/
  sc : S * C = 0

/-- After the rows' transform of the inverse, only the columns' inverse is left (real part). -/
theorem Orthogonal.rowsRe {C S : Plane} (h : Orthogonal C S) (a b : Plane) :
    bwdRe C S a b * C + bwdIm C S a b * S = (512 : ℝ) • (C * a - S * b) := by
  have e : bwdRe C S a b * C + bwdIm C S a b * S
      = C * a * (C * C + S * S) - S * b * (C * C + S * S) - C * b * (S * C - C * S) - S * a * (S * C - C * S) := by
    unfold bwdRe bwdIm; noncomm_ring
  rw [e, h.squares, h.cs, h.sc]
  simp only [sub_zero, mul_zero, Matrix.mul_smul, Matrix.mul_one, ← smul_sub]

/-- After the rows' transform of the inverse, only the columns' inverse is left (imaginary part). -/
theorem Orthogonal.rowsIm {C S : Plane} (h : Orthogonal C S) (a b : Plane) :
    bwdIm C S a b * C - bwdRe C S a b * S = (512 : ℝ) • (C * b + S * a) := by
  have e : bwdIm C S a b * C - bwdRe C S a b * S
      = C * b * (C * C + S * S) + S * a * (C * C + S * S) + C * a * (S * C - C * S) - S * b * (S * C - C * S) := by
    unfold bwdRe bwdIm; noncomm_ring
  rw [e, h.squares, h.cs, h.sc]
  simp only [sub_zero, add_zero, mul_zero, Matrix.mul_smul, Matrix.mul_one, ← smul_add]

/-- The columns' transform undoes the columns' inverse. -/
theorem Orthogonal.cols {C S : Plane} (h : Orthogonal C S) (a b : Plane) :
    C * (C * a - S * b) + S * (C * b + S * a) = (512 : ℝ) • a ∧
    C * (C * b + S * a) - S * (C * a - S * b) = (512 : ℝ) • b := by
  constructor
  · have e : C * (C * a - S * b) + S * (C * b + S * a) = (C * C + S * S) * a - (C * S) * b + (S * C) * b := by noncomm_ring
    rw [e, h.squares, h.cs, h.sc]; simp
  · have e : C * (C * b + S * a) - S * (C * a - S * b) = (C * C + S * S) * b + (C * S) * a - (S * C) * a := by noncomm_ring
    rw [e, h.squares, h.cs, h.sc]; simp

/-- The transform undoes the inverse (real part). -/
theorem Orthogonal.fwdRe_inv {C S : Plane} (h : Orthogonal C S) (a b : Plane) :
    fwdRe C S (invRe C S a b) (invIm C S a b) = a := by
  unfold fwdRe invRe invIm
  simp only [Matrix.smul_mul, ← smul_add, ← smul_sub, h.rowsRe, h.rowsIm, Matrix.mul_smul, (h.cols a b).1, smul_smul]
  norm_num

/-- The transform undoes the inverse (imaginary part). -/
theorem Orthogonal.fwdIm_inv {C S : Plane} (h : Orthogonal C S) (a b : Plane) :
    fwdIm C S (invRe C S a b) (invIm C S a b) = b := by
  unfold fwdIm invRe invIm
  simp only [Matrix.smul_mul, ← smul_add, ← smul_sub, h.rowsRe, h.rowsIm, Matrix.mul_smul, (h.cols a b).2, smul_smul]
  norm_num

/-- The sines' sign does not matter for orthogonality. -/
theorem Orthogonal.neg {C S : Plane} (h : Orthogonal C S) : Orthogonal C (-S) :=
  ⟨by rw [neg_mul_neg]; exact h.squares, by rw [mul_neg, h.cs, neg_zero], by rw [neg_mul, h.sc, neg_zero]⟩

/-- The inverse undoes the transform (real part): the two differ by the sines' sign and a factor. -/
theorem Orthogonal.invRe_fwd {C S : Plane} (h : Orthogonal C S) (a b : Plane) :
    invRe C S (fwdRe C S a b) (fwdIm C S a b) = a := by
  have e : invRe C S (fwdRe C S a b) (fwdIm C S a b) = fwdRe C (-S) (invRe C (-S) a b) (invIm C (-S) a b) := by
    unfold invRe invIm fwdRe fwdIm bwdRe bwdIm
    simp only [Matrix.smul_mul, Matrix.mul_smul, ← smul_add, ← smul_sub]
    congr 1
    noncomm_ring
  rw [e, h.neg.fwdRe_inv]

/-- The inverse undoes the transform (imaginary part). -/
theorem Orthogonal.invIm_fwd {C S : Plane} (h : Orthogonal C S) (a b : Plane) :
    invIm C S (fwdRe C S a b) (fwdIm C S a b) = b := by
  have e : invIm C S (fwdRe C S a b) (fwdIm C S a b) = fwdIm C (-S) (invRe C (-S) a b) (invIm C (-S) a b) := by
    unfold invRe invIm fwdRe fwdIm bwdRe bwdIm
    simp only [Matrix.smul_mul, Matrix.mul_smul, ← smul_add, ← smul_sub]
    congr 1
    noncomm_ring
  rw [e, h.neg.fwdIm_inv]

/-- The transform of nothing, real part. -/
theorem fwdRe_zero (C S : Plane) : fwdRe C S 0 0 = 0 := by simp [fwdRe]
/-- The transform of nothing, imaginary part. -/
theorem fwdIm_zero (C S : Plane) : fwdIm C S 0 0 = 0 := by simp [fwdIm]
/-- The inverse of nothing, real part. -/
theorem invRe_zero (C S : Plane) : invRe C S 0 0 = 0 := by simp [invRe, bwdRe]
/-- The inverse of nothing, imaginary part. -/
theorem invIm_zero (C S : Plane) : invIm C S 0 0 = 0 := by simp [invIm, bwdIm]

end Cert.Phase
-- ==== Proof.Constants.lean ====
module

public import proofs.«01_k».proof.Proof.Planes

@[expose] public section

noncomputable section

/-! The printed constants as reals. -/

namespace Cert.Phase

open Idealize.ShloMosaic

/-- Minus one. -/
theorem ofBits_neg_one : Ideal.ofBits .f32 0xBF800000#32 = ((-1 : ℝ) : EReal) := by
  simp [Ideal.ofBits, Ideal.ieee]; rw [← EReal.coe_mul]; norm_num
/-- One. -/
theorem ofBits_one : Ideal.ofBits .f32 0x3F800000#32 = ((1 : ℝ) : EReal) := by
  simp [Ideal.ofBits, Ideal.ieee]; rw [← EReal.coe_mul]; norm_num
/-- Two. -/
theorem ofBits_two : Ideal.ofBits .f32 0x40000000#32 = ((2 : ℝ) : EReal) := by
  simp [Ideal.ofBits, Ideal.ieee]; rw [← EReal.coe_mul]; norm_num
/-- The length of a transform. -/
theorem ofBits_512 : Ideal.ofBits .f32 0x44000000#32 = ((512 : ℝ) : EReal) := by
  simp [Ideal.ofBits, Ideal.ieee]; rw [← EReal.coe_mul]; norm_num
/-- The size of a plane. -/
theorem ofBits_size : Ideal.ofBits .f32 0x48800000#32 = ((262144 : ℝ) : EReal) := by
  simp [Ideal.ofBits, Ideal.ieee]; rw [← EReal.coe_mul]; norm_num
/-- The reciprocal of the size of a plane. -/
theorem ofBits_inv_size : Ideal.ofBits .f32 0x36800000#32 = (((262144 : ℝ)⁻¹ : ℝ) : EReal) := by
  simp [Ideal.ofBits, Ideal.ieee]; rw [← EReal.coe_mul]; norm_num
/-- The small value added to a modulus is a positive real. -/
theorem ofBits_tiny : ∃ e : ℝ, 0 < e ∧ Ideal.ofBits .f32 0x0DA24260#32 = (e : EReal) := by
  refine ⟨(2 ^ 23 + 2245216 : ℕ) * (2 : ℝ) ^ (-123 : ℤ), by positivity, ?_⟩
  simp [Ideal.ofBits, Ideal.ieee]

end Cert.Phase
-- ==== Proof.Body.lean ====
module

public import proofs.«01_k».proof.Proof.Products
public import proofs.«01_k».proof.Proof.Transform
public import proofs.«01_k».proof.Proof.Constants

@[expose] public section

noncomputable section

/-! The transform and its inverse as a kernel computes them on one plane, three products on each side. -/

namespace Cert.Phase

open Idealize.ShloMosaic

/-- A kernel's product of two planes, onto zero. -/
def dotV (x y : FVec Ideal S2 .f32) : FVec Ideal S2 .f32 :=
  matmul (F := Ideal) (φ₁ := .f32) (φ₂ := .f32) (DotDims.plain 512 512 512) (some .fp32) x y (constant S2 .f32 0x00000000#32)

/-- The product of two real planes. -/
theorem dotV_up (A B : Plane) : dotV (up A) (up B) = up (A * B) := matmul_up _ A B

/-- The kernel's transform after the rows: real part. -/
def rowRe (a b C S : FVec Ideal S2 .f32) : FVec Ideal S2 .f32 := addf (dotV a C) (dotV b S)
/-- The kernel's transform after the rows: imaginary part, from the third product. -/
def rowIm (a b C S D : FVec Ideal S2 .f32) : FVec Ideal S2 .f32 := addf (subf (dotV (addf a b) D) (dotV a C)) (dotV b S)
/-- The kernel's transform: real part. -/
def fftRe (a b C S D : FVec Ideal S2 .f32) : FVec Ideal S2 .f32 :=
  addf (dotV C (rowRe a b C S)) (dotV S (rowIm a b C S D))
/-- The kernel's transform: imaginary part. -/
def fftIm (a b C S D : FVec Ideal S2 .f32) : FVec Ideal S2 .f32 :=
  addf (subf (dotV D (addf (rowRe a b C S) (rowIm a b C S D))) (dotV C (rowRe a b C S))) (dotV S (rowIm a b C S D))

/-- The kernel's inverse after the rows: real part. -/
def irowRe (a b C S : FVec Ideal S2 .f32) : FVec Ideal S2 .f32 := subf (dotV a C) (dotV b S)
/-- The kernel's inverse after the rows: imaginary part, from the third product. -/
def irowIm (a b C S D : FVec Ideal S2 .f32) : FVec Ideal S2 .f32 := subf (subf (dotV (addf a b) D) (dotV a C)) (dotV b S)
/-- The kernel's inverse: real part. -/
def ifftRe (a b C S D : FVec Ideal S2 .f32) : FVec Ideal S2 .f32 :=
  mulf (subf (dotV C (irowRe a b C S)) (dotV S (irowIm a b C S D))) (broadcast S2 (Scalar.ofBits .f32 0x36800000#32))
/-- The kernel's inverse: imaginary part. -/
def ifftIm (a b C S D : FVec Ideal S2 .f32) : FVec Ideal S2 .f32 :=
  mulf (subf (subf (dotV D (addf (irowRe a b C S) (irowIm a b C S D))) (dotV C (irowRe a b C S))) (dotV S (irowIm a b C S D)))
    (broadcast S2 (Scalar.ofBits .f32 0x36800000#32))

/-- The factor of the inverse at every entry. -/
theorem inv_size_up : broadcast S2 (Scalar.ofBits (F := Ideal) .f32 0x36800000#32) = up (flat (262144 : ℝ)⁻¹) :=
  broadcast_up _ _ ofBits_inv_size

/-- The kernel's transform of a real pair is the transform: real part. -/
theorem fftRe_up (a b C S : Plane) : fftRe (up a) (up b) (up C) (up S) (up (C - S)) = up (fwdRe C S a b) := by
  simp only [fftRe, rowRe, rowIm, dotV_up, addf_up, subf_up, three_fwd]; rfl
/-- The kernel's transform of a real pair is the transform: imaginary part. -/
theorem fftIm_up (a b C S : Plane) : fftIm (up a) (up b) (up C) (up S) (up (C - S)) = up (fwdIm C S a b) := by
  simp only [fftIm, rowRe, rowIm, dotV_up, addf_up, subf_up, three_fwd, three_fwd_left]; rfl
/-- The kernel's inverse of a real pair is the inverse: real part. -/
theorem ifftRe_up (a b C S : Plane) : ifftRe (up a) (up b) (up C) (up S) (up (C + S)) = up (invRe C S a b) := by
  simp only [ifftRe, irowRe, irowIm, dotV_up, addf_up, subf_up, three_bwd, inv_size_up, mulf_up, hadamard_flat]; rfl
/-- The kernel's inverse of a real pair is the inverse: imaginary part. -/
theorem ifftIm_up (a b C S : Plane) : ifftIm (up a) (up b) (up C) (up S) (up (C + S)) = up (invIm C S a b) := by
  simp only [ifftIm, irowRe, irowIm, dotV_up, addf_up, subf_up, three_bwd, three_bwd_left, inv_size_up, mulf_up, hadamard_flat]
  rw [invIm, bwdIm, add_comm (S * _)]

end Cert.Phase
-- ==== Proof.Orthogonal.lean ====
module

public import proofs.«01_k».proof.Proof.Transform
public import Mathlib.Algebra.Ring.GeomSum
public import Mathlib.Analysis.SpecialFunctions.Trigonometric.Basic
public import Mathlib.Analysis.SpecialFunctions.Complex.Log

@[expose] public section

noncomputable section

/-! The tables of cosines and sines of the 512-point transform, and their orthogonality. -/

namespace Cert.Phase

open scoped BigOperators

/-- The angle of one step around the circle. -/
def step : ℝ := 2 * Real.pi / 512
/-- The table of cosines. -/
def cosTable : Plane := Matrix.of fun j k => Real.cos (step * ((j.val : ℝ) * (k.val : ℝ)))
/-- The table of sines. -/
def sinTable : Plane := Matrix.of fun j k => Real.sin (step * ((j.val : ℝ) * (k.val : ℝ)))

/-- The cosines are symmetric. -/
theorem cosTable_transpose : cosTable.transpose = cosTable := by
  ext j k; simp [cosTable, mul_comm (j.val : ℝ)]
/-- The sines are symmetric. -/
theorem sinTable_transpose : sinTable.transpose = sinTable := by
  ext j k; simp [sinTable, mul_comm (j.val : ℝ)]

/-- The root of unity `m` steps around. -/
def root1 (m : ℤ) : ℂ := Complex.exp ((step * m : ℝ) * Complex.I)

/-- Its powers. -/
theorem root1_pow (m : ℤ) (k : ℕ) : root1 m ^ k = Complex.exp ((step * (m * k) : ℝ) * Complex.I) := by
  unfold root1
  rw [← Complex.exp_nat_mul]
  congr 1
  push_cast
  ring

/-- Its last power is one. -/
theorem root1_last (m : ℤ) : root1 m ^ 512 = 1 := by
  rw [root1_pow, Complex.exp_eq_one_iff]
  refine ⟨m, ?_⟩
  unfold step
  push_cast
  ring

/-- It is one only for a whole number of turns. -/
theorem root1_ne_one (m : ℤ) (h : ¬ (512 : ℤ) ∣ m) : root1 m ≠ 1 := by
  intro e
  unfold root1 at e
  rw [Complex.exp_eq_one_iff] at e
  obtain ⟨n, hn⟩ := e
  apply h
  refine ⟨n, ?_⟩
  have hI : Complex.I ≠ 0 := Complex.I_ne_zero
  have hp : (Real.pi : ℝ) ≠ 0 := Real.pi_ne_zero
  have e1 : ((step * m : ℝ) : ℂ) = ((n * (2 * Real.pi) : ℝ) : ℂ) := by
    apply mul_right_cancel₀ hI
    rw [hn]; push_cast; ring
  have e2 : step * m = n * (2 * Real.pi) := Complex.ofReal_injective e1
  unfold step at e2
  have e3 : (m : ℝ) = 512 * n := by
    have : Real.pi * (m : ℝ) = Real.pi * (512 * n) := by linarith
    exact mul_left_cancel₀ hp this
  exact_mod_cast e3

/-- The powers of a root of unity other than one add to zero. -/
theorem powers_zero (m : ℤ) (h : ¬ (512 : ℤ) ∣ m) : (∑ k : Fin 512, root1 m ^ k.val) = 0 := by
  rw [Fin.sum_univ_eq_sum_range (fun k => root1 m ^ k) 512]
  have g := geom_sum_mul (root1 m) 512
  rw [root1_last, sub_self] at g
  exact (mul_eq_zero.mp g).resolve_right (sub_ne_zero.mpr (root1_ne_one m h))

/-- The powers of one add to their number. -/
theorem powers_one (m : ℤ) (h : (512 : ℤ) ∣ m) : (∑ k : Fin 512, root1 m ^ k.val) = 512 := by
  obtain ⟨n, rfl⟩ := h
  have e : root1 (512 * n) = 1 := by
    unfold root1
    rw [Complex.exp_eq_one_iff]
    refine ⟨n, ?_⟩
    unfold step; push_cast; ring
  simp [e]

/-- The real part of a power. -/
theorem power_re (m : ℤ) (k : ℕ) : (root1 m ^ k).re = Real.cos (step * (m * k)) := by
  rw [root1_pow, Complex.exp_ofReal_mul_I_re]
/-- The imaginary part of a power. -/
theorem power_im (m : ℤ) (k : ℕ) : (root1 m ^ k).im = Real.sin (step * (m * k)) := by
  rw [root1_pow, Complex.exp_ofReal_mul_I_im]

/-- Cosines around the circle add to zero. -/
theorem sum_cos_zero (m : ℤ) (h : ¬ (512 : ℤ) ∣ m) : (∑ k : Fin 512, Real.cos (step * (m * (k.val : ℝ)))) = 0 := by
  have e := congrArg Complex.re (powers_zero m h)
  rw [Complex.re_sum] at e
  simpa only [power_re, Complex.zero_re] using e
/-- Sines around the circle add to zero, for any number of turns. -/
theorem sum_sin_zero (m : ℤ) : (∑ k : Fin 512, Real.sin (step * (m * (k.val : ℝ)))) = 0 := by
  have e : (∑ k : Fin 512, root1 m ^ k.val).im = 0 := by
    by_cases h : (512 : ℤ) ∣ m
    · rw [powers_one m h]; rfl
    · rw [powers_zero m h]; rfl
  rw [Complex.im_sum] at e
  simpa only [power_im] using e

/-- The squares of the tables add to a multiple of the identity. -/
theorem squares_table : cosTable * cosTable + sinTable * sinTable = (512 : ℝ) • (1 : Plane) := by
  ext j l
  have e : (cosTable * cosTable + sinTable * sinTable) j l
      = ∑ k : Fin 512, Real.cos (step * (((j.val : ℤ) - (l.val : ℤ) : ℤ) * (k.val : ℝ))) := by
    rw [Matrix.add_apply, Matrix.mul_apply, Matrix.mul_apply, ← Finset.sum_add_distrib]
    refine Finset.sum_congr rfl fun k _ => ?_
    simp only [cosTable, sinTable, Matrix.of_apply]
    rw [← Real.cos_sub]
    congr 1
    push_cast
    ring
  rw [e]
  by_cases h : j = l
  · subst h
    simp
  · have hd : ¬ (512 : ℤ) ∣ ((j.val : ℤ) - (l.val : ℤ)) := by
      intro hd
      have := j.isLt; have := l.isLt
      have : j.val = l.val := by omega
      exact h (Fin.ext this)
    rw [sum_cos_zero _ hd]
    simp [Matrix.one_apply_ne h]

/-- The cosines are orthogonal to the sines. -/
theorem cos_sin_table : cosTable * sinTable = 0 := by
  ext j l
  have e : (cosTable * sinTable) j l
      = ∑ k : Fin 512, (Real.sin (step * (((l.val : ℤ) + (j.val : ℤ) : ℤ) * (k.val : ℝ)))
          + Real.sin (step * (((l.val : ℤ) - (j.val : ℤ) : ℤ) * (k.val : ℝ)))) / 2 := by
    rw [Matrix.mul_apply]
    refine Finset.sum_congr rfl fun k _ => ?_
    simp only [cosTable, sinTable, Matrix.of_apply]
    have h1 : step * (((l.val : ℤ) + (j.val : ℤ) : ℤ) * (k.val : ℝ))
        = step * ((k.val : ℝ) * (l.val : ℝ)) + step * ((j.val : ℝ) * (k.val : ℝ)) := by push_cast; ring
    have h2 : step * (((l.val : ℤ) - (j.val : ℤ) : ℤ) * (k.val : ℝ))
        = step * ((k.val : ℝ) * (l.val : ℝ)) - step * ((j.val : ℝ) * (k.val : ℝ)) := by push_cast; ring
    rw [h1, h2, Real.sin_add, Real.sin_sub]
    ring
  rw [e, ← Finset.sum_div, Finset.sum_add_distrib, sum_sin_zero, sum_sin_zero]
  simp

/-- The sines are orthogonal to the cosines. -/
theorem sin_cos_table : sinTable * cosTable = 0 := by
  have h := congrArg Matrix.transpose cos_sin_table
  rwa [Matrix.transpose_mul, cosTable_transpose, sinTable_transpose, Matrix.transpose_zero] at h

/-- The two tables are those of an orthogonal transform. -/
theorem tables : Orthogonal cosTable sinTable := ⟨squares_table, cos_sin_table, sin_cos_table⟩

end Cert.Phase
-- ==== Proof.Tables.lean ====
module

public import proofs.«01_k».proof.Proof.Orthogonal
public import proofs.«01_k».proof.Proof.Constants
public import Idealize.ShloMosaic.Lib.Affine

@[expose] public section

noncomputable section

/-! The cosine and sine tables, as the kernel's host operations compute them (from the product of the
    indices reduced modulo 512) and as the reference does (from the product itself). -/

namespace Cert.Phase

open Idealize.ShloMosaic Idealize.ShloMosaic.ValueIdx

/-- The shape of a scalar. -/
abbrev S0 : Shape := ⟨0, ![]⟩

/-- The host's angle of one step is the real one. -/
theorem step_host (i : S0.Idx) :
    Host.divf (F := Ideal) (mulf (constant S0 .f32 0x40000000#32) (Host.acos (constant S0 .f32 0xBF800000#32)))
      (constant S0 .f32 0x44000000#32) i = (step : EReal) := by
  show Ideal.div (Ideal.ofBits .f32 0x40000000#32 * Ideal.acos (Ideal.ofBits .f32 0xBF800000#32))
    (Ideal.ofBits .f32 0x44000000#32) = _
  rw [ofBits_two, ofBits_neg_one, ofBits_512, Ideal.acos_coe, if_pos (by norm_num), Real.arccos_neg_one,
    ← EReal.coe_mul, div_real _ _ (by norm_num)]
  rfl

/-- The host's cosine of a real plane. -/
theorem cos_up (A : Plane) : Host.cos (up A) = up (Matrix.of fun j k => Real.cos (A j k)) := rfl
/-- The host's sine of a real plane. -/
theorem sin_up (A : Plane) : Host.sin (up A) = up (Matrix.of fun j k => Real.sin (A j k)) := rfl

/-- The product of two indices, reduced, as a word. -/
theorem reduced_word (j k : Fin 512) :
    (IntOp.remsi .host (BitVec.ofNat 32 j.val * BitVec.ofNat 32 k.val) 512#32).toInt = ((j.val * k.val % 512 : ℕ) : ℤ) := by
  have hj := j.isLt
  have hk := k.isLt
  have hjk : j.val * k.val ≤ 511 * 511 := Nat.mul_le_mul (by omega) (by omega)
  have hx : (BitVec.ofNat 32 j.val * BitVec.ofNat 32 k.val).toNat = j.val * k.val := by
    rw [← BitVec.ofNat_mul, BitVec.toNat_ofNat]; omega
  have hr : (IntOp.remsi .host (BitVec.ofNat 32 j.val * BitVec.ofNat 32 k.val) 512#32).toNat = j.val * k.val % 512 := by
    rw [← hx]; exact IntOp.toNat_remsi .host (by rw [hx]; omega) 512 (by norm_num) (by norm_num)
  rw [BitVec.toInt_eq_toNat_of_lt (by omega), hr]

/-- The kernel's table of angles. -/
theorem kernel_angles (h h' : S0.BroadcastsInDim S2 ![]) :
    mulf (F := Ideal) (broadcastInDim S2 ![] h (Host.divf (mulf (constant S0 .f32 0x40000000#32) (Host.acos (constant S0 .f32 0xBF800000#32))) (constant S0 .f32 0x44000000#32)))
      (sitofp .f32 (Host.remsi (muli (iotaInDim S2 32 0) (iotaInDim S2 32 1)) (broadcastInDim S2 ![] h' (constantI S0 32 512#32))))
      = up (Matrix.of fun j k => step * ((j.val * k.val % 512 : ℕ) : ℝ)) := by
  rw [broadcastInDim_up ![] h step _ step_host]
  funext i
  have e := reduced_word (i 0) (i 1)
  show (step : EReal) * (((IntOp.remsi .host (BitVec.ofNat 32 (i 0).val * BitVec.ofNat 32 (i 1).val) 512#32).toInt : ℝ) : EReal) = _
  rw [e, ← EReal.coe_mul]
  rfl

/-- The reference's table of angles. -/
theorem reference_angles (h : S0.BroadcastsInDim S2 ![]) (h₁ : (⟨1, ![512]⟩ : Shape).BroadcastsInDim ⟨2, ![512, 1]⟩ ![0])
    (h₂ : (⟨2, ![512, 1]⟩ : Shape).BroadcastsInDim S2 ![0, 1]) (h₃ : (⟨1, ![512]⟩ : Shape).BroadcastsInDim ⟨2, ![1, 512]⟩ ![1])
    (h₄ : (⟨2, ![1, 512]⟩ : Shape).BroadcastsInDim S2 ![0, 1]) :
    mulf (F := Ideal) (broadcastInDim S2 ![] h (Host.divf (mulf (constant S0 .f32 0x40000000#32) (Host.acos (constant S0 .f32 0xBF800000#32))) (constant S0 .f32 0x44000000#32)))
      (mulf (broadcastInDim S2 ![0, 1] h₂ (broadcastInDim ⟨2, ![512, 1]⟩ ![0] h₁ (sitofp .f32 (iotaInDim ⟨1, ![512]⟩ 32 0))))
        (broadcastInDim S2 ![0, 1] h₄ (broadcastInDim ⟨2, ![1, 512]⟩ ![1] h₃ (sitofp .f32 (iotaInDim ⟨1, ![512]⟩ 32 0)))))
      = up (Matrix.of fun j k => step * ((j.val : ℝ) * (k.val : ℝ))) := by
  rw [broadcastInDim_up ![] h step _ step_host]
  have word : ∀ j : Fin 512, (BitVec.ofNat 32 j.val).toInt = (j.val : ℤ) := fun j => by
    have := j.isLt
    have hn : (BitVec.ofNat 32 j.val).toNat = j.val := by rw [BitVec.toNat_ofNat]; omega
    rw [BitVec.toInt_eq_toNat_of_lt (by omega), hn]
  funext i
  show (step : EReal) * ((((BitVec.ofNat 32 (i 0).val).toInt : ℝ) : EReal) * (((BitVec.ofNat 32 (i 1).val).toInt : ℝ) : EReal)) = _
  have e₀ := word (i 0)
  have e₁ := word (i 1)
  rw [e₀, e₁, ← EReal.coe_mul, ← EReal.coe_mul]
  rfl

/-- A whole number of turns taken off leaves the angle's place on the circle. -/
theorem angle_reduced (n : ℕ) : step * (n : ℝ) = step * ((n % 512 : ℕ) : ℝ) + ((n / 512 : ℕ) : ℝ) * (2 * Real.pi) := by
  have e : (n : ℝ) = 512 * ((n / 512 : ℕ) : ℝ) + ((n % 512 : ℕ) : ℝ) := by exact_mod_cast (Nat.div_add_mod n 512).symm
  conv_lhs => rw [e]
  unfold step
  ring

/-- The cosines of the kernel's angles are the table. -/
theorem cos_reduced : (Matrix.of fun j k : Fin 512 => Real.cos (step * ((j.val * k.val % 512 : ℕ) : ℝ))) = cosTable := by
  ext j k
  have e := angle_reduced (j.val * k.val)
  rw [Nat.cast_mul] at e
  simp only [cosTable, Matrix.of_apply]
  rw [e, Real.cos_add_nat_mul_two_pi]
/-- The sines of the kernel's angles are the table. -/
theorem sin_reduced : (Matrix.of fun j k : Fin 512 => Real.sin (step * ((j.val * k.val % 512 : ℕ) : ℝ))) = sinTable := by
  ext j k
  have e := angle_reduced (j.val * k.val)
  rw [Nat.cast_mul] at e
  simp only [sinTable, Matrix.of_apply]
  rw [e, Real.sin_add_nat_mul_two_pi]

/-- The cosine of the kernel's angles. -/
theorem cos_kernel : Host.cos (up (Matrix.of fun j k => step * ((j.val * k.val % 512 : ℕ) : ℝ))) = up cosTable := by
  rw [cos_up, ← cos_reduced]; rfl
/-- The sine of the kernel's angles. -/
theorem sin_kernel : Host.sin (up (Matrix.of fun j k => step * ((j.val * k.val % 512 : ℕ) : ℝ))) = up sinTable := by
  rw [sin_up, ← sin_reduced]; rfl
/-- The cosine of the reference's angles. -/
theorem cos_reference : Host.cos (up (Matrix.of fun j k => step * ((j.val : ℝ) * (k.val : ℝ)))) = up cosTable := rfl
/-- The sine of the reference's angles. -/
theorem sin_reference : Host.sin (up (Matrix.of fun j k => step * ((j.val : ℝ) * (k.val : ℝ)))) = up sinTable := rfl

/-- The reference's cosine table is the table. -/
theorem table_cos (h : S0.BroadcastsInDim S2 ![]) (h₁ : (⟨1, ![512]⟩ : Shape).BroadcastsInDim ⟨2, ![512, 1]⟩ ![0])
    (h₂ : (⟨2, ![512, 1]⟩ : Shape).BroadcastsInDim S2 ![0, 1]) (h₃ : (⟨1, ![512]⟩ : Shape).BroadcastsInDim ⟨2, ![1, 512]⟩ ![1])
    (h₄ : (⟨2, ![1, 512]⟩ : Shape).BroadcastsInDim S2 ![0, 1]) :
    Host.cos (F := Ideal) (mulf (broadcastInDim S2 ![] h (Host.divf (mulf (constant S0 .f32 0x40000000#32) (Host.acos (constant S0 .f32 0xBF800000#32))) (constant S0 .f32 0x44000000#32)))
      (mulf (broadcastInDim S2 ![0, 1] h₂ (broadcastInDim ⟨2, ![512, 1]⟩ ![0] h₁ (sitofp .f32 (iotaInDim ⟨1, ![512]⟩ 32 0))))
        (broadcastInDim S2 ![0, 1] h₄ (broadcastInDim ⟨2, ![1, 512]⟩ ![1] h₃ (sitofp .f32 (iotaInDim ⟨1, ![512]⟩ 32 0))))))
      = up cosTable := by
  rw [reference_angles]
  rfl

/-- The reference's sine table is the table. -/
theorem table_sin (h : S0.BroadcastsInDim S2 ![]) (h₁ : (⟨1, ![512]⟩ : Shape).BroadcastsInDim ⟨2, ![512, 1]⟩ ![0])
    (h₂ : (⟨2, ![512, 1]⟩ : Shape).BroadcastsInDim S2 ![0, 1]) (h₃ : (⟨1, ![512]⟩ : Shape).BroadcastsInDim ⟨2, ![1, 512]⟩ ![1])
    (h₄ : (⟨2, ![1, 512]⟩ : Shape).BroadcastsInDim S2 ![0, 1]) :
    Host.sin (F := Ideal) (mulf (broadcastInDim S2 ![] h (Host.divf (mulf (constant S0 .f32 0x40000000#32) (Host.acos (constant S0 .f32 0xBF800000#32))) (constant S0 .f32 0x44000000#32)))
      (mulf (broadcastInDim S2 ![0, 1] h₂ (broadcastInDim ⟨2, ![512, 1]⟩ ![0] h₁ (sitofp .f32 (iotaInDim ⟨1, ![512]⟩ 32 0))))
        (broadcastInDim S2 ![0, 1] h₄ (broadcastInDim ⟨2, ![1, 512]⟩ ![1] h₃ (sitofp .f32 (iotaInDim ⟨1, ![512]⟩ 32 0))))))
      = up sinTable := by
  rw [reference_angles]
  rfl

end Cert.Phase
-- ==== Proof.MainSpec.lean ====
module

public import proofs.«01_k».proof.Proof.Orthogonal
public import proofs.«01_k».proof.Proof.Constants

@[expose] public section

noncomputable section

/-! What the main call computes, on one plane of real numbers. -/

namespace Cert.Phase

open Idealize.ShloMosaic

/-- The real number added to a modulus before dividing by it. -/
def tiny : ℝ := Classical.choose ofBits_tiny
/-- It is positive. -/
theorem tiny_pos : 0 < tiny := (Classical.choose_spec ofBits_tiny).1
/-- It is what the constant's word denotes. -/
theorem ofBits_is_tiny : Ideal.ofBits .f32 0x0DA24260#32 = (tiny : EReal) := (Classical.choose_spec ofBits_tiny).2

/-- The planes one grid point of the main call works on. -/
structure Args where
  /-- The transformed object, real part. -/
  xr : Plane
  /-- The transformed object, imaginary part. -/
  xi : Plane
  /-- The sparse part, real part. -/
  br : Plane
  /-- The sparse part, imaginary part. -/
  bi : Plane
  /-- The measurement, real part. -/
  hr : Plane
  /-- The measurement, imaginary part. -/
  hi : Plane
  /-- The propagator, real part. -/
  tr : Plane
  /-- The propagator, imaginary part. -/
  ti : Plane

namespace Args

variable (a : Args)

/-- The propagated object, real part. -/
def pRe : Plane := had a.xr a.tr - had a.xi a.ti
/-- The propagated object, imaginary part. -/
def pIm : Plane := had a.xr a.ti + had a.xi a.tr
/-- The inverse of the propagated object, real part. -/
def cRe : Plane := invRe cosTable sinTable a.pRe a.pIm
/-- The inverse of the propagated object, imaginary part. -/
def cIm : Plane := invIm cosTable sinTable a.pRe a.pIm
/-- The field before its modulus is divided out, real part. -/
def uRe : Plane := a.cRe + invRe cosTable sinTable a.br a.bi
/-- The field before its modulus is divided out, imaginary part. -/
def uIm : Plane := a.cIm + invIm cosTable sinTable a.br a.bi
/-- The modulus divided by. -/
def size : Plane := modulus a.uRe a.uIm + flat tiny
/-- The phase factor, real part. -/
def wRe : Plane := quot a.uRe a.size
/-- The phase factor, imaginary part. -/
def wIm : Plane := quot a.uIm a.size
/-- The measurement with the phase, real part. -/
def qRe : Plane := had a.hr a.wRe - had a.hi a.wIm
/-- The measurement with the phase, imaginary part. -/
def qIm : Plane := had a.hr a.wIm + had a.hi a.wRe
/-- Its transform, real part. -/
def fRe : Plane := fwdRe cosTable sinTable a.qRe a.qIm
/-- Its transform, imaginary part. -/
def fIm : Plane := fwdIm cosTable sinTable a.qRe a.qIm
/-- The transform of what remains, real part. -/
def bRe : Plane := fwdRe cosTable sinTable (a.qRe - a.cRe) (a.qIm - a.cIm)
/-- The transform of what remains, imaginary part. -/
def bIm : Plane := fwdIm cosTable sinTable (a.qRe - a.cRe) (a.qIm - a.cIm)

/-- The modulus divided by is nowhere zero. -/
theorem size_ne (i j : Fin 512) : a.size i j ≠ 0 := by
  have h : 0 ≤ modulus a.uRe a.uIm i j := modulus_nonneg _ _ i j
  have e : a.size i j = modulus a.uRe a.uIm i j + tiny := rfl
  rw [e]
  exact (add_pos_of_nonneg_of_pos h tiny_pos).ne'
/-- The field is the inverse of a sum, real part: the kernel inverts once. -/
theorem uRe_once : invRe cosTable sinTable (a.pRe + a.br) (a.pIm + a.bi) = a.uRe := invRe_add ..
/-- The field is the inverse of a sum, imaginary part. -/
theorem uIm_once : invIm cosTable sinTable (a.pRe + a.br) (a.pIm + a.bi) = a.uIm := invIm_add ..
/-- What remains, by subtracting after the transform, real part: the kernel transforms once. -/
theorem bRe_once : a.fRe - a.pRe = a.bRe := by
  unfold bRe
  rw [fwdRe_sub]
  unfold cRe cIm fRe
  rw [tables.fwdRe_inv]
/-- What remains, by subtracting after the transform, imaginary part. -/
theorem bIm_once : a.fIm - a.pIm = a.bIm := by
  unfold bIm
  rw [fwdIm_sub]
  unfold cRe cIm fIm
  rw [tables.fwdIm_inv]

end Args

end Cert.Phase
-- ==== Proof.Main.lean ====
module

public import proofs.«01_k».proof.Proof.Body
public import proofs.«01_k».proof.Proof.Tables
public import proofs.«01_k».proof.Proof.Gen.KernelIdeal.Frame
public import Idealize.ShloMosaic.Lib.Pipeline.ValueKit
public import proofs.«01_k».proof.Proof.MainSpec

@[expose] public section

set_option maxRecDepth 16384

noncomputable section

/-! The main call: what its seven results hold, of real planes. -/

namespace Cert.Phase.Main

open Idealize.ShloMosaic Idealize.SL.Sem Idealize.ShloMosaic.ValueIdx Cert.KernelIdeal
open Cert.KernelIdeal.Gen Idealize.ShloMosaic.TcCoe
open Idealize.ShloMosaic.Pipeline (Dat Cfg Window)

variable (m : (ℓ : Loc nD τ sig) → Buf (Elt Ideal) ℓ)

/-- The plane a grid point works on. -/
def plane (t : Fin cfg0.N) : Fin 4 := ⟨t.val, t.isLt⟩

/-- The cosine table as the region finds it. -/
theorem V_C (c : Dev nD) : V m c main_v11 = up cosTable := by
  entry_read
  have k := cos_kernel
  rw [← kernel_angles] at k
  exact k

/-- The sine table as the region finds it. -/
theorem V_S (c : Dev nD) : V m c main_v12 = up sinTable := by
  entry_read
  have k := sin_kernel
  rw [← kernel_angles] at k
  exact k

/-- The difference of the tables as the region finds it. -/
theorem V_D (c : Dev nD) : V m c main_v13 = up (cosTable - sinTable) := by
  entry_read
  have kc := cos_kernel
  have ks := sin_kernel
  rw [← kernel_angles] at kc ks
  exact (congrArg₂ subf kc ks).trans (subf_up _ _)

/-- The sum of the tables as the region finds it. -/
theorem V_E (c : Dev nD) : V m c main_v14 = up (cosTable + sinTable) := by
  entry_read
  have kc := cos_kernel
  have ks := sin_kernel
  rw [← kernel_angles] at kc ks
  exact (congrArg₂ addf kc ks).trans (addf_up _ _)

/-- Where window 0's block lies. -/
theorem emb0 (t : Fin cfg0.N) (y : S1.Idx) : (win0_0.blk t).view.emb y = ValueIdx.ix3 (plane t) (y 1) (y 2) := by
  have e : ∀ t : Fin cfg0.N, win0_0.index t = ![t.val, 0, 0] := (by decide +kernel : ∀ t : Fin grid0.N, _)
  blk_ext [e, plane]

/-- Window 0's block is its plane. -/
theorem block0 (c : Dev nD) (A : Fin 4 → Plane) (h : m ((c : Thread nD τ).loc main_arg0) = stack A) (t : Fin cfg0.N) :
    iblk m c 0 t = blk (A (plane t)) := by
  funext y
  blk_simp [iblk]
  rw [V_main_arg0, h, emb0]
  rfl

/-- Where window 1's block lies. -/
theorem emb1 (t : Fin cfg0.N) (y : S1.Idx) : (win0_1.blk t).view.emb y = ValueIdx.ix3 (plane t) (y 1) (y 2) := by
  have e : ∀ t : Fin cfg0.N, win0_1.index t = ![t.val, 0, 0] := (by decide +kernel : ∀ t : Fin grid0.N, _)
  blk_ext [e, plane]

/-- Window 1's block is its plane. -/
theorem block1 (c : Dev nD) (A : Fin 4 → Plane) (h : m ((c : Thread nD τ).loc main_arg1) = stack A) (t : Fin cfg0.N) :
    iblk m c 1 t = blk (A (plane t)) := by
  funext y
  blk_simp [iblk]
  rw [V_main_arg1, h, emb1]
  rfl

/-- Where window 2's block lies. -/
theorem emb2 (t : Fin cfg0.N) (y : S1.Idx) : (win0_2.blk t).view.emb y = ValueIdx.ix3 (plane t) (y 1) (y 2) := by
  have e : ∀ t : Fin cfg0.N, win0_2.index t = ![t.val, 0, 0] := (by decide +kernel : ∀ t : Fin grid0.N, _)
  blk_ext [e, plane]

/-- Window 2's block is its plane. -/
theorem block2 (c : Dev nD) (A : Fin 4 → Plane) (h : m ((c : Thread nD τ).loc main_arg2) = stack A) (t : Fin cfg0.N) :
    iblk m c 2 t = blk (A (plane t)) := by
  funext y
  blk_simp [iblk]
  rw [V_main_arg2, h, emb2]
  rfl

/-- Where window 3's block lies. -/
theorem emb3 (t : Fin cfg0.N) (y : S1.Idx) : (win0_3.blk t).view.emb y = ValueIdx.ix3 (plane t) (y 1) (y 2) := by
  have e : ∀ t : Fin cfg0.N, win0_3.index t = ![t.val, 0, 0] := (by decide +kernel : ∀ t : Fin grid0.N, _)
  blk_ext [e, plane]

/-- Window 3's block is its plane. -/
theorem block3 (c : Dev nD) (A : Fin 4 → Plane) (h : m ((c : Thread nD τ).loc main_arg3) = stack A) (t : Fin cfg0.N) :
    iblk m c 3 t = blk (A (plane t)) := by
  funext y
  blk_simp [iblk]
  rw [V_main_arg3, h, emb3]
  rfl

/-- Where window 4's block lies. -/
theorem emb4 (t : Fin cfg0.N) (y : S1.Idx) : (win0_4.blk t).view.emb y = ValueIdx.ix3 (plane t) (y 1) (y 2) := by
  have e : ∀ t : Fin cfg0.N, win0_4.index t = ![t.val, 0, 0] := (by decide +kernel : ∀ t : Fin grid0.N, _)
  blk_ext [e, plane]

/-- Window 4's block is its plane. -/
theorem block4 (c : Dev nD) (A : Fin 4 → Plane) (h : m ((c : Thread nD τ).loc main_arg4) = stack A) (t : Fin cfg0.N) :
    iblk m c 4 t = blk (A (plane t)) := by
  funext y
  blk_simp [iblk]
  rw [V_main_arg4, h, emb4]
  rfl

/-- Where window 5's block lies. -/
theorem emb5 (t : Fin cfg0.N) (y : S1.Idx) : (win0_5.blk t).view.emb y = ValueIdx.ix3 (plane t) (y 1) (y 2) := by
  have e : ∀ t : Fin cfg0.N, win0_5.index t = ![t.val, 0, 0] := (by decide +kernel : ∀ t : Fin grid0.N, _)
  blk_ext [e, plane]

/-- Window 5's block is its plane. -/
theorem block5 (c : Dev nD) (A : Fin 4 → Plane) (h : m ((c : Thread nD τ).loc main_arg5) = stack A) (t : Fin cfg0.N) :
    iblk m c 5 t = blk (A (plane t)) := by
  funext y
  blk_simp [iblk]
  rw [V_main_arg5, h, emb5]
  rfl

/-- Window 6's block is the whole argument. -/
theorem block6 (c : Dev nD) (A : Plane) (h : m ((c : Thread nD τ).loc main_arg6) = up A) (t : Fin cfg0.N) : iblk m c 6 t = up A := by
  have e : ∀ t : Fin cfg0.N, win0_6.index t = ![0, 0] := (by decide +kernel : ∀ t : Fin grid0.N, _)
  funext y
  have k : (win0_6.blk t).view.emb y = y := by blk_ext [e]
  blk_simp [iblk]
  rw [V_main_arg6, h, k]

/-- Window 7's block is the whole argument. -/
theorem block7 (c : Dev nD) (A : Plane) (h : m ((c : Thread nD τ).loc main_arg7) = up A) (t : Fin cfg0.N) : iblk m c 7 t = up A := by
  have e : ∀ t : Fin cfg0.N, win0_7.index t = ![0, 0] := (by decide +kernel : ∀ t : Fin grid0.N, _)
  funext y
  have k : (win0_7.blk t).view.emb y = y := by blk_ext [e]
  blk_simp [iblk]
  rw [V_main_arg7, h, k]

/-- Window 8's block is the whole table. -/
theorem block8 (c : Dev nD) (t : Fin cfg0.N) : iblk m c 8 t = up cosTable := by
  have e : ∀ t : Fin cfg0.N, win0_8.index t = ![0, 0] := (by decide +kernel : ∀ t : Fin grid0.N, _)
  funext y
  have k : (win0_8.blk t).view.emb y = y := by blk_ext [e]
  blk_simp [iblk]
  rw [V_C, k]

/-- Window 9's block is the whole table. -/
theorem block9 (c : Dev nD) (t : Fin cfg0.N) : iblk m c 9 t = up sinTable := by
  have e : ∀ t : Fin cfg0.N, win0_9.index t = ![0, 0] := (by decide +kernel : ∀ t : Fin grid0.N, _)
  funext y
  have k : (win0_9.blk t).view.emb y = y := by blk_ext [e]
  blk_simp [iblk]
  rw [V_S, k]

/-- Window 10's block is the whole table. -/
theorem block10 (c : Dev nD) (t : Fin cfg0.N) : iblk m c 10 t = up (cosTable - sinTable) := by
  have e : ∀ t : Fin cfg0.N, win0_10.index t = ![0, 0] := (by decide +kernel : ∀ t : Fin grid0.N, _)
  funext y
  have k : (win0_10.blk t).view.emb y = y := by blk_ext [e]
  blk_simp [iblk]
  rw [V_D, k]

/-- Window 11's block is the whole table. -/
theorem block11 (c : Dev nD) (t : Fin cfg0.N) : iblk m c 11 t = up (cosTable + sinTable) := by
  have e : ∀ t : Fin cfg0.N, win0_11.index t = ![0, 0] := (by decide +kernel : ∀ t : Fin grid0.N, _)
  funext y
  have k : (win0_11.blk t).view.emb y = y := by blk_ext [e]
  blk_simp [iblk]
  rw [V_E, k]

/-- Where window 12's block lies. -/
theorem emb12 (t : Fin cfg0.N) (y : S1.Idx) : (win0_12.blk t).view.emb y = ValueIdx.ix3 (plane t) (y 1) (y 2) := by
  have e : ∀ t : Fin cfg0.N, win0_12.index t = ![t.val, 0, 0] := (by decide +kernel : ∀ t : Fin grid0.N, _)
  blk_ext [e, plane]

/-- Where window 13's block lies. -/
theorem emb13 (t : Fin cfg0.N) (y : S1.Idx) : (win0_13.blk t).view.emb y = ValueIdx.ix3 (plane t) (y 1) (y 2) := by
  have e : ∀ t : Fin cfg0.N, win0_13.index t = ![t.val, 0, 0] := (by decide +kernel : ∀ t : Fin grid0.N, _)
  blk_ext [e, plane]

/-- Where window 14's block lies. -/
theorem emb14 (t : Fin cfg0.N) (y : S1.Idx) : (win0_14.blk t).view.emb y = ValueIdx.ix3 (plane t) (y 1) (y 2) := by
  have e : ∀ t : Fin cfg0.N, win0_14.index t = ![t.val, 0, 0] := (by decide +kernel : ∀ t : Fin grid0.N, _)
  blk_ext [e, plane]

/-- Where window 15's block lies. -/
theorem emb15 (t : Fin cfg0.N) (y : S1.Idx) : (win0_15.blk t).view.emb y = ValueIdx.ix3 (plane t) (y 1) (y 2) := by
  have e : ∀ t : Fin cfg0.N, win0_15.index t = ![t.val, 0, 0] := (by decide +kernel : ∀ t : Fin grid0.N, _)
  blk_ext [e, plane]

/-- Where window 16's block lies. -/
theorem emb16 (t : Fin cfg0.N) (y : S1.Idx) : (win0_16.blk t).view.emb y = ValueIdx.ix3 (plane t) (y 1) (y 2) := by
  have e : ∀ t : Fin cfg0.N, win0_16.index t = ![t.val, 0, 0] := (by decide +kernel : ∀ t : Fin grid0.N, _)
  blk_ext [e, plane]

/-- Where window 17's block lies. -/
theorem emb17 (t : Fin cfg0.N) (y : S1.Idx) : (win0_17.blk t).view.emb y = ValueIdx.ix3 (plane t) (y 1) (y 2) := by
  have e : ∀ t : Fin cfg0.N, win0_17.index t = ![t.val, 0, 0] := (by decide +kernel : ∀ t : Fin grid0.N, _)
  blk_ext [e, plane]

/-- Where window 18's block lies. -/
theorem emb18 (t : Fin cfg0.N) (y : S1.Idx) : (win0_18.blk t).view.emb y = ValueIdx.ix3 (plane t) (y 1) (y 2) := by
  have e : ∀ t : Fin cfg0.N, win0_18.index t = ![t.val, 0, 0] := (by decide +kernel : ∀ t : Fin grid0.N, _)
  blk_ext [e, plane]

/-- A whole square block is read as it stands. -/
theorem ld_square (x : Vec Ideal S512x512 .f32) : View.ld x r0_0 = x :=
  View.ld_unit_zero (by funext i; fin_cases i <;> rfl) _ x
/-- A whole plane block is read as it stands. -/
theorem ld_plane (x : Vec Ideal S1x512x512 .f32) : View.ld x r0_1 = x :=
  View.ld_unit_zero (by funext i; fin_cases i <;> rfl) _ x

variable (a : Args)

/-- The cosine table in the body. -/
theorem p45 : (k0_pay45 (F := Ideal) (blk a.xr) (blk a.xi) (blk a.br) (blk a.bi) (blk a.hr) (blk a.hi) (up a.tr) (up a.ti) (up cosTable) (up sinTable) (up (cosTable - sinTable)) (up (cosTable + sinTable))) = up cosTable := by
  unfold k0_pay45 k0_pay2
  dsimp only
  rw [ld_square, shapeCast_self]

/-- The sine table in the body. -/
theorem p46 : (k0_pay46 (F := Ideal) (blk a.xr) (blk a.xi) (blk a.br) (blk a.bi) (blk a.hr) (blk a.hi) (up a.tr) (up a.ti) (up cosTable) (up sinTable) (up (cosTable - sinTable)) (up (cosTable + sinTable))) = up sinTable := by
  unfold k0_pay46 k0_pay3
  dsimp only
  rw [ld_square, shapeCast_self]

/-- The difference of the tables in the body. -/
theorem p70 : k0_pay28 (F := Ideal) (up (cosTable - sinTable)) = up (cosTable - sinTable) := by
  unfold k0_pay28
  dsimp only
  rw [shapeCast_self]

/-- The propagated object in the body, real part. -/
theorem e6 : k0_pay6 (F := Ideal) (up a.tr) (up a.ti) (blk a.xr) (blk a.xi) = up a.pRe := by
  unfold k0_pay6 k0_pay4 k0_pay5
  dsimp only
  simp only [shapeCast_up]
  rw [mulf_up, mulf_up, subf_up]
  rfl

/-- The propagated object in the body, imaginary part. -/
theorem e7 : k0_pay7 (F := Ideal) (up a.tr) (up a.ti) (blk a.xr) (blk a.xi) = up a.pIm := by
  unfold k0_pay7 k0_pay4 k0_pay5
  dsimp only
  simp only [shapeCast_up]
  rw [mulf_up, mulf_up, addf_up]
  rfl

/-- The propagated object kept for later, real part. -/
theorem p47 : (k0_pay47 (F := Ideal) (blk a.xr) (blk a.xi) (blk a.br) (blk a.bi) (blk a.hr) (blk a.hi) (up a.tr) (up a.ti) (up cosTable) (up sinTable) (up (cosTable - sinTable)) (up (cosTable + sinTable))) = up a.pRe := by
  unfold k0_pay47
  simp only [ld_square, ld_plane]
  exact e6 a

/-- The propagated object kept for later, imaginary part. -/
theorem p48 : (k0_pay48 (F := Ideal) (blk a.xr) (blk a.xi) (blk a.br) (blk a.bi) (blk a.hr) (blk a.hi) (up a.tr) (up a.ti) (up cosTable) (up sinTable) (up (cosTable - sinTable)) (up (cosTable + sinTable))) = up a.pIm := by
  unfold k0_pay48
  simp only [ld_square, ld_plane]
  exact e7 a

/-- The sum inverted, real part. -/
theorem e8 : k0_pay8 (F := Ideal) (up a.tr) (up a.ti) (blk a.xr) (blk a.xi) (blk a.br) = up (a.pRe + a.br) := by
  unfold k0_pay8
  dsimp only
  rw [e6, shapeCast_up, addf_up]

/-- The sum inverted, imaginary part. -/
theorem e9 : k0_pay9 (F := Ideal) (up a.tr) (up a.ti) (blk a.xr) (blk a.xi) (blk a.bi) = up (a.pIm + a.bi) := by
  unfold k0_pay9
  dsimp only
  rw [e7, shapeCast_up, addf_up]

/-- The field in the body, real part. -/
theorem e17 : k0_pay17 (F := Ideal) (k0_pay46 (F := Ideal) (blk a.xr) (blk a.xi) (blk a.br) (blk a.bi) (blk a.hr) (blk a.hi) (up a.tr) (up a.ti) (up cosTable) (up sinTable) (up (cosTable - sinTable)) (up (cosTable + sinTable))) (k0_pay51 (F := Ideal) (blk a.xr) (blk a.xi) (blk a.br) (blk a.bi) (blk a.hr) (blk a.hi) (up a.tr) (up a.ti) (up cosTable) (up sinTable) (up (cosTable - sinTable)) (up (cosTable + sinTable))) (k0_pay52 (F := Ideal) (blk a.xr) (blk a.xi) (blk a.br) (blk a.bi) (blk a.hr) (blk a.hi) (up a.tr) (up a.ti) (up cosTable) (up sinTable) (up (cosTable - sinTable)) (up (cosTable + sinTable))) (k0_pay44 (F := Ideal) (blk a.xr) (blk a.xi) (blk a.br) (blk a.bi) (blk a.hr) (blk a.hi) (up a.tr) (up a.ti) (up cosTable) (up sinTable) (up (cosTable - sinTable)) (up (cosTable + sinTable))) = up a.uRe := by
  have k : k0_pay17 (F := Ideal) (k0_pay3 (up sinTable)) (k0_pay14 (up cosTable) (up sinTable) (up a.tr) (up a.ti) (blk a.xr) (blk a.xi) (blk a.br) (blk a.bi) (up (cosTable + sinTable))) (k0_pay15 (up cosTable) (up sinTable) (up a.tr) (up a.ti) (blk a.xr) (blk a.xi) (blk a.br) (blk a.bi)) (constant S512x512 .f32 0x00000000#32)
    = ifftRe (k0_pay8 (F := Ideal) (up a.tr) (up a.ti) (blk a.xr) (blk a.xi) (blk a.br)) (k0_pay9 (F := Ideal) (up a.tr) (up a.ti) (blk a.xr) (blk a.xi) (blk a.bi))
      (shapeCast S2 (up cosTable) shapeCasts_S512x512_S512x512) (shapeCast S2 (up sinTable) shapeCasts_S512x512_S512x512) (shapeCast S2 (up (cosTable + sinTable)) shapeCasts_S512x512_S512x512) := rfl
  unfold k0_pay44 k0_pay46 k0_pay51 k0_pay52
  simp only [ld_square, ld_plane]
  rw [k, e8, e9]
  simp only [shapeCast_self]
  rw [ifftRe_up, a.uRe_once]

/-- The field in the body, imaginary part. -/
theorem e18 : k0_pay18 (F := Ideal) (k0_pay46 (F := Ideal) (blk a.xr) (blk a.xi) (blk a.br) (blk a.bi) (blk a.hr) (blk a.hi) (up a.tr) (up a.ti) (up cosTable) (up sinTable) (up (cosTable - sinTable)) (up (cosTable + sinTable))) (k0_pay49 (F := Ideal) (blk a.xr) (blk a.xi) (blk a.br) (blk a.bi) (blk a.hr) (blk a.hi) (up a.tr) (up a.ti) (up cosTable) (up sinTable) (up (cosTable - sinTable)) (up (cosTable + sinTable))) (k0_pay50 (F := Ideal) (blk a.xr) (blk a.xi) (blk a.br) (blk a.bi) (blk a.hr) (blk a.hi) (up a.tr) (up a.ti) (up cosTable) (up sinTable) (up (cosTable - sinTable)) (up (cosTable + sinTable))) (k0_pay51 (F := Ideal) (blk a.xr) (blk a.xi) (blk a.br) (blk a.bi) (blk a.hr) (blk a.hi) (up a.tr) (up a.ti) (up cosTable) (up sinTable) (up (cosTable - sinTable)) (up (cosTable + sinTable))) (k0_pay52 (F := Ideal) (blk a.xr) (blk a.xi) (blk a.br) (blk a.bi) (blk a.hr) (blk a.hi) (up a.tr) (up a.ti) (up cosTable) (up sinTable) (up (cosTable - sinTable)) (up (cosTable + sinTable))) (k0_pay44 (F := Ideal) (blk a.xr) (blk a.xi) (blk a.br) (blk a.bi) (blk a.hr) (blk a.hi) (up a.tr) (up a.ti) (up cosTable) (up sinTable) (up (cosTable - sinTable)) (up (cosTable + sinTable))) = up a.uIm := by
  have k : k0_pay18 (F := Ideal) (k0_pay3 (up sinTable)) (k0_pay10 (up (cosTable + sinTable))) (k0_pay13 (up cosTable) (up sinTable) (up a.tr) (up a.ti) (blk a.xr) (blk a.xi) (blk a.br) (blk a.bi)) (k0_pay14 (up cosTable) (up sinTable) (up a.tr) (up a.ti) (blk a.xr) (blk a.xi) (blk a.br) (blk a.bi) (up (cosTable + sinTable))) (k0_pay15 (up cosTable) (up sinTable) (up a.tr) (up a.ti) (blk a.xr) (blk a.xi) (blk a.br) (blk a.bi)) (constant S512x512 .f32 0x00000000#32)
    = ifftIm (k0_pay8 (F := Ideal) (up a.tr) (up a.ti) (blk a.xr) (blk a.xi) (blk a.br)) (k0_pay9 (F := Ideal) (up a.tr) (up a.ti) (blk a.xr) (blk a.xi) (blk a.bi))
      (shapeCast S2 (up cosTable) shapeCasts_S512x512_S512x512) (shapeCast S2 (up sinTable) shapeCasts_S512x512_S512x512) (shapeCast S2 (up (cosTable + sinTable)) shapeCasts_S512x512_S512x512) := rfl
  unfold k0_pay44 k0_pay46 k0_pay49 k0_pay50 k0_pay51 k0_pay52
  simp only [ld_square, ld_plane]
  rw [k, e8, e9]
  simp only [shapeCast_self]
  rw [ifftIm_up, a.uIm_once]

/-- The modulus divided by, in the body. -/
theorem e19 : k0_pay19 (F := Ideal) (k0_pay46 (F := Ideal) (blk a.xr) (blk a.xi) (blk a.br) (blk a.bi) (blk a.hr) (blk a.hi) (up a.tr) (up a.ti) (up cosTable) (up sinTable) (up (cosTable - sinTable)) (up (cosTable + sinTable))) (k0_pay49 (F := Ideal) (blk a.xr) (blk a.xi) (blk a.br) (blk a.bi) (blk a.hr) (blk a.hi) (up a.tr) (up a.ti) (up cosTable) (up sinTable) (up (cosTable - sinTable)) (up (cosTable + sinTable))) (k0_pay50 (F := Ideal) (blk a.xr) (blk a.xi) (blk a.br) (blk a.bi) (blk a.hr) (blk a.hi) (up a.tr) (up a.ti) (up cosTable) (up sinTable) (up (cosTable - sinTable)) (up (cosTable + sinTable))) (k0_pay51 (F := Ideal) (blk a.xr) (blk a.xi) (blk a.br) (blk a.bi) (blk a.hr) (blk a.hi) (up a.tr) (up a.ti) (up cosTable) (up sinTable) (up (cosTable - sinTable)) (up (cosTable + sinTable))) (k0_pay52 (F := Ideal) (blk a.xr) (blk a.xi) (blk a.br) (blk a.bi) (blk a.hr) (blk a.hi) (up a.tr) (up a.ti) (up cosTable) (up sinTable) (up (cosTable - sinTable)) (up (cosTable + sinTable))) (k0_pay44 (F := Ideal) (blk a.xr) (blk a.xi) (blk a.br) (blk a.bi) (blk a.hr) (blk a.hi) (up a.tr) (up a.ti) (up cosTable) (up sinTable) (up (cosTable - sinTable)) (up (cosTable + sinTable))) = up a.size := by
  unfold k0_pay19
  dsimp only
  rw [e17, e18, modulus_up]
  exact (congrArg₂ addf rfl (broadcast_up tiny _ ofBits_is_tiny)).trans (addf_up _ _)

/-- The phase factor in the body, real part. -/
theorem e20 : k0_pay20 (F := Ideal) (k0_pay46 (F := Ideal) (blk a.xr) (blk a.xi) (blk a.br) (blk a.bi) (blk a.hr) (blk a.hi) (up a.tr) (up a.ti) (up cosTable) (up sinTable) (up (cosTable - sinTable)) (up (cosTable + sinTable))) (k0_pay49 (F := Ideal) (blk a.xr) (blk a.xi) (blk a.br) (blk a.bi) (blk a.hr) (blk a.hi) (up a.tr) (up a.ti) (up cosTable) (up sinTable) (up (cosTable - sinTable)) (up (cosTable + sinTable))) (k0_pay50 (F := Ideal) (blk a.xr) (blk a.xi) (blk a.br) (blk a.bi) (blk a.hr) (blk a.hi) (up a.tr) (up a.ti) (up cosTable) (up sinTable) (up (cosTable - sinTable)) (up (cosTable + sinTable))) (k0_pay51 (F := Ideal) (blk a.xr) (blk a.xi) (blk a.br) (blk a.bi) (blk a.hr) (blk a.hi) (up a.tr) (up a.ti) (up cosTable) (up sinTable) (up (cosTable - sinTable)) (up (cosTable + sinTable))) (k0_pay52 (F := Ideal) (blk a.xr) (blk a.xi) (blk a.br) (blk a.bi) (blk a.hr) (blk a.hi) (up a.tr) (up a.ti) (up cosTable) (up sinTable) (up (cosTable - sinTable)) (up (cosTable + sinTable))) (k0_pay44 (F := Ideal) (blk a.xr) (blk a.xi) (blk a.br) (blk a.bi) (blk a.hr) (blk a.hi) (up a.tr) (up a.ti) (up cosTable) (up sinTable) (up (cosTable - sinTable)) (up (cosTable + sinTable))) = up a.wRe := by
  unfold k0_pay20
  dsimp only
  rw [e17, e19]
  exact divf_up _ _ a.size_ne

/-- The phase factor in the body, imaginary part. -/
theorem e21 : k0_pay21 (F := Ideal) (k0_pay46 (F := Ideal) (blk a.xr) (blk a.xi) (blk a.br) (blk a.bi) (blk a.hr) (blk a.hi) (up a.tr) (up a.ti) (up cosTable) (up sinTable) (up (cosTable - sinTable)) (up (cosTable + sinTable))) (k0_pay49 (F := Ideal) (blk a.xr) (blk a.xi) (blk a.br) (blk a.bi) (blk a.hr) (blk a.hi) (up a.tr) (up a.ti) (up cosTable) (up sinTable) (up (cosTable - sinTable)) (up (cosTable + sinTable))) (k0_pay50 (F := Ideal) (blk a.xr) (blk a.xi) (blk a.br) (blk a.bi) (blk a.hr) (blk a.hi) (up a.tr) (up a.ti) (up cosTable) (up sinTable) (up (cosTable - sinTable)) (up (cosTable + sinTable))) (k0_pay51 (F := Ideal) (blk a.xr) (blk a.xi) (blk a.br) (blk a.bi) (blk a.hr) (blk a.hi) (up a.tr) (up a.ti) (up cosTable) (up sinTable) (up (cosTable - sinTable)) (up (cosTable + sinTable))) (k0_pay52 (F := Ideal) (blk a.xr) (blk a.xi) (blk a.br) (blk a.bi) (blk a.hr) (blk a.hi) (up a.tr) (up a.ti) (up cosTable) (up sinTable) (up (cosTable - sinTable)) (up (cosTable + sinTable))) (k0_pay44 (F := Ideal) (blk a.xr) (blk a.xi) (blk a.br) (blk a.bi) (blk a.hr) (blk a.hi) (up a.tr) (up a.ti) (up cosTable) (up sinTable) (up (cosTable - sinTable)) (up (cosTable + sinTable))) = up a.wIm := by
  unfold k0_pay21
  dsimp only
  rw [e18, e19]
  exact divf_up _ _ a.size_ne

/-- The phase factor kept for later. -/
theorem p53 : (k0_pay53 (F := Ideal) (blk a.xr) (blk a.xi) (blk a.br) (blk a.bi) (blk a.hr) (blk a.hi) (up a.tr) (up a.ti) (up cosTable) (up sinTable) (up (cosTable - sinTable)) (up (cosTable + sinTable))) = up a.wRe := by
  unfold k0_pay53
  exact e20 a

/-- The measurement with the phase, real part. -/
theorem p54 : (k0_pay54 (F := Ideal) (blk a.xr) (blk a.xi) (blk a.br) (blk a.bi) (blk a.hr) (blk a.hi) (up a.tr) (up a.ti) (up cosTable) (up sinTable) (up (cosTable - sinTable)) (up (cosTable + sinTable))) = up a.qRe := by
  unfold k0_pay54 k0_pay24
  dsimp only
  rw [e20, e21, ld_plane, ld_plane, shapeCast_up, shapeCast_up, mulf_up, mulf_up, subf_up]
  rfl

/-- A term of the measurement with the phase, imaginary part. -/
theorem p55 : (k0_pay55 (F := Ideal) (blk a.xr) (blk a.xi) (blk a.br) (blk a.bi) (blk a.hr) (blk a.hi) (up a.tr) (up a.ti) (up cosTable) (up sinTable) (up (cosTable - sinTable)) (up (cosTable + sinTable))) = up (had a.hr a.wIm) := by
  unfold k0_pay55 k0_pay25
  dsimp only
  rw [e21, ld_plane, shapeCast_up, mulf_up]

/-- The imaginary part of the measurement. -/
theorem p56 : (k0_pay56 (F := Ideal) (blk a.xr) (blk a.xi) (blk a.br) (blk a.bi) (blk a.hr) (blk a.hi) (up a.tr) (up a.ti) (up cosTable) (up sinTable) (up (cosTable - sinTable)) (up (cosTable + sinTable))) = up a.hi := by
  unfold k0_pay56 k0_pay26
  dsimp only
  rw [ld_plane, shapeCast_up]

/-- The measurement with the phase, imaginary part. -/
theorem e27 : k0_pay27 (F := Ideal) (up a.wRe) (up (had a.hr a.wIm)) (up a.hi) = up a.qIm := by
  unfold k0_pay27
  dsimp only
  rw [mulf_up, addf_up]
  rfl

/-- The transform in the body. -/
theorem e35 : k0_pay35 (F := Ideal) (up cosTable) (up sinTable) (up a.wRe) (up a.qRe) (up (had a.hr a.wIm)) (up a.hi) (up (cosTable - sinTable)) = up a.fRe := by
  have k : k0_pay35 (F := Ideal) (up cosTable) (up sinTable) (up a.wRe) (up a.qRe) (up (had a.hr a.wIm)) (up a.hi) (up (cosTable - sinTable))
    = fftRe (up a.qRe) (k0_pay27 (F := Ideal) (up a.wRe) (up (had a.hr a.wIm)) (up a.hi)) (up cosTable) (up sinTable) (k0_pay28 (F := Ideal) (up (cosTable - sinTable))) := rfl
  rw [k, e27, p70, fftRe_up]
  rfl

/-- The transform in the body. -/
theorem e36 : k0_pay36 (F := Ideal) (up cosTable) (up sinTable) (up a.wRe) (up a.qRe) (up (had a.hr a.wIm)) (up a.hi) (up (cosTable - sinTable)) = up a.fIm := by
  have k : k0_pay36 (F := Ideal) (up cosTable) (up sinTable) (up a.wRe) (up a.qRe) (up (had a.hr a.wIm)) (up a.hi) (up (cosTable - sinTable))
    = fftIm (up a.qRe) (k0_pay27 (F := Ideal) (up a.wRe) (up (had a.hr a.wIm)) (up a.hi)) (up cosTable) (up sinTable) (k0_pay28 (F := Ideal) (up (cosTable - sinTable))) := rfl
  rw [k, e27, p70, fftIm_up]
  rfl

/-- The transform of what remains, in the body. -/
theorem e39 : k0_pay39 (F := Ideal) (up cosTable) (up sinTable) (up a.pRe) (up a.wRe) (up a.qRe) (up (had a.hr a.wIm)) (up a.hi) (up (cosTable - sinTable)) = up a.bRe := by
  unfold k0_pay39
  dsimp only
  rw [e35, subf_up, a.bRe_once]

/-- The transform of what remains, in the body. -/
theorem e40 : k0_pay40 (F := Ideal) (up cosTable) (up sinTable) (up a.pIm) (up a.wRe) (up a.qRe) (up (had a.hr a.wIm)) (up a.hi) (up (cosTable - sinTable)) = up a.bIm := by
  unfold k0_pay40
  dsimp only
  rw [e36, subf_up, a.bIm_once]

/-- What the body leaves for this result, of real blocks. -/
theorem out12_up : out0_12 (F := Ideal) (blk a.xr) (blk a.xi) (blk a.br) (blk a.bi) (blk a.hr) (blk a.hi) (up a.tr) (up a.ti) (up cosTable) (up sinTable) (up (cosTable - sinTable)) (up (cosTable + sinTable)) = blk (a.wRe) := by
  unfold out0_12
  frame_out
  unfold k0_pay22
  dsimp only
  rw [e20, shapeCast_blk]

/-- The result array after the run. -/
theorem final12 (c : Dev nD) (a : Fin 4 → Args)
    (h0 : m ((c : Thread nD τ).loc main_arg0) = stack (fun n => (a n).xr))
    (h1 : m ((c : Thread nD τ).loc main_arg1) = stack (fun n => (a n).xi))
    (h2 : m ((c : Thread nD τ).loc main_arg2) = stack (fun n => (a n).br))
    (h3 : m ((c : Thread nD τ).loc main_arg3) = stack (fun n => (a n).bi))
    (h4 : m ((c : Thread nD τ).loc main_arg4) = stack (fun n => (a n).hr))
    (h5 : m ((c : Thread nD τ).loc main_arg5) = stack (fun n => (a n).hi))
    (tr ti : Plane) (h6 : m ((c : Thread nD τ).loc main_arg6) = up tr) (h7 : m ((c : Thread nD τ).loc main_arg7) = up ti)
    (htr : ∀ n, (a n).tr = tr) (hti : ∀ n, (a n).ti = ti) :
    (dats m 0 c).arrAt 12 cfg0.N = stack (fun n => (a n).wRe) := by
  refine (dats m 0 c).arrAt_eq_of_covers 12 _ (by decide +kernel) fun t hf y => ?_
  blk_simp
  rw [after0_12, block0 m c _ h0, block1 m c _ h1, block2 m c _ h2, block3 m c _ h3, block4 m c _ h4, block5 m c _ h5,
    block6 m c _ h6, block7 m c _ h7, block8 m c, block9 m c, block10 m c, block11 m c,
    ← htr (plane t), ← hti (plane t), out12_up]
  rw [emb12]
  rfl

/-- What the body leaves for this result, of real blocks. -/
theorem out13_up : out0_13 (F := Ideal) (blk a.xr) (blk a.xi) (blk a.br) (blk a.bi) (blk a.hr) (blk a.hi) (up a.tr) (up a.ti) (up cosTable) (up sinTable) (up (cosTable - sinTable)) (up (cosTable + sinTable)) = blk (a.wIm) := by
  unfold out0_13
  frame_out
  unfold k0_pay23
  dsimp only
  rw [e21, shapeCast_blk]

/-- The result array after the run. -/
theorem final13 (c : Dev nD) (a : Fin 4 → Args)
    (h0 : m ((c : Thread nD τ).loc main_arg0) = stack (fun n => (a n).xr))
    (h1 : m ((c : Thread nD τ).loc main_arg1) = stack (fun n => (a n).xi))
    (h2 : m ((c : Thread nD τ).loc main_arg2) = stack (fun n => (a n).br))
    (h3 : m ((c : Thread nD τ).loc main_arg3) = stack (fun n => (a n).bi))
    (h4 : m ((c : Thread nD τ).loc main_arg4) = stack (fun n => (a n).hr))
    (h5 : m ((c : Thread nD τ).loc main_arg5) = stack (fun n => (a n).hi))
    (tr ti : Plane) (h6 : m ((c : Thread nD τ).loc main_arg6) = up tr) (h7 : m ((c : Thread nD τ).loc main_arg7) = up ti)
    (htr : ∀ n, (a n).tr = tr) (hti : ∀ n, (a n).ti = ti) :
    (dats m 0 c).arrAt 13 cfg0.N = stack (fun n => (a n).wIm) := by
  refine (dats m 0 c).arrAt_eq_of_covers 13 _ (by decide +kernel) fun t hf y => ?_
  blk_simp
  rw [after0_13, block0 m c _ h0, block1 m c _ h1, block2 m c _ h2, block3 m c _ h3, block4 m c _ h4, block5 m c _ h5,
    block6 m c _ h6, block7 m c _ h7, block8 m c, block9 m c, block10 m c, block11 m c,
    ← htr (plane t), ← hti (plane t), out13_up]
  rw [emb13]
  rfl

/-- What the body leaves for this result, of real blocks. -/
theorem out14_up : out0_14 (F := Ideal) (blk a.xr) (blk a.xi) (blk a.br) (blk a.bi) (blk a.hr) (blk a.hi) (up a.tr) (up a.ti) (up cosTable) (up sinTable) (up (cosTable - sinTable)) (up (cosTable + sinTable)) = blk (a.fRe) := by
  unfold out0_14
  frame_out
  unfold k0_pay37
  dsimp only
  rw [p45, p46, p53, p54, p55, p56, e35, shapeCast_blk]

/-- The result array after the run. -/
theorem final14 (c : Dev nD) (a : Fin 4 → Args)
    (h0 : m ((c : Thread nD τ).loc main_arg0) = stack (fun n => (a n).xr))
    (h1 : m ((c : Thread nD τ).loc main_arg1) = stack (fun n => (a n).xi))
    (h2 : m ((c : Thread nD τ).loc main_arg2) = stack (fun n => (a n).br))
    (h3 : m ((c : Thread nD τ).loc main_arg3) = stack (fun n => (a n).bi))
    (h4 : m ((c : Thread nD τ).loc main_arg4) = stack (fun n => (a n).hr))
    (h5 : m ((c : Thread nD τ).loc main_arg5) = stack (fun n => (a n).hi))
    (tr ti : Plane) (h6 : m ((c : Thread nD τ).loc main_arg6) = up tr) (h7 : m ((c : Thread nD τ).loc main_arg7) = up ti)
    (htr : ∀ n, (a n).tr = tr) (hti : ∀ n, (a n).ti = ti) :
    (dats m 0 c).arrAt 14 cfg0.N = stack (fun n => (a n).fRe) := by
  refine (dats m 0 c).arrAt_eq_of_covers 14 _ (by decide +kernel) fun t hf y => ?_
  blk_simp
  rw [after0_14, block0 m c _ h0, block1 m c _ h1, block2 m c _ h2, block3 m c _ h3, block4 m c _ h4, block5 m c _ h5,
    block6 m c _ h6, block7 m c _ h7, block8 m c, block9 m c, block10 m c, block11 m c,
    ← htr (plane t), ← hti (plane t), out14_up]
  rw [emb14]
  rfl

/-- What the body leaves for this result, of real blocks. -/
theorem out15_up : out0_15 (F := Ideal) (blk a.xr) (blk a.xi) (blk a.br) (blk a.bi) (blk a.hr) (blk a.hi) (up a.tr) (up a.ti) (up cosTable) (up sinTable) (up (cosTable - sinTable)) (up (cosTable + sinTable)) = blk (a.fIm) := by
  unfold out0_15
  frame_out
  unfold k0_pay38
  dsimp only
  rw [p45, p46, p53, p54, p55, p56, e36, shapeCast_blk]

/-- The result array after the run. -/
theorem final15 (c : Dev nD) (a : Fin 4 → Args)
    (h0 : m ((c : Thread nD τ).loc main_arg0) = stack (fun n => (a n).xr))
    (h1 : m ((c : Thread nD τ).loc main_arg1) = stack (fun n => (a n).xi))
    (h2 : m ((c : Thread nD τ).loc main_arg2) = stack (fun n => (a n).br))
    (h3 : m ((c : Thread nD τ).loc main_arg3) = stack (fun n => (a n).bi))
    (h4 : m ((c : Thread nD τ).loc main_arg4) = stack (fun n => (a n).hr))
    (h5 : m ((c : Thread nD τ).loc main_arg5) = stack (fun n => (a n).hi))
    (tr ti : Plane) (h6 : m ((c : Thread nD τ).loc main_arg6) = up tr) (h7 : m ((c : Thread nD τ).loc main_arg7) = up ti)
    (htr : ∀ n, (a n).tr = tr) (hti : ∀ n, (a n).ti = ti) :
    (dats m 0 c).arrAt 15 cfg0.N = stack (fun n => (a n).fIm) := by
  refine (dats m 0 c).arrAt_eq_of_covers 15 _ (by decide +kernel) fun t hf y => ?_
  blk_simp
  rw [after0_15, block0 m c _ h0, block1 m c _ h1, block2 m c _ h2, block3 m c _ h3, block4 m c _ h4, block5 m c _ h5,
    block6 m c _ h6, block7 m c _ h7, block8 m c, block9 m c, block10 m c, block11 m c,
    ← htr (plane t), ← hti (plane t), out15_up]
  rw [emb15]
  rfl

/-- What the body leaves for this result, of real blocks. -/
theorem out16_up : out0_16 (F := Ideal) (blk a.xr) (blk a.xi) (blk a.br) (blk a.bi) (blk a.hr) (blk a.hi) (up a.tr) (up a.ti) (up cosTable) (up sinTable) (up (cosTable - sinTable)) (up (cosTable + sinTable)) = blk (a.bRe) := by
  unfold out0_16
  frame_out
  unfold k0_pay41
  dsimp only
  rw [p45, p46, p47, p53, p54, p55, p56, e39, shapeCast_blk]

/-- The result array after the run. -/
theorem final16 (c : Dev nD) (a : Fin 4 → Args)
    (h0 : m ((c : Thread nD τ).loc main_arg0) = stack (fun n => (a n).xr))
    (h1 : m ((c : Thread nD τ).loc main_arg1) = stack (fun n => (a n).xi))
    (h2 : m ((c : Thread nD τ).loc main_arg2) = stack (fun n => (a n).br))
    (h3 : m ((c : Thread nD τ).loc main_arg3) = stack (fun n => (a n).bi))
    (h4 : m ((c : Thread nD τ).loc main_arg4) = stack (fun n => (a n).hr))
    (h5 : m ((c : Thread nD τ).loc main_arg5) = stack (fun n => (a n).hi))
    (tr ti : Plane) (h6 : m ((c : Thread nD τ).loc main_arg6) = up tr) (h7 : m ((c : Thread nD τ).loc main_arg7) = up ti)
    (htr : ∀ n, (a n).tr = tr) (hti : ∀ n, (a n).ti = ti) :
    (dats m 0 c).arrAt 16 cfg0.N = stack (fun n => (a n).bRe) := by
  refine (dats m 0 c).arrAt_eq_of_covers 16 _ (by decide +kernel) fun t hf y => ?_
  blk_simp
  rw [after0_16, block0 m c _ h0, block1 m c _ h1, block2 m c _ h2, block3 m c _ h3, block4 m c _ h4, block5 m c _ h5,
    block6 m c _ h6, block7 m c _ h7, block8 m c, block9 m c, block10 m c, block11 m c,
    ← htr (plane t), ← hti (plane t), out16_up]
  rw [emb16]
  rfl

/-- What the body leaves for this result, of real blocks. -/
theorem out17_up : out0_17 (F := Ideal) (blk a.xr) (blk a.xi) (blk a.br) (blk a.bi) (blk a.hr) (blk a.hi) (up a.tr) (up a.ti) (up cosTable) (up sinTable) (up (cosTable - sinTable)) (up (cosTable + sinTable)) = blk (a.bIm) := by
  unfold out0_17
  frame_out
  unfold k0_pay42
  dsimp only
  rw [p45, p46, p48, p53, p54, p55, p56, e40, shapeCast_blk]

/-- The result array after the run. -/
theorem final17 (c : Dev nD) (a : Fin 4 → Args)
    (h0 : m ((c : Thread nD τ).loc main_arg0) = stack (fun n => (a n).xr))
    (h1 : m ((c : Thread nD τ).loc main_arg1) = stack (fun n => (a n).xi))
    (h2 : m ((c : Thread nD τ).loc main_arg2) = stack (fun n => (a n).br))
    (h3 : m ((c : Thread nD τ).loc main_arg3) = stack (fun n => (a n).bi))
    (h4 : m ((c : Thread nD τ).loc main_arg4) = stack (fun n => (a n).hr))
    (h5 : m ((c : Thread nD τ).loc main_arg5) = stack (fun n => (a n).hi))
    (tr ti : Plane) (h6 : m ((c : Thread nD τ).loc main_arg6) = up tr) (h7 : m ((c : Thread nD τ).loc main_arg7) = up ti)
    (htr : ∀ n, (a n).tr = tr) (hti : ∀ n, (a n).ti = ti) :
    (dats m 0 c).arrAt 17 cfg0.N = stack (fun n => (a n).bIm) := by
  refine (dats m 0 c).arrAt_eq_of_covers 17 _ (by decide +kernel) fun t hf y => ?_
  blk_simp
  rw [after0_17, block0 m c _ h0, block1 m c _ h1, block2 m c _ h2, block3 m c _ h3, block4 m c _ h4, block5 m c _ h5,
    block6 m c _ h6, block7 m c _ h7, block8 m c, block9 m c, block10 m c, block11 m c,
    ← htr (plane t), ← hti (plane t), out17_up]
  rw [emb17]
  rfl

/-- What the body leaves for this result, of real blocks. -/
theorem out18_up : out0_18 (F := Ideal) (blk a.xr) (blk a.xi) (blk a.br) (blk a.bi) (blk a.hr) (blk a.hi) (up a.tr) (up a.ti) (up cosTable) (up sinTable) (up (cosTable - sinTable)) (up (cosTable + sinTable)) = blk (modulus a.bRe a.bIm) := by
  unfold out0_18
  frame_out
  unfold k0_pay1 k0_pay43
  dsimp only
  rw [p45, p46, p47, p48, p53, p54, p55, p56, e39, e40, modulus_up, shapeCast_blk]

/-- The result array after the run. -/
theorem final18 (c : Dev nD) (a : Fin 4 → Args)
    (h0 : m ((c : Thread nD τ).loc main_arg0) = stack (fun n => (a n).xr))
    (h1 : m ((c : Thread nD τ).loc main_arg1) = stack (fun n => (a n).xi))
    (h2 : m ((c : Thread nD τ).loc main_arg2) = stack (fun n => (a n).br))
    (h3 : m ((c : Thread nD τ).loc main_arg3) = stack (fun n => (a n).bi))
    (h4 : m ((c : Thread nD τ).loc main_arg4) = stack (fun n => (a n).hr))
    (h5 : m ((c : Thread nD τ).loc main_arg5) = stack (fun n => (a n).hi))
    (tr ti : Plane) (h6 : m ((c : Thread nD τ).loc main_arg6) = up tr) (h7 : m ((c : Thread nD τ).loc main_arg7) = up ti)
    (htr : ∀ n, (a n).tr = tr) (hti : ∀ n, (a n).ti = ti) :
    (dats m 0 c).arrAt 18 cfg0.N = stack (fun n => modulus (a n).bRe (a n).bIm) := by
  refine (dats m 0 c).arrAt_eq_of_covers 18 _ (by decide +kernel) fun t hf y => ?_
  blk_simp
  rw [after0_18, block0 m c _ h0, block1 m c _ h1, block2 m c _ h2, block3 m c _ h3, block4 m c _ h4, block5 m c _ h5,
    block6 m c _ h6, block7 m c _ h7, block8 m c, block9 m c, block10 m c, block11 m c,
    ← htr (plane t), ← hti (plane t), out18_up]
  rw [emb18]
  rfl

end Cert.Phase.Main
-- ==== Proof.Host.lean ====
module

public import proofs.«01_k».proof.Proof.Products
public import proofs.«01_k».proof.Proof.Transform
public import proofs.«01_k».proof.Proof.Tables

@[expose] public section

noncomputable section

/-! The transform and its inverse as a reference computes them on four planes at once. -/

namespace Cert.Phase

open Idealize.ShloMosaic

/-- Four planes as float contents of any values. -/
abbrev Planes4 : Type := FVec Ideal S4 .f32
/-- One plane as float contents of any values. -/
abbrev Plane1 : Type := FVec Ideal S2 .f32

/-- The reference's product with a table on the right. -/
def hrow (a : Planes4) (t : Plane1) : Planes4 :=
  Host.dotGeneral (F := Ideal) (φ₁ := .f32) (φ₂ := .f32) (rowsDims (by decide)) (some .fp32) a t
/-- The reference's product with a table on the left. -/
def hcol (t : Plane1) (a : Planes4) : Planes4 :=
  transpose S4 [1, 0, 2] (Host.dotGeneral (F := Ideal) (φ₁ := .f32) (φ₂ := .f32) (colsDims (by decide)) (some .fp32) t a) (by decide)
/-- The transform after the rows: real part. -/
def hrowRe (a b : Planes4) (C S : Plane1) : Planes4 := addf (hrow a C) (hrow b S)
/-- The transform after the rows: imaginary part. -/
def hrowIm (a b : Planes4) (C S : Plane1) : Planes4 := subf (hrow b C) (hrow a S)
/-- The transform: real part. -/
def hfftRe (a b : Planes4) (C S : Plane1) : Planes4 := addf (hcol C (hrowRe a b C S)) (hcol S (hrowIm a b C S))
/-- The transform: imaginary part. -/
def hfftIm (a b : Planes4) (C S : Plane1) : Planes4 := subf (hcol C (hrowIm a b C S)) (hcol S (hrowRe a b C S))
/-- The inverse after the rows: real part. -/
def hirowRe (a b : Planes4) (C S : Plane1) : Planes4 := subf (hrow a C) (hrow b S)
/-- The inverse after the rows: imaginary part. -/
def hirowIm (a b : Planes4) (C S : Plane1) : Planes4 := addf (hrow b C) (hrow a S)
/-- A number, repeated over four planes. -/
def hsplat (w : BitVec 32) : Planes4 := broadcastInDim S4 ![] (by decide : S0.BroadcastsInDim S4 ![]) (constant S0 .f32 w)
/-- The inverse: real part. -/
def hifftRe (a b : Planes4) (C S : Plane1) : Planes4 :=
  Host.divf (subf (hcol C (hirowRe a b C S)) (hcol S (hirowIm a b C S))) (hsplat 0x48800000#32)
/-- The inverse: imaginary part. -/
def hifftIm (a b : Planes4) (C S : Plane1) : Planes4 :=
  Host.divf (addf (hcol C (hirowIm a b C S)) (hcol S (hirowRe a b C S))) (hsplat 0x48800000#32)
/-- The reference's angles. -/
def hangles : Plane1 :=
  mulf (broadcastInDim S2 ![] (by decide : S0.BroadcastsInDim S2 ![]) (Host.divf (mulf (constant S0 .f32 0x40000000#32) (Host.acos (constant S0 .f32 0xBF800000#32))) (constant S0 .f32 0x44000000#32)))
    (mulf (broadcastInDim S2 ![0, 1] (by decide) (broadcastInDim ⟨2, ![512, 1]⟩ ![0] (by decide) (sitofp .f32 (iotaInDim ⟨1, ![512]⟩ 32 0))))
      (broadcastInDim S2 ![0, 1] (by decide) (broadcastInDim ⟨2, ![1, 512]⟩ ![1] (by decide) (sitofp .f32 (iotaInDim ⟨1, ![512]⟩ 32 0)))))
/-- The reference's cosine table. -/
def hcos : Plane1 := Host.cos hangles
/-- The reference's sine table. -/
def hsin : Plane1 := Host.sin hangles

/-- The cosine table is the real one. -/
theorem hcos_up : hcos = up cosTable := table_cos _ _ _ _ _
/-- The sine table is the real one. -/
theorem hsin_up : hsin = up sinTable := table_sin _ _ _ _ _
/-- The product on the right, of real planes. -/
theorem hrow_stack (A : Fin 4 → Plane) (T : Plane) : hrow (stack A) (up T) = stack (fun n => A n * T) := rows_stack _ _ A T
/-- The product on the left with the cosines, of real planes. -/
theorem hcol_cos (A : Fin 4 → Plane) : hcol (up cosTable) (stack A) = stack (fun n => cosTable * A n) := by
  have h := cols_stack (by decide) (some .fp32) A cosTable (by decide)
  rw [cosTable_transpose] at h
  exact h
/-- The product on the left with the sines, of real planes. -/
theorem hcol_sin (A : Fin 4 → Plane) : hcol (up sinTable) (stack A) = stack (fun n => sinTable * A n) := by
  have h := cols_stack (by decide) (some .fp32) A sinTable (by decide)
  rw [sinTable_transpose] at h
  exact h

/-- The reference's transform is the transform: real part. -/
theorem hfftRe_stack (A B : Fin 4 → Plane) : hfftRe (stack A) (stack B) hcos hsin = stack (fun n => fwdRe cosTable sinTable (A n) (B n)) := by
  unfold hfftRe hrowRe hrowIm
  rw [hcos_up, hsin_up, hrow_stack, hrow_stack, hrow_stack, hrow_stack, addf_stack, subf_stack, hcol_cos, hcol_sin, addf_stack]
  rfl
/-- The reference's transform is the transform: imaginary part. -/
theorem hfftIm_stack (A B : Fin 4 → Plane) : hfftIm (stack A) (stack B) hcos hsin = stack (fun n => fwdIm cosTable sinTable (A n) (B n)) := by
  unfold hfftIm hrowRe hrowIm
  rw [hcos_up, hsin_up, hrow_stack, hrow_stack, hrow_stack, hrow_stack, addf_stack, subf_stack, hcol_cos, hcol_sin, subf_stack]
  rfl
/-- The splat of the number of entries. -/
theorem hsplat_size : hsplat 0x48800000#32 = stack (fun _ => flat (262144 : ℝ)) :=
  broadcastInDim_stack (u := S0) rfl ![] (by decide) _ _ (fun _ => ofBits_size)
/-- Division by the number of entries. -/
theorem divf_size (A : Fin 4 → Plane) : Host.divf (stack A) (hsplat 0x48800000#32) = stack (fun n => (262144 : ℝ)⁻¹ • A n) := by
  rw [hsplat_size, divf_stack _ _ (fun n i j => by simp [flat])]
  congr 1
  funext n
  exact quot_flat _ _
/-- The reference's inverse is the inverse: real part. -/
theorem hifftRe_stack (A B : Fin 4 → Plane) : hifftRe (stack A) (stack B) hcos hsin = stack (fun n => invRe cosTable sinTable (A n) (B n)) := by
  unfold hifftRe hirowRe hirowIm
  rw [hcos_up, hsin_up, hrow_stack, hrow_stack, hrow_stack, hrow_stack, addf_stack, subf_stack, hcol_cos, hcol_sin, subf_stack, divf_size]
  rfl
/-- The reference's inverse is the inverse: imaginary part. -/
theorem hifftIm_stack (A B : Fin 4 → Plane) : hifftIm (stack A) (stack B) hcos hsin = stack (fun n => invIm cosTable sinTable (A n) (B n)) := by
  unfold hifftIm hirowRe hirowIm
  rw [hcos_up, hsin_up, hrow_stack, hrow_stack, hrow_stack, hrow_stack, addf_stack, subf_stack, hcol_cos, hcol_sin, addf_stack, divf_size]
  rfl

end Cert.Phase
-- ==== Proof.MainReference.lean ====
module

public import proofs.«01_k».proof.Proof.Host
public import proofs.«01_k».proof.Proof.MainSpec
public import proofs.«01_k».proof.Proof.Gen.ReferenceIdeal.Run

@[expose] public section

noncomputable section

/-! The main call's reference: what its seven results are, of real planes. -/

namespace Cert.Phase.Main.Reference

open Idealize.ShloMosaic Idealize.ShloMosaic.StableHlo Idealize.SL.Sem Cert.ReferenceIdeal
open Cert.ReferenceIdeal.Gen Cert.ReferenceIdeal.Value Idealize.ShloMosaic.TcCoe

/-- The arguments the reference starts from are real. -/
structure Given (V : Valuation τ sig (Elt Ideal)) (a : Fin 4 → Args) (tr ti : Plane) : Prop where
  /-- Argument 0. -/
  arg_xr : V (Proc.devRef .tc main_arg0) = stack (fun n => (a n).xr)
  /-- Argument 1. -/
  arg_xi : V (Proc.devRef .tc main_arg1) = stack (fun n => (a n).xi)
  /-- Argument 2. -/
  arg_br : V (Proc.devRef .tc main_arg2) = stack (fun n => (a n).br)
  /-- Argument 3. -/
  arg_bi : V (Proc.devRef .tc main_arg3) = stack (fun n => (a n).bi)
  /-- Argument 4. -/
  arg_hr : V (Proc.devRef .tc main_arg4) = stack (fun n => (a n).hr)
  /-- Argument 5. -/
  arg_hi : V (Proc.devRef .tc main_arg5) = stack (fun n => (a n).hi)
  /-- Argument 6. -/
  arg_tr : V (Proc.devRef .tc main_arg6) = up tr
  /-- Argument 7. -/
  arg_ti : V (Proc.devRef .tc main_arg7) = up ti
  /-- The propagator is one for all planes, real part. -/
  same_tr : ∀ n, (a n).tr = tr
  /-- The propagator is one for all planes, imaginary part. -/
  same_ti : ∀ n, (a n).ti = ti

variable {V : Valuation τ sig (Elt Ideal)} {a : Fin 4 → Args} {tr ti : Plane} (h : Given V a tr ti)
include h

/-- The propagated object, real part. -/
theorem v20 : res_main_v20 V = stack (fun n => (a n).pRe) := by
  unfold res_main_v20
  rw [h.arg_xr, h.arg_xi, h.arg_tr, h.arg_ti]
  refine (congrArg₂ subf (congrArg₂ mulf rfl (repeat_stack tr _ _)) (congrArg₂ mulf rfl (repeat_stack ti _ _))).trans ?_
  rw [mulf_stack, mulf_stack, subf_stack]
  simp only [Args.pRe, h.same_tr, h.same_ti]
/-- The propagated object, imaginary part. -/
theorem v27 : res_main_v27 V = stack (fun n => (a n).pIm) := by
  unfold res_main_v27
  rw [h.arg_xr, h.arg_xi, h.arg_tr, h.arg_ti]
  refine (congrArg₂ addf (congrArg₂ mulf rfl (repeat_stack ti _ _)) (congrArg₂ mulf rfl (repeat_stack tr _ _))).trans ?_
  rw [mulf_stack, mulf_stack, addf_stack]
  simp only [Args.pIm, h.same_tr, h.same_ti]
/-- Its inverse, real part. -/
theorem v40 : res_main_v40 V = stack (fun n => (a n).cRe) := by
  have k : res_main_v40 V = hifftRe (res_main_v20 V) (res_main_v27 V) hcos hsin := rfl
  rw [k, v20 h, v27 h, hifftRe_stack]
  rfl
/-- Its inverse, imaginary part. -/
theorem v47 : res_main_v47 V = stack (fun n => (a n).cIm) := by
  have k : res_main_v47 V = hifftIm (res_main_v20 V) (res_main_v27 V) hcos hsin := rfl
  rw [k, v20 h, v27 h, hifftIm_stack]
  rfl
/-- The field, real part. -/
theorem v68 : res_main_v68 V = stack (fun n => (a n).uRe) := by
  have k : res_main_v68 V = addf (res_main_v40 V)
    (hifftRe (V (Proc.devRef .tc main_arg2)) (V (Proc.devRef .tc main_arg3)) hcos hsin) := rfl
  rw [k, v40 h, h.arg_br, h.arg_bi, hifftRe_stack]
  exact addf_stack _ _
/-- The field, imaginary part. -/
theorem v69 : res_main_v69 V = stack (fun n => (a n).uIm) := by
  have k : res_main_v69 V = addf (res_main_v47 V)
    (hifftIm (V (Proc.devRef .tc main_arg2)) (V (Proc.devRef .tc main_arg3)) hcos hsin) := rfl
  rw [k, v47 h, h.arg_br, h.arg_bi, hifftIm_stack]
  exact addf_stack _ _
/-- The modulus divided by. -/
theorem v75 : res_main_v75 V = stack (fun n => (a n).size) := by
  have e : hsplat 0x0DA24260#32 = stack (fun _ => flat tiny) :=
    broadcastInDim_stack (u := S0) rfl ![] (by decide) _ _ (fun _ => ofBits_is_tiny)
  have k : res_main_v75 V = addf (Host.sqrt (addf (mulf (res_main_v68 V) (res_main_v68 V)) (mulf (res_main_v69 V) (res_main_v69 V))))
    (hsplat 0x0DA24260#32) := rfl
  rw [k, v68 h, v69 h, e]
  refine (congrArg₂ addf (modulus_stack _ _) rfl).trans ?_
  exact addf_stack _ _
/-- The phase factor, real part. -/
theorem v76 : res_main_v76 V = stack (fun n => (a n).wRe) := by
  unfold res_main_v76
  rw [v68 h, v75 h]
  exact divf_stack _ _ (fun n => (a n).size_ne)
/-- The phase factor, imaginary part. -/
theorem v77 : res_main_v77 V = stack (fun n => (a n).wIm) := by
  unfold res_main_v77
  rw [v69 h, v75 h]
  exact divf_stack _ _ (fun n => (a n).size_ne)
/-- The measurement with the phase, real part. -/
theorem v80 : res_main_v80 V = stack (fun n => (a n).qRe) := by
  unfold res_main_v80
  rw [v76 h, v77 h, h.arg_hr, h.arg_hi]
  exact (congrArg₂ subf (mulf_stack _ _) (mulf_stack _ _)).trans (subf_stack _ _)
/-- The measurement with the phase, imaginary part. -/
theorem v83 : res_main_v83 V = stack (fun n => (a n).qIm) := by
  unfold res_main_v83
  rw [v76 h, v77 h, h.arg_hr, h.arg_hi]
  exact (congrArg₂ addf (mulf_stack _ _) (mulf_stack _ _)).trans (addf_stack _ _)
/-- What remains, real part. -/
theorem v84 : res_main_v84 V = stack (fun n => (a n).qRe - (a n).cRe) := by
  unfold res_main_v84
  rw [v80 h, v40 h]
  exact subf_stack _ _
/-- What remains, imaginary part. -/
theorem v85 : res_main_v85 V = stack (fun n => (a n).qIm - (a n).cIm) := by
  unfold res_main_v85
  rw [v83 h, v47 h]
  exact subf_stack _ _
/-- The transform of what remains, real part. -/
theorem v96 : res_main_v96 V = stack (fun n => (a n).bRe) := by
  have k : res_main_v96 V = hfftRe (res_main_v84 V) (res_main_v85 V) hcos hsin := rfl
  rw [k, v84 h, v85 h, hfftRe_stack]
  rfl
/-- The transform of what remains, imaginary part. -/
theorem v101 : res_main_v101 V = stack (fun n => (a n).bIm) := by
  have k : res_main_v101 V = hfftIm (res_main_v84 V) (res_main_v85 V) hcos hsin := rfl
  rw [k, v84 h, v85 h, hfftIm_stack]
  rfl
/-- The transform of the measurement with the phase, real part. -/
theorem v112 : hfftRe (res_main_v80 V) (res_main_v83 V) hcos hsin = stack (fun n => (a n).fRe) := by
  rw [v80 h, v83 h, hfftRe_stack]
  rfl
/-- The transform of the measurement with the phase, imaginary part. -/
theorem v117 : hfftIm (res_main_v80 V) (res_main_v83 V) hcos hsin = stack (fun n => (a n).fIm) := by
  rw [v80 h, v83 h, hfftIm_stack]
  rfl

omit h in
/-- The run of the reference, of real planes. -/
theorem run (m : (ℓ : Loc nD τ sig) → Buf (Elt Ideal) ℓ) (g : Dev nD → PrngReg) (a : Dev nD → Fin 4 → Args) (tr ti : Dev nD → Plane)
    (h : ∀ c, Given (launchContents m c) (a c) (tr c) (ti c)) :
    θ_run (defs (F := Ideal)) (onTc (τ := τ) (main (F := Ideal))) ⟨m, fun _ => 0, g⟩ fun r => ∀ c : Dev nD,
      r.2.mem ((c.tc : Thread nD τ).loc main_v76) = stack (fun n => (a c n).wRe)
      ∧ r.2.mem ((c.tc : Thread nD τ).loc main_v77) = stack (fun n => (a c n).wIm)
      ∧ r.2.mem ((c.tc : Thread nD τ).loc main_v112) = stack (fun n => (a c n).fRe)
      ∧ r.2.mem ((c.tc : Thread nD τ).loc main_v117) = stack (fun n => (a c n).fIm)
      ∧ r.2.mem ((c.tc : Thread nD τ).loc main_v96) = stack (fun n => (a c n).bRe)
      ∧ r.2.mem ((c.tc : Thread nD τ).loc main_v101) = stack (fun n => (a c n).bIm)
      ∧ r.2.mem ((c.tc : Thread nD τ).loc main_v121) = stack (fun n => modulus (a c n).bRe (a c n).bIm)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  refine (θ_run defs _ _).mono (fun r k c => ?_) (Cert.ReferenceIdeal.Value.run m g)
  obtain ⟨k0, k1, k2, k3, k4, k5, k6, kr⟩ := k c
  refine ⟨k0.trans (v76 (h c)), k1.trans (v77 (h c)), k2.trans (v112 (h c)), k3.trans (v117 (h c)), k4.trans (v96 (h c)),
    k5.trans (v101 (h c)), k6.trans ?_, kr⟩
  rw [v96 (h c), v101 (h c)]
  exact modulus_stack _ _

end Cert.Phase.Main.Reference
-- ==== Proof.Finite.lean ====
module

public import proofs.«01_k».proof.Proof.Planes
public import proofs.«01_k».proof.Proof.Tables

@[expose] public section

noncomputable section

/-! Finite contents are those of real planes. -/

namespace Cert.Phase

open Idealize.ShloMosaic

/-- The word of plus infinity. -/
theorem ofBits_top : Ideal.ofBits .f32 0x7F800000#32 = ⊤ := by
  simp [Ideal.ofBits, Ideal.ieee]

/-- A value whose magnitude is below plus infinity is real. -/
theorem real_of_below (x : EReal) (h : Ideal.cmp .olt (max x (-x)) (Ideal.ofBits .f32 0x7F800000#32) = 1#1) :
    ∃ r : ℝ, x = (r : EReal) := by
  rw [ofBits_top] at h
  have hlt : max x (-x) < ⊤ := by
    by_contra hn
    simp [Ideal.cmp, hn] at h
  induction x with
  | bot => simp at hlt
  | top => simp at hlt
  | coe r => exact ⟨r, rfl⟩

/-- Four planes of finite contents are real. -/
theorem stack_of_finite (x : FVec Ideal S4 .f32) (hb : S0.BroadcastsInDim S4 ![])
    (h : cmpf .olt (Host.absf x) (broadcastInDim S4 ![] hb (constant S0 .f32 0x7F800000#32)) = fun _ => 1#1) :
    ∃ A : Fin 4 → Plane, x = stack A := by
  have e : ∀ i, ∃ r : ℝ, x i = (r : EReal) := fun i => real_of_below (x i) (congrFun h i)
  choose f hf using e
  refine ⟨fun n => Matrix.of fun i j => f (ValueIdx.ix3 n i j), funext fun i => ?_⟩
  obtain ⟨a, b, c, rfl⟩ : ∃ (a : Fin 4) (b c : Fin 512), i = ValueIdx.ix3 a b c := ⟨_, _, _, ValueIdx.eq_ix3 i⟩
  exact hf _

/-- A plane of finite contents is real. -/
theorem up_of_finite (x : FVec Ideal S2 .f32) (hb : S0.BroadcastsInDim S2 ![])
    (h : cmpf .olt (Host.absf x) (broadcastInDim S2 ![] hb (constant S0 .f32 0x7F800000#32)) = fun _ => 1#1) :
    ∃ A : Plane, x = up A := by
  have e : ∀ i, ∃ r : ℝ, x i = (r : EReal) := fun i => real_of_below (x i) (congrFun h i)
  choose f hf using e
  refine ⟨Matrix.of fun i j => f (ValueIdx.ix2 i j), funext fun i => ?_⟩
  obtain ⟨a, b, rfl⟩ : ∃ (a b : Fin 512), i = ValueIdx.ix2 a b := ⟨_, _, ValueIdx.eq_ix2 i⟩
  exact hf _

end Cert.Phase
-- ==== Proof.AgreeMain.lean ====
module

public import proofs.«01_k».proof.Defs
public import proofs.«01_k».proof.Proof.Main
public import proofs.«01_k».proof.Proof.MainReference
public import proofs.«01_k».proof.Proof.Finite
public import proofs.«01_k».proof.Proof.Gen.Pre_finite

@[expose] public section

noncomputable section

/-! The main call and its reference leave the same results. -/

namespace Cert.Phase.Main

open Idealize.ShloMosaic Idealize.SL.Sem Idealize.ShloMosaic.TcCoe
open Cert.KernelIdeal Cert.KernelIdeal.Gen

set_option maxHeartbeats 4000000 in
/-- The run of the kernel, of real planes. -/
theorem run (m : (ℓ : Loc nD τ sig) → Buf (Elt Ideal) ℓ) (g : Dev nD → PrngReg) (a : Dev nD → Fin 4 → Args) (tr ti : Dev nD → Plane)
    (h0 : ∀ c : Dev nD, m ((c : Thread nD τ).loc main_arg0) = stack (fun n => (a c n).xr))
    (h1 : ∀ c : Dev nD, m ((c : Thread nD τ).loc main_arg1) = stack (fun n => (a c n).xi))
    (h2 : ∀ c : Dev nD, m ((c : Thread nD τ).loc main_arg2) = stack (fun n => (a c n).br))
    (h3 : ∀ c : Dev nD, m ((c : Thread nD τ).loc main_arg3) = stack (fun n => (a c n).bi))
    (h4 : ∀ c : Dev nD, m ((c : Thread nD τ).loc main_arg4) = stack (fun n => (a c n).hr))
    (h5 : ∀ c : Dev nD, m ((c : Thread nD τ).loc main_arg5) = stack (fun n => (a c n).hi))
    (h6 : ∀ c : Dev nD, m ((c : Thread nD τ).loc main_arg6) = up (tr c))
    (h7 : ∀ c : Dev nD, m ((c : Thread nD τ).loc main_arg7) = up (ti c))
    (htr : ∀ c n, (a c n).tr = tr c) (hti : ∀ c n, (a c n).ti = ti c) :
    θ_run (defs (F := Ideal)) (onTc (τ := τ) (main (F := Ideal))) ⟨m, fun _ => 0, g⟩ fun r => ∀ c : Dev nD,
      r.2.mem ((c.tc : Thread nD τ).loc main_v15_0) = stack (fun n => (a c n).wRe)
      ∧ r.2.mem ((c.tc : Thread nD τ).loc main_v15_1) = stack (fun n => (a c n).wIm)
      ∧ r.2.mem ((c.tc : Thread nD τ).loc main_v15_2) = stack (fun n => (a c n).fRe)
      ∧ r.2.mem ((c.tc : Thread nD τ).loc main_v15_3) = stack (fun n => (a c n).fIm)
      ∧ r.2.mem ((c.tc : Thread nD τ).loc main_v15_4) = stack (fun n => (a c n).bRe)
      ∧ r.2.mem ((c.tc : Thread nD τ).loc main_v15_5) = stack (fun n => (a c n).bIm)
      ∧ r.2.mem ((c.tc : Thread nD τ).loc main_v15_6) = stack (fun n => modulus (a c n).bRe (a c n).bIm)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  refine (θ_run _ _ _).mono (fun r h c => ?_) (run_main m g)
  have k0 := ((h c).1 12).trans (final12 m c (a c) (h0 c) (h1 c) (h2 c) (h3 c) (h4 c) (h5 c) (tr c) (ti c) (h6 c) (h7 c) (htr c) (hti c))
  have k1 := ((h c).1 13).trans (final13 m c (a c) (h0 c) (h1 c) (h2 c) (h3 c) (h4 c) (h5 c) (tr c) (ti c) (h6 c) (h7 c) (htr c) (hti c))
  have k2 := ((h c).1 14).trans (final14 m c (a c) (h0 c) (h1 c) (h2 c) (h3 c) (h4 c) (h5 c) (tr c) (ti c) (h6 c) (h7 c) (htr c) (hti c))
  have k3 := ((h c).1 15).trans (final15 m c (a c) (h0 c) (h1 c) (h2 c) (h3 c) (h4 c) (h5 c) (tr c) (ti c) (h6 c) (h7 c) (htr c) (hti c))
  have k4 := ((h c).1 16).trans (final16 m c (a c) (h0 c) (h1 c) (h2 c) (h3 c) (h4 c) (h5 c) (tr c) (ti c) (h6 c) (h7 c) (htr c) (hti c))
  have k5 := ((h c).1 17).trans (final17 m c (a c) (h0 c) (h1 c) (h2 c) (h3 c) (h4 c) (h5 c) (tr c) (ti c) (h6 c) (h7 c) (htr c) (hti c))
  have k6 := ((h c).1 18).trans (final18 m c (a c) (h0 c) (h1 c) (h2 c) (h3 c) (h4 c) (h5 c) (tr c) (ti c) (h6 c) (h7 c) (htr c) (hti c))
  have k7 := ((h c).1 0).trans (((dats m 0 c).arrAt_in 0 rfl _).trans ((A_eq m c 0).trans (V_main_arg0 m c)))
  have k8 := ((h c).1 1).trans (((dats m 0 c).arrAt_in 1 rfl _).trans ((A_eq m c 1).trans (V_main_arg1 m c)))
  have k9 := ((h c).1 2).trans (((dats m 0 c).arrAt_in 2 rfl _).trans ((A_eq m c 2).trans (V_main_arg2 m c)))
  have k10 := ((h c).1 3).trans (((dats m 0 c).arrAt_in 3 rfl _).trans ((A_eq m c 3).trans (V_main_arg3 m c)))
  have k11 := ((h c).1 4).trans (((dats m 0 c).arrAt_in 4 rfl _).trans ((A_eq m c 4).trans (V_main_arg4 m c)))
  have k12 := ((h c).1 5).trans (((dats m 0 c).arrAt_in 5 rfl _).trans ((A_eq m c 5).trans (V_main_arg5 m c)))
  have k13 := ((h c).1 6).trans (((dats m 0 c).arrAt_in 6 rfl _).trans ((A_eq m c 6).trans (V_main_arg6 m c)))
  have k14 := ((h c).1 7).trans (((dats m 0 c).arrAt_in 7 rfl _).trans ((A_eq m c 7).trans (V_main_arg7 m c)))
  exact ⟨k0, k1, k2, k3, k4, k5, k6, k7, k8, k9, k10, k11, k12, k13, k14⟩

/-- The main call's seven results are the reference's, of finite arguments. -/
theorem agrees : Cert.algebraic_KernelIdeal_ReferenceIdeal_pre_finite := by
  intro m g m' g' hp ha
  have e0 : ∀ c : Dev Cert.KernelIdeal.nD, ∃ A : Fin 4 → Plane, m ((c.tc : Thread nD τ).loc main_arg0) = stack A :=
    fun c => stack_of_finite _ _ (hp c).1
  choose xr hxr using e0
  have e1 : ∀ c : Dev Cert.KernelIdeal.nD, ∃ A : Fin 4 → Plane, m ((c.tc : Thread nD τ).loc main_arg1) = stack A :=
    fun c => stack_of_finite _ _ (hp c).2.1
  choose xi hxi using e1
  have e2 : ∀ c : Dev Cert.KernelIdeal.nD, ∃ A : Fin 4 → Plane, m ((c.tc : Thread nD τ).loc main_arg2) = stack A :=
    fun c => stack_of_finite _ _ (hp c).2.2.1
  choose br hbr using e2
  have e3 : ∀ c : Dev Cert.KernelIdeal.nD, ∃ A : Fin 4 → Plane, m ((c.tc : Thread nD τ).loc main_arg3) = stack A :=
    fun c => stack_of_finite _ _ (hp c).2.2.2.1
  choose bi hbi using e3
  have e4 : ∀ c : Dev Cert.KernelIdeal.nD, ∃ A : Fin 4 → Plane, m ((c.tc : Thread nD τ).loc main_arg4) = stack A :=
    fun c => stack_of_finite _ _ (hp c).2.2.2.2.1
  choose hr hhr using e4
  have e5 : ∀ c : Dev Cert.KernelIdeal.nD, ∃ A : Fin 4 → Plane, m ((c.tc : Thread nD τ).loc main_arg5) = stack A :=
    fun c => stack_of_finite _ _ (hp c).2.2.2.2.2.1
  choose hi hhi using e5
  have e6 : ∀ c : Dev Cert.KernelIdeal.nD, ∃ A : Plane, m ((c.tc : Thread nD τ).loc main_arg6) = up A :=
    fun c => up_of_finite _ _ (hp c).2.2.2.2.2.2.1
  choose tr htr using e6
  have e7 : ∀ c : Dev Cert.KernelIdeal.nD, ∃ A : Plane, m ((c.tc : Thread nD τ).loc main_arg7) = up A :=
    fun c => up_of_finite _ _ (hp c).2.2.2.2.2.2.2
  choose ti hti using e7
  obtain ⟨a, ea⟩ : ∃ a : Dev Cert.KernelIdeal.nD → Fin 4 → Args,
      a = fun c n => ⟨xr c n, xi c n, br c n, bi c n, hr c n, hi c n, tr c, ti c⟩ := ⟨_, rfl⟩
  have f0 : ∀ c : Dev nD, m ((c : Thread nD τ).loc main_arg0) = stack (fun n => (a c n).xr) := by
    intro c; rw [ea]; exact hxr c
  have f1 : ∀ c : Dev nD, m ((c : Thread nD τ).loc main_arg1) = stack (fun n => (a c n).xi) := by
    intro c; rw [ea]; exact hxi c
  have f2 : ∀ c : Dev nD, m ((c : Thread nD τ).loc main_arg2) = stack (fun n => (a c n).br) := by
    intro c; rw [ea]; exact hbr c
  have f3 : ∀ c : Dev nD, m ((c : Thread nD τ).loc main_arg3) = stack (fun n => (a c n).bi) := by
    intro c; rw [ea]; exact hbi c
  have f4 : ∀ c : Dev nD, m ((c : Thread nD τ).loc main_arg4) = stack (fun n => (a c n).hr) := by
    intro c; rw [ea]; exact hhr c
  have f5 : ∀ c : Dev nD, m ((c : Thread nD τ).loc main_arg5) = stack (fun n => (a c n).hi) := by
    intro c; rw [ea]; exact hhi c
  have ftr : ∀ c n, (a c n).tr = tr c := by intro c n; rw [ea]
  have fti : ∀ c n, (a c n).ti = ti c := by intro c n; rw [ea]
  refine ⟨_, _, _, _, _, _, _, run m g a tr ti f0 f1 f2 f3 f4 f5 htr hti ftr fti, Reference.run m' g' a tr ti (fun c => ?_)⟩
  exact ⟨(ha c).1.trans (f0 c), (ha c).2.1.trans (f1 c), (ha c).2.2.1.trans (f2 c), (ha c).2.2.2.1.trans (f3 c), (ha c).2.2.2.2.1.trans (f4 c), (ha c).2.2.2.2.2.1.trans (f5 c), (ha c).2.2.2.2.2.2.1.trans (htr c), (ha c).2.2.2.2.2.2.2.trans (hti c), ftr c, fti c⟩

end Cert.Phase.Main
-- ==== Proof.First.lean ====
module

public import proofs.«01_k».proof.Proof.Body
public import proofs.«01_k».proof.Proof.Tables
public import proofs.«01_k».proof.Proof.Gen.Kernel3Ideal.Frame
public import Idealize.ShloMosaic.Lib.Pipeline.ValueKit

@[expose] public section

set_option maxRecDepth 16384

noncomputable section

/-! The first call: what its three results hold, of real planes. -/

namespace Cert.Phase.First

open Idealize.ShloMosaic Idealize.SL.Sem Idealize.ShloMosaic.ValueIdx Cert.Kernel3Ideal
open Cert.Kernel3Ideal.Gen Idealize.ShloMosaic.TcCoe
open Idealize.ShloMosaic.Pipeline (Dat Cfg Window)

variable (m : (ℓ : Loc nD τ sig) → Buf (Elt Ideal) ℓ)

/-- The plane a grid point works on. -/
def plane (t : Fin cfg0.N) : Fin 4 := ⟨t.val, t.isLt⟩

/-- The cosine table as the region finds it. -/
theorem V_C (c : Dev nD) : V m c main_v11 = up cosTable := by
  entry_read
  have k := cos_kernel
  rw [← kernel_angles] at k
  exact k

/-- The sine table as the region finds it. -/
theorem V_S (c : Dev nD) : V m c main_v12 = up sinTable := by
  entry_read
  have k := sin_kernel
  rw [← kernel_angles] at k
  exact k

/-- The difference of the tables as the region finds it. -/
theorem V_D (c : Dev nD) : V m c main_v13 = up (cosTable - sinTable) := by
  entry_read
  have kc := cos_kernel
  have ks := sin_kernel
  rw [← kernel_angles] at kc ks
  exact (congrArg₂ subf kc ks).trans (subf_up _ _)

/-- Where window 0's block lies. -/
theorem emb0 (t : Fin cfg0.N) (y : S1.Idx) : (win0_0.blk t).view.emb y = ValueIdx.ix3 (plane t) (y 1) (y 2) := by
  have e : ∀ t : Fin cfg0.N, win0_0.index t = ![t.val, 0, 0] := (by decide +kernel : ∀ t : Fin grid0.N, _)
  blk_ext [e, plane]

/-- Window 0's block is its plane. -/
theorem block0 (c : Dev nD) (A : Fin 4 → Plane) (h : m ((c : Thread nD τ).loc main_arg0) = stack A) (t : Fin cfg0.N) :
    iblk m c 0 t = blk (A (plane t)) := by
  funext y
  blk_simp [iblk]
  rw [V_main_arg0, h, emb0]
  rfl

/-- Where window 1's block lies. -/
theorem emb1 (t : Fin cfg0.N) (y : S1.Idx) : (win0_1.blk t).view.emb y = ValueIdx.ix3 (plane t) (y 1) (y 2) := by
  have e : ∀ t : Fin cfg0.N, win0_1.index t = ![t.val, 0, 0] := (by decide +kernel : ∀ t : Fin grid0.N, _)
  blk_ext [e, plane]

/-- Window 1's block is its plane. -/
theorem block1 (c : Dev nD) (A : Fin 4 → Plane) (h : m ((c : Thread nD τ).loc main_arg1) = stack A) (t : Fin cfg0.N) :
    iblk m c 1 t = blk (A (plane t)) := by
  funext y
  blk_simp [iblk]
  rw [V_main_arg1, h, emb1]
  rfl

/-- Window 2's block is the whole table. -/
theorem block2 (c : Dev nD) (t : Fin cfg0.N) : iblk m c 2 t = up cosTable := by
  have e : ∀ t : Fin cfg0.N, win0_2.index t = ![0, 0] := (by decide +kernel : ∀ t : Fin grid0.N, _)
  funext y
  have k : (win0_2.blk t).view.emb y = y := by blk_ext [e]
  blk_simp [iblk]
  rw [V_C, k]

/-- Window 3's block is the whole table. -/
theorem block3 (c : Dev nD) (t : Fin cfg0.N) : iblk m c 3 t = up sinTable := by
  have e : ∀ t : Fin cfg0.N, win0_3.index t = ![0, 0] := (by decide +kernel : ∀ t : Fin grid0.N, _)
  funext y
  have k : (win0_3.blk t).view.emb y = y := by blk_ext [e]
  blk_simp [iblk]
  rw [V_S, k]

/-- Window 4's block is the whole table. -/
theorem block4 (c : Dev nD) (t : Fin cfg0.N) : iblk m c 4 t = up (cosTable - sinTable) := by
  have e : ∀ t : Fin cfg0.N, win0_4.index t = ![0, 0] := (by decide +kernel : ∀ t : Fin grid0.N, _)
  funext y
  have k : (win0_4.blk t).view.emb y = y := by blk_ext [e]
  blk_simp [iblk]
  rw [V_D, k]

/-- Where window 5's block lies. -/
theorem emb5 (t : Fin cfg0.N) (y : S1.Idx) : (win0_5.blk t).view.emb y = ValueIdx.ix3 (plane t) (y 1) (y 2) := by
  have e : ∀ t : Fin cfg0.N, win0_5.index t = ![t.val, 0, 0] := (by decide +kernel : ∀ t : Fin grid0.N, _)
  blk_ext [e, plane]

/-- Where window 6's block lies. -/
theorem emb6 (t : Fin cfg0.N) (y : S1.Idx) : (win0_6.blk t).view.emb y = ValueIdx.ix3 (plane t) (y 1) (y 2) := by
  have e : ∀ t : Fin cfg0.N, win0_6.index t = ![t.val, 0, 0] := (by decide +kernel : ∀ t : Fin grid0.N, _)
  blk_ext [e, plane]

/-- Where window 7's block lies. -/
theorem emb7 (t : Fin cfg0.N) (y : S1.Idx) : (win0_7.blk t).view.emb y = ValueIdx.ix3 (plane t) (y 1) (y 2) := by
  have e : ∀ t : Fin cfg0.N, win0_7.index t = ![t.val, 0, 0] := (by decide +kernel : ∀ t : Fin grid0.N, _)
  blk_ext [e, plane]

/-- The transform the body computes, real part. -/
theorem re_up (a b C S : Plane) :
    k0_pay13 (F := Ideal) (blk a) (blk b) (up C) (up S) (up (C - S)) = up (fwdRe C S a b) := by
  have k : k0_pay13 (F := Ideal) (blk a) (blk b) (up C) (up S) (up (C - S))
    = fftRe (shapeCast S2 (blk a) shapeCasts_S1x512x512_S512x512) (shapeCast S2 (blk b) shapeCasts_S1x512x512_S512x512)
        (shapeCast S2 (up C) shapeCasts_S512x512_S512x512) (shapeCast S2 (up S) shapeCasts_S512x512_S512x512)
        (shapeCast S2 (up (C - S)) shapeCasts_S512x512_S512x512) := rfl
  rw [k]
  simp only [shapeCast_self, shapeCast_up]
  exact fftRe_up a b C S

/-- The transform the body computes, imaginary part. -/
theorem im_up (a b C S : Plane) :
    k0_pay14 (F := Ideal) (blk a) (blk b) (up C) (up S) (up (C - S)) = up (fwdIm C S a b) := by
  have k : k0_pay14 (F := Ideal) (blk a) (blk b) (up C) (up S) (up (C - S))
    = fftIm (shapeCast S2 (blk a) shapeCasts_S1x512x512_S512x512) (shapeCast S2 (blk b) shapeCasts_S1x512x512_S512x512)
        (shapeCast S2 (up C) shapeCasts_S512x512_S512x512) (shapeCast S2 (up S) shapeCasts_S512x512_S512x512)
        (shapeCast S2 (up (C - S)) shapeCasts_S512x512_S512x512) := rfl
  rw [k]
  simp only [shapeCast_self, shapeCast_up]
  exact fftIm_up a b C S

/-- What the body leaves for this result, of real blocks. -/
theorem out5_up (a b C S : Plane) :
    out0_5 (F := Ideal) (blk a) (blk b) (up C) (up S) (up (C - S)) = blk (fwdRe C S a b) := by
  unfold out0_5
  frame_out
  unfold k0_pay15
  dsimp only
  rw [re_up, shapeCast_blk]

/-- The result array after the run. -/
theorem final5 (c : Dev nD) (A B : Fin 4 → Plane) (hA : m ((c : Thread nD τ).loc main_arg0) = stack A)
    (hB : m ((c : Thread nD τ).loc main_arg1) = stack B) :
    (dats m 0 c).arrAt 5 cfg0.N = stack (fun n => fwdRe cosTable sinTable (A n) (B n)) := by
  refine (dats m 0 c).arrAt_eq_of_covers 5 _ (by decide +kernel) fun t hf y => ?_
  blk_simp
  rw [after0_5, block0 m c A hA, block1 m c B hB, block2 m c, block3 m c, block4 m c, out5_up]
  rw [emb5]
  rfl

/-- What the body leaves for this result, of real blocks. -/
theorem out6_up (a b C S : Plane) :
    out0_6 (F := Ideal) (blk a) (blk b) (up C) (up S) (up (C - S)) = blk (fwdIm C S a b) := by
  unfold out0_6
  frame_out
  unfold k0_pay16
  dsimp only
  rw [im_up, shapeCast_blk]

/-- The result array after the run. -/
theorem final6 (c : Dev nD) (A B : Fin 4 → Plane) (hA : m ((c : Thread nD τ).loc main_arg0) = stack A)
    (hB : m ((c : Thread nD τ).loc main_arg1) = stack B) :
    (dats m 0 c).arrAt 6 cfg0.N = stack (fun n => fwdIm cosTable sinTable (A n) (B n)) := by
  refine (dats m 0 c).arrAt_eq_of_covers 6 _ (by decide +kernel) fun t hf y => ?_
  blk_simp
  rw [after0_6, block0 m c A hA, block1 m c B hB, block2 m c, block3 m c, block4 m c, out6_up]
  rw [emb6]
  rfl

/-- What the body leaves for this result, of real blocks. -/
theorem out7_up (a b C S : Plane) :
    out0_7 (F := Ideal) (blk a) (blk b) (up C) (up S) (up (C - S)) = blk (modulus (fwdRe C S a b) (fwdIm C S a b)) := by
  unfold out0_7
  frame_out
  unfold k0_pay1 k0_pay17
  dsimp only
  rw [re_up, im_up, modulus_up, shapeCast_blk]

/-- The result array after the run. -/
theorem final7 (c : Dev nD) (A B : Fin 4 → Plane) (hA : m ((c : Thread nD τ).loc main_arg0) = stack A)
    (hB : m ((c : Thread nD τ).loc main_arg1) = stack B) :
    (dats m 0 c).arrAt 7 cfg0.N = stack (fun n => modulus (fwdRe cosTable sinTable (A n) (B n)) (fwdIm cosTable sinTable (A n) (B n))) := by
  refine (dats m 0 c).arrAt_eq_of_covers 7 _ (by decide +kernel) fun t hf y => ?_
  blk_simp
  rw [after0_7, block0 m c A hA, block1 m c B hB, block2 m c, block3 m c, block4 m c, out7_up]
  rw [emb7]
  rfl

end Cert.Phase.First
-- ==== Proof.FirstReference.lean ====
module

public import proofs.«01_k».proof.Proof.Host
public import proofs.«01_k».proof.Proof.Gen.Reference3Ideal.Run

@[expose] public section

noncomputable section

/-! The first call's reference: what its three results are, of real planes. It starts from an object of zeros and the
    transform of ones, and finds that the propagated object is zero and the phase factor one. -/

namespace Cert.Phase.First.Reference

open Idealize.ShloMosaic Idealize.ShloMosaic.StableHlo Idealize.SL.Sem Cert.Reference3Ideal
open Cert.Reference3Ideal.Gen Cert.Reference3Ideal.Value Idealize.ShloMosaic.TcCoe

/-- Ones over four planes. -/
theorem ones_stack : hsplat 0x3F800000#32 = stack (fun _ => flat 1) :=
  broadcastInDim_stack (u := S0) rfl ![] (by decide) _ _ (fun _ => ofBits_one)
/-- Zeros over four planes. -/
theorem zeros_stack : hsplat 0x00000000#32 = stack (fun _ => 0) :=
  broadcastInDim_stack (u := S0) rfl ![] (by decide) 0 _ (fun _ => Ideal.ofBits_zero_f32)
/-- Zeros times anything, the infinite included, are zeros. -/
theorem mulf_zeros (x : Planes4) : mulf (stack (fun _ => 0)) x = stack (fun _ => 0) := by
  funext i; exact zero_mul (M₀ := EReal) _
/-- The modulus of ones. -/
theorem modulus_one : modulus (flat 1) 0 = flat 1 := by
  ext i j; simp [modulus, root, had, flat]
/-- Ones are nowhere zero. -/
theorem one_ne (i j : Fin 512) : flat 1 i j ≠ 0 := by simp [flat]
/-- One over one. -/
theorem quot_one : quot (flat 1) (flat 1) = flat 1 := by
  ext i j; simp [quot, flat]
/-- Zero over one. -/
theorem quot_zero : quot 0 (flat 1) = 0 := by
  ext i j; simp [quot, flat]
/-- A product with ones. -/
theorem had_one (A : Plane) : had A (flat 1) = A := by
  ext i j; simp [had, flat]
/-- A product with zeros. -/
theorem had_zero (A : Plane) : had A 0 = 0 := by
  ext i j; simp [had]

section Start

variable (V : Valuation τ sig (Elt Ideal))

/-- The transformed object is zero, real part. -/
theorem v26 : res_main_v26 V = stack (fun _ => 0) := by
  have k : res_main_v26 V = hfftRe (hsplat 0x00000000#32) (hsplat 0x00000000#32) hcos hsin := rfl
  rw [k, zeros_stack, hfftRe_stack, fwdRe_zero]
/-- The transformed object is zero, imaginary part. -/
theorem v31 : res_main_v31 V = stack (fun _ => 0) := by
  have k : res_main_v31 V = hfftIm (hsplat 0x00000000#32) (hsplat 0x00000000#32) hcos hsin := rfl
  rw [k, zeros_stack, hfftIm_stack, fwdIm_zero]
/-- The propagated object is zero whatever the propagator, real part. -/
theorem v38 : res_main_v38 V = stack (fun _ => 0) := by
  unfold res_main_v38
  rw [v26, v31]
  refine (congrArg₂ subf (mulf_zeros _) (mulf_zeros _)).trans ?_
  rw [subf_stack, sub_zero]
/-- The propagated object is zero whatever the propagator, imaginary part. -/
theorem v45 : res_main_v45 V = stack (fun _ => 0) := by
  unfold res_main_v45
  rw [v26, v31]
  refine (congrArg₂ addf (mulf_zeros _) (mulf_zeros _)).trans ?_
  rw [addf_stack, add_zero]
/-- Its inverse is zero, real part. -/
theorem v58 : res_main_v58 V = stack (fun _ => 0) := by
  have k : res_main_v58 V = hifftRe (res_main_v38 V) (res_main_v45 V) hcos hsin := rfl
  rw [k, v38, v45, hifftRe_stack, invRe_zero]
/-- Its inverse is zero, imaginary part. -/
theorem v65 : res_main_v65 V = stack (fun _ => 0) := by
  have k : res_main_v65 V = hifftIm (res_main_v38 V) (res_main_v45 V) hcos hsin := rfl
  rw [k, v38, v45, hifftIm_stack, invIm_zero]
/-- The transform of ones, real part. -/
theorem v76 : res_main_v76 V = stack (fun _ => fwdRe cosTable sinTable (flat 1) 0) := by
  have k : res_main_v76 V = hfftRe (hsplat 0x3F800000#32) (hsplat 0x00000000#32) hcos hsin := rfl
  rw [k, zeros_stack, ones_stack, hfftRe_stack]
/-- The transform of ones, imaginary part. -/
theorem v81 : res_main_v81 V = stack (fun _ => fwdIm cosTable sinTable (flat 1) 0) := by
  have k : res_main_v81 V = hfftIm (hsplat 0x3F800000#32) (hsplat 0x00000000#32) hcos hsin := rfl
  rw [k, zeros_stack, ones_stack, hfftIm_stack]
/-- The field is one, real part. -/
theorem v102 : res_main_v102 V = stack (fun _ => flat 1) := by
  have k : res_main_v102 V = addf (res_main_v58 V) (hifftRe (res_main_v76 V) (res_main_v81 V) hcos hsin) := rfl
  rw [k, v58, v76, v81, hifftRe_stack, tables.invRe_fwd, addf_stack, zero_add]
/-- The field is one, imaginary part. -/
theorem v103 : res_main_v103 V = stack (fun _ => 0) := by
  have k : res_main_v103 V = addf (res_main_v65 V) (hifftIm (res_main_v76 V) (res_main_v81 V) hcos hsin) := rfl
  rw [k, v65, v76, v81, hifftIm_stack, tables.invIm_fwd, addf_stack, zero_add]
/-- Its modulus is one. -/
theorem v107 : res_main_v107 V = stack (fun _ => flat 1) := by
  unfold res_main_v107
  rw [v102, v103]
  refine (modulus_stack _ _).trans ?_
  rw [modulus_one]
/-- The phase factor is one, real part. -/
theorem v108 : res_main_v108 V = stack (fun _ => flat 1) := by
  unfold res_main_v108
  rw [v102, v107]
  refine (divf_stack _ (fun _ => flat 1) fun _ => one_ne).trans ?_
  rw [quot_one]
/-- The phase factor is one, imaginary part. -/
theorem v109 : res_main_v109 V = stack (fun _ => 0) := by
  unfold res_main_v109
  rw [v103, v107]
  refine (divf_stack _ (fun _ => flat 1) fun _ => one_ne).trans ?_
  rw [quot_zero]

variable (A B : Fin 4 → Plane) (hA : V (Proc.devRef .tc main_arg0) = stack A) (hB : V (Proc.devRef .tc main_arg1) = stack B)
include hA hB

/-- What remains is the measurement, real part. -/
theorem v116 : res_main_v116 V = stack A := by
  unfold res_main_v116
  rw [v58, v108, v109, hA, hB]
  refine (congrArg₂ subf ((congrArg₂ subf (mulf_stack _ _) (mulf_stack _ _)).trans (subf_stack _ _)) rfl).trans ?_
  rw [subf_stack]
  simp only [had_one, had_zero, sub_zero]
/-- What remains is the measurement, imaginary part. -/
theorem v117 : res_main_v117 V = stack B := by
  unfold res_main_v117
  rw [v65, v108, v109, hA, hB]
  refine (congrArg₂ subf ((congrArg₂ addf (mulf_stack _ _) (mulf_stack _ _)).trans (addf_stack _ _)) rfl).trans ?_
  rw [subf_stack]
  simp only [had_one, had_zero, zero_add, sub_zero]
/-- Its transform, real part. -/
theorem v128 : res_main_v128 V = stack (fun n => fwdRe cosTable sinTable (A n) (B n)) := by
  have k : res_main_v128 V = hfftRe (res_main_v116 V) (res_main_v117 V) hcos hsin := rfl
  rw [k, v116 V A B hA hB, v117 V A B hA hB, hfftRe_stack]
/-- Its transform, imaginary part. -/
theorem v133 : res_main_v133 V = stack (fun n => fwdIm cosTable sinTable (A n) (B n)) := by
  have k : res_main_v133 V = hfftIm (res_main_v116 V) (res_main_v117 V) hcos hsin := rfl
  rw [k, v116 V A B hA hB, v117 V A B hA hB, hfftIm_stack]

end Start

variable (m : (ℓ : Loc nD τ sig) → Buf (Elt Ideal) ℓ) (g : Dev nD → PrngReg)

/-- The run of the reference, of real planes. -/
theorem run (A B : Dev nD → Fin 4 → Plane) (hA : ∀ c : Dev nD, m ((c.tc : Thread nD τ).loc main_arg0) = stack (A c))
    (hB : ∀ c : Dev nD, m ((c.tc : Thread nD τ).loc main_arg1) = stack (B c)) :
    θ_run (defs (F := Ideal)) (onTc (τ := τ) (main (F := Ideal))) ⟨m, fun _ => 0, g⟩ fun r => ∀ c : Dev nD,
      r.2.mem ((c.tc : Thread nD τ).loc main_v128) = stack (fun n => fwdRe cosTable sinTable (A c n) (B c n))
      ∧ r.2.mem ((c.tc : Thread nD τ).loc main_v133) = stack (fun n => fwdIm cosTable sinTable (A c n) (B c n))
      ∧ r.2.mem ((c.tc : Thread nD τ).loc main_v137) = stack (fun n => modulus (fwdRe cosTable sinTable (A c n) (B c n)) (fwdIm cosTable sinTable (A c n) (B c n)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ?_) (Cert.Reference3Ideal.Value.run m g)
  obtain ⟨h0, h1, h2, hr⟩ := h c
  have e := v128 (launchContents m c) (A c) (B c) (hA c) (hB c)
  have f := v133 (launchContents m c) (A c) (B c) (hA c) (hB c)
  refine ⟨h0.trans e, h1.trans f, h2.trans ?_, hr⟩
  rw [e, f]
  exact modulus_stack _ _

end Cert.Phase.First.Reference
-- ==== Proof.AgreeFirst.lean ====
module

public import proofs.«01_k».proof.Defs
public import proofs.«01_k».proof.Proof.First
public import proofs.«01_k».proof.Proof.FirstReference
public import proofs.«01_k».proof.Proof.Finite
public import proofs.«01_k».proof.Proof.Gen.Pre_finite3

@[expose] public section

noncomputable section

/-! The first call and its reference leave the same results. -/

namespace Cert.Phase.First

open Idealize.ShloMosaic Idealize.SL.Sem Idealize.ShloMosaic.TcCoe
open Cert.Kernel3Ideal Cert.Kernel3Ideal.Gen

/-- The first call's three results are the reference's, of finite arguments. -/
theorem agrees : Cert.algebraic_Kernel3Ideal_Reference3Ideal_pre_finite3 := by
  intro m g m' g' hp ha
  have eA : ∀ c : Dev Cert.Kernel3Ideal.nD, ∃ A : Fin 4 → Plane, m ((c.tc : Thread nD τ).loc main_arg0) = stack A :=
    fun c => stack_of_finite _ _ (hp c).1
  have eB : ∀ c : Dev Cert.Kernel3Ideal.nD, ∃ B : Fin 4 → Plane, m ((c.tc : Thread nD τ).loc main_arg1) = stack B :=
    fun c => stack_of_finite _ _ (hp c).2
  choose A hA using eA
  choose B hB using eB
  refine ⟨fun c => stack (fun n => fwdRe cosTable sinTable (A c n) (B c n)), fun c => stack (fun n => fwdIm cosTable sinTable (A c n) (B c n)),
    fun c => stack (fun n => modulus (fwdRe cosTable sinTable (A c n) (B c n)) (fwdIm cosTable sinTable (A c n) (B c n))), ?_,
    Reference.run m' g' A B (fun c => (ha c).1.trans (hA c)) (fun c => (ha c).2.1.trans (hB c))⟩
  refine (θ_run _ _ _).mono (fun r h c => ?_) (run_main m g)
  exact ⟨((h c).1 5).trans (final5 m c (A c) (B c) (hA c) (hB c)), ((h c).1 6).trans (final6 m c (A c) (B c) (hA c) (hB c)),
    ((h c).1 7).trans (final7 m c (A c) (B c) (hA c) (hB c)),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).2 main_arg2 (Pipeline.mem_restRefs_of main_arg2 (by decide) (by decide))).trans (V_main_arg2 m c),
    ((h c).2 main_arg3 (Pipeline.mem_restRefs_of main_arg3 (by decide) (by decide))).trans (V_main_arg3 m c)⟩

end Cert.Phase.First
-- ==== Proof.Propagator.lean ====
module

public import proofs.«01_k».proof.Defs
public import proofs.«01_k».proof.Proof.Tables
public import proofs.«01_k».proof.Proof.Gen.Kernel5Ideal.Frame
public import proofs.«01_k».proof.Proof.Gen.Reference5Ideal.Run

public import Idealize.ShloMosaic.Lib.Pipeline.ValueKit

@[expose] public section

noncomputable section

/-! The propagator's call and its reference leave the same results. -/

namespace Cert.Phase.Propagator

open Idealize.ShloMosaic Idealize.SL.Sem Idealize.ShloMosaic.TcCoe
open Idealize.ShloMosaic.ValueIdx
open Cert.Kernel5Ideal Cert.Kernel5Ideal.Gen
open Idealize.ShloMosaic.Pipeline (Dat Cfg Window)

/-- A plane times a number. -/
def scaled (r : EReal) (q : FVec Ideal S512x512 .f32) : FVec Ideal S512x512 .f32 := fun i => r * q i

/-- The angles: the distance over the wavelength, times the given plane. -/
def angles (q : FVec Ideal S512x512 .f32) (z : FVec Ideal Cert.Kernel5Ideal.S1 .f32) : FVec Ideal S512x512 .f32 :=
  scaled (Ideal.div (z (ValueIdx.ix1 0)) (Ideal.ofBits .f32 0x352AFE4F#32)) q

variable (m : (ℓ : Loc nD τ sig) → Buf (Elt Ideal) ℓ)

/-- The only index of an array of one element. -/
theorem only (j : Cert.Kernel5Ideal.S1.Idx) : j = ValueIdx.ix1 0 := by
  funext d
  fin_cases d
  exact Subsingleton.elim (α := Fin 1) _ _

/-- The one number the region is given. -/
theorem V_z (c : Dev nD) : V m c main_v2 = fun _ : S1x1.Idx =>
    Ideal.div (m ((c : Thread nD τ).loc main_arg1) (ValueIdx.ix1 0)) (Ideal.ofBits .f32 0x352AFE4F#32) := by
  entry_read
  funext i
  exact congrArg (fun k => Ideal.div (m ((c : Thread nD τ).loc main_arg1) k) (Ideal.ofBits .f32 0x352AFE4F#32)) (only _)

/-- Window 0's block is the whole plane. -/
theorem block0 (c : Dev nD) (t : Fin cfg0.N) : iblk m c 0 t = m ((c : Thread nD τ).loc main_arg0) := by
  have e : ∀ t : Fin cfg0.N, win0_0.index t = ![0, 0] := (by decide +kernel : ∀ t : Fin grid0.N, _)
  funext y
  have k : (win0_0.blk t).view.emb y = y := by blk_ext [e]
  blk_simp [iblk]
  rw [V_main_arg0, k]

/-- Window 1's block is the one number. -/
theorem block1 (c : Dev nD) (t : Fin cfg0.N) : iblk m c 1 t = fun _ =>
    Ideal.div (m ((c : Thread nD τ).loc main_arg1) (ValueIdx.ix1 0)) (Ideal.ofBits .f32 0x352AFE4F#32) := by
  funext y
  blk_simp [iblk]
  rw [V_z]

/-- Where window 2's block lies. -/
theorem emb2 (t : Fin cfg0.N) (y : S512x512.Idx) : (win0_2.blk t).view.emb y = y := by
  have e : ∀ t : Fin cfg0.N, win0_2.index t = ![0, 0] := (by decide +kernel : ∀ t : Fin grid0.N, _)
  blk_ext [e]

/-- What the body leaves for this result. -/
theorem out2 (q : FVec Ideal S512x512 .f32) (r : EReal) :
    out0_2 (F := Ideal) q (fun _ => r) = cos (scaled r q) := by
  unfold out0_2
  frame_out
  rfl

/-- The result array after the run. -/
theorem final2 (c : Dev nD) : (dats m 0 c).arrAt 2 cfg0.N
    = cos (angles (m ((c : Thread nD τ).loc main_arg0)) (m ((c : Thread nD τ).loc main_arg1))) := by
  refine (dats m 0 c).arrAt_eq_of_covers 2 _ (by decide +kernel) fun t hf y => ?_
  blk_simp
  rw [after0_2, block0, block1, emb2]
  exact congrFun (out2 _ _) y

/-- Where window 3's block lies. -/
theorem emb3 (t : Fin cfg0.N) (y : S512x512.Idx) : (win0_3.blk t).view.emb y = y := by
  have e : ∀ t : Fin cfg0.N, win0_3.index t = ![0, 0] := (by decide +kernel : ∀ t : Fin grid0.N, _)
  blk_ext [e]

/-- What the body leaves for this result. -/
theorem out3 (q : FVec Ideal S512x512 .f32) (r : EReal) :
    out0_3 (F := Ideal) q (fun _ => r) = sin (scaled r q) := by
  unfold out0_3
  frame_out
  rfl

/-- The result array after the run. -/
theorem final3 (c : Dev nD) : (dats m 0 c).arrAt 3 cfg0.N
    = sin (angles (m ((c : Thread nD τ).loc main_arg0)) (m ((c : Thread nD τ).loc main_arg1))) := by
  refine (dats m 0 c).arrAt_eq_of_covers 3 _ (by decide +kernel) fun t hf y => ?_
  blk_simp
  rw [after0_3, block0, block1, emb3]
  exact congrFun (out3 _ _) y

/-- The reference's angles are the same. -/
theorem same (q : FVec Ideal S512x512 .f32) (z : FVec Ideal Cert.Kernel5Ideal.S1 .f32) (hb : S_.BroadcastsInDim S512x512 ![])
    (hc : Cert.Kernel5Ideal.S1.ShapeCasts S_) :
    mulf (broadcastInDim S512x512 ![] hb (Host.divf (shapeCast S_ z hc) (constant S_ .f32 0x352AFE4F#32))) q = angles q z := by
  funext i
  exact congrArg (fun k => Ideal.div (z k) (Ideal.ofBits .f32 0x352AFE4F#32) * q i) (only _)

/-- The propagator's two results are the reference's. -/
theorem agrees : Cert.algebraic_Kernel5Ideal_Reference5Ideal := by
  intro m g m' g' _ ha
  refine ⟨fun c => cos (angles (m ((c : Thread nD τ).loc main_arg0)) (m ((c : Thread nD τ).loc main_arg1))),
    fun c => sin (angles (m ((c : Thread nD τ).loc main_arg0)) (m ((c : Thread nD τ).loc main_arg1))), ?_, ?_⟩
  · refine (θ_run _ _ _).mono (fun r h c => ?_) (run_main m g)
    exact ⟨((h c).1 2).trans (final2 m c), ((h c).1 3).trans (final3 m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c)⟩
  · refine (θ_run _ _ _).mono (fun r h c => ?_) (Cert.Reference5Ideal.Value.run m' g')
    obtain ⟨h0, h1, h2, h3⟩ := h c
    refine ⟨h0.trans ?_, h1.trans ?_, h2, h3⟩
    · rw [(ha c).1, (ha c).2]
      exact congrArg Host.cos (same _ _ _ _)
    · rw [(ha c).1, (ha c).2]
      exact congrArg Host.sin (same _ _ _ _)

end Cert.Phase.Propagator
-- ==== Proof.Largest.lean ====
module

public import Idealize.ShloMosaic.Lib.SortFacts
public import proofs.«01_k».proof.Proof.Planes
public import proofs.«01_k».proof.Proof.Finite

@[expose] public section

noncomputable section

/-! The least of the 2000 largest entries of four planes, by how many entries reach a value. -/

namespace Cert.Phase

open Idealize.ShloMosaic

/-- The shape of the entries in one line. -/
abbrev SFlat : Shape := ⟨1, ![1048576]⟩
/-- The shape of the largest entries. -/
abbrev SBest : Shape := ⟨1, ![2000]⟩

/-- The least of the 2000 largest entries, as the host computes it. -/
def largest (x : FVec Ideal S4 .f32) (h1 : S4.ShapeCasts SFlat) (h2 : SFlat.Slices (fun _ => 0) SBest) (h3 : SBest.ReducesTo [0] S0)
    (h4 : 0 < S0.numel) : FVec Ideal S0 .f32 :=
  Host.reduce FloatOps.minimumf (Host.topK SBest 0 (FloatOps.cmpfTotal .gt) (shapeCast SFlat x h1) h2).1
    (constant S0 .f32 0x7F800000#32) h3 h4

/-- How many entries reach a value. -/
def reach (x : S4.Idx → EReal) (y : EReal) : ℕ := (Finset.univ.filter fun i => y ≤ x i).card

/-- Fewer entries reach a greater value. -/
theorem reach_anti (x : S4.Idx → EReal) {y z : EReal} (h : y ≤ z) : reach x z ≤ reach x y :=
  Finset.card_le_card fun i hi => by
    simp only [Finset.mem_filter, Finset.mem_univ, true_and] at hi ⊢
    exact h.trans hi

/-- The positions of a line are its indices. -/
def lineEquiv {n : ℕ} : Fin n ≃ (⟨1, ![n]⟩ : Shape).Idx where
  toFun := Shape.Idx.ofFin
  invFun j := j 0
  left_inv k := Fin.ext rfl
  right_inv j := (Shape.Idx.eq_ofFin j).symm

/-- Which of two positions comes first in the sort. -/
def first {n : ℕ} (z : (⟨1, ![n]⟩ : Shape).Idx → EReal) (k k' : Fin n) : Bool :=
  Ideal.cmp .ogt (z (Shape.Idx.ofFin k)) (z (Shape.Idx.ofFin k')) == 1#1

/-- The comparison of the sort is that of the extended reals. -/
theorem first_iff {n : ℕ} (z : (⟨1, ![n]⟩ : Shape).Idx → EReal) (k k' : Fin n) :
    first z k k' = false ↔ z (Shape.Idx.ofFin k) ≤ z (Shape.Idx.ofFin k') := by
  unfold first Ideal.cmp
  by_cases h : z (Shape.Idx.ofFin k') < z (Shape.Idx.ofFin k)
  · simp [h]
  · simp [h, not_lt.mp h]

/-- An entry of the result of the selection. -/
theorem topK_apply {n k : ℕ} (z : FVec Ideal (⟨1, ![n]⟩ : Shape) .f32) (h : (⟨1, ![n]⟩ : Shape).Slices (fun _ => 0) ⟨1, ![k]⟩)
    (hk : k ≤ n) (j : Fin k) :
    (Host.topK ⟨1, ![k]⟩ 0 (FloatOps.cmpfTotal .gt) z h).1 (Shape.Idx.ofFin j)
      = z (Shape.Idx.ofFin (sortedFrom (first z) (Fin.castLE hk j))) := by
  unfold Host.topK
  dsimp only
  unfold extractStridedSlice Host.sort2
  dsimp only
  rw [dif_pos Nat.zero_lt_one]
  rw [show (⟨0, Nat.zero_lt_one⟩ : Fin 1) = 0 from rfl]
  refine (congrArg z (Shape.Idx.along_rank1 _ _)).trans ?_
  exact congrArg (fun k => z (Shape.Idx.ofFin k)) (congrArg₂ sortedFrom
    (funext fun a => funext fun b => congrArg₂ (fun u v => Ideal.cmp .ogt (z u) (z v) == 1#1)
      (Shape.Idx.along_rank1 _ a) (Shape.Idx.along_rank1 _ b)) (Fin.ext (Nat.zero_add _)))

/-- The positions of the entries in the order of the sort. -/
def order {n : ℕ} (z : FVec Ideal (⟨1, ![n]⟩ : Shape) .f32) (h : S4.ShapeCasts ⟨1, ![n]⟩) : Fin n ≃ S4.Idx :=
  ((Equiv.ofBijective _ ⟨sortedFrom_injective (first z), sortedFrom_surjective (first z)⟩).trans lineEquiv).trans (Shape.reshapeEquiv h)

/-- The number that reaches a value, counted in the order of the sort. -/
theorem reach_order {n : ℕ} (x : FVec Ideal S4 .f32) (h : S4.ShapeCasts ⟨1, ![n]⟩) (y : EReal) :
    reach x y = (Finset.univ.filter fun r : Fin n => y ≤ x (order (shapeCast ⟨1, ![n]⟩ x h) h r)).card :=
  (Finset.card_equiv (order (shapeCast ⟨1, ![n]⟩ x h) h) fun i => by
    simp only [Finset.mem_filter, Finset.mem_univ, true_and]).symm

/-- The order descends. -/
theorem order_anti {n : ℕ} (x : FVec Ideal S4 .f32) (h : S4.ShapeCasts ⟨1, ![n]⟩) {i j : Fin n} (hij : i ≤ j) :
    x (order (shapeCast ⟨1, ![n]⟩ x h) h j) ≤ x (order (shapeCast ⟨1, ![n]⟩ x h) h i) := by
  rcases eq_or_lt_of_le hij with rfl | hlt
  · exact le_rfl
  · refine (first_iff (shapeCast ⟨1, ![n]⟩ x h) _ _).mp (sortedFrom_noInversion (first _) (first _) ?_ (fun _ _ h => h) ?_ i j hlt)
    · intro a b hab
      by_contra hba
      have h1 : ¬ first (shapeCast ⟨1, ![n]⟩ x h) a b = false := by rw [hab]; decide
      rw [first_iff, not_le] at h1
      rw [first_iff, not_le] at hba
      exact absurd h1 (not_lt.mpr hba.le)
    · intro a b c hab hbc
      rw [first_iff] at hab hbc ⊢
      exact hab.trans hbc

/-- At least 2000 entries reach the least of the 2000 largest, and fewer reach any greater value. -/
theorem largest_spec (x : FVec Ideal S4 .f32) (h1 : S4.ShapeCasts SFlat) (h2 : SFlat.Slices (fun _ => 0) SBest) (h3 : SBest.ReducesTo [0] S0)
    (h4 : 0 < S0.numel) : ∃ v : EReal, (∀ i, largest x h1 h2 h3 h4 i = v) ∧ 2000 ≤ reach x v
      ∧ ∀ y : EReal, v < y → reach x y < 2000 := by
  have hle : (2000 : ℕ) ≤ 1048576 := by norm_num
  have hval : ∀ j : Fin 2000, (Host.topK SBest 0 (FloatOps.cmpfTotal .gt) (shapeCast SFlat x h1) h2).1 (Shape.Idx.ofFin j)
      = x (order (shapeCast SFlat x h1) h1 (Fin.castLE hle j)) := fun j => topK_apply _ h2 hle j
  have i0 : ∀ i : S0.Idx, i = Shape.Idx.first h4 := fun i => funext fun a => Fin.elim0 a
  have hfold : largest x h1 h2 h3 h4 (Shape.Idx.first h4)
      = (Finset.univ : Finset SBest.Idx).fold min ⊤ (Host.topK SBest 0 (FloatOps.cmpfTotal .gt) (shapeCast SFlat x h1) h2).1 := by
    unfold largest
    rw [Host.reduce_eq_fold, Finset.filter_true_of_mem (fun i _ => (i0 _).trans (i0 _).symm)]
    exact congrArg (fun b => Finset.fold min b _ _) ofBits_top
  have lo : ∀ j : Fin 2000, largest x h1 h2 h3 h4 (Shape.Idx.first h4)
      ≤ x (order (shapeCast SFlat x h1) h1 (Fin.castLE hle j)) := fun j => by
    rw [hfold, Finset.fold_min_le]
    exact Or.inr ⟨Shape.Idx.ofFin j, Finset.mem_univ _, (hval j).le⟩
  have hi : ∀ y : EReal, largest x h1 h2 h3 h4 (Shape.Idx.first h4) < y →
      ∃ j : Fin 2000, x (order (shapeCast SFlat x h1) h1 (Fin.castLE hle j)) < y := fun y hy => by
    rw [hfold, Finset.fold_min_lt] at hy
    rcases hy with hy | ⟨j, -, hj⟩
    · exact absurd hy (not_lt.mpr le_top)
    · obtain ⟨j, rfl⟩ : ∃ j' : Fin 2000, j = Shape.Idx.ofFin j' := ⟨_, Shape.Idx.eq_ofFin j⟩
      rw [hval] at hj
      exact ⟨_, hj⟩
  obtain ⟨v, hv⟩ : ∃ v, largest x h1 h2 h3 h4 (Shape.Idx.first h4) = v := ⟨_, rfl⟩
  rw [hv] at lo hi
  refine ⟨v, fun i => (congrArg _ (i0 i)).trans hv, ?_, fun y hy => ?_⟩
  · rw [reach_order _ h1]
    calc 2000 = (Finset.univ : Finset (Fin 2000)).card := by simp
      _ ≤ _ := Finset.card_le_card_of_injOn (Fin.castLE hle) (fun j _ => by simpa using lo j) ((Fin.castLE_injective hle).injOn)
  · obtain ⟨j, hj⟩ := hi y hy
    rw [reach_order _ h1]
    refine lt_of_le_of_lt (Finset.card_le_card (t := Finset.Iio (Fin.castLE hle j)) fun r hr => ?_) ?_
    · simp only [Finset.mem_filter, Finset.mem_univ, true_and] at hr
      rw [Finset.mem_Iio]
      by_contra hc
      exact absurd (hr.trans (order_anti _ h1 (not_lt.mp hc))) (not_le.mpr hj)
    · rw [Fin.card_Iio]
      exact j.isLt

end Cert.Phase
-- ==== Proof.Search.lean ====
module

public import Idealize.ShloMosaic.PureOps.Ideal.Laws
public import proofs.«01_k».proof.Proof.Finite

@[expose] public section

noncomputable section

/-! The values of the nonnegative bit patterns, and the binary search over them. -/

namespace Cert.Phase

open Idealize.ShloMosaic

/-- The binade of a pattern, the subnormal numbers counted with the first. -/
def binade (w : ℕ) : ℕ := max (w / 8388608) 1

/-- The value of a nonnegative finite pattern. -/
def val (w : ℕ) : ℝ := ((w : ℝ) - ((binade w : ℝ) - 1) * 8388608) * (2 : ℝ) ^ ((binade w : ℤ) - 150)

/-- What a nonnegative finite pattern denotes. -/
theorem ofBits_val (w : ℕ) (h : w < 0x7F800000) : Ideal.ofBits .f32 (BitVec.ofNat 32 w) = (val w : EReal) := by
  have e1 : (BitVec.extractLsb' 31 1 (BitVec.ofNat 32 w)) = 0#1 := by
    apply BitVec.eq_of_toNat_eq
    simp [BitVec.extractLsb'_toNat, Nat.shiftRight_eq_div_pow]
    omega
  have e2 : (BitVec.extractLsb' 23 8 (BitVec.ofNat 32 w)).toNat = w / 8388608 := by
    simp [BitVec.extractLsb'_toNat, Nat.shiftRight_eq_div_pow]
    omega
  have e3 : (BitVec.extractLsb' 0 23 (BitVec.ofNat 32 w)).toNat = w % 8388608 := by
    simp [BitVec.extractLsb'_toNat, Nat.shiftRight_eq_div_pow]
  simp only [Ideal.ofBits, Ideal.ieee]
  rw [e1, e2, e3]
  have n1 : w / 8388608 ≠ 2 ^ 8 - 1 := by omega
  rw [if_neg n1]
  have hd : ((w / 8388608 : ℕ) : ℝ) * 8388608 + ((w % 8388608 : ℕ) : ℝ) = w := by
    exact_mod_cast (by omega : w / 8388608 * 8388608 + w % 8388608 = w)
  by_cases h0 : w / 8388608 = 0
  · rw [if_pos h0]
    have hb : binade w = 1 := by unfold binade; omega
    rw [h0] at hd
    unfold val
    rw [hb, ← hd]
    norm_num
  · rw [if_neg h0]
    have hb : binade w = w / 8388608 := by unfold binade; omega
    unfold val
    rw [hb]
    congr 1
    rw [show ((w : ℝ) - (((w / 8388608 : ℕ) : ℝ) - 1) * 8388608) = 8388608 + ((w % 8388608 : ℕ) : ℝ) by linarith]
    refine congrArg₂ (· * ·) ?_ (congrArg _ ?_)
    · push_cast
      norm_num
    · generalize ((w / 8388608 : ℕ) : ℤ) = e
      norm_num
      ring

/-- The next pattern's value is one unit further. -/
theorem val_succ (w : ℕ) : val (w + 1) = val w + (2 : ℝ) ^ ((binade w : ℤ) - 150) := by
  have h1 : 1 ≤ binade w := le_max_right _ _
  by_cases hb : binade (w + 1) = binade w
  · unfold val
    rw [hb]
    push_cast
    ring
  · have hs : binade (w + 1) = binade w + 1 := by unfold binade at *; omega
    have hw : w + 1 = (binade w + 1) * 8388608 := by unfold binade at *; omega
    have hr : (w : ℝ) + 1 = ((binade w : ℝ) + 1) * 8388608 := by exact_mod_cast hw
    unfold val
    rw [hs]
    push_cast
    rw [show ((binade w : ℤ) + 1 - 150) = ((binade w : ℤ) - 150) + 1 by ring, zpow_add_one₀ (by norm_num : (2 : ℝ) ≠ 0), hr,
      show (w : ℝ) = ((binade w : ℝ) + 1) * 8388608 - 1 by linarith]
    ring

/-- Greater patterns have greater values. -/
theorem val_strictMono : StrictMono val :=
  strictMono_nat_of_lt_succ fun w => by
    rw [val_succ]; exact lt_add_of_pos_right _ (by positivity)

/-- The zero pattern is zero. -/
theorem val_zero : val 0 = 0 := by simp [val, binade]

/-- Among the normal numbers the next one is at most `2 ^ -23` further, relatively. -/
theorem val_succ_le (w : ℕ) (h : 8388608 ≤ w) : val (w + 1) ≤ val w * (1 + (8388608 : ℝ)⁻¹) := by
  rw [val_succ, mul_add, mul_one]
  refine add_le_add_right ?_ _
  have hb : binade w * 8388608 ≤ w := by unfold binade; omega
  have hr : (binade w : ℝ) * 8388608 ≤ w := by exact_mod_cast hb
  have hp : (0 : ℝ) < (2 : ℝ) ^ ((binade w : ℤ) - 150) := by positivity
  rw [val, le_mul_inv_iff₀ (by norm_num), mul_comm]
  exact mul_le_mul_of_nonneg_right (by linarith) hp.le

/-- The least normal number. -/
theorem val_normal : val 8388608 = (2 : ℝ) ^ (-126 : ℤ) := by
  norm_num [val, binade]

/-- Thirty-one halvings find the last accepted pattern. -/
theorem search (acc : BitVec 32 → Prop) [DecidablePred acc] (T : ℕ) (hT : T < 0x7F800000)
    (h : ∀ w : ℕ, 0 < w → w ≤ 0x7F800000 → (acc (BitVec.ofNat 32 w) ↔ w ≤ T))
    (st : ℕ → BitVec 32 × BitVec 32) (h0 : st 0 = (0#32, 1073741824#32))
    (hs : ∀ k < 31, st (k + 1) = (if acc ((st k).1 + (st k).2) then (st k).1 + (st k).2 else (st k).1, Scalar.divsi (st k).2 2#32)) :
    (st 31).1 = BitVec.ofNat 32 T := by
  have key : ∀ k : ℕ, k ≤ 31 → ∃ t : ℕ, st k = (BitVec.ofNat 32 t, BitVec.ofNat 32 (2 ^ 30 / 2 ^ k)) ∧ t % 2 ^ (31 - k) = 0
      ∧ t ≤ T ∧ T < t + 2 ^ (31 - k) := by
    intro k
    induction k with
    | zero => exact fun _ => ⟨0, h0, by norm_num, by omega, by omega⟩
    | succ k ih =>
      intro hk
      obtain ⟨t, e, hm, hl, hu⟩ := ih (by omega)
      have hstep := hs k (by omega)
      rw [e] at hstep
      dsimp only at hstep
      rw [← BitVec.ofNat_add] at hstep
      have hp : 0 < 2 ^ 30 / 2 ^ k ∧ Scalar.divsi (BitVec.ofNat 32 (2 ^ 30 / 2 ^ k)) 2#32 = BitVec.ofNat 32 (2 ^ 30 / 2 ^ (k + 1))
          ∧ t + 2 ^ 30 / 2 ^ k ≤ 0x7F800000 ∧ (t + 2 ^ 30 / 2 ^ k) % 2 ^ (31 - (k + 1)) = 0 ∧ t % 2 ^ (31 - (k + 1)) = 0
          ∧ 2 ^ (31 - k) = 2 ^ 30 / 2 ^ k + 2 ^ (31 - (k + 1)) ∧ 2 ^ 30 / 2 ^ k = 2 ^ (31 - (k + 1)) := by
        clear hstep e ih hs h0 h
        have hk' : k < 31 := hk
        clear hk
        interval_cases k <;> norm_num at hm hu ⊢ <;> refine ⟨by decide, ?_, ?_⟩ <;> omega
      obtain ⟨hp0, hd, ha, hm1, hm2, h2, h3⟩ := hp
      rw [hd] at hstep
      by_cases hacc : t + 2 ^ 30 / 2 ^ k ≤ T
      · rw [if_pos ((h _ (by omega) ha).mpr hacc)] at hstep
        exact ⟨_, hstep, hm1, hacc, by omega⟩
      · rw [if_neg (fun hc => hacc ((h _ (by omega) ha).mp hc))] at hstep
        exact ⟨_, hstep, hm2, hl, by omega⟩
  obtain ⟨t, e, -, hl, hu⟩ := key 31 le_rfl
  rw [e]
  have : t = T := by norm_num at hu; omega
  rw [this]

/-- The last pattern whose value is at most `v`. -/
def last (v : EReal) : ℕ := Nat.findGreatest (fun w => (val w : EReal) ≤ v) 0x7F7FFFFF

/-- It is a finite pattern. -/
theorem last_lt (v : EReal) : last v < 0x7F800000 := Nat.lt_of_le_of_lt (Nat.findGreatest_le _) (by norm_num)

/-- The patterns up to it are those whose value is at most `v`. -/
theorem le_last_iff (v : EReal) (w : ℕ) (h0 : 0 < w) (h : w < 0x7F800000) : w ≤ last v ↔ (val w : EReal) ≤ v := by
  constructor
  · intro hw
    have hne : last v ≠ 0 := by omega
    exact (EReal.coe_le_coe_iff.mpr (val_strictMono.monotone hw)).trans
      (Nat.findGreatest_of_ne_zero (P := fun w => (val w : EReal) ≤ v) rfl hne)
  · exact fun hv => Nat.le_findGreatest (by omega) hv

/-- Where a modulus does not lie just below the threshold, the threshold's pattern selects what the threshold selects. -/
theorem select_iff (v b : EReal) (hv : v ≤ 0 ∨ ((val 8388608 : EReal) ≤ v ∧ v ≤ (val 0x7F7FFFFF : EReal))) (hb : 0 ≤ b)
    (hg : v ≤ b ∨ b * ((1 + (8388608 : ℝ)⁻¹ : ℝ) : EReal) ≤ v) : (val (last v) : EReal) ≤ b ↔ v ≤ b := by
  rcases hv with hv | ⟨h1, h2⟩
  · have e : last v = 0 := by
      by_contra hne
      have a := ((le_last_iff v (last v) (by omega) (last_lt v)).mp le_rfl).trans hv
      have b := val_strictMono (Nat.pos_of_ne_zero hne)
      rw [val_zero] at b
      exact absurd (EReal.coe_nonneg.mpr b.le |>.antisymm a) (by exact_mod_cast b.ne)
    rw [e, val_zero]
    exact ⟨fun h => hv.trans hb, fun _ => hb⟩
  · induction v with
    | bot => exact absurd h1 (not_le.mpr (EReal.bot_lt_coe _))
    | top => exact absurd h2 (not_le.mpr (EReal.coe_lt_top _))
    | coe v =>
    induction b with
    | bot => exact absurd hb (not_le.mpr (EReal.bot_lt_coe 0))
    | top => exact ⟨fun _ => le_top, fun _ => le_top⟩
    | coe b =>
    have hn : 8388608 ≤ last v := (le_last_iff v _ (by norm_num) (by norm_num)).mpr h1
    have hle : val (last v) ≤ v := EReal.coe_le_coe_iff.mp ((le_last_iff v _ (by omega) (last_lt v)).mp le_rfl)
    rw [← EReal.coe_mul] at hg
    simp only [EReal.coe_le_coe_iff] at h1 h2 hg ⊢
    refine ⟨fun h => ?_, fun h => hle.trans h⟩
    rcases hg with hg | hg
    · exact hg
    · by_cases hm : last v = 0x7F7FFFFF
      · rw [hm] at h; exact h2.trans h
      · exfalso
        have hl := last_lt v
        have hnot : ¬ val (last v + 1) ≤ v := fun hc => by
          have := (le_last_iff v (last v + 1) (by omega) (by omega)).mpr (EReal.coe_le_coe_iff.mpr hc)
          omega
        have hs := val_succ_le _ hn
        have hpos : 0 < val (last v) := by
          have := val_strictMono (show 0 < last v by omega)
          rwa [val_zero] at this
        nlinarith

end Cert.Phase
-- ==== Proof.Count.lean ====
module

public import Idealize.ShloMosaic.Lib.WordSum
public import proofs.«01_k».proof.Proof.Largest
public import proofs.«01_k».proof.Proof.Search

@[expose] public section

set_option maxRecDepth 16384

noncomputable section

/-! The count of the entries that reach a candidate, as the bodies take it, and the search that uses it. -/

namespace Cert.Phase

open Idealize.ShloMosaic Idealize.ShloMosaic.ValueIdx

/-- The shape of one word. -/
abbrev SOne : Shape := ⟨1, ![1]⟩
/-- The shape of one word, of rank three. -/
abbrev SDot : Shape := ⟨3, ![1, 1, 1]⟩

/-- One of four planes, as a block. -/
def part (x : FVec Ideal S4 .f32) (n : Fin 4) : FVec Ideal S1 .f32 := fun i => x (ix3 n (i 1) (i 2))

/-- How many entries of a block reach a value. -/
def reach1 (x : S1.Idx → EReal) (y : EReal) : ℕ := (Finset.univ.filter fun i => y ≤ x i).card

/-- A block has 262144 entries. -/
theorem reach1_le (x : S1.Idx → EReal) (y : EReal) : reach1 x y ≤ 262144 := by
  refine (Finset.card_le_univ _).trans (le_of_eq ?_)
  refine (Fintype.card_congr (β := Fin 1 × Fin 512 × Fin 512) ⟨fun i => (i 0, i 1, i 2), fun p => ix3 p.1 p.2.1 p.2.2,
    fun i => (eq_ix3 i).symm, fun p => rfl⟩).trans ?_
  simp only [Fintype.card_prod, Fintype.card_fin]

/-- The count over one block, as a body takes it. -/
def tally (c : Ideal .f32) (y : FVec Ideal S1 .f32) (h1 : S1.ShapeCasts S2) (h2 : S2.ShapeCasts S1) (h3 : S1.Reduces [1, 2] SOne)
    (h4 : SOne.ShapeCasts SDot) (h5 : 1 < 32) : IVec SDot 32 :=
  shapeCast SDot (multiReductionI .add [1, 2] SOne (shapeCast S1 (extui 32 (cmpf .oge (shapeCast S2 y h1) (broadcast S2 c)) h5) h2) 0#32 h3 rfl) h4

/-- The count's word at one position of a block. -/
theorem bit_apply (c : Ideal .f32) (y : FVec Ideal S1 .f32) (h1 : S1.ShapeCasts S2) (h2 : S2.ShapeCasts S1) (h5 : 1 < 32) (i : S1.Idx) :
    (shapeCast S1 (extui 32 (cmpf .oge (shapeCast S2 y h1) (broadcast S2 c)) h5) h2 i).toNat = if c ≤ y i then 1 else 0 := by
  obtain ⟨u, p, q, rfl⟩ : ∃ (u : Fin 1) (p q : Fin 512), i = ix3 u p q := ⟨_, _, _, eq_ix3 i⟩
  rw [shapeCast_ab_1ab_apply]
  show ((Ideal.cmp .oge (shapeCast S2 y h1 (ix2 p q)) c).setWidth 32).toNat = _
  rw [shapeCast_1ab_ab_apply, Subsingleton.elim u 0]
  unfold Ideal.cmp
  by_cases h : c ≤ y (ix3 0 p q) <;> simp [h]

/-- A sum of words to one word, below the word's range. -/
theorem sum_toNat {s t u : Shape} {axes : List (Fin s.rank)} (src : IVec s 32) (h3 : s.Reduces axes t) (h4 : t.ShapeCasts u)
    (h : (0#32 : BitVec 32) = IKind.add.neutral) (one : ∀ a b : t.Idx, a = b) (n : ℕ) (hn : ∑ i, (src i).toNat = n) (hlt : n < 2 ^ 32) (j : u.Idx) :
    (shapeCast u (multiReductionI .add axes t src 0#32 h3 h) h4 j).toNat = n := by
  have total : ∀ k : t.Idx, ∑ i ∈ Finset.univ.filter (fun i => h3.drop i = k), (src i).toNat = n := fun k => by
    rw [Finset.filter_true_of_mem fun i _ => one _ _, hn]
  exact (WordSum.toNat_multiReductionI_add src h3 h _ (by rw [total]; exact hlt)).trans (total _)

/-- The count over one block. -/
theorem tally_toNat (c : Ideal .f32) (y : FVec Ideal S1 .f32) (h1 : S1.ShapeCasts S2) (h2 : S2.ShapeCasts S1) (h3 : S1.Reduces [1, 2] SOne)
    (h4 : SOne.ShapeCasts SDot) (h5 : 1 < 32) (j : SDot.Idx) : (tally c y h1 h2 h3 h4 h5 j).toNat = reach1 y c := by
  refine sum_toNat _ h3 h4 rfl (fun a b => funext fun k => ?_) _ ?_ (lt_of_le_of_lt (reach1_le _ _) (by norm_num)) j
  · obtain rfl : k = 0 := Subsingleton.elim _ _
    exact Subsingleton.elim (α := Fin 1) _ _
  · simp only [bit_apply]
    rw [reach1, Finset.card_filter]

/-- The entries of four planes are those of each. -/
theorem reach_parts (x : FVec Ideal S4 .f32) (c : EReal) :
    reach x c = reach1 (part x 0) c + reach1 (part x 1) c + reach1 (part x 2) c + reach1 (part x 3) c := by
  have fiber : ∀ n : Fin 4, ((Finset.univ.filter fun i : S4.Idx => c ≤ x i).filter fun i => (i 0 : Fin 4) = n).card
      = reach1 (part x n) c := fun n =>
    Finset.card_nbij' (fun i => ix3 (0 : Fin 1) (i 1) (i 2)) (fun j => ix3 n (j 1) (j 2))
      (fun i hi => by
        simp only [Finset.coe_filter, Finset.mem_filter, Finset.mem_univ, true_and, Set.mem_setOf_eq] at hi ⊢
        obtain ⟨h, rfl⟩ := hi
        rw [eq_ix3 i] at h
        exact h)
      (fun j hj => by
        simp only [Finset.coe_filter, Finset.mem_filter, Finset.mem_univ, true_and, Set.mem_setOf_eq] at hj ⊢
        exact ⟨hj, trivial⟩)
      (fun i hi => by
        simp only [Finset.coe_filter, Finset.mem_filter, Finset.mem_univ, true_and, Set.mem_setOf_eq] at hi
        obtain ⟨-, rfl⟩ := hi
        exact (eq_ix3 i).symm)
      (fun j _ => (congrArg (fun u : Fin 1 => ix3 u (j 1) (j 2)) (Subsingleton.elim _ _)).trans (eq_ix3 j).symm)
  refine (Finset.card_eq_sum_card_fiberwise (t := (Finset.univ : Finset (Fin 4))) (f := fun i : S4.Idx => (i 0 : Fin 4))
    fun _ _ => Finset.mem_coe.mpr (Finset.mem_univ _)).trans ?_
  refine (Fin.sum_univ_four _).trans ?_
  exact congrArg₂ (· + ·) (congrArg₂ (· + ·) (congrArg₂ (· + ·) (fiber 0) (fiber 1)) (fiber 2)) (fiber 3)

/-- The test of four counts against 2000. -/
theorem enough (a b c d : BitVec 32) (ha : a.toNat ≤ 262144) (hb : b.toNat ≤ 262144) (hc : c.toNat ≤ 262144) (hd : d.toNat ≤ 262144) :
    Scalar.cmpi .sge (Scalar.addi (Scalar.addi (Scalar.addi (Scalar.addi 0#32 a) b) c) d) 2000#32
      = BitVec.ofBool (decide (2000 ≤ a.toNat + b.toNat + c.toNat + d.toNat)) := by
  show BitVec.ofBool (BitVec.sle 2000#32 (0#32 + a + b + c + d)) = _
  have e : (0#32 + a + b + c + d).toNat = a.toNat + b.toNat + c.toNat + d.toNat := by
    simp only [BitVec.toNat_add, BitVec.toNat_ofNat]
    omega
  congr 1
  rw [BitVec.sle_eq_decide]
  congr 1
  rw [BitVec.toInt_eq_toNat_of_lt (x := 0#32 + a + b + c + d) (by omega), e]
  rw [show (2000#32 : BitVec 32).toInt = 2000 from by decide]
  exact propext (by omega)

/-- One trip of the search: the candidate is kept where at least 2000 entries reach it. -/
theorem step_eq (x : FVec Ideal S4 .f32) (b old : BitVec 32) (h1 : S1.ShapeCasts S2) (h2 : S2.ShapeCasts S1) (h3 : S1.Reduces [1, 2] SOne)
    (h4 : SOne.ShapeCasts SDot) (h5 : 1 < 32) (j : SDot.Idx) :
    Scalar.select (Scalar.cmpi .sge (Scalar.addi (Scalar.addi (Scalar.addi (Scalar.addi 0#32
        (tally (Scalar.ofBits .f32 b) (part x 0) h1 h2 h3 h4 h5 j)) (tally (Scalar.ofBits .f32 b) (part x 1) h1 h2 h3 h4 h5 j))
        (tally (Scalar.ofBits .f32 b) (part x 2) h1 h2 h3 h4 h5 j)) (tally (Scalar.ofBits .f32 b) (part x 3) h1 h2 h3 h4 h5 j)) 2000#32) b old
      = if 2000 ≤ reach x (Ideal.ofBits .f32 b) then b else old := by
  have le : ∀ n, (tally (Scalar.ofBits .f32 b) (part x n) h1 h2 h3 h4 h5 j).toNat ≤ 262144 := fun n => by
    rw [tally_toNat]
    exact reach1_le _ _
  rw [enough _ _ _ _ (le 0) (le 1) (le 2) (le 3)]
  simp only [tally_toNat]
  rw [← reach_parts]
  show (if BitVec.ofBool (decide (2000 ≤ reach x (Ideal.ofBits .f32 b))) = 1#1 then b else old) = _
  by_cases h : 2000 ≤ reach x (Ideal.ofBits .f32 b) <;> simp [h]

/-- The search over four planes ends at the last pattern whose value is at most their threshold. -/
theorem search_last (x : FVec Ideal S4 .f32) (v : EReal) (ht : v < ⊤) (hv : 2000 ≤ reach x v) (hv' : ∀ y : EReal, v < y → reach x y < 2000)
    (st : ℕ → BitVec 32 × BitVec 32) (h0 : st 0 = (0#32, 1073741824#32))
    (hs : ∀ k < 31, st (k + 1) = (if 2000 ≤ reach x (Ideal.ofBits .f32 ((st k).1 + (st k).2)) then (st k).1 + (st k).2 else (st k).1,
      Scalar.divsi (st k).2 2#32)) : (st 31).1 = BitVec.ofNat 32 (last v) := by
  refine search (fun b => 2000 ≤ reach x (Ideal.ofBits .f32 b)) (last v) (last_lt v) (fun w hw hw' => ?_) st h0 hs
  have key : ∀ y : EReal, 2000 ≤ reach x y ↔ y ≤ v := fun y =>
    ⟨fun h => not_lt.mp fun c => absurd h (not_le.mpr (hv' y c)), fun h => hv.trans (reach_anti _ h)⟩
  rw [key]
  rcases eq_or_lt_of_le hw' with rfl | hlt
  · rw [ofBits_top]
    exact ⟨fun h => absurd h (not_le.mpr ht), fun h => absurd h (not_le.mpr (last_lt v))⟩
  · rw [ofBits_val w hlt, le_last_iff v w hw hlt]

end Cert.Phase
-- ==== Proof.Gate.lean ====
module

public import proofs.«01_k».proof.Proof.Count

@[expose] public section

noncomputable section

/-! A plane kept where a modulus reaches a threshold, as bodies and hosts compute it, and the condition
    under which the two thresholds keep the same entries. -/

namespace Cert.Phase

open Idealize.ShloMosaic

/-- Contents kept where others reach a value, and zero elsewhere. -/
def sieve {s : Shape} (v : EReal) (M Z : FVec Ideal s .f32) : FVec Ideal s .f32 := fun i => if v ≤ M i then Z i else 0

/-- A plane kept where another reaches a value, and zero elsewhere. -/
def gate (v : EReal) (M Z : Plane) : Plane := Matrix.of fun i j => if v ≤ (M i j : EReal) then Z i j else 0

/-- Keeping part of a plane. -/
theorem sieve_up (v : EReal) (M Z : Plane) : sieve v (up M) (up Z) = up (gate v M Z) := by
  funext i
  show (if v ≤ ((M (i 0) (i 1) : ℝ) : EReal) then ((Z (i 0) (i 1) : ℝ) : EReal) else 0)
    = ((if v ≤ ((M (i 0) (i 1) : ℝ) : EReal) then Z (i 0) (i 1) else 0 : ℝ) : EReal)
  split_ifs <;> rfl

/-- Keeping part of four planes. -/
theorem sieve_stack (v : EReal) (M Z : Fin 4 → Plane) : sieve v (stack M) (stack Z) = stack (fun n => gate v (M n) (Z n)) := by
  funext i
  show (if v ≤ ((M (i 0) (i 1) (i 2) : ℝ) : EReal) then ((Z (i 0) (i 1) (i 2) : ℝ) : EReal) else 0)
    = ((if v ≤ ((M (i 0) (i 1) (i 2) : ℝ) : EReal) then Z (i 0) (i 1) (i 2) else 0 : ℝ) : EReal)
  split_ifs <;> rfl

/-- The selection, as a body computes it. -/
theorem sieve_body {s : Shape} (v : Ideal .f32) (M Z : FVec Ideal s .f32) :
    select (cmpf .oge M (broadcast s v)) Z (broadcast s (Scalar.ofBits (F := Ideal) .f32 0x00000000#32)) = sieve v M Z := by
  funext i
  show (if Ideal.cmp .oge (M i) v = 1#1 then Z i else Ideal.ofBits .f32 0x00000000#32) = if v ≤ M i then Z i else 0
  have z : Ideal.ofBits .f32 0x00000000#32 = 0 := by simp [Ideal.ofBits, Ideal.ieee]
  rw [z]
  unfold Ideal.cmp
  by_cases h : v ≤ M i <;> simp [h]

/-- The selection, as the host computes it. -/
theorem sieve_host (v : EReal) (M Z : FVec Ideal S4 .f32) (L : FVec Ideal S0 .f32) (hL : ∀ i, L i = v) (hb : S0.BroadcastsInDim S4 ![]) :
    mulf Z (uitofp .f32 (cmpf .oge M (broadcastInDim S4 ![] hb L))) = sieve v M Z := by
  funext i
  show Z i * (((Ideal.cmp .oge (M i) (L _)).toNat : ℝ) : EReal) = if v ≤ M i then Z i else 0
  rw [hL]
  unfold Ideal.cmp
  by_cases h : v ≤ M i <;> simp [h]

/-- The least of the 2000 largest entries of four planes. -/
structure Threshold (x : FVec Ideal S4 .f32) (v : EReal) : Prop where
  /-- It is not plus infinity. -/
  below : v < ⊤
  /-- At least 2000 entries reach it. -/
  many : 2000 ≤ reach x v
  /-- Fewer reach any greater value. -/
  few : ∀ y : EReal, v < y → reach x y < 2000
  /-- The host computes it. -/
  host : ∀ h1 h2 h3 h4 i, largest x h1 h2 h3 h4 i = v

/-- No modulus lies in the way of the threshold. -/
structure Separated (v : EReal) (M : FVec Ideal S4 .f32) : Prop where
  /-- The threshold is zero, negative or of the size of a normal float. -/
  size : v ≤ 0 ∨ ((val 8388608 : EReal) ≤ v ∧ v ≤ (val 0x7F7FFFFF : EReal))
  /-- No modulus lies just below the threshold. -/
  gap : ∀ i, v ≤ M i ∨ M i * ((1 + (8388608 : ℝ)⁻¹ : ℝ) : EReal) ≤ v

/-- The pattern the search finds keeps the entries that the threshold keeps. -/
theorem sieve_last (v : EReal) (M : FVec Ideal S4 .f32) (hs : Separated v M) (hM : ∀ i, 0 ≤ M i) (Z : FVec Ideal S4 .f32) :
    sieve (val (last v) : EReal) M Z = sieve v M Z := by
  funext i
  show (if (val (last v) : EReal) ≤ M i then Z i else 0) = if v ≤ M i then Z i else 0
  simp only [select_iff v (M i) hs.size (hM i) (hs.gap i)]

/-- The threshold and the separation, from what the precondition computes. -/
theorem separated_of (x M : FVec Ideal S4 .f32) (k1 : S4.ShapeCasts SFlat) (k2 : SFlat.Slices (fun _ => 0) SBest) (k3 : SBest.ReducesTo [0] S0)
    (k4 : 0 < S0.numel) (hb hb' : S0.BroadcastsInDim S4 ![])
    (h1 : ori (cmpf .ole (largest x k1 k2 k3 k4) (constant S0 .f32 0x00000000#32))
      (andi (cmpf .oge (largest x k1 k2 k3 k4) (constant S0 .f32 0x00800000#32)) (cmpf .ole (largest x k1 k2 k3 k4) (constant S0 .f32 0x7F7FFFFF#32))) = fun _ => 1#1)
    (h2 : ori (cmpf .oge M (broadcastInDim S4 ![] hb (largest x k1 k2 k3 k4)))
      (cmpf .ole (mulf M (broadcastInDim S4 ![] hb' (constant S0 .f32 0x3F800001#32))) (broadcastInDim S4 ![] hb (largest x k1 k2 k3 k4))) = fun _ => 1#1) :
    ∃ v, Threshold x v ∧ Separated v M := by
  obtain ⟨v, host, many, few⟩ := largest_spec x k1 k2 k3 k4
  have key := host
  generalize largest x k1 k2 k3 k4 = L at host h1 h2
  have c0 : Ideal.ofBits .f32 0x00000000#32 = 0 := by simp [Ideal.ofBits, Ideal.ieee]
  have c1 : Ideal.ofBits .f32 0x00800000#32 = ((val 8388608 : ℝ) : EReal) := ofBits_val 8388608 (by norm_num)
  have c2 : Ideal.ofBits .f32 0x7F7FFFFF#32 = ((val 0x7F7FFFFF : ℝ) : EReal) := ofBits_val 0x7F7FFFFF (by norm_num)
  have c3 : Ideal.ofBits .f32 0x3F800001#32 = ((1 + (8388608 : ℝ)⁻¹ : ℝ) : EReal) := by
    refine (ofBits_val 0x3F800001 (by norm_num)).trans (congrArg _ ?_)
    norm_num [val, binade]
  have size : v ≤ 0 ∨ ((val 8388608 : EReal) ≤ v ∧ v ≤ (val 0x7F7FFFFF : EReal)) := by
    have e : (Ideal.cmp .ole (L fun a => Fin.elim0 a) (Ideal.ofBits .f32 0x00000000#32))
      ||| ((Ideal.cmp .oge (L fun a => Fin.elim0 a) (Ideal.ofBits .f32 0x00800000#32))
        &&& (Ideal.cmp .ole (L fun a => Fin.elim0 a) (Ideal.ofBits .f32 0x7F7FFFFF#32))) = 1#1 :=
      congrFun h1 fun a => Fin.elim0 a
    rw [host, c0, c1, c2] at e
    unfold Ideal.cmp at e
    by_cases p : v ≤ 0
    · exact Or.inl p
    · refine Or.inr ?_
      by_cases q : (val 8388608 : EReal) ≤ v <;> by_cases r : v ≤ (val 0x7F7FFFFF : EReal) <;> simp_all
  refine ⟨v, ⟨?_, many, few, fun _ _ _ _ => key⟩, size, fun i => ?_⟩
  · rcases size with h | ⟨-, h⟩
    · exact lt_of_le_of_lt h (EReal.coe_lt_top 0)
    · exact lt_of_le_of_lt h (EReal.coe_lt_top _)
  · have e : (Ideal.cmp .oge (M i) (L fun a => Fin.elim0 a))
      ||| (Ideal.cmp .ole (M i * Ideal.ofBits .f32 0x3F800001#32) (L fun a => Fin.elim0 a)) = 1#1 := by
      have f := congrFun h2 i
      rw [show L = fun _ => v from funext host] at f ⊢
      exact f
    rw [host, c3] at e
    unfold Ideal.cmp at e
    by_cases p : v ≤ M i
    · exact Or.inl p
    · refine Or.inr ?_
      by_contra q
      rw [decide_eq_false p, decide_eq_false q] at e
      exact absurd (show (BitVec.ofBool false ||| BitVec.ofBool false) = 1#1 from e) (by decide)

/-- The moduli of four planes, as the host computes them. -/
def size (A B : FVec Ideal S4 .f32) : FVec Ideal S4 .f32 := Host.sqrt (addf (mulf A A) (mulf B B))

/-- A square is nowhere negative. -/
theorem square_nonneg (x : EReal) : 0 ≤ x * x := by
  induction x with
  | bot => simp
  | top => simp
  | coe r => exact_mod_cast mul_self_nonneg r

/-- The root of what is not negative is not negative. -/
theorem root_nonneg (x : EReal) (h : 0 ≤ x) : 0 ≤ Ideal.sqrt x := by
  induction x with
  | bot => exact absurd h (not_le.mpr (EReal.bot_lt_coe 0))
  | top => exact le_top
  | coe r =>
    show (0 : EReal) ≤ if r < 0 then ⊥ else ((Real.sqrt r : ℝ) : EReal)
    rw [if_neg (not_lt.mpr (EReal.coe_nonneg.mp h))]
    exact EReal.coe_nonneg.mpr (Real.sqrt_nonneg r)

/-- The moduli are nowhere negative. -/
theorem size_nonneg (A B : FVec Ideal S4 .f32) (i : S4.Idx) : 0 ≤ size A B i :=
  root_nonneg _ (add_nonneg (square_nonneg (A i)) (square_nonneg (B i)))

end Cert.Phase
-- ==== Proof.Mask.lean ====
module

public import proofs.«01_k».proof.Proof.Body
public import proofs.«01_k».proof.Proof.Gate
public import proofs.«01_k».proof.Proof.Gen.Kernel4Ideal.Frame
public import Idealize.ShloMosaic.Lib.Pipeline.ValueKit
public import Idealize.ShloMosaic.Lib.WholeRead

@[expose] public section

set_option maxRecDepth 16384

noncomputable section

/-! The masking call: what its two results hold, of any contents. -/

namespace Cert.Phase.Mask

open Idealize.ShloMosaic Idealize.SL.Sem Idealize.ShloMosaic.ValueIdx Cert.Kernel4Ideal
open Cert.Kernel4Ideal.Gen Idealize.ShloMosaic.TcCoe
open Idealize.ShloMosaic.Pipeline (Dat Cfg Window)

/-- What a load of one plane reads. -/
theorem seen (arg1 : Memref sig .tc .vmem S4x512x512 .f32) (harg1 : arg1.IsWhole) (X : FVec Ideal S4 .f32) (n : Fin 4)
    (inb : ∀ a, (![n.val, 0, 0] : Fin 3 → ℕ) a + S1x512x512.size a ≤ S4x512x512.size a) :
    View.readAt (Elt Ideal) arg1.view (Rect.unit (s := S4x512x512) ![n.val, 0, 0] S1x512x512.size inb).toLoadRect (harg1.unread X) = part X n := by
  funext x
  rw [Memref.IsWhole.readAt_unread]
  have e : (Rect.unit (s := S4x512x512) ![n.val, 0, 0] S1x512x512.size inb).toLoadRect.idx x = ValueIdx.ix3 n (x 1) (x 2) := by
    funext a
    refine Fin.ext ?_
    fin_cases a
    · show n.val + 1 * (x 0).val = n.val
      have : (x 0).val < 1 := (x 0).isLt
      omega
    · show 0 + 1 * (x 1).val = (x 1).val
      omega
    · show 0 + 1 * (x 2).val = (x 2).val
      omega
  exact congrArg X e

section body

variable (c : Dev nD) (i : grid0.Coords)
  (arg1 : Memref sig .tc .vmem S4x512x512 .f32) (harg1 : arg1.IsWhole) (arg2 : Memref sig .tc .vmem S1x512x512 .f32) (harg2 : arg2.IsWhole) (arg3 : Memref sig .tc .vmem S1x512x512 .f32) (harg3 : arg3.IsWhole)
  (arg4 : Memref sig .tc .vmem S1x512x512 .f32) (harg4 : arg4.IsWhole) (arg5 : Memref sig .tc .vmem S1x512x512 .f32) (harg5 : arg5.IsWhole) (arg6 : Memref sig .tc .smem Cert.Kernel4Ideal.S1 .f32) (harg6 : arg6.IsWhole)

/-- One trip of the loop. -/
theorem trip (hc : k0_cond1 i = 1#1) (X : FVec Ideal S4 .f32) (k : Fin k0_t1_loop.trips) (acc : BitVec 32 × BitVec 32) :
    tripR_k0_t1 (F := Ideal) Variants.none c none i arg1 harg1 arg2 harg2 arg3 harg3 arg4 harg4 arg5 harg5 arg6 harg6 hc (harg1.unread X) k acc
      = (if 2000 ≤ reach X (Ideal.ofBits .f32 (acc.1 + acc.2)) then acc.1 + acc.2 else acc.1, Scalar.divsi acc.2 2#32) := by
  unfold tripR_k0_t1 trip_k0_t1
  dsimp only
  delta trip_k0_t1.sl.v71 trip_k0_t1.sl.v72
  refine congrArg₂ Prod.mk ?_ rfl
  delta trip_k0_t1.sl.v70 trip_k0_t1.sl.v69 trip_k0_t1.sl.v59 trip_k0_t1.sl.v49 trip_k0_t1.sl.v39
  delta trip_k0_t1.sl.v38 trip_k0_t1.sl.v48 trip_k0_t1.sl.v58 trip_k0_t1.sl.v68
  rw [← step_eq X (acc.1 + acc.2) acc.1 shapeCasts_S1x512x512_S512x512 shapeCasts_S512x512_S1x512x512 reduces_S1x512x512_S1
      shapeCasts_S1_S1x1x1 natLt_1_32 (fun a => ⟨(![0, 0, 0] : Fin 3 → ℕ) a, inpos_S1x1x1_p0_0_0 a⟩),
    ← seen arg1 harg1 X 0 inb_S4x512x512_S1x512x512_0_0_0, ← seen arg1 harg1 X 1 inb_S4x512x512_S1x512x512_1_0_0,
    ← seen arg1 harg1 X 2 inb_S4x512x512_S1x512x512_2_0_0, ← seen arg1 harg1 X 3 inb_S4x512x512_S1x512x512_3_0_0]
  rfl

/-- The loop ends at the last pattern whose value is at most the threshold. -/
theorem loop (hc : k0_cond1 i = 1#1) (X : FVec Ideal S4 .f32) (v : EReal) (hv : Threshold X v) :
    (st_k0_t1 (F := Ideal) Variants.none c none i arg1 harg1 arg2 harg2 arg3 harg3 arg4 harg4 arg5 harg5 arg6 harg6 hc (harg1.unread X) (0#32, 1073741824#32) 31).1 = BitVec.ofNat 32 (last v) := by
  have n : k0_t1_loop.trips = 31 := by decide +kernel
  refine search_last X v hv.below hv.many hv.few (fun k => st_k0_t1 (F := Ideal) Variants.none c none i arg1 harg1 arg2 harg2 arg3 harg3 arg4 harg4 arg5 harg5 arg6 harg6 hc (harg1.unread X) (0#32, 1073741824#32) k) (st_k0_t1_zero ..) fun k hk => ?_
  have e := st_k0_t1_succ (F := Ideal) Variants.none c none i arg1 harg1 arg2 harg2 arg3 harg3 arg4 harg4 arg5 harg5 arg6 harg6 hc (harg1.unread X) (0#32, 1073741824#32) ⟨k, by rw [n]; exact hk⟩
  rw [trip c i arg1 harg1 arg2 harg2 arg3 harg3 arg4 harg4 arg5 harg5 arg6 harg6 hc X] at e
  exact e

/-- The word the search stores. -/
theorem word (hc : k0_cond1 i = 1#1) (X : FVec Ideal S4 .f32) (v : EReal) (hv : Threshold X v) :
    k0_pay1 (F := Ideal) (st_k0_t1 (F := Ideal) Variants.none c none i arg1 harg1 arg2 harg2 arg3 harg3 arg4 harg4 arg5 harg5 arg6 harg6 hc (harg1.unread X) (0#32, 1073741824#32)
      (Scf.trips 0#32 (Scalar.addi 0#32 31#32) 1#32)).1 = ((val (last v) : ℝ) : EReal) := by
  have n : Scf.trips 0#32 (Scalar.addi 0#32 31#32) 1#32 = 31 := by decide +kernel
  rw [n, loop c i arg1 harg1 arg2 harg2 arg3 harg3 arg4 harg4 arg5 harg5 arg6 harg6 hc X v hv]
  exact ofBits_val (last v) (last_lt v)

/-- What the first point leaves in the scratch word. -/
theorem scratch (hc0 : cond0_0 i) (X : FVec Ideal S4 .f32) (x1 x2 : Vec Ideal S1x512x512 .f32) (v : EReal) (hv : Threshold X v) :
    sout0_A_0 (F := Ideal) c i arg1 harg1 arg2 harg2 arg3 harg3 arg4 harg4 arg5 harg5 arg6 harg6 hc0 X x1 x2 = fun _ => ((val (last v) : ℝ) : EReal) := by
  unfold sout0_A_0
  frame_out
  exact funext fun _ => word c i arg1 harg1 arg2 harg2 arg3 harg3 arg4 harg4 arg5 harg5 arg6 harg6 hc0 X v hv

/-- What the first point leaves for the real part. -/
theorem first3 (hc0 : cond0_0 i) (X : FVec Ideal S4 .f32) (x1 x2 : Vec Ideal S1x512x512 .f32) (v : EReal) (hv : Threshold X v) :
    out0_A_3 (F := Ideal) c i arg1 harg1 arg2 harg2 arg3 harg3 arg4 harg4 arg5 harg5 arg6 harg6 hc0 X x1 x2 = k0_pay5 (F := Ideal) ((val (last v) : ℝ) : EReal) x1 x2 := by
  unfold out0_A_3
  frame_out
  rw [word c i arg1 harg1 arg2 harg2 arg3 harg3 arg4 harg4 arg5 harg5 arg6 harg6 hc0 X v hv]

/-- What a later point leaves for the real part. -/
theorem later3 (hc0 : ¬cond0_0 i) (X : FVec Ideal S4 .f32) (x1 x2 : Vec Ideal S1x512x512 .f32) (r : EReal) :
    out0_B_3 (F := Ideal) c i arg1 harg1 arg2 harg2 arg3 harg3 arg4 harg4 arg5 harg5 arg6 harg6 hc0 X x1 x2 (fun _ => r) = k0_pay5 (F := Ideal) r x1 x2 := by
  unfold out0_B_3
  frame_out

/-- What the first point leaves for the imaginary part. -/
theorem first4 (hc0 : cond0_0 i) (X : FVec Ideal S4 .f32) (x1 x2 : Vec Ideal S1x512x512 .f32) (v : EReal) (hv : Threshold X v) :
    out0_A_4 (F := Ideal) c i arg1 harg1 arg2 harg2 arg3 harg3 arg4 harg4 arg5 harg5 arg6 harg6 hc0 X x1 x2 = k0_pay6 (F := Ideal) ((val (last v) : ℝ) : EReal) x1 x2 := by
  unfold out0_A_4
  frame_out
  rw [word c i arg1 harg1 arg2 harg2 arg3 harg3 arg4 harg4 arg5 harg5 arg6 harg6 hc0 X v hv]

/-- What a later point leaves for the imaginary part. -/
theorem later4 (hc0 : ¬cond0_0 i) (X : FVec Ideal S4 .f32) (x1 x2 : Vec Ideal S1x512x512 .f32) (r : EReal) :
    out0_B_4 (F := Ideal) c i arg1 harg1 arg2 harg2 arg3 harg3 arg4 harg4 arg5 harg5 arg6 harg6 hc0 X x1 x2 (fun _ => r) = k0_pay6 (F := Ideal) r x1 x2 := by
  unfold out0_B_4
  frame_out

end body

variable (m : (ℓ : Loc nD τ sig) → Buf (Elt Ideal) ℓ)

/-- The plane a grid point works on. -/
def plane (t : Fin cfg0.N) : Fin 4 := ⟨t.val, t.isLt⟩

/-- Window 0's block is the whole array. -/
theorem block0 (c : Dev nD) (A : FVec Ideal S4 .f32) (h : m ((c : Thread nD τ).loc main_arg0) = A) (t : Fin cfg0.N) :
    iblk m c 0 t = A := by
  have e : ∀ t : Fin cfg0.N, win0_0.index t = ![0, 0, 0] := (by decide +kernel : ∀ t : Fin grid0.N, _)
  funext y
  have k : (win0_0.blk t).view.emb y = y := by blk_ext [e]
  blk_simp [iblk]
  rw [V_main_arg0, h, k]

/-- Where window 1's block lies. -/
theorem emb1 (t : Fin cfg0.N) (y : S1.Idx) : (win0_1.blk t).view.emb y = ValueIdx.ix3 (plane t) (y 1) (y 2) := by
  have e : ∀ t : Fin cfg0.N, win0_1.index t = ![t.val, 0, 0] := (by decide +kernel : ∀ t : Fin grid0.N, _)
  blk_ext [e, plane]

/-- Window 1's block is its plane. -/
theorem block1 (c : Dev nD) (A : FVec Ideal S4 .f32) (h : m ((c : Thread nD τ).loc main_arg1) = A) (t : Fin cfg0.N) :
    iblk m c 1 t = part A (plane t) := by
  funext y
  blk_simp [iblk]
  rw [V_main_arg1, h, emb1]
  rfl

/-- Where window 2's block lies. -/
theorem emb2 (t : Fin cfg0.N) (y : S1.Idx) : (win0_2.blk t).view.emb y = ValueIdx.ix3 (plane t) (y 1) (y 2) := by
  have e : ∀ t : Fin cfg0.N, win0_2.index t = ![t.val, 0, 0] := (by decide +kernel : ∀ t : Fin grid0.N, _)
  blk_ext [e, plane]

/-- Window 2's block is its plane. -/
theorem block2 (c : Dev nD) (A : FVec Ideal S4 .f32) (h : m ((c : Thread nD τ).loc main_arg2) = A) (t : Fin cfg0.N) :
    iblk m c 2 t = part A (plane t) := by
  funext y
  blk_simp [iblk]
  rw [V_main_arg2, h, emb2]
  rfl

/-- Where window 3's block lies. -/
theorem emb3 (t : Fin cfg0.N) (y : S1.Idx) : (win0_3.blk t).view.emb y = ValueIdx.ix3 (plane t) (y 1) (y 2) := by
  have e : ∀ t : Fin cfg0.N, win0_3.index t = ![t.val, 0, 0] := (by decide +kernel : ∀ t : Fin grid0.N, _)
  blk_ext [e, plane]

/-- Where window 4's block lies. -/
theorem emb4 (t : Fin cfg0.N) (y : S1.Idx) : (win0_4.blk t).view.emb y = ValueIdx.ix3 (plane t) (y 1) (y 2) := by
  have e : ∀ t : Fin cfg0.N, win0_4.index t = ![t.val, 0, 0] := (by decide +kernel : ∀ t : Fin grid0.N, _)
  blk_ext [e, plane]

/-- What every point leaves. -/
theorem outs (c : Dev nD) (X A B : FVec Ideal S4 .f32) (hX : m ((c : Thread nD τ).loc main_arg0) = X)
    (hA : m ((c : Thread nD τ).loc main_arg1) = A) (hB : m ((c : Thread nD τ).loc main_arg2) = B) (v : EReal) (hv : Threshold X v) :
    ∀ (n : ℕ) (hn : n < cfg0.N), outsAt0 m c n hn
      = (k0_pay5 (F := Ideal) ((val (last v) : ℝ) : EReal) (part A (plane ⟨n, hn⟩)) (part B (plane ⟨n, hn⟩)),
        k0_pay6 (F := Ideal) ((val (last v) : ℝ) : EReal) (part A (plane ⟨n, hn⟩)) (part B (plane ⟨n, hn⟩)),
        fun _ => ((val (last v) : ℝ) : EReal))
  | 0, hn => by
    refine (outsAt0_A m c ⟨0, hn⟩ (Nat.zero_mod _)).trans ?_
    rw [block0 m c X hX, block1 m c A hA, block2 m c B hB, first3 _ _ _ _ _ _ _ _ _ _ _ _ _ _ _ X _ _ v hv,
      first4 _ _ _ _ _ _ _ _ _ _ _ _ _ _ _ X _ _ v hv, scratch _ _ _ _ _ _ _ _ _ _ _ _ _ _ _ X _ _ v hv]
  | n + 1, hn => by
    have h4 : n + 1 < 4 := hn
    refine (outsAt0_B m c ⟨n + 1, hn⟩ (by show ¬ (n + 1) % 4 = 0; omega)).trans ?_
    have e : (outsAt0 m c ((⟨n + 1, hn⟩ : Fin cfg0.N).val - 1) (Nat.lt_of_le_of_lt (Nat.sub_le _ _) (⟨n + 1, hn⟩ : Fin cfg0.N).isLt)).2.2
        = fun _ => ((val (last v) : ℝ) : EReal) := congrArg (fun p => p.2.2) (outs c X A B hX hA hB v hv n (Nat.lt_of_succ_lt hn))
    rw [e, block0 m c X hX, block1 m c A hA, block2 m c B hB, later3, later4]
    rfl

/-- What the body keeps of its blocks: the real part. -/
theorem pay5 (A B : FVec Ideal S4 .f32) (n : Fin 4) (r : EReal) : k0_pay5 (F := Ideal) r (part A n) (part B n) = part (sieve r (size A B) A) n := by
  unfold k0_pay5 k0_pay4 k0_pay3 k0_pay2
  dsimp only
  rw [sieve_body]
  funext i
  obtain ⟨u, p, q, rfl⟩ : ∃ (u : Fin 1) (p q : Fin 512), i = ValueIdx.ix3 u p q := ⟨_, _, _, ValueIdx.eq_ix3 i⟩
  rw [shapeCast_ab_1ab_apply]
  have a := shapeCast_1ab_ab_apply (part A n) shapeCasts_S1x512x512_S512x512 p q
  have b := shapeCast_1ab_ab_apply (part B n) shapeCasts_S1x512x512_S512x512 p q
  unfold sieve
  show (if r ≤ Ideal.sqrt (shapeCast S2 (part A n) _ (ValueIdx.ix2 p q) * shapeCast S2 (part A n) _ (ValueIdx.ix2 p q)
    + shapeCast S2 (part B n) _ (ValueIdx.ix2 p q) * shapeCast S2 (part B n) _ (ValueIdx.ix2 p q)) then shapeCast S2 (part A n) _ (ValueIdx.ix2 p q) else 0) = _
  rw [a, b]
  rfl

/-- The real part's array after the run. -/
theorem final3 (c : Dev nD) (X A B : FVec Ideal S4 .f32) (hX : m ((c : Thread nD τ).loc main_arg0) = X)
    (hA : m ((c : Thread nD τ).loc main_arg1) = A) (hB : m ((c : Thread nD τ).loc main_arg2) = B) (v : EReal) (hv : Threshold X v) :
    (dats m 0 c).arrAt 3 cfg0.N = sieve (val (last v) : EReal) (size A B) A := by
  refine (dats m 0 c).arrAt_eq_of_covers 3 _ (by decide +kernel) fun t hf y => ?_
  blk_simp
  rw [after0_3, outs m c X A B hX hA hB v hv t.val t.isLt]
  dsimp only
  rw [pay5, emb3]
  rfl

/-- What the body keeps of its blocks: the imaginary part. -/
theorem pay6 (A B : FVec Ideal S4 .f32) (n : Fin 4) (r : EReal) : k0_pay6 (F := Ideal) r (part A n) (part B n) = part (sieve r (size A B) B) n := by
  unfold k0_pay6 k0_pay4 k0_pay3 k0_pay2
  dsimp only
  rw [sieve_body]
  funext i
  obtain ⟨u, p, q, rfl⟩ : ∃ (u : Fin 1) (p q : Fin 512), i = ValueIdx.ix3 u p q := ⟨_, _, _, ValueIdx.eq_ix3 i⟩
  rw [shapeCast_ab_1ab_apply]
  have a := shapeCast_1ab_ab_apply (part A n) shapeCasts_S1x512x512_S512x512 p q
  have b := shapeCast_1ab_ab_apply (part B n) shapeCasts_S1x512x512_S512x512 p q
  unfold sieve
  show (if r ≤ Ideal.sqrt (shapeCast S2 (part A n) _ (ValueIdx.ix2 p q) * shapeCast S2 (part A n) _ (ValueIdx.ix2 p q)
    + shapeCast S2 (part B n) _ (ValueIdx.ix2 p q) * shapeCast S2 (part B n) _ (ValueIdx.ix2 p q)) then shapeCast S2 (part B n) _ (ValueIdx.ix2 p q) else 0) = _
  rw [a, b]
  rfl

/-- The imaginary part's array after the run. -/
theorem final4 (c : Dev nD) (X A B : FVec Ideal S4 .f32) (hX : m ((c : Thread nD τ).loc main_arg0) = X)
    (hA : m ((c : Thread nD τ).loc main_arg1) = A) (hB : m ((c : Thread nD τ).loc main_arg2) = B) (v : EReal) (hv : Threshold X v) :
    (dats m 0 c).arrAt 4 cfg0.N = sieve (val (last v) : EReal) (size A B) B := by
  refine (dats m 0 c).arrAt_eq_of_covers 4 _ (by decide +kernel) fun t hf y => ?_
  blk_simp
  rw [after0_4, outs m c X A B hX hA hB v hv t.val t.isLt]
  dsimp only
  rw [pay6, emb4]
  rfl

end Cert.Phase.Mask
-- ==== Proof.MaskReference.lean ====
module

public import proofs.«01_k».proof.Proof.Gate
public import proofs.«01_k».proof.Proof.Gen.Reference4Ideal.Run

@[expose] public section

noncomputable section

/-! The masking call's reference: what its two results are, of any contents. -/

namespace Cert.Phase.Mask.Reference

open Idealize.ShloMosaic Idealize.SL.Sem Cert.Reference4Ideal
open Cert.Reference4Ideal.Gen Idealize.ShloMosaic.TcCoe

variable (m : (ℓ : Loc nD τ sig) → Buf (Elt Ideal) ℓ) (g : Dev nD → PrngReg)

/-- The run of the reference, of any contents. -/
theorem run (X A B : Dev nD → FVec Ideal S4 .f32) (hX : ∀ c : Dev nD, m ((c.tc : Thread nD τ).loc main_arg0) = X c)
    (hA : ∀ c : Dev nD, m ((c.tc : Thread nD τ).loc main_arg1) = A c)
    (hB : ∀ c : Dev nD, m ((c.tc : Thread nD τ).loc main_arg2) = B c) (v : Dev nD → EReal) (hv : ∀ c, Threshold (X c) (v c)) :
    θ_run (defs (F := Ideal)) (onTc (τ := τ) (main (F := Ideal))) ⟨m, fun _ => 0, g⟩ fun r => ∀ c : Dev nD,
      r.2.mem ((c.tc : Thread nD τ).loc main_v9) = sieve (v c) (size (A c) (B c)) (A c)
      ∧ r.2.mem ((c.tc : Thread nD τ).loc main_v10) = sieve (v c) (size (A c) (B c)) (B c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ?_) (Cert.Reference4Ideal.Value.run m g)
  obtain ⟨h0, h1, h2, h3, h4⟩ := h c
  have gates : ∀ Z : FVec Ideal S4 .f32, _ := fun Z => sieve_host (v c) (size (A c) (B c)) Z
    (largest (m ((c.tc : Thread nD τ).loc main_arg0)) shapeCasts_S4x512x512_S1048576 sliceFits_S1048576_S2000 reducesTo_S2000_S_d0 h_S_)
    (by rw [hX c]; exact (hv c).host _ _ _ _) bcast_S_S4x512x512
  refine ⟨h0.trans ?_, h1.trans ?_, h2, h3, h4⟩
  · rw [← gates, ← hA c, ← hB c]
    rfl
  · rw [← gates, ← hA c, ← hB c]
    rfl

end Cert.Phase.Mask.Reference
-- ==== Proof.Separation.lean ====
module

public import proofs.«01_k».proof.Pre_separated
public import proofs.«01_k».proof.Pre_separated4

@[expose] public section

/-! The shape relations the separation condition states. -/

namespace Cert.Phase.Separation

open Idealize.ShloMosaic

/-- The shape relations of the condition on the thresholding call. -/
instance facts2 : Cert.Pre_separated.Facts where
  bcast_S_S4x512x512 := by decide
  bcast_S_S512x512 := by decide
  shapeCasts_S4x512x512_S1048576 := by decide
  sliceFits_S1048576_S2000 := by decide
  reducesTo_S2000_S_d0 := by decide
  h_S_ := by decide

/-- The shape relations of the condition on the masking call. -/
instance facts4 : Cert.Pre_separated4.Facts where
  bcast_S_S4x512x512 := by decide
  shapeCasts_S4x512x512_S1048576 := by decide
  sliceFits_S1048576_S2000 := by decide
  reducesTo_S2000_S_d0 := by decide
  h_S_ := by decide

end Cert.Phase.Separation
-- ==== Proof.AgreeMask.lean ====
module

public import proofs.«01_k».proof.Defs
public import proofs.«01_k».proof.Proof.Mask
public import proofs.«01_k».proof.Proof.MaskReference
public import proofs.«01_k».proof.Proof.Finite
public import proofs.«01_k».proof.Proof.Separation

@[expose] public section

noncomputable section

/-! The masking call and its reference leave the same results. -/

namespace Cert.Phase.Mask

open Idealize.ShloMosaic Idealize.SL.Sem Idealize.ShloMosaic.TcCoe
open Cert.Kernel4Ideal Cert.Kernel4Ideal.Gen

/-- The masking call's two results are the reference's, where no modulus lies just below the threshold. -/
theorem agrees : Cert.algebraic_Kernel4Ideal_Reference4Ideal_pre_separated4 := by
  intro m g m' g' hp ha
  have ev : ∀ c : Dev Cert.Kernel4Ideal.nD, ∃ v, Threshold (m ((c.tc : Thread nD τ).loc main_arg0)) v
      ∧ Separated v (size (m ((c.tc : Thread nD τ).loc main_arg1)) (m ((c.tc : Thread nD τ).loc main_arg2))) := fun c =>
    separated_of _ _ Separation.facts4.shapeCasts_S4x512x512_S1048576 Separation.facts4.sliceFits_S1048576_S2000
      Separation.facts4.reducesTo_S2000_S_d0 Separation.facts4.h_S_ Separation.facts4.bcast_S_S4x512x512 Separation.facts4.bcast_S_S4x512x512
      (hp c).1 (hp c).2
  choose v hv sep using ev
  refine ⟨fun c => sieve (v c) (size (m ((c.tc : Thread nD τ).loc main_arg1)) (m ((c.tc : Thread nD τ).loc main_arg2))) (m ((c.tc : Thread nD τ).loc main_arg1)),
    fun c => sieve (v c) (size (m ((c.tc : Thread nD τ).loc main_arg1)) (m ((c.tc : Thread nD τ).loc main_arg2))) (m ((c.tc : Thread nD τ).loc main_arg2)), ?_,
    Reference.run m' g' (fun c => m ((c.tc : Thread nD τ).loc main_arg0)) (fun c => m ((c.tc : Thread nD τ).loc main_arg1))
      (fun c => m ((c.tc : Thread nD τ).loc main_arg2)) (fun c => (ha c).1) (fun c => (ha c).2.1) (fun c => (ha c).2.2) v hv⟩
  refine (θ_run _ _ _).mono (fun r h c => ?_) (run_main m g)
  exact ⟨((h c).1 3).trans ((final3 m c _ _ _ rfl rfl rfl (v c) (hv c)).trans (sieve_last (v c) _ (sep c) (size_nonneg _ _) _)),
    ((h c).1 4).trans ((final4 m c _ _ _ rfl rfl rfl (v c) (hv c)).trans (sieve_last (v c) _ (sep c) (size_nonneg _ _) _)),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c)))⟩

end Cert.Phase.Mask
-- ==== Proof.LastPassMain.lean ====
module

public import proofs.«01_k».proof.Proof.Gen.Kernel6Ideal.Launch
public import proofs.«01_k».proof.Proof.Gen.Kernel6Ideal.Skeleton
public import proofs.«01_k».proof.Proof.Gen.Kernel6Ideal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

-- a block's coordinates are met one by one along its long axes
set_option maxRecDepth 16384

noncomputable section

/-! The first call of the pass: what it leaves, at whatever the buffers hold when it is entered. -/

namespace Cert.Kernel6Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the buffers hold when the call is entered
variable (V : (c : Dev nD) → (b : Ref sig .tc) → Buf (Elt F) ((c : Thread nD τ).loc b))

/-! # REGION 0 of @main: custom_call 0, `cc0__p1_main_body` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_10_of {c : Dev nD} (dat : Dat τ (Elt F) Unit ℕ (UR sig nD τ) ℕ cfg0 c) (hA : dat.A 10 = V c (Pipeline.arrRef spec0 10))
    (hafter : ∀ t, dat.after 10 t = iblk0 V c 10 t) (t : Fin cfg0.N) (d) : dat.before 10 t d = iblk0 V c 10 t :=
  (dat.before_in_eq_fetched 10 rfl (fun _ => rfl) (fun _ _ _ => rfl) (fun t => by rw [hafter]; unfold Dat.blockOf iblk0; rw [hA]; try rfl) t d).trans
    (by unfold Dat.fetched Dat.blockOf iblk0; rw [hA]; try rfl)
/-- Input window 11's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_11_of {c : Dev nD} (dat : Dat τ (Elt F) Unit ℕ (UR sig nD τ) ℕ cfg0 c) (hA : dat.A 11 = V c (Pipeline.arrRef spec0 11))
    (hafter : ∀ t, dat.after 11 t = iblk0 V c 11 t) (t : Fin cfg0.N) (d) : dat.before 11 t d = iblk0 V c 11 t :=
  (dat.before_in_eq_fetched 11 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S512x512 := Rect.unit (s := S512x512) ![0, 0] S512x512.size inb_S512x512_S512x512_0_0
abbrev r0_1 : Rect S1x512x512 := Rect.unit (s := S1x512x512) ![0, 0, 0] S1x512x512.size inb_S1x512x512_S1x512x512_0_0_0

/-! ## What the body leaves in each output window's buffer -/

/-! ### Values of the body several of the stores name. -/

def k0_pay44 (x0 : Vec F S1x512x512 .f32) (x1 : Vec F S1x512x512 .f32) (x2 : Vec F S1x512x512 .f32) (x3 : Vec F S1x512x512 .f32) (x4 : Vec F S1x512x512 .f32) (x5 : Vec F S1x512x512 .f32) (x6 : Vec F S512x512 .f32) (x7 : Vec F S512x512 .f32) (x8 : Vec F S512x512 .f32) (x9 : Vec F S512x512 .f32) (x10 : Vec F S512x512 .f32) (x11 : Vec F S512x512 .f32) : FVec F S512x512 .f32 :=
  constant S512x512 .f32 0x00000000#32 -- `cst_24`
def k0_pay45 (x0 : Vec F S1x512x512 .f32) (x1 : Vec F S1x512x512 .f32) (x2 : Vec F S1x512x512 .f32) (x3 : Vec F S1x512x512 .f32) (x4 : Vec F S1x512x512 .f32) (x5 : Vec F S1x512x512 .f32) (x6 : Vec F S512x512 .f32) (x7 : Vec F S512x512 .f32) (x8 : Vec F S512x512 .f32) (x9 : Vec F S512x512 .f32) (x10 : Vec F S512x512 .f32) (x11 : Vec F S512x512 .f32) : FVec F S512x512 .f32 :=
  k0_pay2 (View.ld x8 r0_0) -- `v1`
def k0_pay46 (x0 : Vec F S1x512x512 .f32) (x1 : Vec F S1x512x512 .f32) (x2 : Vec F S1x512x512 .f32) (x3 : Vec F S1x512x512 .f32) (x4 : Vec F S1x512x512 .f32) (x5 : Vec F S1x512x512 .f32) (x6 : Vec F S512x512 .f32) (x7 : Vec F S512x512 .f32) (x8 : Vec F S512x512 .f32) (x9 : Vec F S512x512 .f32) (x10 : Vec F S512x512 .f32) (x11 : Vec F S512x512 .f32) : FVec F S512x512 .f32 :=
  k0_pay3 (View.ld x9 r0_0) -- `v3`
def k0_pay47 (x0 : Vec F S1x512x512 .f32) (x1 : Vec F S1x512x512 .f32) (x2 : Vec F S1x512x512 .f32) (x3 : Vec F S1x512x512 .f32) (x4 : Vec F S1x512x512 .f32) (x5 : Vec F S1x512x512 .f32) (x6 : Vec F S512x512 .f32) (x7 : Vec F S512x512 .f32) (x8 : Vec F S512x512 .f32) (x9 : Vec F S512x512 .f32) (x10 : Vec F S512x512 .f32) (x11 : Vec F S512x512 .f32) : FVec F S512x512 .f32 :=
  k0_pay6 (View.ld x6 r0_0) (View.ld x7 r0_0) (View.ld x0 r0_1) (View.ld x1 r0_1) -- `v12`
def k0_pay48 (x0 : Vec F S1x512x512 .f32) (x1 : Vec F S1x512x512 .f32) (x2 : Vec F S1x512x512 .f32) (x3 : Vec F S1x512x512 .f32) (x4 : Vec F S1x512x512 .f32) (x5 : Vec F S1x512x512 .f32) (x6 : Vec F S512x512 .f32) (x7 : Vec F S512x512 .f32) (x8 : Vec F S512x512 .f32) (x9 : Vec F S512x512 .f32) (x10 : Vec F S512x512 .f32) (x11 : Vec F S512x512 .f32) : FVec F S512x512 .f32 :=
  k0_pay7 (View.ld x6 r0_0) (View.ld x7 r0_0) (View.ld x0 r0_1) (View.ld x1 r0_1) -- `v15`
def k0_pay49 (x0 : Vec F S1x512x512 .f32) (x1 : Vec F S1x512x512 .f32) (x2 : Vec F S1x512x512 .f32) (x3 : Vec F S1x512x512 .f32) (x4 : Vec F S1x512x512 .f32) (x5 : Vec F S1x512x512 .f32) (x6 : Vec F S512x512 .f32) (x7 : Vec F S512x512 .f32) (x8 : Vec F S512x512 .f32) (x9 : Vec F S512x512 .f32) (x10 : Vec F S512x512 .f32) (x11 : Vec F S512x512 .f32) : FVec F S512x512 .f32 :=
  k0_pay10 (View.ld x11 r0_0) -- `v23`
def k0_pay50 (x0 : Vec F S1x512x512 .f32) (x1 : Vec F S1x512x512 .f32) (x2 : Vec F S1x512x512 .f32) (x3 : Vec F S1x512x512 .f32) (x4 : Vec F S1x512x512 .f32) (x5 : Vec F S1x512x512 .f32) (x6 : Vec F S512x512 .f32) (x7 : Vec F S512x512 .f32) (x8 : Vec F S512x512 .f32) (x9 : Vec F S512x512 .f32) (x10 : Vec F S512x512 .f32) (x11 : Vec F S512x512 .f32) : FVec F S512x512 .f32 :=
  k0_pay13 (View.ld x8 r0_0) (View.ld x9 r0_0) (View.ld x6 r0_0) (View.ld x7 r0_0) (View.ld x0 r0_1) (View.ld x1 r0_1) (View.ld x2 r0_1) (View.ld x3 r0_1) -- `v28`
def k0_pay51 (x0 : Vec F S1x512x512 .f32) (x1 : Vec F S1x512x512 .f32) (x2 : Vec F S1x512x512 .f32) (x3 : Vec F S1x512x512 .f32) (x4 : Vec F S1x512x512 .f32) (x5 : Vec F S1x512x512 .f32) (x6 : Vec F S512x512 .f32) (x7 : Vec F S512x512 .f32) (x8 : Vec F S512x512 .f32) (x9 : Vec F S512x512 .f32) (x10 : Vec F S512x512 .f32) (x11 : Vec F S512x512 .f32) : FVec F S512x512 .f32 :=
  k0_pay14 (View.ld x8 r0_0) (View.ld x9 r0_0) (View.ld x6 r0_0) (View.ld x7 r0_0) (View.ld x0 r0_1) (View.ld x1 r0_1) (View.ld x2 r0_1) (View.ld x3 r0_1) (View.ld x11 r0_0) -- `v30`
def k0_pay52 (x0 : Vec F S1x512x512 .f32) (x1 : Vec F S1x512x512 .f32) (x2 : Vec F S1x512x512 .f32) (x3 : Vec F S1x512x512 .f32) (x4 : Vec F S1x512x512 .f32) (x5 : Vec F S1x512x512 .f32) (x6 : Vec F S512x512 .f32) (x7 : Vec F S512x512 .f32) (x8 : Vec F S512x512 .f32) (x9 : Vec F S512x512 .f32) (x10 : Vec F S512x512 .f32) (x11 : Vec F S512x512 .f32) : FVec F S512x512 .f32 :=
  k0_pay15 (View.ld x8 r0_0) (View.ld x9 r0_0) (View.ld x6 r0_0) (View.ld x7 r0_0) (View.ld x0 r0_1) (View.ld x1 r0_1) (View.ld x2 r0_1) (View.ld x3 r0_1) -- `v31`
def k0_pay53 (x0 : Vec F S1x512x512 .f32) (x1 : Vec F S1x512x512 .f32) (x2 : Vec F S1x512x512 .f32) (x3 : Vec F S1x512x512 .f32) (x4 : Vec F S1x512x512 .f32) (x5 : Vec F S1x512x512 .f32) (x6 : Vec F S512x512 .f32) (x7 : Vec F S512x512 .f32) (x8 : Vec F S512x512 .f32) (x9 : Vec F S512x512 .f32) (x10 : Vec F S512x512 .f32) (x11 : Vec F S512x512 .f32) : FVec F S512x512 .f32 :=
  k0_pay20 (k0_pay46 x0 x1 x2 x3 x4 x5 x6 x7 x8 x9 x10 x11) (k0_pay49 x0 x1 x2 x3 x4 x5 x6 x7 x8 x9 x10 x11) (k0_pay50 x0 x1 x2 x3 x4 x5 x6 x7 x8 x9 x10 x11) (k0_pay51 x0 x1 x2 x3 x4 x5 x6 x7 x8 x9 x10 x11) (k0_pay52 x0 x1 x2 x3 x4 x5 x6 x7 x8 x9 x10 x11) (k0_pay44 x0 x1 x2 x3 x4 x5 x6 x7 x8 x9 x10 x11) -- `v48`
def k0_pay54 (x0 : Vec F S1x512x512 .f32) (x1 : Vec F S1x512x512 .f32) (x2 : Vec F S1x512x512 .f32) (x3 : Vec F S1x512x512 .f32) (x4 : Vec F S1x512x512 .f32) (x5 : Vec F S1x512x512 .f32) (x6 : Vec F S512x512 .f32) (x7 : Vec F S512x512 .f32) (x8 : Vec F S512x512 .f32) (x9 : Vec F S512x512 .f32) (x10 : Vec F S512x512 .f32) (x11 : Vec F S512x512 .f32) : FVec F S512x512 .f32 :=
  k0_pay24 (k0_pay46 x0 x1 x2 x3 x4 x5 x6 x7 x8 x9 x10 x11) (k0_pay49 x0 x1 x2 x3 x4 x5 x6 x7 x8 x9 x10 x11) (k0_pay50 x0 x1 x2 x3 x4 x5 x6 x7 x8 x9 x10 x11) (k0_pay51 x0 x1 x2 x3 x4 x5 x6 x7 x8 x9 x10 x11) (k0_pay52 x0 x1 x2 x3 x4 x5 x6 x7 x8 x9 x10 x11) (k0_pay44 x0 x1 x2 x3 x4 x5 x6 x7 x8 x9 x10 x11) (View.ld x4 r0_1) (View.ld x5 r0_1) -- `v62`
def k0_pay55 (x0 : Vec F S1x512x512 .f32) (x1 : Vec F S1x512x512 .f32) (x2 : Vec F S1x512x512 .f32) (x3 : Vec F S1x512x512 .f32) (x4 : Vec F S1x512x512 .f32) (x5 : Vec F S1x512x512 .f32) (x6 : Vec F S512x512 .f32) (x7 : Vec F S512x512 .f32) (x8 : Vec F S512x512 .f32) (x9 : Vec F S512x512 .f32) (x10 : Vec F S512x512 .f32) (x11 : Vec F S512x512 .f32) : FVec F S512x512 .f32 :=
  k0_pay25 (k0_pay46 x0 x1 x2 x3 x4 x5 x6 x7 x8 x9 x10 x11) (k0_pay49 x0 x1 x2 x3 x4 x5 x6 x7 x8 x9 x10 x11) (k0_pay50 x0 x1 x2 x3 x4 x5 x6 x7 x8 x9 x10 x11) (k0_pay51 x0 x1 x2 x3 x4 x5 x6 x7 x8 x9 x10 x11) (k0_pay52 x0 x1 x2 x3 x4 x5 x6 x7 x8 x9 x10 x11) (k0_pay44 x0 x1 x2 x3 x4 x5 x6 x7 x8 x9 x10 x11) (View.ld x4 r0_1) -- `v65`
def k0_pay56 (x0 : Vec F S1x512x512 .f32) (x1 : Vec F S1x512x512 .f32) (x2 : Vec F S1x512x512 .f32) (x3 : Vec F S1x512x512 .f32) (x4 : Vec F S1x512x512 .f32) (x5 : Vec F S1x512x512 .f32) (x6 : Vec F S512x512 .f32) (x7 : Vec F S512x512 .f32) (x8 : Vec F S512x512 .f32) (x9 : Vec F S512x512 .f32) (x10 : Vec F S512x512 .f32) (x11 : Vec F S512x512 .f32) : FVec F S512x512 .f32 :=
  k0_pay26 (View.ld x5 r0_1) -- `v67`

/-- Window 12's staging buffer after the body, from the input windows' blocks: its 1 store as pieces, LAST
    FIRST (Lib/Pipeline/FrameBody.lean `View.canon`; the payloads are the skeleton's and the values stated above). -/
def out0_12 (x0 : Vec F S1x512x512 .f32) (x1 : Vec F S1x512x512 .f32) (x2 : Vec F S1x512x512 .f32) (x3 : Vec F S1x512x512 .f32) (x4 : Vec F S1x512x512 .f32) (x5 : Vec F S1x512x512 .f32) (x6 : Vec F S512x512 .f32) (x7 : Vec F S512x512 .f32) (x8 : Vec F S512x512 .f32) (x9 : Vec F S512x512 .f32) (x10 : Vec F S512x512 .f32) (x11 : Vec F S512x512 .f32) : Vec F S1x512x512 .f32 :=
  View.canon [⟨r0_1, k0_pay22 (k0_pay46 x0 x1 x2 x3 x4 x5 x6 x7 x8 x9 x10 x11) (k0_pay49 x0 x1 x2 x3 x4 x5 x6 x7 x8 x9 x10 x11) (k0_pay50 x0 x1 x2 x3 x4 x5 x6 x7 x8 x9 x10 x11) (k0_pay51 x0 x1 x2 x3 x4 x5 x6 x7 x8 x9 x10 x11) (k0_pay52 x0 x1 x2 x3 x4 x5 x6 x7 x8 x9 x10 x11) (k0_pay44 x0 x1 x2 x3 x4 x5 x6 x7 x8 x9 x10 x11)⟩]

/-- Its stores tile the buffer (checked by evaluation), so they cover it. -/
theorem cover0_12 (p0 : Vec F S1x512x512 .f32) (y : S1x512x512.Idx) :
    ∃ pc ∈ ([⟨r0_1, p0⟩] : List (View.Piece (Elt F) S1x512x512 .f32)), y ∈ pc.1.set :=
  View.cover_of_tiled [⟨r0_1, p0⟩] S1x512x512.size (by rfl) y

/-- Window 13's staging buffer after the body, from the input windows' blocks: its 1 store as pieces, LAST
    FIRST (Lib/Pipeline/FrameBody.lean `View.canon`; the payloads are the skeleton's and the values stated above). -/
def out0_13 (x0 : Vec F S1x512x512 .f32) (x1 : Vec F S1x512x512 .f32) (x2 : Vec F S1x512x512 .f32) (x3 : Vec F S1x512x512 .f32) (x4 : Vec F S1x512x512 .f32) (x5 : Vec F S1x512x512 .f32) (x6 : Vec F S512x512 .f32) (x7 : Vec F S512x512 .f32) (x8 : Vec F S512x512 .f32) (x9 : Vec F S512x512 .f32) (x10 : Vec F S512x512 .f32) (x11 : Vec F S512x512 .f32) : Vec F S1x512x512 .f32 :=
  View.canon [⟨r0_1, k0_pay23 (k0_pay46 x0 x1 x2 x3 x4 x5 x6 x7 x8 x9 x10 x11) (k0_pay49 x0 x1 x2 x3 x4 x5 x6 x7 x8 x9 x10 x11) (k0_pay50 x0 x1 x2 x3 x4 x5 x6 x7 x8 x9 x10 x11) (k0_pay51 x0 x1 x2 x3 x4 x5 x6 x7 x8 x9 x10 x11) (k0_pay52 x0 x1 x2 x3 x4 x5 x6 x7 x8 x9 x10 x11) (k0_pay44 x0 x1 x2 x3 x4 x5 x6 x7 x8 x9 x10 x11)⟩]

/-- Its stores tile the buffer (checked by evaluation), so they cover it. -/
theorem cover0_13 (p0 : Vec F S1x512x512 .f32) (y : S1x512x512.Idx) :
    ∃ pc ∈ ([⟨r0_1, p0⟩] : List (View.Piece (Elt F) S1x512x512 .f32)), y ∈ pc.1.set :=
  View.cover_of_tiled [⟨r0_1, p0⟩] S1x512x512.size (by rfl) y

/-- Window 14's staging buffer after the body, from the input windows' blocks: its 1 store as pieces, LAST
    FIRST (Lib/Pipeline/FrameBody.lean `View.canon`; the payloads are the skeleton's and the values stated above). -/
def out0_14 (x0 : Vec F S1x512x512 .f32) (x1 : Vec F S1x512x512 .f32) (x2 : Vec F S1x512x512 .f32) (x3 : Vec F S1x512x512 .f32) (x4 : Vec F S1x512x512 .f32) (x5 : Vec F S1x512x512 .f32) (x6 : Vec F S512x512 .f32) (x7 : Vec F S512x512 .f32) (x8 : Vec F S512x512 .f32) (x9 : Vec F S512x512 .f32) (x10 : Vec F S512x512 .f32) (x11 : Vec F S512x512 .f32) : Vec F S1x512x512 .f32 :=
  View.canon [⟨r0_1, k0_pay37 (k0_pay45 x0 x1 x2 x3 x4 x5 x6 x7 x8 x9 x10 x11) (k0_pay46 x0 x1 x2 x3 x4 x5 x6 x7 x8 x9 x10 x11) (k0_pay53 x0 x1 x2 x3 x4 x5 x6 x7 x8 x9 x10 x11) (k0_pay54 x0 x1 x2 x3 x4 x5 x6 x7 x8 x9 x10 x11) (k0_pay55 x0 x1 x2 x3 x4 x5 x6 x7 x8 x9 x10 x11) (k0_pay56 x0 x1 x2 x3 x4 x5 x6 x7 x8 x9 x10 x11) (View.ld x10 r0_0)⟩]

/-- Its stores tile the buffer (checked by evaluation), so they cover it. -/
theorem cover0_14 (p0 : Vec F S1x512x512 .f32) (y : S1x512x512.Idx) :
    ∃ pc ∈ ([⟨r0_1, p0⟩] : List (View.Piece (Elt F) S1x512x512 .f32)), y ∈ pc.1.set :=
  View.cover_of_tiled [⟨r0_1, p0⟩] S1x512x512.size (by rfl) y

/-- Window 15's staging buffer after the body, from the input windows' blocks: its 1 store as pieces, LAST
    FIRST (Lib/Pipeline/FrameBody.lean `View.canon`; the payloads are the skeleton's and the values stated above). -/
def out0_15 (x0 : Vec F S1x512x512 .f32) (x1 : Vec F S1x512x512 .f32) (x2 : Vec F S1x512x512 .f32) (x3 : Vec F S1x512x512 .f32) (x4 : Vec F S1x512x512 .f32) (x5 : Vec F S1x512x512 .f32) (x6 : Vec F S512x512 .f32) (x7 : Vec F S512x512 .f32) (x8 : Vec F S512x512 .f32) (x9 : Vec F S512x512 .f32) (x10 : Vec F S512x512 .f32) (x11 : Vec F S512x512 .f32) : Vec F S1x512x512 .f32 :=
  View.canon [⟨r0_1, k0_pay38 (k0_pay45 x0 x1 x2 x3 x4 x5 x6 x7 x8 x9 x10 x11) (k0_pay46 x0 x1 x2 x3 x4 x5 x6 x7 x8 x9 x10 x11) (k0_pay53 x0 x1 x2 x3 x4 x5 x6 x7 x8 x9 x10 x11) (k0_pay54 x0 x1 x2 x3 x4 x5 x6 x7 x8 x9 x10 x11) (k0_pay55 x0 x1 x2 x3 x4 x5 x6 x7 x8 x9 x10 x11) (k0_pay56 x0 x1 x2 x3 x4 x5 x6 x7 x8 x9 x10 x11) (View.ld x10 r0_0)⟩]

/-- Its stores tile the buffer (checked by evaluation), so they cover it. -/
theorem cover0_15 (p0 : Vec F S1x512x512 .f32) (y : S1x512x512.Idx) :
    ∃ pc ∈ ([⟨r0_1, p0⟩] : List (View.Piece (Elt F) S1x512x512 .f32)), y ∈ pc.1.set :=
  View.cover_of_tiled [⟨r0_1, p0⟩] S1x512x512.size (by rfl) y

/-- Window 16's staging buffer after the body, from the input windows' blocks: its 1 store as pieces, LAST
    FIRST (Lib/Pipeline/FrameBody.lean `View.canon`; the payloads are the skeleton's and the values stated above). -/
def out0_16 (x0 : Vec F S1x512x512 .f32) (x1 : Vec F S1x512x512 .f32) (x2 : Vec F S1x512x512 .f32) (x3 : Vec F S1x512x512 .f32) (x4 : Vec F S1x512x512 .f32) (x5 : Vec F S1x512x512 .f32) (x6 : Vec F S512x512 .f32) (x7 : Vec F S512x512 .f32) (x8 : Vec F S512x512 .f32) (x9 : Vec F S512x512 .f32) (x10 : Vec F S512x512 .f32) (x11 : Vec F S512x512 .f32) : Vec F S1x512x512 .f32 :=
  View.canon [⟨r0_1, k0_pay41 (k0_pay45 x0 x1 x2 x3 x4 x5 x6 x7 x8 x9 x10 x11) (k0_pay46 x0 x1 x2 x3 x4 x5 x6 x7 x8 x9 x10 x11) (k0_pay47 x0 x1 x2 x3 x4 x5 x6 x7 x8 x9 x10 x11) (k0_pay53 x0 x1 x2 x3 x4 x5 x6 x7 x8 x9 x10 x11) (k0_pay54 x0 x1 x2 x3 x4 x5 x6 x7 x8 x9 x10 x11) (k0_pay55 x0 x1 x2 x3 x4 x5 x6 x7 x8 x9 x10 x11) (k0_pay56 x0 x1 x2 x3 x4 x5 x6 x7 x8 x9 x10 x11) (View.ld x10 r0_0)⟩]

/-- Its stores tile the buffer (checked by evaluation), so they cover it. -/
theorem cover0_16 (p0 : Vec F S1x512x512 .f32) (y : S1x512x512.Idx) :
    ∃ pc ∈ ([⟨r0_1, p0⟩] : List (View.Piece (Elt F) S1x512x512 .f32)), y ∈ pc.1.set :=
  View.cover_of_tiled [⟨r0_1, p0⟩] S1x512x512.size (by rfl) y

/-- Window 17's staging buffer after the body, from the input windows' blocks: its 1 store as pieces, LAST
    FIRST (Lib/Pipeline/FrameBody.lean `View.canon`; the payloads are the skeleton's and the values stated above). -/
def out0_17 (x0 : Vec F S1x512x512 .f32) (x1 : Vec F S1x512x512 .f32) (x2 : Vec F S1x512x512 .f32) (x3 : Vec F S1x512x512 .f32) (x4 : Vec F S1x512x512 .f32) (x5 : Vec F S1x512x512 .f32) (x6 : Vec F S512x512 .f32) (x7 : Vec F S512x512 .f32) (x8 : Vec F S512x512 .f32) (x9 : Vec F S512x512 .f32) (x10 : Vec F S512x512 .f32) (x11 : Vec F S512x512 .f32) : Vec F S1x512x512 .f32 :=
  View.canon [⟨r0_1, k0_pay42 (k0_pay45 x0 x1 x2 x3 x4 x5 x6 x7 x8 x9 x10 x11) (k0_pay46 x0 x1 x2 x3 x4 x5 x6 x7 x8 x9 x10 x11) (k0_pay48 x0 x1 x2 x3 x4 x5 x6 x7 x8 x9 x10 x11) (k0_pay53 x0 x1 x2 x3 x4 x5 x6 x7 x8 x9 x10 x11) (k0_pay54 x0 x1 x2 x3 x4 x5 x6 x7 x8 x9 x10 x11) (k0_pay55 x0 x1 x2 x3 x4 x5 x6 x7 x8 x9 x10 x11) (k0_pay56 x0 x1 x2 x3 x4 x5 x6 x7 x8 x9 x10 x11) (View.ld x10 r0_0)⟩]

/-- Its stores tile the buffer (checked by evaluation), so they cover it. -/
theorem cover0_17 (p0 : Vec F S1x512x512 .f32) (y : S1x512x512.Idx) :
    ∃ pc ∈ ([⟨r0_1, p0⟩] : List (View.Piece (Elt F) S1x512x512 .f32)), y ∈ pc.1.set :=
  View.cover_of_tiled [⟨r0_1, p0⟩] S1x512x512.size (by rfl) y

/-- Window 18's staging buffer after the body, from the input windows' blocks: its 1 store as pieces, LAST
    FIRST (Lib/Pipeline/FrameBody.lean `View.canon`; the payloads are the skeleton's and the values stated above). -/
def out0_18 (x0 : Vec F S1x512x512 .f32) (x1 : Vec F S1x512x512 .f32) (x2 : Vec F S1x512x512 .f32) (x3 : Vec F S1x512x512 .f32) (x4 : Vec F S1x512x512 .f32) (x5 : Vec F S1x512x512 .f32) (x6 : Vec F S512x512 .f32) (x7 : Vec F S512x512 .f32) (x8 : Vec F S512x512 .f32) (x9 : Vec F S512x512 .f32) (x10 : Vec F S512x512 .f32) (x11 : Vec F S512x512 .f32) : Vec F S1x512x512 .f32 :=
  View.canon [⟨r0_1, k0_pay1 (k0_pay43 (k0_pay45 x0 x1 x2 x3 x4 x5 x6 x7 x8 x9 x10 x11) (k0_pay46 x0 x1 x2 x3 x4 x5 x6 x7 x8 x9 x10 x11) (k0_pay47 x0 x1 x2 x3 x4 x5 x6 x7 x8 x9 x10 x11) (k0_pay48 x0 x1 x2 x3 x4 x5 x6 x7 x8 x9 x10 x11) (k0_pay53 x0 x1 x2 x3 x4 x5 x6 x7 x8 x9 x10 x11) (k0_pay54 x0 x1 x2 x3 x4 x5 x6 x7 x8 x9 x10 x11) (k0_pay55 x0 x1 x2 x3 x4 x5 x6 x7 x8 x9 x10 x11) (k0_pay56 x0 x1 x2 x3 x4 x5 x6 x7 x8 x9 x10 x11) (View.ld x10 r0_0))⟩]

/-- Its stores tile the buffer (checked by evaluation), so they cover it. -/
theorem cover0_18 (p0 : Vec F S1x512x512 .f32) (y : S1x512x512.Idx) :
    ∃ pc ∈ ([⟨r0_1, p0⟩] : List (View.Piece (Elt F) S1x512x512 .f32)), y ∈ pc.1.set :=
  View.cover_of_tiled [⟨r0_1, p0⟩] S1x512x512.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel0 (c : Dev nD) (E : Set ℕ) (i : grid0.Coords) (arg1 : Memref sig .tc .vmem S1x512x512 .f32) (harg1 : arg1.IsWhole) (arg2 : Memref sig .tc .vmem S1x512x512 .f32) (harg2 : arg2.IsWhole) (arg3 : Memref sig .tc .vmem S1x512x512 .f32) (harg3 : arg3.IsWhole) (arg4 : Memref sig .tc .vmem S1x512x512 .f32) (harg4 : arg4.IsWhole) (arg5 : Memref sig .tc .vmem S1x512x512 .f32) (harg5 : arg5.IsWhole) (arg6 : Memref sig .tc .vmem S1x512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (arg13 : Memref sig .tc .vmem S1x512x512 .f32) (harg13 : arg13.IsWhole) (arg14 : Memref sig .tc .vmem S1x512x512 .f32) (harg14 : arg14.IsWhole) (arg15 : Memref sig .tc .vmem S1x512x512 .f32) (harg15 : arg15.IsWhole) (arg16 : Memref sig .tc .vmem S1x512x512 .f32) (harg16 : arg16.IsWhole) (arg17 : Memref sig .tc .vmem S1x512x512 .f32) (harg17 : arg17.IsWhole) (arg18 : Memref sig .tc .vmem S1x512x512 .f32) (harg18 : arg18.IsWhole) (arg19 : Memref sig .tc .vmem S1x512x512 .f32) (harg19 : arg19.IsWhole)
    (x0 : Vec F S1x512x512 .f32) (x1 : Vec F S1x512x512 .f32) (x2 : Vec F S1x512x512 .f32) (x3 : Vec F S1x512x512 .f32) (x4 : Vec F S1x512x512 .f32) (x5 : Vec F S1x512x512 .f32) (x6 : Vec F S512x512 .f32) (x7 : Vec F S512x512 .f32) (x8 : Vec F S512x512 .f32) (x9 : Vec F S512x512 .f32) (x10 : Vec F S512x512 .f32) (x11 : Vec F S512x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare (out0_12 x0 x1 x2 x3 x4 x5 x6 x7 x8 x9 x10 x11) ∗ owns (c : Thread nD τ) arg14 fullShare (out0_13 x0 x1 x2 x3 x4 x5 x6 x7 x8 x9 x10 x11) ∗ owns (c : Thread nD τ) arg15 fullShare (out0_14 x0 x1 x2 x3 x4 x5 x6 x7 x8 x9 x10 x11) ∗ owns (c : Thread nD τ) arg16 fullShare (out0_15 x0 x1 x2 x3 x4 x5 x6 x7 x8 x9 x10 x11) ∗ owns (c : Thread nD τ) arg17 fullShare (out0_16 x0 x1 x2 x3 x4 x5 x6 x7 x8 x9 x10 x11) ∗ owns (c : Thread nD τ) arg18 fullShare (out0_17 x0 x1 x2 x3 x4 x5 x6 x7 x8 x9 x10 x11) ∗ owns (c : Thread nD τ) arg19 fullShare (out0_18 x0 x1 x2 x3 x4 x5 x6 x7 x8 x9 x10 x11)) -∗ K ⟨⟩))
      ⊢ wp frame (wpE (defs₀ (F := F)) Variants.none c none) E (cc0__p1_main_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0__p1_main_body_eq_skeleton]; unfold cc0__p1_main_body_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, Hk⟩
  subst hf0 hf1 hf2 hf3 hf4 hf5 hf6 hf7 hf8 hf9 hf10 hf11
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists _; isplitr
    swap; · iexact H12
    ipureintro
    refine (View.read_writes_eq_canon _ _ _ (cover0_12 _)).trans ?_
    rfl
  isplitl [H13]
  · iexists _; isplitr
    swap; · iexact H13
    ipureintro
    refine (View.read_writes_eq_canon _ _ _ (cover0_13 _)).trans ?_
    rfl
  isplitl [H14]
  · iexists _; isplitr
    swap; · iexact H14
    ipureintro
    refine (View.read_writes_eq_canon _ _ _ (cover0_14 _)).trans ?_
    rfl
  isplitl [H15]
  · iexists _; isplitr
    swap; · iexact H15
    ipureintro
    refine (View.read_writes_eq_canon _ _ _ (cover0_15 _)).trans ?_
    rfl
  isplitl [H16]
  · iexists _; isplitr
    swap; · iexact H16
    ipureintro
    refine (View.read_writes_eq_canon _ _ _ (cover0_16 _)).trans ?_
    rfl
  isplitl [H17]
  · iexists _; isplitr
    swap; · iexact H17
    ipureintro
    refine (View.read_writes_eq_canon _ _ _ (cover0_17 _)).trans ?_
    rfl
  iexists _; isplitr
  swap; · iexact H18
  ipureintro
  refine (View.read_writes_eq_canon _ _ _ (cover0_18 _)).trans ?_
  rfl

/-! ## The pipeline's proof data -/

/-- The proof data of pipeline 0 on core `c`: the arrays as the region finds them (`V`); after the body at
    point `t` each input's buffer at its block and each output's at `out0_W` of the input blocks; the invariant the
    class's (Lib/Pipeline/Frame.lean `ΦA`: the scoped rest and the generator register, untouched); nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => iblk0 V c 11 t
    | ⟨12, _⟩ => out0_12 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t)
    | ⟨13, _⟩ => out0_13 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t)
    | ⟨14, _⟩ => out0_14 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t)
    | ⟨15, _⟩ => out0_15 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t)
    | ⟨16, _⟩ => out0_16 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t)
    | ⟨17, _⟩ => out0_17 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t)
    | ⟨18, _⟩ => out0_18 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t)
    | ⟨_ + 19, h⟩ => absurd h (Nat.not_lt.2 (Nat.le_add_left _ _))
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t = iblk0 V c 11 t := by dsimp only [dat0]
theorem after0_12 (c : Dev nD) (t : Fin cfg0.N) : (dat0 V c).after 12 t = out0_12 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) := by dsimp only [dat0]
theorem after0_13 (c : Dev nD) (t : Fin cfg0.N) : (dat0 V c).after 13 t = out0_13 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) := by dsimp only [dat0]
theorem after0_14 (c : Dev nD) (t : Fin cfg0.N) : (dat0 V c).after 14 t = out0_14 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) := by dsimp only [dat0]
theorem after0_15 (c : Dev nD) (t : Fin cfg0.N) : (dat0 V c).after 15 t = out0_15 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) := by dsimp only [dat0]
theorem after0_16 (c : Dev nD) (t : Fin cfg0.N) : (dat0 V c).after 16 t = out0_16 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) := by dsimp only [dat0]
theorem after0_17 (c : Dev nD) (t : Fin cfg0.N) : (dat0 V c).after 17 t = out0_17 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) := by dsimp only [dat0]
theorem after0_18 (c : Dev nD) (t : Fin cfg0.N) : (dat0 V c).after 18 t = out0_18 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d
theorem before0_10 (c : Dev nD) (t : Fin cfg0.N) (d) : (dat0 V c).before 10 t d = iblk0 V c 10 t :=
  before0_10_of V (dat0 V c) (A_eq0 V c 10) (after0_10 V c) t d
theorem before0_11 (c : Dev nD) (t : Fin cfg0.N) (d) : (dat0 V c).before 11 t d = iblk0 V c 11 t :=
  before0_11_of V (dat0 V c) (A_eq0 V c 11) (after0_11 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d))
    ∗ (∃ d, owns (c : Thread nD τ) (st0_12 t) fullShare ((dat0 V c).before 12 t d))
    ∗ (∃ d, owns (c : Thread nD τ) (st0_13 t) fullShare ((dat0 V c).before 13 t d))
    ∗ (∃ d, owns (c : Thread nD τ) (st0_14 t) fullShare ((dat0 V c).before 14 t d))
    ∗ (∃ d, owns (c : Thread nD τ) (st0_15 t) fullShare ((dat0 V c).before 15 t d))
    ∗ (∃ d, owns (c : Thread nD τ) (st0_16 t) fullShare ((dat0 V c).before 16 t d))
    ∗ (∃ d, owns (c : Thread nD τ) (st0_17 t) fullShare ((dat0 V c).before 17 t d))
    ∗ (∃ d, owns (c : Thread nD τ) (st0_18 t) fullShare ((dat0 V c).before 18 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t)
    ∗ owns (c : Thread nD τ) (st0_12 t) fullShare ((dat0 V c).after 12 t)
    ∗ owns (c : Thread nD τ) (st0_13 t) fullShare ((dat0 V c).after 13 t)
    ∗ owns (c : Thread nD τ) (st0_14 t) fullShare ((dat0 V c).after 14 t)
    ∗ owns (c : Thread nD τ) (st0_15 t) fullShare ((dat0 V c).after 15 t)
    ∗ owns (c : Thread nD τ) (st0_16 t) fullShare ((dat0 V c).after 16 t)
    ∗ owns (c : Thread nD τ) (st0_17 t) fullShare ((dat0 V c).after 17 t)
    ∗ owns (c : Thread nD τ) (st0_18 t) fullShare ((dat0 V c).after 18 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10, before0_11]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11, after0_12, after0_13, after0_14, after0_15, after0_16, after0_17, after0_18]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
  iapply (sound_kernel0 c Set.univ (grid0.coords t) _ _ _ _ _ _ _ _ _ _ _ _ _ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  iintro ⟨H0, H1, H2, H3, H4, H5, H6, H7, H8, H9, H10, H11, H12, H13, H14, H15, H16, H17, H18⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iexact H18

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl
end Cert.Kernel6Ideal.Gen

end
-- ==== Proof.LastPassMask.lean ====
module

public import proofs.«01_k».proof.Proof.Gen.Kernel6Ideal.Launch
public import proofs.«01_k».proof.Proof.Gen.Kernel6Ideal.Skeleton
public import proofs.«01_k».proof.Proof.Gen.Kernel6Ideal.Loops
public import proofs.«01_k».proof.Proof.Gen.Kernel6Ideal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

-- a block's coordinates are met one by one along its long axes
set_option maxRecDepth 16384

noncomputable section

/-! The second call of the pass: what it leaves, at whatever the buffers hold when it is entered. The threshold the first point finds stays in the scratch for the others. -/

namespace Cert.Kernel6Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the buffers hold when the call is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's `scf.if` 0 (`k1_h1`), from the grid coordinates (the skeleton's scalar
    chain substituted). -/
abbrev cond1_0 (i : grid1.Coords) : Prop := k1_cond1 i = 1#1
/-- It holds at the first point only — by arithmetic of the point. -/
theorem hcond1_0 : ∀ t : Fin cfg1.N, cond1_0 (grid1.coords t) ↔ t.val % 4 = 0 :=
  (fun t => by
    have ht : t.val < 4 := Nat.lt_of_lt_of_eq t.isLt N_1
    have e0 : (grid1.coords t 0).val = t.val / 1 % 4 := Pipeline.Grid.coords_val t 0 (by decide) rfl
    simp only [cond1_0, k1_cond1, e0]
    word_cmp
   : ∀ t : Fin grid1.N, cond1_0 (grid1.coords t) ↔ t.val % 4 = 0)

/-! ## The kernel body on any staging memrefs: a subtype the run finds -/

/-- One staging buffer of output window 3, through which its contents are stated (`View.read_writes_of_cover`: the
    choice does not matter). -/
abbrev VO1_3 : View sig .tc .vmem S1x512x512 .f32 := (Memref.whole cc1_stg3_0 : Memref sig .tc .vmem S1x512x512 .f32).view
/-- One staging buffer of output window 4, through which its contents are stated (`View.read_writes_of_cover`: the
    choice does not matter). -/
abbrev VO1_4 : View sig .tc .vmem S1x512x512 .f32 := (Memref.whole cc1_stg4_0 : Memref sig .tc .vmem S1x512x512 .f32).view
/-- Each window's current staging memref at point `t`, spelled as the pipeline passes it (`bodyAt1`), and its wholeness. -/
abbrev ms1_0 (t : Fin cfg1.N) : Memref sig .tc .vmem S4x512x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512x512 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512x512 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x512x512 .f32 := win1_4.stage (cfg1.slots t 4)
abbrev hs1_4 (t : Fin cfg1.N) : (ms1_4 t).IsWhole := hstage1_4 ((cfg1.slots t 4).cast nbuf1_4)
/-- The scratch operands: whole scoped buffers of the kernel's own, passed beside the windows. -/
abbrev scM1_0 : Memref sig .tc .smem S1 .f32 := Memref.whole cc1_scratch0
/-- The scratch `arg6` the kernel carries between points, as a view: what it holds is stated through it. -/
abbrev VS1_0 : View sig .tc .smem S1 .f32 := scM1_0.view

/-- What the second call's body never touches: the scoped buffers other than its own, and the generator register. -/
def Aside (c : Dev nD) : sProp 𝕄 :=
  iprop(Pipeline.scopedRestBut (Ix := Unit) (Name := ℕ) (U := UR sig nD τ) (Lvl := ℕ) (Val := Elt F) spec1 c [cc1_scratch0] ∗ (∃ r, prngReg c r))

/-- The frame kit's invariant with the scratch operands as memrefs owned at some contents (`Gen.scopedRest1_eq`,
    Lib/Memref.lean `owns_whole`): what the body obligation hands the run and takes back. -/
theorem PhiA1_eq (c : Dev nD) :
    (Pipeline.ΦA spec1 c : sProp 𝕄)
      = iprop(iprop((∃ d, owns (c : Thread nD τ) scM1_0 fullShare d)) ∗ Aside c) := by
  unfold Pipeline.ΦA Aside; rw [scopedRest1_split]; simp only [scM1_0, owns_whole]; exact equiv_iff.mp ⟨BI.sep_assoc, BI.sep_assoc'⟩

-- (the run's proof term is large: the definition's epilogue — `abstractNestedProofs` — walks it past the default budget)
set_option maxHeartbeats 1000000 in
/-- What the body's stores leave in each output's staging memref, as pieces (last first) IN CASE A (`scf.if` 0 taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_A (c : Dev nD) (i : grid1.Coords) (arg1 : Memref sig .tc .vmem S4x512x512 .f32) (harg1 : arg1.IsWhole) (arg2 : Memref sig .tc .vmem S1x512x512 .f32) (harg2 : arg2.IsWhole) (arg3 : Memref sig .tc .vmem S1x512x512 .f32) (harg3 : arg3.IsWhole) (arg4 : Memref sig .tc .vmem S1x512x512 .f32) (harg4 : arg4.IsWhole) (arg5 : Memref sig .tc .vmem S1x512x512 .f32) (harg5 : arg5.IsWhole) (arg6 : Memref sig .tc .smem S1 .f32) (harg6 : arg6.IsWhole) (hc0 : cond1_0 i)
    (x0 : Vec F S4x512x512 .f32) (x1 : Vec F S1x512x512 .f32) (x2 : Vec F S1x512x512 .f32) :
    Σ' (L3 : List (View.Piece (Elt F) S1x512x512 .f32)), Σ' (L4 : List (View.Piece (Elt F) S1x512x512 .f32)), { LS0 : List (View.Piece (Elt F) S1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS0)) -∗ K ⟨⟩))
          ⊢ wp frame (wpE (defs₀ (F := F)) Variants.none c none) E (cc1__p3_mask_body i arg1 harg1 arg2 harg2 arg3 harg3 arg4 harg4 arg5 harg5 arg6 harg6) K } := by
  refine ⟨?_, ?_, ?_, fun E K => ?run⟩
  case run =>
    simp only [cc1__p3_mask_body_eq_skeleton]; unfold cc1__p3_mask_body_skel
    unfold owns
    iintro ⟨⟨%f0, %hf0, H0⟩, ⟨%f1, %hf1, H1⟩, ⟨%f2, %hf2, H2⟩, ⟨%d3, %f3, -, H3⟩, ⟨%d4, %f4, -, H4⟩, ⟨%ds0, %fs0, -, HS0⟩, Hk⟩
    obtain rfl := harg1.eq_unread hf0; obtain rfl := harg2.eq_unread hf1; obtain rfl := harg3.eq_unread hf2
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    iexists _; iexact HS0

-- (the run's proof term is large: the definition's epilogue — `abstractNestedProofs` — walks it past the default budget)
set_option maxHeartbeats 1000000 in
/-- What the body's stores leave in each output's staging memref, as pieces (last first) IN CASE B (`scf.if` 0 not taken: points 1, 2, 3), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_B (c : Dev nD) (i : grid1.Coords) (arg1 : Memref sig .tc .vmem S4x512x512 .f32) (harg1 : arg1.IsWhole) (arg2 : Memref sig .tc .vmem S1x512x512 .f32) (harg2 : arg2.IsWhole) (arg3 : Memref sig .tc .vmem S1x512x512 .f32) (harg3 : arg3.IsWhole) (arg4 : Memref sig .tc .vmem S1x512x512 .f32) (harg4 : arg4.IsWhole) (arg5 : Memref sig .tc .vmem S1x512x512 .f32) (harg5 : arg5.IsWhole) (arg6 : Memref sig .tc .smem S1 .f32) (harg6 : arg6.IsWhole) (hc0 : ¬cond1_0 i)
    (x0 : Vec F S4x512x512 .f32) (x1 : Vec F S1x512x512 .f32) (x2 : Vec F S1x512x512 .f32) (xs0 : Vec F S1 .f32) :
    Σ' (L3 : List (View.Piece (Elt F) S1x512x512 .f32)), Σ' (L4 : List (View.Piece (Elt F) S1x512x512 .f32)), { LS0 : List (View.Piece (Elt F) S1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ owns (c : Thread nD τ) arg6 fullShare xs0
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ owns (c : Thread nD τ) arg6 fullShare xs0) -∗ K ⟨⟩))
          ⊢ wp frame (wpE (defs₀ (F := F)) Variants.none c none) E (cc1__p3_mask_body i arg1 harg1 arg2 harg2 arg3 harg3 arg4 harg4 arg5 harg5 arg6 harg6) K } := by
  refine ⟨?_, ?_, [], fun E K => ?run⟩
  case run =>
    simp only [cc1__p3_mask_body_eq_skeleton]; unfold cc1__p3_mask_body_skel
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, Hk⟩
    obtain rfl := harg1.eq_unread hf0; obtain rfl := harg2.eq_unread hf1; obtain rfl := harg3.eq_unread hf2; obtain rfl := harg6.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    iexists _; isplitr; · ipureintro; exact harg6.read_unread _
    iexact HS0

/-- Case A's pieces for output 3 tile its block (1 store of `S1x512x512`, checked by the kernel's evaluation: Lib/Ring.lean `Piece.tiledL`, linear in the pieces, through a loop's `@[irreducible]` trip theorem too), so they cover it. -/
theorem cover1_A_3 (c : Dev nD) (i : grid1.Coords) (arg1 : Memref sig .tc .vmem S4x512x512 .f32) (harg1 : arg1.IsWhole) (arg2 : Memref sig .tc .vmem S1x512x512 .f32) (harg2 : arg2.IsWhole) (arg3 : Memref sig .tc .vmem S1x512x512 .f32) (harg3 : arg3.IsWhole) (arg4 : Memref sig .tc .vmem S1x512x512 .f32) (harg4 : arg4.IsWhole) (arg5 : Memref sig .tc .vmem S1x512x512 .f32) (harg5 : arg5.IsWhole) (arg6 : Memref sig .tc .smem S1 .f32) (harg6 : arg6.IsWhole) (hc0 : cond1_0 i)
    (x0 : Vec F S4x512x512 .f32) (x1 : Vec F S1x512x512 .f32) (x2 : Vec F S1x512x512 .f32) (y : S1x512x512.Idx) :
    ∃ pc ∈ (kernelRun1_A c i arg1 harg1 arg2 harg2 arg3 harg3 arg4 harg4 arg5 harg5 arg6 harg6 hc0 x0 x1 x2).1, y ∈ pc.1.set :=
  View.cover_of_tiledL (kernelRun1_A c i arg1 harg1 arg2 harg2 arg3 harg3 arg4 harg4 arg5 harg5 arg6 harg6 hc0 x0 x1 x2).1 S1x512x512.size (by sl_kernel_rfl) y

/-- What case A leaves in output 3's staging buffer: its pieces read back over junk. -/
def out1_A_3 (c : Dev nD) (i : grid1.Coords) (arg1 : Memref sig .tc .vmem S4x512x512 .f32) (harg1 : arg1.IsWhole) (arg2 : Memref sig .tc .vmem S1x512x512 .f32) (harg2 : arg2.IsWhole) (arg3 : Memref sig .tc .vmem S1x512x512 .f32) (harg3 : arg3.IsWhole) (arg4 : Memref sig .tc .vmem S1x512x512 .f32) (harg4 : arg4.IsWhole) (arg5 : Memref sig .tc .vmem S1x512x512 .f32) (harg5 : arg5.IsWhole) (arg6 : Memref sig .tc .smem S1 .f32) (harg6 : arg6.IsWhole) (hc0 : cond1_0 i)
    (x0 : Vec F S4x512x512 .f32) (x1 : Vec F S1x512x512 .f32) (x2 : Vec F S1x512x512 .f32) : Vec F S1x512x512 .f32 :=
  VO1_3.read (Elt F) (VO1_3.writes (Elt F) VO1_3.junk (kernelRun1_A c i arg1 harg1 arg2 harg2 arg3 harg3 arg4 harg4 arg5 harg5 arg6 harg6 hc0 x0 x1 x2).1)

/-- Case A's pieces for output 4 tile its block (1 store of `S1x512x512`, checked by the kernel's evaluation: Lib/Ring.lean `Piece.tiledL`, linear in the pieces, through a loop's `@[irreducible]` trip theorem too), so they cover it. -/
theorem cover1_A_4 (c : Dev nD) (i : grid1.Coords) (arg1 : Memref sig .tc .vmem S4x512x512 .f32) (harg1 : arg1.IsWhole) (arg2 : Memref sig .tc .vmem S1x512x512 .f32) (harg2 : arg2.IsWhole) (arg3 : Memref sig .tc .vmem S1x512x512 .f32) (harg3 : arg3.IsWhole) (arg4 : Memref sig .tc .vmem S1x512x512 .f32) (harg4 : arg4.IsWhole) (arg5 : Memref sig .tc .vmem S1x512x512 .f32) (harg5 : arg5.IsWhole) (arg6 : Memref sig .tc .smem S1 .f32) (harg6 : arg6.IsWhole) (hc0 : cond1_0 i)
    (x0 : Vec F S4x512x512 .f32) (x1 : Vec F S1x512x512 .f32) (x2 : Vec F S1x512x512 .f32) (y : S1x512x512.Idx) :
    ∃ pc ∈ (kernelRun1_A c i arg1 harg1 arg2 harg2 arg3 harg3 arg4 harg4 arg5 harg5 arg6 harg6 hc0 x0 x1 x2).2.1, y ∈ pc.1.set :=
  View.cover_of_tiledL (kernelRun1_A c i arg1 harg1 arg2 harg2 arg3 harg3 arg4 harg4 arg5 harg5 arg6 harg6 hc0 x0 x1 x2).2.1 S1x512x512.size (by sl_kernel_rfl) y

/-- What case A leaves in output 4's staging buffer: its pieces read back over junk. -/
def out1_A_4 (c : Dev nD) (i : grid1.Coords) (arg1 : Memref sig .tc .vmem S4x512x512 .f32) (harg1 : arg1.IsWhole) (arg2 : Memref sig .tc .vmem S1x512x512 .f32) (harg2 : arg2.IsWhole) (arg3 : Memref sig .tc .vmem S1x512x512 .f32) (harg3 : arg3.IsWhole) (arg4 : Memref sig .tc .vmem S1x512x512 .f32) (harg4 : arg4.IsWhole) (arg5 : Memref sig .tc .vmem S1x512x512 .f32) (harg5 : arg5.IsWhole) (arg6 : Memref sig .tc .smem S1 .f32) (harg6 : arg6.IsWhole) (hc0 : cond1_0 i)
    (x0 : Vec F S4x512x512 .f32) (x1 : Vec F S1x512x512 .f32) (x2 : Vec F S1x512x512 .f32) : Vec F S1x512x512 .f32 :=
  VO1_4.read (Elt F) (VO1_4.writes (Elt F) VO1_4.junk (kernelRun1_A c i arg1 harg1 arg2 harg2 arg3 harg3 arg4 harg4 arg5 harg5 arg6 harg6 hc0 x0 x1 x2).2.1)

/-- Case A's pieces for scratch `arg6`, which the kernel carries between points, cover it: 1 piece of `S1` tiling it (Lib/Ring.lean `Piece.tiledL`). -/
theorem scover1_A_0 (c : Dev nD) (i : grid1.Coords) (arg1 : Memref sig .tc .vmem S4x512x512 .f32) (harg1 : arg1.IsWhole) (arg2 : Memref sig .tc .vmem S1x512x512 .f32) (harg2 : arg2.IsWhole) (arg3 : Memref sig .tc .vmem S1x512x512 .f32) (harg3 : arg3.IsWhole) (arg4 : Memref sig .tc .vmem S1x512x512 .f32) (harg4 : arg4.IsWhole) (arg5 : Memref sig .tc .vmem S1x512x512 .f32) (harg5 : arg5.IsWhole) (arg6 : Memref sig .tc .smem S1 .f32) (harg6 : arg6.IsWhole) (hc0 : cond1_0 i)
    (x0 : Vec F S4x512x512 .f32) (x1 : Vec F S1x512x512 .f32) (x2 : Vec F S1x512x512 .f32) (y : S1.Idx) :
    ∃ pc ∈ (kernelRun1_A c i arg1 harg1 arg2 harg2 arg3 harg3 arg4 harg4 arg5 harg5 arg6 harg6 hc0 x0 x1 x2).2.2.1, y ∈ pc.1.set :=
  View.cover_of_tiledL (kernelRun1_A c i arg1 harg1 arg2 harg2 arg3 harg3 arg4 harg4 arg5 harg5 arg6 harg6 hc0 x0 x1 x2).2.2.1 S1.size (by sl_kernel_rfl) y

/-- What case A leaves in scratch `arg6`: its pieces read back over junk. -/
def sout1_A_0 (c : Dev nD) (i : grid1.Coords) (arg1 : Memref sig .tc .vmem S4x512x512 .f32) (harg1 : arg1.IsWhole) (arg2 : Memref sig .tc .vmem S1x512x512 .f32) (harg2 : arg2.IsWhole) (arg3 : Memref sig .tc .vmem S1x512x512 .f32) (harg3 : arg3.IsWhole) (arg4 : Memref sig .tc .vmem S1x512x512 .f32) (harg4 : arg4.IsWhole) (arg5 : Memref sig .tc .vmem S1x512x512 .f32) (harg5 : arg5.IsWhole) (arg6 : Memref sig .tc .smem S1 .f32) (harg6 : arg6.IsWhole) (hc0 : cond1_0 i)
    (x0 : Vec F S4x512x512 .f32) (x1 : Vec F S1x512x512 .f32) (x2 : Vec F S1x512x512 .f32) : Vec F S1 .f32 :=
  VS1_0.read (Elt F) (VS1_0.writes (Elt F) VS1_0.junk (kernelRun1_A c i arg1 harg1 arg2 harg2 arg3 harg3 arg4 harg4 arg5 harg5 arg6 harg6 hc0 x0 x1 x2).2.2.1)

/-- Case B's pieces for output 3 tile its block (1 store of `S1x512x512`, checked by the kernel's evaluation: Lib/Ring.lean `Piece.tiledL`, linear in the pieces, through a loop's `@[irreducible]` trip theorem too), so they cover it. -/
theorem cover1_B_3 (c : Dev nD) (i : grid1.Coords) (arg1 : Memref sig .tc .vmem S4x512x512 .f32) (harg1 : arg1.IsWhole) (arg2 : Memref sig .tc .vmem S1x512x512 .f32) (harg2 : arg2.IsWhole) (arg3 : Memref sig .tc .vmem S1x512x512 .f32) (harg3 : arg3.IsWhole) (arg4 : Memref sig .tc .vmem S1x512x512 .f32) (harg4 : arg4.IsWhole) (arg5 : Memref sig .tc .vmem S1x512x512 .f32) (harg5 : arg5.IsWhole) (arg6 : Memref sig .tc .smem S1 .f32) (harg6 : arg6.IsWhole) (hc0 : ¬cond1_0 i)
    (x0 : Vec F S4x512x512 .f32) (x1 : Vec F S1x512x512 .f32) (x2 : Vec F S1x512x512 .f32) (xs0 : Vec F S1 .f32) (y : S1x512x512.Idx) :
    ∃ pc ∈ (kernelRun1_B c i arg1 harg1 arg2 harg2 arg3 harg3 arg4 harg4 arg5 harg5 arg6 harg6 hc0 x0 x1 x2 xs0).1, y ∈ pc.1.set :=
  View.cover_of_tiledL (kernelRun1_B c i arg1 harg1 arg2 harg2 arg3 harg3 arg4 harg4 arg5 harg5 arg6 harg6 hc0 x0 x1 x2 xs0).1 S1x512x512.size (by sl_kernel_rfl) y

/-- What case B leaves in output 3's staging buffer: its pieces read back over junk. -/
def out1_B_3 (c : Dev nD) (i : grid1.Coords) (arg1 : Memref sig .tc .vmem S4x512x512 .f32) (harg1 : arg1.IsWhole) (arg2 : Memref sig .tc .vmem S1x512x512 .f32) (harg2 : arg2.IsWhole) (arg3 : Memref sig .tc .vmem S1x512x512 .f32) (harg3 : arg3.IsWhole) (arg4 : Memref sig .tc .vmem S1x512x512 .f32) (harg4 : arg4.IsWhole) (arg5 : Memref sig .tc .vmem S1x512x512 .f32) (harg5 : arg5.IsWhole) (arg6 : Memref sig .tc .smem S1 .f32) (harg6 : arg6.IsWhole) (hc0 : ¬cond1_0 i)
    (x0 : Vec F S4x512x512 .f32) (x1 : Vec F S1x512x512 .f32) (x2 : Vec F S1x512x512 .f32) (xs0 : Vec F S1 .f32) : Vec F S1x512x512 .f32 :=
  VO1_3.read (Elt F) (VO1_3.writes (Elt F) VO1_3.junk (kernelRun1_B c i arg1 harg1 arg2 harg2 arg3 harg3 arg4 harg4 arg5 harg5 arg6 harg6 hc0 x0 x1 x2 xs0).1)

/-- Case B's pieces for output 4 tile its block (1 store of `S1x512x512`, checked by the kernel's evaluation: Lib/Ring.lean `Piece.tiledL`, linear in the pieces, through a loop's `@[irreducible]` trip theorem too), so they cover it. -/
theorem cover1_B_4 (c : Dev nD) (i : grid1.Coords) (arg1 : Memref sig .tc .vmem S4x512x512 .f32) (harg1 : arg1.IsWhole) (arg2 : Memref sig .tc .vmem S1x512x512 .f32) (harg2 : arg2.IsWhole) (arg3 : Memref sig .tc .vmem S1x512x512 .f32) (harg3 : arg3.IsWhole) (arg4 : Memref sig .tc .vmem S1x512x512 .f32) (harg4 : arg4.IsWhole) (arg5 : Memref sig .tc .vmem S1x512x512 .f32) (harg5 : arg5.IsWhole) (arg6 : Memref sig .tc .smem S1 .f32) (harg6 : arg6.IsWhole) (hc0 : ¬cond1_0 i)
    (x0 : Vec F S4x512x512 .f32) (x1 : Vec F S1x512x512 .f32) (x2 : Vec F S1x512x512 .f32) (xs0 : Vec F S1 .f32) (y : S1x512x512.Idx) :
    ∃ pc ∈ (kernelRun1_B c i arg1 harg1 arg2 harg2 arg3 harg3 arg4 harg4 arg5 harg5 arg6 harg6 hc0 x0 x1 x2 xs0).2.1, y ∈ pc.1.set :=
  View.cover_of_tiledL (kernelRun1_B c i arg1 harg1 arg2 harg2 arg3 harg3 arg4 harg4 arg5 harg5 arg6 harg6 hc0 x0 x1 x2 xs0).2.1 S1x512x512.size (by sl_kernel_rfl) y

/-- What case B leaves in output 4's staging buffer: its pieces read back over junk. -/
def out1_B_4 (c : Dev nD) (i : grid1.Coords) (arg1 : Memref sig .tc .vmem S4x512x512 .f32) (harg1 : arg1.IsWhole) (arg2 : Memref sig .tc .vmem S1x512x512 .f32) (harg2 : arg2.IsWhole) (arg3 : Memref sig .tc .vmem S1x512x512 .f32) (harg3 : arg3.IsWhole) (arg4 : Memref sig .tc .vmem S1x512x512 .f32) (harg4 : arg4.IsWhole) (arg5 : Memref sig .tc .vmem S1x512x512 .f32) (harg5 : arg5.IsWhole) (arg6 : Memref sig .tc .smem S1 .f32) (harg6 : arg6.IsWhole) (hc0 : ¬cond1_0 i)
    (x0 : Vec F S4x512x512 .f32) (x1 : Vec F S1x512x512 .f32) (x2 : Vec F S1x512x512 .f32) (xs0 : Vec F S1 .f32) : Vec F S1x512x512 .f32 :=
  VO1_4.read (Elt F) (VO1_4.writes (Elt F) VO1_4.junk (kernelRun1_B c i arg1 harg1 arg2 harg2 arg3 harg3 arg4 harg4 arg5 harg5 arg6 harg6 hc0 x0 x1 x2 xs0).2.1)

/-- Case B stores nothing into scratch `arg6`: it holds what the point before left. -/
def sout1_B_0 (c : Dev nD) (i : grid1.Coords) (arg1 : Memref sig .tc .vmem S4x512x512 .f32) (harg1 : arg1.IsWhole) (arg2 : Memref sig .tc .vmem S1x512x512 .f32) (harg2 : arg2.IsWhole) (arg3 : Memref sig .tc .vmem S1x512x512 .f32) (harg3 : arg3.IsWhole) (arg4 : Memref sig .tc .vmem S1x512x512 .f32) (harg4 : arg4.IsWhole) (arg5 : Memref sig .tc .vmem S1x512x512 .f32) (harg5 : arg5.IsWhole) (arg6 : Memref sig .tc .smem S1 .f32) (harg6 : arg6.IsWhole) (hc0 : ¬cond1_0 i)
    (x0 : Vec F S4x512x512 .f32) (x1 : Vec F S1x512x512 .f32) (x2 : Vec F S1x512x512 .f32) (xs0 : Vec F S1 .f32) : Vec F S1 .f32 := xs0

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before1_W_κ`). An assignment of the conditions no point meets is no case (`False.elim`). -/
def outsAt1 (c : Dev nD) : (n : ℕ) → n < cfg1.N → Vec F S1x512x512 .f32 × Vec F S1x512x512 .f32 × Vec F S1 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) ((hcond1_0 ⟨0, hn⟩).mpr (Nat.zero_mod _)) (iblk1 V c 0 ⟨0, hn⟩) (iblk1 V c 1 ⟨0, hn⟩) (iblk1 V c 2 ⟨0, hn⟩), out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) ((hcond1_0 ⟨0, hn⟩).mpr (Nat.zero_mod _)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) ((hcond1_0 ⟨0, hn⟩).mpr (Nat.zero_mod _)) (iblk1 V c 0 ⟨0, hn⟩) (iblk1 V c 1 ⟨0, hn⟩) (iblk1 V c 2 ⟨0, hn⟩))
  | n + 1, hn =>
    if h0 : (n + 1) % 4 = 0 then
      (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) ((hcond1_0 ⟨n + 1, hn⟩).mpr h0) (iblk1 V c 0 ⟨n + 1, hn⟩) (iblk1 V c 1 ⟨n + 1, hn⟩) (iblk1 V c 2 ⟨n + 1, hn⟩), out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) ((hcond1_0 ⟨n + 1, hn⟩).mpr h0) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) ((hcond1_0 ⟨n + 1, hn⟩).mpr h0) (iblk1 V c 0 ⟨n + 1, hn⟩) (iblk1 V c 1 ⟨n + 1, hn⟩) (iblk1 V c 2 ⟨n + 1, hn⟩))
    else
      (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.2, out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.2)

/-- `outsAt1` at a point of case A: that case's contents. -/
theorem outsAt1_A (c : Dev nD) (t : Fin cfg1.N) (h0 : t.val % 4 = 0) :
    outsAt1 V c t.val t.isLt = (out1_A_3 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (iblk1 V c 0 t) (iblk1 V c 1 t) (iblk1 V c 2 t), out1_A_4 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (iblk1 V c 0 t) (iblk1 V c 1 t) (iblk1 V c 2 t)) := by
  obtain ⟨n, hn⟩ := t
  cases n with
  | zero => exact rfl
  | succ n => exact (dif_pos h0).trans rfl

/-- `outsAt1` at a point of case B: that case's contents, over what the point before left. -/
theorem outsAt1_B (c : Dev nD) (t : Fin cfg1.N) (h0 : ¬t.val % 4 = 0) :
    outsAt1 V c t.val t.isLt = (out1_B_3 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (iblk1 V c 0 t) (iblk1 V c 1 t) (iblk1 V c 2 t) (outsAt1 V c (t.val - 1) (Nat.lt_of_le_of_lt (Nat.sub_le _ _) t.isLt)).2.2, out1_B_4 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (iblk1 V c 0 t) (iblk1 V c 1 t) (iblk1 V c 2 t) (outsAt1 V c (t.val - 1) (Nat.lt_of_le_of_lt (Nat.sub_le _ _) t.isLt)).2.2, sout1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (iblk1 V c 0 t) (iblk1 V c 1 t) (iblk1 V c 2 t) (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt1`'s scratch components), the others at anything, and the generator register
    at some state. -/
def PhiS (c : Dev nD) : (n : ℕ) → n ≤ cfg1.N → sProp 𝕄
  | 0, _ => Pipeline.ΦA spec1 c
  | n + 1, hn => iprop(iprop(owns (c : Thread nD τ) scM1_0 fullShare ((outsAt1 V c n hn).2.2)) ∗ Aside c)

theorem PhiS_zero (c : Dev nD) (n : ℕ) (h : n ≤ cfg1.N) (hz : n = 0) : PhiS V c n h = Pipeline.ΦA spec1 c := by
  subst hz; rfl

/-- After point `n` (before point `n + 1`): the carried scratch at that point's contents. -/
theorem PhiS_succ (c : Dev nD) (n : ℕ) (hn : n < cfg1.N) :
    PhiS V c (n + 1) hn = iprop(iprop(owns (c : Thread nD τ) scM1_0 fullShare ((outsAt1 V c n hn).2.2)) ∗ Aside c) := rfl

/-- Before a point that is not the first: the carried scratch at what the point before left. -/
theorem PhiS_pos (c : Dev nD) (n : ℕ) (h : n ≤ cfg1.N) (hz : n ≠ 0) :
    PhiS V c n h = iprop(iprop(owns (c : Thread nD τ) scM1_0 fullShare ((outsAt1 V c (n - 1) (by omega)).2.2)) ∗ Aside c) := by
  cases n with
  | zero => exact absurd rfl hz
  | succ n => rfl

/-! ## The pipeline's proof data -/

/-- The proof data of the one pipeline on core `c`: the arrays as the region finds them (`V`); after the body at
    point `t` each input's buffer at its block and the outputs' at `outsAt1`; the invariant the class's
    (`PhiS`: the class's `ΦA` before the first point, then the scoped rest with the carried scratch at `outsAt1`'s component);
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
    | ⟨4, _⟩ => (outsAt1 V c t.val t.isLt).2.1
  Φ t := PhiS V c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq1 (c : Dev nD) (w : Fin cfg1.W) : (dat1 V c).A w = V c (Pipeline.arrRef spec1 w) := by
  dsimp only [dat1]

/-- The invariant at a point's start (the proof data at `t.castSucc`), restated at `t.val`. -/
theorem PhiS_castSucc (c : Dev nD) (t : Fin cfg1.N) :
    (dat1 V c).Φ t.castSucc = PhiS V c t.val (Nat.le_of_lt t.isLt) := by
  dsimp only [dat1]; exact Pipeline.Dat.Φ_castSucc (PhiS V c) t

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem after1_4 (c : Dev nD) (t : Fin cfg1.N) : (dat1 V c).after 4 t = (outsAt1 V c t.val t.isLt).2.1 := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t))

set_option maxHeartbeats 3200000 in
/-- The body at any point: the inputs' memrefs hold their blocks (`before1_W`); the closed forms say which case the point is in (`by_cases`), an output the case reads before covering holds what the point before left (`before1_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl,
    after1_0, after1_1, after1_2, after1_3, after1_4]
  rw [show (dat1 V c).Φ t.succ = PhiS V c (t.val + 1) t.isLt from rfl, PhiS_succ]
  have hN : t.val < 4 := lt_of_lt_of_eq t.isLt (show cfg1.N = 4 from N_1)
  by_cases h0 : t.val % 4 = 0
  · by_cases hz : t.val = 0
    · rw [PhiS_castSucc V c t, PhiS_zero V c _ _ hz, PhiA1_eq]
      rw [outsAt1_A V c t h0]
      unfold out1_A_3 out1_A_4 sout1_A_0; (try dsimp only)
      iintro ⟨⟨HS0, Hg⟩, Ho, ⟨%d0, H0⟩, ⟨%d1, H1⟩, ⟨%d2, H2⟩, ⟨%d3, H3⟩, ⟨%d4, H4⟩⟩
      iapply ((kernelRun1_A c (grid1.coords t) _ _ _ _ _ _ _ _ _ _ _ _ ((hcond1_0 t).mpr h0) (iblk1 V c 0 t) (iblk1 V c 1 t) (iblk1 V c 2 t)).2.2.2 Set.univ _)
      isplitl [H0]; · iexact H0
      isplitl [H1]; · iexact H1
      isplitl [H2]; · iexact H2
      isplitl [H3]; · iexists _; iexact H3
      isplitl [H4]; · iexists _; iexact H4
      isplitl [HS0]; · iexact HS0
      iintro ⟨H0, H1, H2, ⟨%e3, H3⟩, ⟨%e4, H4⟩, ⟨%es0, HS0⟩⟩
      isplitl [HS0 Hg]
      · isplitl [HS0]
        · unfold owns; iexists _; isplitr
          swap; · iexact HS0
          ipureintro; exact View.read_writes_of_cover _ _ _ _ _ (scover1_A_0 c _ _ _ _ _ _ _ _ _ _ _ _ _ _ _ _ _)
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover1_A_3 c _ _ _ _ _ _ _ _ _ _ _ _ _ _ _ _ _)
      unfold owns; iexists _; isplitr
      swap; · iexact H4
      ipureintro; exact View.read_writes_of_cover _ _ _ _ _ (cover1_A_4 c _ _ _ _ _ _ _ _ _ _ _ _ _ _ _ _ _)
    · exfalso; have hN : t.val < 4 := lt_of_lt_of_eq t.isLt (show cfg1.N = 4 from N_1); omega
  · by_cases hz : t.val = 0
    · exfalso; have hN : t.val < 4 := lt_of_lt_of_eq t.isLt (show cfg1.N = 4 from N_1); omega
    · rw [PhiS_castSucc V c t, PhiS_pos V c _ _ hz]
      rw [outsAt1_B V c t h0]
      unfold out1_B_3 out1_B_4 sout1_B_0; (try dsimp only)
      iintro ⟨⟨HS0, Hg⟩, Ho, ⟨%d0, H0⟩, ⟨%d1, H1⟩, ⟨%d2, H2⟩, ⟨%d3, H3⟩, ⟨%d4, H4⟩⟩
      iapply ((kernelRun1_B c (grid1.coords t) _ _ _ _ _ _ _ _ _ _ _ _ (fun h => h0 ((hcond1_0 t).mp h)) (iblk1 V c 0 t) (iblk1 V c 1 t) (iblk1 V c 2 t) _).2.2.2 Set.univ _)
      isplitl [H0]; · iexact H0
      isplitl [H1]; · iexact H1
      isplitl [H2]; · iexact H2
      isplitl [H3]; · iexists _; iexact H3
      isplitl [H4]; · iexists _; iexact H4
      isplitl [HS0]; · iexact HS0
      iintro ⟨H0, H1, H2, ⟨%e3, H3⟩, ⟨%e4, H4⟩, HS0⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover1_B_3 c _ _ _ _ _ _ _ _ _ _ _ _ _ _ _ _ _ _)
      unfold owns; iexists _; isplitr
      swap; · iexact H4
      ipureintro; exact View.read_writes_of_cover _ _ _ _ _ (cover1_B_4 c _ _ _ _ _ _ _ _ _ _ _ _ _ _ _ _ _ _)

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

/-- What the launch hands the region (`ΦA`) is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives `ΦA` back: the carried scratch's named contents are forgotten. -/
theorem Phi_out (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨HS0, Hg⟩
  isplitl [HS0]
  · iexists _; iexact HS0
  iexact Hg

/-- The same after the last point. -/
theorem hout1 (c : Dev nD) : (dat1 V c).Φ (Fin.last cfg1.N) ⊢ Pipeline.ΦA spec1 c :=
  Phi_out V c _ (by rw [Fin.val_last]; have : cfg1.N = 4 := N_1; omega)

end Cert.Kernel6Ideal.Gen

end
-- ==== Proof.LastPassRun.lean ====
module

public import proofs.«01_k».proof.Proof.LastPassMain
public import proofs.«01_k».proof.Proof.LastPassMask

@[expose] public section

-- a block's coordinates are met one by one along its long axes
set_option maxRecDepth 16384

noncomputable section

/-! The pass as a whole: its calls one after the other, from the launch to the return. -/

namespace Cert.Kernel6Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3, main_arg4, main_arg5, main_arg6, main_arg7]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_v2, main_c, main_v3, main_v4, main_cst, main_v5, main_cst_0, main_v6, main_cst_1, main_v7, main_v8, main_v9, main_v10, main_v11, main_v12, main_v13, main_v14]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`) (region 1's entry). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves (the inputs as entered, each output's write-backs
    folded: `Dat.arrAt … N`), every other buffer as entered (Lib/Pipeline/FrameSuffix.lean `withArrays`). -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- A reference that is none of region 1's OUTPUT arrays keeps its entry contents across it: an input window's
    array is never written back (`Dat.arrAt_in`, `A_eq1`); any other buffer is left as is. -/
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn1 a ha)).trans (W2_args m ρ c a ha)
/-- The same read at the TensorCore's references (region 1's exit contents). -/
abbrev V3 : (c : Dev nD) → (b : Ref sig .tc) → Buf (Elt F) ((c : Thread nD τ).loc b) := fun c b => W3 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ### The arguments end as launched: no host stretch writes one and no region may change one (a region reads it
    through an input window or bypasses it) -/

theorem W3_main_arg0 (c : Dev nD) : W3 m ρ c (Proc.devRef .tc main_arg0) = m ((c : Thread nD τ).loc main_arg0) :=
  W3_args m ρ c main_arg0 (by decide)
theorem W3_main_arg1 (c : Dev nD) : W3 m ρ c (Proc.devRef .tc main_arg1) = m ((c : Thread nD τ).loc main_arg1) :=
  W3_args m ρ c main_arg1 (by decide)
theorem W3_main_arg2 (c : Dev nD) : W3 m ρ c (Proc.devRef .tc main_arg2) = m ((c : Thread nD τ).loc main_arg2) :=
  W3_args m ρ c main_arg2 (by decide)
theorem W3_main_arg3 (c : Dev nD) : W3 m ρ c (Proc.devRef .tc main_arg3) = m ((c : Thread nD τ).loc main_arg3) :=
  W3_args m ρ c main_arg3 (by decide)
theorem W3_main_arg4 (c : Dev nD) : W3 m ρ c (Proc.devRef .tc main_arg4) = m ((c : Thread nD τ).loc main_arg4) :=
  W3_args m ρ c main_arg4 (by decide)
theorem W3_main_arg5 (c : Dev nD) : W3 m ρ c (Proc.devRef .tc main_arg5) = m ((c : Thread nD τ).loc main_arg5) :=
  W3_args m ρ c main_arg5 (by decide)
theorem W3_main_arg6 (c : Dev nD) : W3 m ρ c (Proc.devRef .tc main_arg6) = m ((c : Thread nD τ).loc main_arg6) :=
  W3_args m ρ c main_arg6 (by decide)
theorem W3_main_arg7 (c : Dev nD) : W3 m ρ c (Proc.devRef .tc main_arg7) = m ((c : Thread nD τ).loc main_arg7) :=
  W3_args m ρ c main_arg7 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W3`, the generator register at some state. -/
abbrev Tₙ (c : Dev nD) : sProp 𝕄 := iprop(StableHlo.held (c : Thread nD τ) (Pipeline.ucRefs τ sig) (W3 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W2`, left at `W3`
    (what the launch reads at the end). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop(Pipeline.scopedRest (Ix := Unit) (Name := ℕ) (U := UR sig nD τ) (Lvl := ℕ) (Val := Elt F) spec1 c ∗ ∃ r, prngReg c r) ⊢ (pdats m ρ 1 c).Φ 0 := hin1 (V2 m ρ) c
    iintro ⟨Hp, -, Hr⟩
    iapply h
    isplitl [Hr]; · iexact Hr
    iexact Hp
  hout c := by
    rw [Pipeline.ownSems0_none]
    have h : (pdats m ρ 1 c).Φ (Fin.last _) ⊢ iprop(Pipeline.scopedRest (Ix := Unit) (Name := ℕ) (U := UR sig nD τ) (Lvl := ℕ) (Val := Elt F) spec1 c ∗ ∃ r, prngReg c r) := hout1 (V2 m ρ) c
    iintro HΦ
    ihave HΦ := h $$ HΦ
    icases HΦ with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 3 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- What a run leaves: every buffer outside the pipelines' own at the last contents, every semaphore at zero. -/
theorem run_last : θ_run defs (onTc (τ := τ) (main (F := F))) ⟨m, fun _ => 0, ρ⟩ (fun r =>
    (∀ c : Dev nD, ∀ b ∈ Pipeline.ucRefs τ sig, r.2.mem (((c : Thread nD τ)).1, b) = W3 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => ⟨h, funext fun g => hz g (.inr (no_unscoped g.2))⟩)

/-- A run leaves the arguments as they were, and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run _ _ _).mono (fun _ h => ⟨fun c =>
      ⟨(h.1 c _ (mem_uc main_arg0 (by decide))).trans (W3_main_arg0 m ρ c),
       (h.1 c _ (mem_uc main_arg1 (by decide))).trans (W3_main_arg1 m ρ c),
       (h.1 c _ (mem_uc main_arg2 (by decide))).trans (W3_main_arg2 m ρ c),
       (h.1 c _ (mem_uc main_arg3 (by decide))).trans (W3_main_arg3 m ρ c),
       (h.1 c _ (mem_uc main_arg4 (by decide))).trans (W3_main_arg4 m ρ c),
       (h.1 c _ (mem_uc main_arg5 (by decide))).trans (W3_main_arg5 m ρ c),
       (h.1 c _ (mem_uc main_arg6 (by decide))).trans (W3_main_arg6 m ρ c),
       (h.1 c _ (mem_uc main_arg7 (by decide))).trans (W3_main_arg7 m ρ c)⟩, h.2⟩) (run_last m ρ)

end Cert.Kernel6Ideal.Gen

end
-- ==== Proof.LastPassBits.lean ====
module

public import proofs.«01_k».proof.Proof.LastPassRun
public import proofs.«01_k».proof.Proof.Gen.Kernel6.Launch
public import proofs.«01_k».proof.Defs

@[expose] public section

set_option maxHeartbeats 4000000

/-! The last pass at the float instance: no operation of it is replaced, so the program as printed and the
    idealized one are the same text, and what is proved of one for any floats is proved of the other. -/

namespace Cert.Phase.LastPass

open Idealize.ShloMosaic

/-- The pipelines are the same. -/
theorem pcfgs_same : Cert.Kernel6.pcfgs (F := Bits) = Cert.Kernel6Ideal.pcfgs (F := Bits) := rfl

/-- The kernels' bodies are the same. -/
theorem defs₀_same : Cert.Kernel6.defs₀ (F := Bits) = Cert.Kernel6Ideal.defs₀ (F := Bits) := by
  delta Cert.Kernel6.defs₀ Cert.Kernel6Ideal.defs₀
  refine congrArg Defs.onTc ?_
  funext l p
  match l, p with
  | 0, (t, s) => exact rfl
  | 1, (t, s) => exact rfl
  | ⟨n + 2, h⟩, _ => exact absurd h (Nat.not_lt.2 (Nat.le_add_left _ _))

/-- The tables of bodies are the same. -/
theorem defs_same : Cert.Kernel6.defs (F := Bits) = Cert.Kernel6Ideal.defs (F := Bits) :=
  congrArg (Pipeline.defs Cert.Kernel6Ideal.pcfgs) defs₀_same

/-- The programs are the same. -/
theorem main_same : Cert.Kernel6.main (F := Bits) = Cert.Kernel6Ideal.main (F := Bits) := rfl

/-- The last pass leaves its arguments as they were, and every semaphore at zero. -/
theorem frame : Cert.quiescent_Kernel6 := by
  intro m ρ _
  have h := Cert.Kernel6Ideal.Gen.frame (F := Bits) m ρ
  rw [← defs_same, ← main_same] at h
  exact h

end Cert.Phase.LastPass
-- ==== Proof.LastPassMainValues.lean ====
module

public import proofs.«01_k».proof.Proof.Main
public import proofs.«01_k».proof.Proof.LastPassMain

@[expose] public section

set_option maxRecDepth 16384

noncomputable section

/-! The last pass, its main call: what the results used later hold, of real planes at its entry. -/

namespace Cert.Phase.LastPass

open Idealize.ShloMosaic Idealize.SL.Sem Idealize.ShloMosaic.ValueIdx Cert.Kernel6Ideal
open Cert.Kernel6Ideal.Gen Idealize.ShloMosaic.TcCoe
open Idealize.ShloMosaic.Pipeline (Dat Cfg Window)

variable (V : (c : Dev nD) → (b : Ref sig .tc) → Buf (Elt Ideal) ((c : Thread nD τ).loc b)) (c : Dev nD)

/-- What the main call finds in its twelve input arrays. -/
structure MainEntry (a : Fin 4 → Args) (tr ti : Plane) : Prop where
  /-- Argument 0. -/
  arg_xr : V c main_arg0 = stack (fun n => (a n).xr)
  /-- Argument 1. -/
  arg_xi : V c main_arg1 = stack (fun n => (a n).xi)
  /-- Argument 2. -/
  arg_br : V c main_arg2 = stack (fun n => (a n).br)
  /-- Argument 3. -/
  arg_bi : V c main_arg3 = stack (fun n => (a n).bi)
  /-- Argument 4. -/
  arg_hr : V c main_arg4 = stack (fun n => (a n).hr)
  /-- Argument 5. -/
  arg_hi : V c main_arg5 = stack (fun n => (a n).hi)
  /-- Argument 6. -/
  arg_tr : V c main_arg6 = up tr
  /-- Argument 7. -/
  arg_ti : V c main_arg7 = up ti
  /-- The cosine table. -/
  table_cos : V c main_v11 = up cosTable
  /-- The sine table. -/
  table_sin : V c main_v12 = up sinTable
  /-- The difference of the tables. -/
  table_diff : V c main_v13 = up (cosTable - sinTable)
  /-- The sum of the tables. -/
  table_sum : V c main_v14 = up (cosTable + sinTable)
  /-- The propagator is one for all planes, real part. -/
  same_tr : ∀ n, (a n).tr = tr
  /-- The propagator is one for all planes, imaginary part. -/
  same_ti : ∀ n, (a n).ti = ti

/-- The plane a grid point works on. -/
def spot (t : Fin cfg0.N) : Fin 4 := ⟨t.val, t.isLt⟩

/-- An entry of four planes, read where a block lies, is the block's. -/
theorem read_stack {X : FVec Ideal S4 .f32} {A : Fin 4 → Plane} (h : X = stack A) (n : Fin 4) (i : S4.Idx) (y : S1.Idx)
    (e : i = ValueIdx.ix3 n (y 1) (y 2)) : X i = blk (A n) y := by
  rw [h, e]
  rfl

/-- An entry of a plane, read in its place. -/
theorem read_up {X : FVec Ideal S2 .f32} {A : Plane} (h : X = up A) (i y : S2.Idx) (e : i = y) : X i = up A y := by
  rw [h, e]

variable {V c} {a : Fin 4 → Args} {tr ti : Plane} (h : MainEntry V c a tr ti) (t : Fin cfg0.N)
include h

/-- Window 0's block is its plane. -/
theorem MainEntry.block0 : iblk0 V c 0 t = blk (a (spot t)).xr :=
  funext fun y => read_stack h.arg_xr (spot t) _ y (Main.emb0 t y)
/-- Window 1's block is its plane. -/
theorem MainEntry.block1 : iblk0 V c 1 t = blk (a (spot t)).xi :=
  funext fun y => read_stack h.arg_xi (spot t) _ y (Main.emb1 t y)
/-- Window 2's block is its plane. -/
theorem MainEntry.block2 : iblk0 V c 2 t = blk (a (spot t)).br :=
  funext fun y => read_stack h.arg_br (spot t) _ y (Main.emb2 t y)
/-- Window 3's block is its plane. -/
theorem MainEntry.block3 : iblk0 V c 3 t = blk (a (spot t)).bi :=
  funext fun y => read_stack h.arg_bi (spot t) _ y (Main.emb3 t y)
/-- Window 4's block is its plane. -/
theorem MainEntry.block4 : iblk0 V c 4 t = blk (a (spot t)).hr :=
  funext fun y => read_stack h.arg_hr (spot t) _ y (Main.emb4 t y)
/-- Window 5's block is its plane. -/
theorem MainEntry.block5 : iblk0 V c 5 t = blk (a (spot t)).hi :=
  funext fun y => read_stack h.arg_hi (spot t) _ y (Main.emb5 t y)
/-- Window 6's block is its whole array. -/
theorem MainEntry.block6 : iblk0 V c 6 t = up (a (spot t)).tr := by
  have e : ∀ t : Fin cfg0.N, win0_6.index t = ![0, 0] := (by decide +kernel : ∀ t : Fin grid0.N, _)
  exact funext fun y => read_up (h.arg_tr.trans (congrArg up (h.same_tr _).symm)) _ y (by blk_ext [e])
/-- Window 7's block is its whole array. -/
theorem MainEntry.block7 : iblk0 V c 7 t = up (a (spot t)).ti := by
  have e : ∀ t : Fin cfg0.N, win0_7.index t = ![0, 0] := (by decide +kernel : ∀ t : Fin grid0.N, _)
  exact funext fun y => read_up (h.arg_ti.trans (congrArg up (h.same_ti _).symm)) _ y (by blk_ext [e])
/-- Window 8's block is its whole array. -/
theorem MainEntry.block8 : iblk0 V c 8 t = up cosTable := by
  have e : ∀ t : Fin cfg0.N, win0_8.index t = ![0, 0] := (by decide +kernel : ∀ t : Fin grid0.N, _)
  exact funext fun y => read_up h.table_cos _ y (by blk_ext [e])
/-- Window 9's block is its whole array. -/
theorem MainEntry.block9 : iblk0 V c 9 t = up sinTable := by
  have e : ∀ t : Fin cfg0.N, win0_9.index t = ![0, 0] := (by decide +kernel : ∀ t : Fin grid0.N, _)
  exact funext fun y => read_up h.table_sin _ y (by blk_ext [e])
/-- Window 10's block is its whole array. -/
theorem MainEntry.block10 : iblk0 V c 10 t = up (cosTable - sinTable) := by
  have e : ∀ t : Fin cfg0.N, win0_10.index t = ![0, 0] := (by decide +kernel : ∀ t : Fin grid0.N, _)
  exact funext fun y => read_up h.table_diff _ y (by blk_ext [e])
/-- Window 11's block is its whole array. -/
theorem MainEntry.block11 : iblk0 V c 11 t = up (cosTable + sinTable) := by
  have e : ∀ t : Fin cfg0.N, win0_11.index t = ![0, 0] := (by decide +kernel : ∀ t : Fin grid0.N, _)
  exact funext fun y => read_up h.table_sum _ y (by blk_ext [e])

omit t in
/-- The phase factor, real part, after the call. -/
theorem MainEntry.final12 : (dat0 V c).arrAt 12 cfg0.N = stack (fun n => (a n).wRe) := by
  refine (dat0 V c).arrAt_eq_of_covers 12 _ (by decide +kernel) fun t hf y => ?_
  blk_simp
  rw [after0_12, h.block0, h.block1, h.block2, h.block3, h.block4, h.block5, h.block6, h.block7, h.block8, h.block9, h.block10, h.block11]
  exact (congrFun (Main.out12_up (a (spot t))) y).trans (read_stack (A := fun n => (a n).wRe) rfl (spot t) _ y (Main.emb12 t y)).symm

omit t in
/-- The phase factor, imaginary part, after the call. -/
theorem MainEntry.final13 : (dat0 V c).arrAt 13 cfg0.N = stack (fun n => (a n).wIm) := by
  refine (dat0 V c).arrAt_eq_of_covers 13 _ (by decide +kernel) fun t hf y => ?_
  blk_simp
  rw [after0_13, h.block0, h.block1, h.block2, h.block3, h.block4, h.block5, h.block6, h.block7, h.block8, h.block9, h.block10, h.block11]
  exact (congrFun (Main.out13_up (a (spot t))) y).trans (read_stack (A := fun n => (a n).wIm) rfl (spot t) _ y (Main.emb13 t y)).symm

omit t in
/-- The sparse part, real part, after the call. -/
theorem MainEntry.final16 : (dat0 V c).arrAt 16 cfg0.N = stack (fun n => (a n).bRe) := by
  refine (dat0 V c).arrAt_eq_of_covers 16 _ (by decide +kernel) fun t hf y => ?_
  blk_simp
  rw [after0_16, h.block0, h.block1, h.block2, h.block3, h.block4, h.block5, h.block6, h.block7, h.block8, h.block9, h.block10, h.block11]
  exact (congrFun (Main.out16_up (a (spot t))) y).trans (read_stack (A := fun n => (a n).bRe) rfl (spot t) _ y (Main.emb16 t y)).symm

omit t in
/-- The sparse part, imaginary part, after the call. -/
theorem MainEntry.final17 : (dat0 V c).arrAt 17 cfg0.N = stack (fun n => (a n).bIm) := by
  refine (dat0 V c).arrAt_eq_of_covers 17 _ (by decide +kernel) fun t hf y => ?_
  blk_simp
  rw [after0_17, h.block0, h.block1, h.block2, h.block3, h.block4, h.block5, h.block6, h.block7, h.block8, h.block9, h.block10, h.block11]
  exact (congrFun (Main.out17_up (a (spot t))) y).trans (read_stack (A := fun n => (a n).bIm) rfl (spot t) _ y (Main.emb17 t y)).symm

omit t in
/-- The moduli of the sparse part, after the call. -/
theorem MainEntry.final18 : (dat0 V c).arrAt 18 cfg0.N = stack (fun n => modulus (a n).bRe (a n).bIm) := by
  refine (dat0 V c).arrAt_eq_of_covers 18 _ (by decide +kernel) fun t hf y => ?_
  blk_simp
  rw [after0_18, h.block0, h.block1, h.block2, h.block3, h.block4, h.block5, h.block6, h.block7, h.block8, h.block9, h.block10, h.block11]
  exact (congrFun (Main.out18_up (a (spot t))) y).trans (read_stack (A := fun n => modulus (a n).bRe (a n).bIm) rfl (spot t) _ y (Main.emb18 t y)).symm

end Cert.Phase.LastPass
-- ==== Proof.LastPassMaskValues.lean ====
module

public import proofs.«01_k».proof.Proof.Mask
public import proofs.«01_k».proof.Proof.LastPassMask

@[expose] public section

set_option maxRecDepth 16384

noncomputable section

/-! The last pass, its masking call: what its two results hold, of any contents at its entry. -/

namespace Cert.Phase.LastPass

open Idealize.ShloMosaic Idealize.SL.Sem Idealize.ShloMosaic.ValueIdx Cert.Kernel6Ideal
open Cert.Kernel6Ideal.Gen Idealize.ShloMosaic.TcCoe
open Idealize.ShloMosaic.Pipeline (Dat Cfg Window)

/-- What a load of one plane reads. -/
theorem read_plane (arg1 : Memref sig .tc .vmem S4x512x512 .f32) (harg1 : arg1.IsWhole) (X : FVec Ideal S4 .f32) (n : Fin 4)
    (inb : ∀ a, (![n.val, 0, 0] : Fin 3 → ℕ) a + S1x512x512.size a ≤ S4x512x512.size a) :
    View.readAt (Elt Ideal) arg1.view (Rect.unit (s := S4x512x512) ![n.val, 0, 0] S1x512x512.size inb).toLoadRect (harg1.unread X) = part X n := by
  funext x
  rw [Memref.IsWhole.readAt_unread]
  have e : (Rect.unit (s := S4x512x512) ![n.val, 0, 0] S1x512x512.size inb).toLoadRect.idx x = ValueIdx.ix3 n (x 1) (x 2) := by
    funext a
    refine Fin.ext ?_
    fin_cases a
    · show n.val + 1 * (x 0).val = n.val
      have : (x 0).val < 1 := (x 0).isLt
      omega
    · show 0 + 1 * (x 1).val = (x 1).val
      omega
    · show 0 + 1 * (x 2).val = (x 2).val
      omega
  exact congrArg X e

section body

variable (c : Dev nD) (i : grid1.Coords)
  (arg1 : Memref sig .tc .vmem S4x512x512 .f32) (harg1 : arg1.IsWhole) (arg2 : Memref sig .tc .vmem S1x512x512 .f32) (harg2 : arg2.IsWhole) (arg3 : Memref sig .tc .vmem S1x512x512 .f32) (harg3 : arg3.IsWhole)
  (arg4 : Memref sig .tc .vmem S1x512x512 .f32) (harg4 : arg4.IsWhole) (arg5 : Memref sig .tc .vmem S1x512x512 .f32) (harg5 : arg5.IsWhole) (arg6 : Memref sig .tc .smem Cert.Kernel6Ideal.S1 .f32) (harg6 : arg6.IsWhole)

/-- One trip of the loop. -/
theorem trip (hc : k1_cond1 i = 1#1) (X : FVec Ideal S4 .f32) (k : Fin k1_t1_loop.trips) (acc : BitVec 32 × BitVec 32) :
    tripR_k1_t1 (F := Ideal) Variants.none c none i arg1 harg1 arg2 harg2 arg3 harg3 arg4 harg4 arg5 harg5 arg6 harg6 hc (harg1.unread X) k acc
      = (if 2000 ≤ reach X (Ideal.ofBits .f32 (acc.1 + acc.2)) then acc.1 + acc.2 else acc.1, Scalar.divsi acc.2 2#32) := by
  unfold tripR_k1_t1 trip_k1_t1
  dsimp only
  delta trip_k1_t1.sl.v71 trip_k1_t1.sl.v72
  refine congrArg₂ Prod.mk ?_ rfl
  delta trip_k1_t1.sl.v70 trip_k1_t1.sl.v69 trip_k1_t1.sl.v59 trip_k1_t1.sl.v49 trip_k1_t1.sl.v39
  delta trip_k1_t1.sl.v38 trip_k1_t1.sl.v48 trip_k1_t1.sl.v58 trip_k1_t1.sl.v68
  rw [← step_eq X (acc.1 + acc.2) acc.1 shapeCasts_S1x512x512_S512x512 shapeCasts_S512x512_S1x512x512 reduces_S1x512x512_S1
      shapeCasts_S1_S1x1x1 natLt_1_32 (fun a => ⟨(![0, 0, 0] : Fin 3 → ℕ) a, inpos_S1x1x1_p0_0_0 a⟩),
    ← read_plane arg1 harg1 X 0 inb_S4x512x512_S1x512x512_0_0_0, ← read_plane arg1 harg1 X 1 inb_S4x512x512_S1x512x512_1_0_0,
    ← read_plane arg1 harg1 X 2 inb_S4x512x512_S1x512x512_2_0_0, ← read_plane arg1 harg1 X 3 inb_S4x512x512_S1x512x512_3_0_0]
  rfl

/-- The loop ends at the last pattern whose value is at most the threshold. -/
theorem loop (hc : k1_cond1 i = 1#1) (X : FVec Ideal S4 .f32) (v : EReal) (hv : Threshold X v) :
    (st_k1_t1 (F := Ideal) Variants.none c none i arg1 harg1 arg2 harg2 arg3 harg3 arg4 harg4 arg5 harg5 arg6 harg6 hc (harg1.unread X) (0#32, 1073741824#32) 31).1 = BitVec.ofNat 32 (last v) := by
  have n : k1_t1_loop.trips = 31 := by decide +kernel
  refine search_last X v hv.below hv.many hv.few (fun k => st_k1_t1 (F := Ideal) Variants.none c none i arg1 harg1 arg2 harg2 arg3 harg3 arg4 harg4 arg5 harg5 arg6 harg6 hc (harg1.unread X) (0#32, 1073741824#32) k) (st_k1_t1_zero ..) fun k hk => ?_
  have e := st_k1_t1_succ (F := Ideal) Variants.none c none i arg1 harg1 arg2 harg2 arg3 harg3 arg4 harg4 arg5 harg5 arg6 harg6 hc (harg1.unread X) (0#32, 1073741824#32) ⟨k, by rw [n]; exact hk⟩
  rw [trip c i arg1 harg1 arg2 harg2 arg3 harg3 arg4 harg4 arg5 harg5 arg6 harg6 hc X] at e
  exact e

/-- The word the search stores. -/
theorem word (hc : k1_cond1 i = 1#1) (X : FVec Ideal S4 .f32) (v : EReal) (hv : Threshold X v) :
    k1_pay1 (F := Ideal) (st_k1_t1 (F := Ideal) Variants.none c none i arg1 harg1 arg2 harg2 arg3 harg3 arg4 harg4 arg5 harg5 arg6 harg6 hc (harg1.unread X) (0#32, 1073741824#32)
      (Scf.trips 0#32 (Scalar.addi 0#32 31#32) 1#32)).1 = ((val (last v) : ℝ) : EReal) := by
  have n : Scf.trips 0#32 (Scalar.addi 0#32 31#32) 1#32 = 31 := by decide +kernel
  rw [n, loop c i arg1 harg1 arg2 harg2 arg3 harg3 arg4 harg4 arg5 harg5 arg6 harg6 hc X v hv]
  exact ofBits_val (last v) (last_lt v)

/-- What the first point leaves in the scratch word. -/
theorem scratch (hc0 : cond1_0 i) (X : FVec Ideal S4 .f32) (x1 x2 : Vec Ideal S1x512x512 .f32) (v : EReal) (hv : Threshold X v) :
    sout1_A_0 (F := Ideal) c i arg1 harg1 arg2 harg2 arg3 harg3 arg4 harg4 arg5 harg5 arg6 harg6 hc0 X x1 x2 = fun _ => ((val (last v) : ℝ) : EReal) := by
  unfold sout1_A_0
  frame_out
  exact funext fun _ => word c i arg1 harg1 arg2 harg2 arg3 harg3 arg4 harg4 arg5 harg5 arg6 harg6 hc0 X v hv

/-- What the first point leaves for the real part. -/
theorem first3 (hc0 : cond1_0 i) (X : FVec Ideal S4 .f32) (x1 x2 : Vec Ideal S1x512x512 .f32) (v : EReal) (hv : Threshold X v) :
    out1_A_3 (F := Ideal) c i arg1 harg1 arg2 harg2 arg3 harg3 arg4 harg4 arg5 harg5 arg6 harg6 hc0 X x1 x2 = k1_pay5 (F := Ideal) ((val (last v) : ℝ) : EReal) x1 x2 := by
  unfold out1_A_3
  frame_out
  rw [word c i arg1 harg1 arg2 harg2 arg3 harg3 arg4 harg4 arg5 harg5 arg6 harg6 hc0 X v hv]

/-- What a later point leaves for the real part. -/
theorem later3 (hc0 : ¬cond1_0 i) (X : FVec Ideal S4 .f32) (x1 x2 : Vec Ideal S1x512x512 .f32) (r : EReal) :
    out1_B_3 (F := Ideal) c i arg1 harg1 arg2 harg2 arg3 harg3 arg4 harg4 arg5 harg5 arg6 harg6 hc0 X x1 x2 (fun _ => r) = k1_pay5 (F := Ideal) r x1 x2 := by
  unfold out1_B_3
  frame_out

/-- What the first point leaves for the imaginary part. -/
theorem first4 (hc0 : cond1_0 i) (X : FVec Ideal S4 .f32) (x1 x2 : Vec Ideal S1x512x512 .f32) (v : EReal) (hv : Threshold X v) :
    out1_A_4 (F := Ideal) c i arg1 harg1 arg2 harg2 arg3 harg3 arg4 harg4 arg5 harg5 arg6 harg6 hc0 X x1 x2 = k1_pay6 (F := Ideal) ((val (last v) : ℝ) : EReal) x1 x2 := by
  unfold out1_A_4
  frame_out
  rw [word c i arg1 harg1 arg2 harg2 arg3 harg3 arg4 harg4 arg5 harg5 arg6 harg6 hc0 X v hv]

/-- What a later point leaves for the imaginary part. -/
theorem later4 (hc0 : ¬cond1_0 i) (X : FVec Ideal S4 .f32) (x1 x2 : Vec Ideal S1x512x512 .f32) (r : EReal) :
    out1_B_4 (F := Ideal) c i arg1 harg1 arg2 harg2 arg3 harg3 arg4 harg4 arg5 harg5 arg6 harg6 hc0 X x1 x2 (fun _ => r) = k1_pay6 (F := Ideal) r x1 x2 := by
  unfold out1_B_4
  frame_out

end body

variable (V : (c : Dev nD) → (b : Ref sig .tc) → Buf (Elt Ideal) ((c : Thread nD τ).loc b)) (c : Dev nD)

/-- What the masking call finds in its three arrays. -/
structure MaskEntry (X A B : FVec Ideal S4 .f32) : Prop where
  /-- The moduli searched for the threshold. -/
  searched : V c main_v15_6 = X
  /-- The sparse part, real part. -/
  re : V c main_v15_4 = A
  /-- The sparse part, imaginary part. -/
  im : V c main_v15_5 = B

/-- The plane a grid point works on. -/
def point (t : Fin cfg1.N) : Fin 4 := ⟨t.val, t.isLt⟩

variable {V c} {X A B : FVec Ideal S4 .f32}

/-- The searched block is the whole array. -/
theorem MaskEntry.block0 (h : MaskEntry V c X A B) (t : Fin cfg1.N) : iblk1 V c 0 t = X := by
  have e : ∀ t : Fin cfg1.N, win1_0.index t = ![0, 0, 0] := (by decide +kernel : ∀ t : Fin grid1.N, _)
  funext y
  have k : (win1_0.blk t).view.emb y = y := by blk_ext [e]
  have r : iblk1 V c 0 t y = V c main_v15_6 ((win1_0.blk t).view.emb y) := rfl
  rw [r, h.searched, k]

/-- The block of the real part is its plane. -/
theorem MaskEntry.block1 (h : MaskEntry V c X A B) (t : Fin cfg1.N) : iblk1 V c 1 t = part A (point t) := by
  funext y
  have k : (win1_1.blk t).view.emb y = ValueIdx.ix3 (point t) (y 1) (y 2) := Mask.emb1 t y
  have r : iblk1 V c 1 t y = V c main_v15_4 ((win1_1.blk t).view.emb y) := rfl
  rw [r, h.re, k]
  rfl

/-- The block of the imaginary part is its plane. -/
theorem MaskEntry.block2 (h : MaskEntry V c X A B) (t : Fin cfg1.N) : iblk1 V c 2 t = part B (point t) := by
  funext y
  have k : (win1_2.blk t).view.emb y = ValueIdx.ix3 (point t) (y 1) (y 2) := Mask.emb2 t y
  have r : iblk1 V c 2 t y = V c main_v15_5 ((win1_2.blk t).view.emb y) := rfl
  rw [r, h.im, k]
  rfl

/-- What every point leaves. -/
theorem MaskEntry.outs (h : MaskEntry V c X A B) (v : EReal) (hv : Threshold X v) :
    ∀ (n : ℕ) (hn : n < cfg1.N), outsAt1 V c n hn
      = (k1_pay5 (F := Ideal) ((val (last v) : ℝ) : EReal) (part A (point ⟨n, hn⟩)) (part B (point ⟨n, hn⟩)),
        k1_pay6 (F := Ideal) ((val (last v) : ℝ) : EReal) (part A (point ⟨n, hn⟩)) (part B (point ⟨n, hn⟩)),
        fun _ => ((val (last v) : ℝ) : EReal))
  | 0, hn => by
    refine (outsAt1_A V c ⟨0, hn⟩ (Nat.zero_mod _)).trans ?_
    rw [h.block0, h.block1, h.block2, first3 _ _ _ _ _ _ _ _ _ _ _ _ _ _ _ X _ _ v hv,
      first4 _ _ _ _ _ _ _ _ _ _ _ _ _ _ _ X _ _ v hv, scratch _ _ _ _ _ _ _ _ _ _ _ _ _ _ _ X _ _ v hv]
  | n + 1, hn => by
    have h4 : n + 1 < 4 := hn
    refine (outsAt1_B V c ⟨n + 1, hn⟩ (by show ¬ (n + 1) % 4 = 0; omega)).trans ?_
    have e : (outsAt1 V c ((⟨n + 1, hn⟩ : Fin cfg1.N).val - 1) (Nat.lt_of_le_of_lt (Nat.sub_le _ _) (⟨n + 1, hn⟩ : Fin cfg1.N).isLt)).2.2
        = fun _ => ((val (last v) : ℝ) : EReal) := congrArg (fun p => p.2.2) (MaskEntry.outs h v hv n (Nat.lt_of_succ_lt hn))
    rw [e, h.block0, h.block1, h.block2, later3, later4]
    rfl

/-- The masked real part after the call. -/
theorem MaskEntry.final3 (h : MaskEntry V c X A B) (v : EReal) (hv : Threshold X v) :
    (dat1 V c).arrAt 3 cfg1.N = sieve (val (last v) : EReal) (size A B) A := by
  refine (dat1 V c).arrAt_eq_of_covers 3 _ (by decide +kernel) fun t hf y => ?_
  blk_simp
  have k : (win1_3.blk t).view.emb y = ValueIdx.ix3 (point t) (y 1) (y 2) := Mask.emb3 t y
  have p : ∀ n r, k1_pay5 (F := Ideal) r (part A n) (part B n) = part (sieve r (size A B) A) n := Mask.pay5 A B
  rw [after1_3, h.outs v hv t.val t.isLt]
  dsimp only
  rw [p, k]
  rfl

/-- The masked imaginary part after the call. -/
theorem MaskEntry.final4 (h : MaskEntry V c X A B) (v : EReal) (hv : Threshold X v) :
    (dat1 V c).arrAt 4 cfg1.N = sieve (val (last v) : EReal) (size A B) B := by
  refine (dat1 V c).arrAt_eq_of_covers 4 _ (by decide +kernel) fun t hf y => ?_
  blk_simp
  have k : (win1_4.blk t).view.emb y = ValueIdx.ix3 (point t) (y 1) (y 2) := Mask.emb4 t y
  have p : ∀ n r, k1_pay6 (F := Ideal) r (part A n) (part B n) = part (sieve r (size A B) B) n := Mask.pay6 A B
  rw [after1_4, h.outs v hv t.val t.isLt]
  dsimp only
  rw [p, k]
  rfl

end Cert.Phase.LastPass
-- ==== Proof.LastPassValues.lean ====
module

public import proofs.«01_k».proof.Proof.LastPassRun
public import proofs.«01_k».proof.Proof.LastPassMainValues
public import proofs.«01_k».proof.Proof.LastPassMaskValues

@[expose] public section

set_option maxRecDepth 16384

noncomputable section

/-! The last pass: what its run leaves, of real planes. -/

namespace Cert.Phase.LastPass

open Idealize.ShloMosaic Idealize.SL.Sem Cert.Kernel6Ideal
open Cert.Kernel6Ideal.Gen Idealize.ShloMosaic.TcCoe
open Idealize.ShloMosaic.Pipeline (Dat Cfg Window)

variable (m : (ℓ : Loc nD τ sig) → Buf (Elt Ideal) ℓ) (ρ : Dev nD → PrngReg) (c : Dev nD)

/-- The arguments are real. -/
structure Start (a : Fin 4 → Args) (tr ti : Plane) : Prop where
  /-- Argument 0. -/
  arg_xr : m ((c : Thread nD τ).loc main_arg0) = stack (fun n => (a n).xr)
  /-- Argument 1. -/
  arg_xi : m ((c : Thread nD τ).loc main_arg1) = stack (fun n => (a n).xi)
  /-- Argument 2. -/
  arg_br : m ((c : Thread nD τ).loc main_arg2) = stack (fun n => (a n).br)
  /-- Argument 3. -/
  arg_bi : m ((c : Thread nD τ).loc main_arg3) = stack (fun n => (a n).bi)
  /-- Argument 4. -/
  arg_hr : m ((c : Thread nD τ).loc main_arg4) = stack (fun n => (a n).hr)
  /-- Argument 5. -/
  arg_hi : m ((c : Thread nD τ).loc main_arg5) = stack (fun n => (a n).hi)
  /-- Argument 6. -/
  arg_tr : m ((c : Thread nD τ).loc main_arg6) = up tr
  /-- Argument 7. -/
  arg_ti : m ((c : Thread nD τ).loc main_arg7) = up ti
  /-- The propagator is one for all planes, real part. -/
  same_tr : ∀ n, (a n).tr = tr
  /-- The propagator is one for all planes, imaginary part. -/
  same_ti : ∀ n, (a n).ti = ti

/-- The cosine table as the main call finds it. -/
theorem cos_entry : V1 m ρ c main_v11 = up cosTable := by
  show StableHlo.after hostOps0 _ _ = _
  entry_read
  have k := cos_kernel
  rw [← kernel_angles] at k
  exact k

/-- The sine table as the main call finds it. -/
theorem sin_entry : V1 m ρ c main_v12 = up sinTable := by
  show StableHlo.after hostOps0 _ _ = _
  entry_read
  have k := sin_kernel
  rw [← kernel_angles] at k
  exact k

/-- The difference of the tables as the main call finds it. -/
theorem diff_entry : V1 m ρ c main_v13 = up (cosTable - sinTable) := by
  show StableHlo.after hostOps0 _ _ = _
  entry_read
  have k := cos_kernel
  have k' := sin_kernel
  rw [← kernel_angles] at k k'
  exact (congrArg₂ subf k k').trans (subf_up _ _)

/-- The sum of the tables as the main call finds it. -/
theorem sum_entry : V1 m ρ c main_v14 = up (cosTable + sinTable) := by
  show StableHlo.after hostOps0 _ _ = _
  entry_read
  have k := cos_kernel
  have k' := sin_kernel
  rw [← kernel_angles] at k k'
  exact (congrArg₂ addf k k').trans (addf_up _ _)

variable {m c} {a : Fin 4 → Args} {tr ti : Plane} (h : Start m c a tr ti)
include h

/-- What the main call finds. -/
theorem main_entry : MainEntry (V1 m ρ) c a tr ti where
  arg_xr := (W1_args m ρ c main_arg0 (by decide)).trans h.arg_xr
  arg_xi := (W1_args m ρ c main_arg1 (by decide)).trans h.arg_xi
  arg_br := (W1_args m ρ c main_arg2 (by decide)).trans h.arg_br
  arg_bi := (W1_args m ρ c main_arg3 (by decide)).trans h.arg_bi
  arg_hr := (W1_args m ρ c main_arg4 (by decide)).trans h.arg_hr
  arg_hi := (W1_args m ρ c main_arg5 (by decide)).trans h.arg_hi
  arg_tr := (W1_args m ρ c main_arg6 (by decide)).trans h.arg_tr
  arg_ti := (W1_args m ρ c main_arg7 (by decide)).trans h.arg_ti
  table_cos := cos_entry m ρ c
  table_sin := sin_entry m ρ c
  table_diff := diff_entry m ρ c
  table_sum := sum_entry m ρ c
  same_tr := h.same_tr
  same_ti := h.same_ti

/-- What the masking call finds. -/
theorem mask_entry : MaskEntry (V2 m ρ) c (size (stack fun n => (a n).bRe) (stack fun n => (a n).bIm))
    (stack fun n => (a n).bRe) (stack fun n => (a n).bIm) where
  searched := (W2_arr m ρ c 18).trans ((main_entry ρ h).final18.trans (modulus_stack _ _).symm)
  re := (W2_arr m ρ c 16).trans (main_entry ρ h).final16
  im := (W2_arr m ρ c 17).trans (main_entry ρ h).final17

/-- The phase factor at the end, real part. -/
theorem end_wRe : W3 m ρ c (Proc.devRef .tc main_v15_0) = stack (fun n => (a n).wRe) :=
  (W3_of m ρ c main_v15_0 (by decide)).trans ((W2_arr m ρ c 12).trans (main_entry ρ h).final12)
/-- The phase factor at the end, imaginary part. -/
theorem end_wIm : W3 m ρ c (Proc.devRef .tc main_v15_1) = stack (fun n => (a n).wIm) :=
  (W3_of m ρ c main_v15_1 (by decide)).trans ((W2_arr m ρ c 13).trans (main_entry ρ h).final13)

variable (v : EReal) (hv : Threshold (size (stack fun n => (a n).bRe) (stack fun n => (a n).bIm)) v)
  (hs : Separated v (size (stack fun n => (a n).bRe) (stack fun n => (a n).bIm)))
include hv hs

/-- The masked sparse part at the end, real part. -/
theorem end_bRe : W3 m ρ c (Proc.devRef .tc main_v16_0)
    = sieve v (size (stack fun n => (a n).bRe) (stack fun n => (a n).bIm)) (stack fun n => (a n).bRe) :=
  (W3_arr m ρ c 3).trans (((mask_entry ρ h).final3 v hv).trans (sieve_last v _ hs (size_nonneg _ _) _))
/-- The masked sparse part at the end, imaginary part. -/
theorem end_bIm : W3 m ρ c (Proc.devRef .tc main_v16_1)
    = sieve v (size (stack fun n => (a n).bRe) (stack fun n => (a n).bIm)) (stack fun n => (a n).bIm) :=
  (W3_arr m ρ c 4).trans (((mask_entry ρ h).final4 v hv).trans (sieve_last v _ hs (size_nonneg _ _) _))

end Cert.Phase.LastPass
-- ==== Proof.LastPassReference.lean ====
module

public import proofs.«01_k».proof.Proof.Host
public import proofs.«01_k».proof.Proof.MainSpec
public import proofs.«01_k».proof.Proof.Gate
public import proofs.«01_k».proof.Proof.Gen.Reference6Ideal.Run

@[expose] public section

noncomputable section

/-! The last pass as a reference computes it, for any way of computing the products with the tables, and
    what the reference's run leaves, of real planes. -/

namespace Cert.Phase.LastPass

open Idealize.ShloMosaic

/-- A way of computing the products of four planes with a table on either side. -/
structure Ways where
  /-- The product with a table on the right. -/
  row : Planes4 → Plane1 → Planes4
  /-- The product with a table on the left. -/
  col : Plane1 → Planes4 → Planes4

/-- A way computes the products with the tables, of real planes. -/
structure Ways.Right (w : Ways) : Prop where
  /-- On the right. -/
  row : ∀ (A : Fin 4 → Plane) (T : Plane), w.row (stack A) (up T) = stack (fun n => A n * T)
  /-- On the left, with the cosines. -/
  cos : ∀ A : Fin 4 → Plane, w.col (up cosTable) (stack A) = stack (fun n => cosTable * A n)
  /-- On the left, with the sines. -/
  sin : ∀ A : Fin 4 → Plane, w.col (up sinTable) (stack A) = stack (fun n => sinTable * A n)

/-- The eight arguments, as contents of any values. -/
structure Given where
  /-- The transformed object, real part. -/
  xr : Planes4
  /-- The transformed object, imaginary part. -/
  xi : Planes4
  /-- The sparse part, real part. -/
  br : Planes4
  /-- The sparse part, imaginary part. -/
  bi : Planes4
  /-- The measurement, real part. -/
  hr : Planes4
  /-- The measurement, imaginary part. -/
  hi : Planes4
  /-- The propagator, real part. -/
  tr : Plane1
  /-- The propagator, imaginary part. -/
  ti : Plane1

/-- A plane, repeated for each of the four. -/
def each (t : Plane1) : Planes4 :=
  broadcastInDim S4 ![0, 1, 2] (by decide) (broadcastInDim (⟨3, ![1, 512, 512]⟩ : Shape) ![1, 2] (by decide) t)

namespace Ways

variable (w : Ways)

/-- The transform after the rows, real part. -/
def across (a b : Planes4) : Planes4 := addf (w.row a hcos) (w.row b hsin)
/-- The transform after the rows, imaginary part. -/
def across' (a b : Planes4) : Planes4 := subf (w.row b hcos) (w.row a hsin)
/-- The inverse after the rows, real part. -/
def back (a b : Planes4) : Planes4 := subf (w.row a hcos) (w.row b hsin)
/-- The inverse after the rows, imaginary part. -/
def back' (a b : Planes4) : Planes4 := addf (w.row b hcos) (w.row a hsin)
/-- The transform, real part. -/
def fRe (a b : Planes4) : Planes4 := addf (w.col hcos (w.across a b)) (w.col hsin (w.across' a b))
/-- The transform, imaginary part. -/
def fIm (a b : Planes4) : Planes4 := subf (w.col hcos (w.across' a b)) (w.col hsin (w.across a b))
/-- The inverse, real part. -/
def iRe (a b : Planes4) : Planes4 := Host.divf (subf (w.col hcos (w.back a b)) (w.col hsin (w.back' a b))) (hsplat 0x48800000#32)
/-- The inverse, imaginary part. -/
def iIm (a b : Planes4) : Planes4 := Host.divf (addf (w.col hcos (w.back' a b)) (w.col hsin (w.back a b))) (hsplat 0x48800000#32)

variable (g : Given)

/-- The propagated object, real part. -/
def pRe : Planes4 := subf (mulf g.xr (each g.tr)) (mulf g.xi (each g.ti))
/-- The propagated object, imaginary part. -/
def pIm : Planes4 := addf (mulf g.xr (each g.ti)) (mulf g.xi (each g.tr))
/-- Its inverse, real part. -/
def cRe : Planes4 := w.iRe (pRe g) (pIm g)
/-- Its inverse, imaginary part. -/
def cIm : Planes4 := w.iIm (pRe g) (pIm g)
/-- The field, real part. -/
def uRe : Planes4 := addf (w.cRe g) (w.iRe g.br g.bi)
/-- The field, imaginary part. -/
def uIm : Planes4 := addf (w.cIm g) (w.iIm g.br g.bi)
/-- The modulus divided by. -/
def den : Planes4 := addf (Host.sqrt (addf (mulf (w.uRe g) (w.uRe g)) (mulf (w.uIm g) (w.uIm g)))) (hsplat 0x0DA24260#32)
/-- The phase factor, real part. -/
def wRe : Planes4 := Host.divf (w.uRe g) (w.den g)
/-- The phase factor, imaginary part. -/
def wIm : Planes4 := Host.divf (w.uIm g) (w.den g)
/-- What remains, real part. -/
def lRe : Planes4 := subf (subf (mulf g.hr (w.wRe g)) (mulf g.hi (w.wIm g))) (w.cRe g)
/-- What remains, imaginary part. -/
def lIm : Planes4 := subf (addf (mulf g.hr (w.wIm g)) (mulf g.hi (w.wRe g))) (w.cIm g)
/-- The new sparse part, real part. -/
def bRe : Planes4 := w.fRe (w.lRe g) (w.lIm g)
/-- The new sparse part, imaginary part. -/
def bIm : Planes4 := w.fIm (w.lRe g) (w.lIm g)

/-- The arguments are real. -/
structure _root_.Cert.Phase.LastPass.Given.Real (g : Given) (a : Fin 4 → Args) (tr ti : Plane) : Prop where
  /-- Argument 0. -/
  arg_xr : g.xr = stack (fun n => (a n).xr)
  /-- Argument 1. -/
  arg_xi : g.xi = stack (fun n => (a n).xi)
  /-- Argument 2. -/
  arg_br : g.br = stack (fun n => (a n).br)
  /-- Argument 3. -/
  arg_bi : g.bi = stack (fun n => (a n).bi)
  /-- Argument 4. -/
  arg_hr : g.hr = stack (fun n => (a n).hr)
  /-- Argument 5. -/
  arg_hi : g.hi = stack (fun n => (a n).hi)
  /-- Argument 6. -/
  arg_tr : g.tr = up tr
  /-- Argument 7. -/
  arg_ti : g.ti = up ti
  /-- The propagator is one for all planes, real part. -/
  same_tr : ∀ n, (a n).tr = tr
  /-- The propagator is one for all planes, imaginary part. -/
  same_ti : ∀ n, (a n).ti = ti

variable {w g} {a : Fin 4 → Args} {tr ti : Plane} (r : w.Right) (h : g.Real a tr ti)

section transforms
include r

/-- The transform, of real planes: real part. -/
theorem fRe_stack (A B : Fin 4 → Plane) : w.fRe (stack A) (stack B) = stack (fun n => fwdRe cosTable sinTable (A n) (B n)) := by
  unfold fRe across across'
  rw [hcos_up, hsin_up, r.row, r.row, r.row, r.row, addf_stack, subf_stack, r.cos, r.sin, addf_stack]
  rfl
/-- The transform, of real planes: imaginary part. -/
theorem fIm_stack (A B : Fin 4 → Plane) : w.fIm (stack A) (stack B) = stack (fun n => fwdIm cosTable sinTable (A n) (B n)) := by
  unfold fIm across across'
  rw [hcos_up, hsin_up, r.row, r.row, r.row, r.row, addf_stack, subf_stack, r.cos, r.sin, subf_stack]
  rfl
/-- The inverse, of real planes: real part. -/
theorem iRe_stack (A B : Fin 4 → Plane) : w.iRe (stack A) (stack B) = stack (fun n => invRe cosTable sinTable (A n) (B n)) := by
  unfold iRe back back'
  rw [hcos_up, hsin_up, r.row, r.row, r.row, r.row, addf_stack, subf_stack, r.cos, r.sin, subf_stack, divf_size]
  rfl
/-- The inverse, of real planes: imaginary part. -/
theorem iIm_stack (A B : Fin 4 → Plane) : w.iIm (stack A) (stack B) = stack (fun n => invIm cosTable sinTable (A n) (B n)) := by
  unfold iIm back back'
  rw [hcos_up, hsin_up, r.row, r.row, r.row, r.row, addf_stack, subf_stack, r.cos, r.sin, addf_stack, divf_size]
  rfl

end transforms

include h

/-- The propagated object, of real planes: real part. -/
theorem pRe_stack : pRe g = stack (fun n => (a n).pRe) := by
  unfold pRe each
  rw [h.arg_xr, h.arg_xi, h.arg_tr, h.arg_ti]
  refine (congrArg₂ subf (congrArg₂ mulf rfl (repeat_stack tr _ _)) (congrArg₂ mulf rfl (repeat_stack ti _ _))).trans ?_
  rw [mulf_stack, mulf_stack, subf_stack]
  simp only [Args.pRe, h.same_tr, h.same_ti]
/-- The propagated object, of real planes: imaginary part. -/
theorem pIm_stack : pIm g = stack (fun n => (a n).pIm) := by
  unfold pIm each
  rw [h.arg_xr, h.arg_xi, h.arg_tr, h.arg_ti]
  refine (congrArg₂ addf (congrArg₂ mulf rfl (repeat_stack ti _ _)) (congrArg₂ mulf rfl (repeat_stack tr _ _))).trans ?_
  rw [mulf_stack, mulf_stack, addf_stack]
  simp only [Args.pIm, h.same_tr, h.same_ti]

include r

/-- Its inverse, of real planes: real part. -/
theorem cRe_stack : w.cRe g = stack (fun n => (a n).cRe) := by
  unfold cRe
  rw [pRe_stack h, pIm_stack h, iRe_stack r]
  rfl
/-- Its inverse, of real planes: imaginary part. -/
theorem cIm_stack : w.cIm g = stack (fun n => (a n).cIm) := by
  unfold cIm
  rw [pRe_stack h, pIm_stack h, iIm_stack r]
  rfl
/-- The field, of real planes: real part. -/
theorem uRe_stack : w.uRe g = stack (fun n => (a n).uRe) := by
  unfold uRe
  rw [cRe_stack r h, h.arg_br, h.arg_bi, iRe_stack r]
  exact addf_stack _ _
/-- The field, of real planes: imaginary part. -/
theorem uIm_stack : w.uIm g = stack (fun n => (a n).uIm) := by
  unfold uIm
  rw [cIm_stack r h, h.arg_br, h.arg_bi, iIm_stack r]
  exact addf_stack _ _
/-- The modulus divided by, of real planes. -/
theorem den_stack : w.den g = stack (fun n => (a n).size) := by
  have e : hsplat 0x0DA24260#32 = stack (fun _ => flat tiny) :=
    broadcastInDim_stack (u := S0) rfl ![] (by decide) _ _ (fun _ => ofBits_is_tiny)
  unfold den
  rw [uRe_stack r h, uIm_stack r h, e]
  refine (congrArg₂ addf (modulus_stack _ _) rfl).trans ?_
  exact addf_stack _ _
/-- The phase factor, of real planes: real part. -/
theorem wRe_stack : w.wRe g = stack (fun n => (a n).wRe) := by
  unfold wRe
  rw [uRe_stack r h, den_stack r h]
  exact divf_stack _ _ (fun n => (a n).size_ne)
/-- The phase factor, of real planes: imaginary part. -/
theorem wIm_stack : w.wIm g = stack (fun n => (a n).wIm) := by
  unfold wIm
  rw [uIm_stack r h, den_stack r h]
  exact divf_stack _ _ (fun n => (a n).size_ne)
/-- What remains, of real planes: real part. -/
theorem lRe_stack : w.lRe g = stack (fun n => (a n).qRe - (a n).cRe) := by
  unfold lRe
  rw [wRe_stack r h, wIm_stack r h, cRe_stack r h, h.arg_hr, h.arg_hi, mulf_stack, mulf_stack, subf_stack, subf_stack]
  rfl
/-- What remains, of real planes: imaginary part. -/
theorem lIm_stack : w.lIm g = stack (fun n => (a n).qIm - (a n).cIm) := by
  unfold lIm
  rw [wRe_stack r h, wIm_stack r h, cIm_stack r h, h.arg_hr, h.arg_hi, mulf_stack, mulf_stack, addf_stack, subf_stack]
  rfl
/-- The new sparse part, of real planes: real part. -/
theorem bRe_stack : w.bRe g = stack (fun n => (a n).bRe) := by
  unfold bRe
  rw [lRe_stack r h, lIm_stack r h, fRe_stack r]
  rfl
/-- The new sparse part, of real planes: imaginary part. -/
theorem bIm_stack : w.bIm g = stack (fun n => (a n).bIm) := by
  unfold bIm
  rw [lRe_stack r h, lIm_stack r h, fIm_stack r]
  rfl

end Ways

/-- The reference's way: the host's products. -/
def products : Ways := ⟨hrow, hcol⟩

/-- The host's products are the products. -/
theorem products_right : products.Right := ⟨hrow_stack, hcol_cos, hcol_sin⟩

open Idealize.ShloMosaic.StableHlo Idealize.SL.Sem Cert.Reference6Ideal
open Cert.Reference6Ideal.Gen Cert.Reference6Ideal.Value Idealize.ShloMosaic.TcCoe

/-- What the reference is given. -/
def given (V : Valuation τ sig (Elt Ideal)) : Given where
  xr := V (Proc.devRef .tc main_arg0)
  xi := V (Proc.devRef .tc main_arg1)
  br := V (Proc.devRef .tc main_arg2)
  bi := V (Proc.devRef .tc main_arg3)
  hr := V (Proc.devRef .tc main_arg4)
  hi := V (Proc.devRef .tc main_arg5)
  tr := V (Proc.devRef .tc main_arg6)
  ti := V (Proc.devRef .tc main_arg7)

section terms

variable (V : Valuation τ sig (Elt Ideal))

/-- The inverse of the propagated object, real part. -/
theorem v40 : res_main_v40 V = products.cRe (given V) := rfl
/-- The inverse of the propagated object, imaginary part. -/
theorem v47 : res_main_v47 V = products.cIm (given V) := rfl
/-- The field, real part. -/
theorem v68 : res_main_v68 V = products.uRe (given V) := rfl
/-- The field, imaginary part. -/
theorem v69 : res_main_v69 V = products.uIm (given V) := rfl
/-- The phase factor, real part. -/
theorem v76 : res_main_v76 V = products.wRe (given V) := rfl
/-- The phase factor, imaginary part. -/
theorem v77 : res_main_v77 V = products.wIm (given V) := rfl
/-- What remains, real part. -/
theorem v84 : res_main_v84 V = products.lRe (given V) := rfl
/-- What remains, imaginary part. -/
theorem v85 : res_main_v85 V = products.lIm (given V) := rfl
/-- The new sparse part, real part. -/
theorem v96 : res_main_v96 V = products.bRe (given V) := rfl
/-- The new sparse part, imaginary part. -/
theorem v101 : res_main_v101 V = products.bIm (given V) := rfl

end terms

/-- The run of the reference, of real planes. -/
theorem reference (m : (ℓ : Loc nD τ sig) → Buf (Elt Ideal) ℓ) (g : Dev nD → PrngReg) (a : Dev nD → Fin 4 → Args) (tr ti : Dev nD → Plane)
    (h : ∀ c, (given (launchContents m c)).Real (a c) (tr c) (ti c)) (v : Dev nD → EReal)
    (hv : ∀ c, Threshold (size (stack fun n => (a c n).bRe) (stack fun n => (a c n).bIm)) (v c)) :
    θ_run (defs (F := Ideal)) (onTc (τ := τ) (main (F := Ideal))) ⟨m, fun _ => 0, g⟩ fun r => ∀ c : Dev nD,
      r.2.mem ((c.tc : Thread nD τ).loc main_v76) = stack (fun n => (a c n).wRe)
      ∧ r.2.mem ((c.tc : Thread nD τ).loc main_v77) = stack (fun n => (a c n).wIm)
      ∧ r.2.mem ((c.tc : Thread nD τ).loc main_v115)
        = sieve (v c) (size (stack fun n => (a c n).bRe) (stack fun n => (a c n).bIm)) (stack fun n => (a c n).bRe)
      ∧ r.2.mem ((c.tc : Thread nD τ).loc main_v116)
        = sieve (v c) (size (stack fun n => (a c n).bRe) (stack fun n => (a c n).bIm)) (stack fun n => (a c n).bIm)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  refine (θ_run defs _ _).mono (fun r k c => ?_) (Cert.Reference6Ideal.Value.run m g)
  obtain ⟨k0, k1, k2, k3, kr⟩ := k c
  have eR : res_main_v96 (launchContents m c) = stack fun n => (a c n).bRe := (v96 _).trans (Ways.bRe_stack products_right (h c))
  have eI : res_main_v101 (launchContents m c) = stack fun n => (a c n).bIm := (v101 _).trans (Ways.bIm_stack products_right (h c))
  have gate : ∀ Z : FVec Ideal S4 .f32, mulf Z (res_main_v114 (launchContents m c))
      = sieve (v c) (size (stack fun n => (a c n).bRe) (stack fun n => (a c n).bIm)) Z := fun Z => by
    have e : res_main_v114 (launchContents m c) = (uitofp .f32 (cmpf .oge (size (res_main_v96 (launchContents m c)) (res_main_v101 (launchContents m c)))
        (broadcastInDim S4 ![] bcast_S_S4x512x512 (largest (size (res_main_v96 (launchContents m c)) (res_main_v101 (launchContents m c)))
          shapeCasts_S4x512x512_S1048576 sliceFits_S1048576_S2000 reducesTo_S2000_S_d0 h_S_))) : Planes4) := rfl
    rw [e, eR, eI]
    exact sieve_host (v c) _ Z _ ((hv c).host _ _ _ _) bcast_S_S4x512x512
  refine ⟨k0.trans ((v76 _).trans (Ways.wRe_stack products_right (h c))), k1.trans ((v77 _).trans (Ways.wIm_stack products_right (h c))),
    k2.trans ?_, k3.trans ?_, kr⟩
  · rw [gate, eR]
  · rw [gate, eI]

end Cert.Phase.LastPass
-- ==== Proof.LastPassPre.lean ====
module

public import proofs.«01_k».proof.Pre_separated6
public import proofs.«01_k».proof.Proof.LastPassReference
public import proofs.«01_k».proof.Proof.Gen.Pre_separated6
public import Idealize.ShloMosaic.Lib.Pointwise.Reduce
public import Idealize.ShloMosaic.Lib.IdealHost

@[expose] public section

noncomputable section

/-! The last pass's condition: what its last two parts say, of real planes. -/

namespace Cert.Phase.LastPass

open Idealize.ShloMosaic Idealize.ShloMosaic.ValueIdx Cert.Pre_separated6 Cert.Pre_separated6.Gen

/-- The rows' products, summed out. -/
def srow (a : Planes4) (t : Plane1) : Planes4 :=
  Host.reduceAdd (F := Ideal) (φ := .f32) (mulf
    (broadcastInDim S4x512x512x512 ![0, 1, 2, 3] bcast_S4x512x512x1_S4x512x512x512_0_1_2_3 (broadcastInDim S4x512x512x1 ![0, 1, 2] bcast_S4x512x512_S4x512x512x1_0_1_2 a))
    (broadcastInDim S4x512x512x512 ![0, 1, 2, 3] bcast_S1x1x512x512_S4x512x512x512_0_1_2_3 (broadcastInDim S1x1x512x512 ![2, 3] bcast_S512x512_S1x1x512x512_2_3 t)))
    (constant S_ .f32 0x00000000#32) reducesTo_S4x512x512x512_S4x512x512_d2 h_S_
/-- The columns' products, summed out. -/
def scol (t : Plane1) (a : Planes4) : Planes4 :=
  Host.reduceAdd (F := Ideal) (φ := .f32) (mulf
    (broadcastInDim S4x512x512x512 ![0, 1, 2, 3] bcast_S4x512x1x512_S4x512x512x512_0_1_2_3 (broadcastInDim S4x512x1x512 ![0, 1, 3] bcast_S4x512x512_S4x512x1x512_0_1_3 a))
    (broadcastInDim S4x512x512x512 ![0, 1, 2, 3] bcast_S1x512x512x1_S4x512x512x512_0_1_2_3 (broadcastInDim S1x512x512x1 ![1, 2] bcast_S512x512_S1x512x512x1_1_2 t)))
    (constant S_ .f32 0x00000000#32) reducesTo_S4x512x512x512_S4x512x512_d1 h_S_

/-- The condition's way: sums of products. -/
def sums : Ways := ⟨srow, scol⟩

/-- The sums over the rows are the products. -/
theorem srow_stack (A : Fin 4 → Plane) (T : Plane) : srow (stack A) (up T) = stack (fun n => A n * T) := by
  funext j
  unfold srow
  rw [hostReduceAdd_apply, Ideal.hostReduceAdd_r4_a2,
    show (constant S_ .f32 0x00000000#32 : FVec Ideal S_ .f32) (Shape.Idx.first h_S_) = 0 from Ideal.ofBits_zero_f32, zero_add]
  exact sum_coe_mul (fun k => A (j 0) (j 1) k) (fun k => T k (j 2))
/-- The sums over the columns are the products with the table, transposed. -/
theorem scol_stack (A : Fin 4 → Plane) (T : Plane) : scol (up T) (stack A) = stack (fun n => T.transpose * A n) := by
  funext j
  unfold scol
  rw [hostReduceAdd_apply, Ideal.hostReduceAdd_r4_a1,
    show (constant S_ .f32 0x00000000#32 : FVec Ideal S_ .f32) (Shape.Idx.first h_S_) = 0 from Ideal.ofBits_zero_f32, zero_add]
  refine (Finset.sum_congr rfl fun k _ => ?_).trans (sum_coe_mul (fun k => T k (j 1)) (fun k => A (j 0) k (j 2)))
  exact mul_comm (A (j 0) k (j 2) : EReal) (T k (j 1) : EReal)

/-- The sums are the products. -/
theorem sums_right : sums.Right where
  row := srow_stack
  cos A := by
    have h := scol_stack A cosTable
    rw [cosTable_transpose] at h
    exact h
  sin A := by
    have h := scol_stack A sinTable
    rw [sinTable_transpose] at h
    exact h

/-- Where the condition holds, there is a threshold of the new sparse part's modulus, and no modulus lies just below it. -/
theorem separated (g : Given) {a : Fin 4 → Args} {tr ti : Plane} (h : g.Real a tr ti)
    (h9 : (Cert.Pre_separated6.fn (F := Ideal) g.xr g.xi g.br g.bi g.hr g.hi g.tr g.ti).2.2.2.2.2.2.2.2.1 = fun _ => 1#1)
    (h10 : (Cert.Pre_separated6.fn (F := Ideal) g.xr g.xi g.br g.bi g.hr g.hi g.tr g.ti).2.2.2.2.2.2.2.2.2 = fun _ => 1#1) :
    ∃ v, Threshold (size (stack fun n => (a n).bRe) (stack fun n => (a n).bIm)) v
      ∧ Separated v (size (stack fun n => (a n).bRe) (stack fun n => (a n).bIm)) := by
  have key : ∃ v, Threshold (size (sums.bRe g) (sums.bIm g)) v ∧ Separated v (size (sums.bRe g) (sums.bIm g)) :=
    separated_of _ _ shapeCasts_S4x512x512_S1048576 sliceFits_S1048576_S2000 reducesTo_S2000_S_d0 h_S_
      bcast_S_S4x512x512 bcast_S_S4x512x512 h9 h10
  rw [Ways.bRe_stack sums_right h, Ways.bIm_stack sums_right h] at key
  exact key

end Cert.Phase.LastPass
-- ==== Proof.AgreeLastPass.lean ====
module

public import proofs.«01_k».proof.Defs
public import proofs.«01_k».proof.Proof.LastPassValues
public import proofs.«01_k».proof.Proof.LastPassPre
public import proofs.«01_k».proof.Proof.Finite

@[expose] public section

noncomputable section

/-! The last pass and its reference leave the same results. -/

namespace Cert.Phase.LastPass

open Idealize.ShloMosaic Idealize.SL.Sem Idealize.ShloMosaic.TcCoe
open Cert.Kernel6Ideal Cert.Kernel6Ideal.Gen

/-- What the kernel is given. -/
def arguments (m : (ℓ : Loc nD τ sig) → Buf (Elt Ideal) ℓ) (c : Dev nD) : Given where
  xr := m ((c.tc : Thread nD τ).loc main_arg0)
  xi := m ((c.tc : Thread nD τ).loc main_arg1)
  br := m ((c.tc : Thread nD τ).loc main_arg2)
  bi := m ((c.tc : Thread nD τ).loc main_arg3)
  hr := m ((c.tc : Thread nD τ).loc main_arg4)
  hi := m ((c.tc : Thread nD τ).loc main_arg5)
  tr := m ((c.tc : Thread nD τ).loc main_arg6)
  ti := m ((c.tc : Thread nD τ).loc main_arg7)

/-- Where the condition holds, the arguments are real. -/
theorem arguments_real (m : (ℓ : Loc nD τ sig) → Buf (Elt Ideal) ℓ) (hp : Cert.Pre_Kernel6Ideal_separated6 m) (c : Dev nD) :
    ∃ (a : Fin 4 → Args) (tr ti : Plane), Start m c a tr ti := by
  obtain ⟨h0, h1, h2, h3, h4, h5, h6, h7, -⟩ := hp c
  obtain ⟨xr, exr⟩ := stack_of_finite _ _ h0
  obtain ⟨xi, exi⟩ := stack_of_finite _ _ h1
  obtain ⟨br, ebr⟩ := stack_of_finite _ _ h2
  obtain ⟨bi, ebi⟩ := stack_of_finite _ _ h3
  obtain ⟨hr, ehr⟩ := stack_of_finite _ _ h4
  obtain ⟨hi, ehi⟩ := stack_of_finite _ _ h5
  obtain ⟨tr, etr⟩ := up_of_finite _ _ h6
  obtain ⟨ti, eti⟩ := up_of_finite _ _ h7
  exact ⟨fun n => ⟨xr n, xi n, br n, bi n, hr n, hi n, tr, ti⟩, tr, ti, exr, exi, ebr, ebi, ehr, ehi, etr, eti, fun _ => rfl, fun _ => rfl⟩

/-- The last pass's four results are the reference's, of finite arguments, where no modulus lies just below the threshold. -/
theorem agrees : Cert.algebraic_Kernel6Ideal_Reference6Ideal_pre_separated6 := by
  intro m g m' g' hp ha
  choose a tr ti h using arguments_real m hp
  have ev : ∀ c : Dev nD, ∃ v, Threshold (size (stack fun n => (a c n).bRe) (stack fun n => (a c n).bIm)) v
      ∧ Separated v (size (stack fun n => (a c n).bRe) (stack fun n => (a c n).bIm)) := fun c =>
    separated (arguments m c) ⟨(h c).arg_xr, (h c).arg_xi, (h c).arg_br, (h c).arg_bi, (h c).arg_hr, (h c).arg_hi, (h c).arg_tr, (h c).arg_ti,
      (h c).same_tr, (h c).same_ti⟩ (hp c).2.2.2.2.2.2.2.2.1 (hp c).2.2.2.2.2.2.2.2.2
  choose v hv hs using ev
  refine ⟨_, _, _, _, ?_, reference m' g' a tr ti (fun c => ?_) v hv⟩
  · refine (θ_run _ _ _).mono (fun r k c => ?_) (run_last m g)
    have k := k.1 c
    exact ⟨(k _ (mem_uc main_v15_0 (by decide))).trans (end_wRe g (h c)),
      (k _ (mem_uc main_v15_1 (by decide))).trans (end_wIm g (h c)),
      (k _ (mem_uc main_v16_0 (by decide))).trans (end_bRe g (h c) (v c) (hv c) (hs c)),
      (k _ (mem_uc main_v16_1 (by decide))).trans (end_bIm g (h c) (v c) (hv c) (hs c)),
      (k _ (mem_uc main_arg0 (by decide))).trans (W3_main_arg0 m g c),
      (k _ (mem_uc main_arg1 (by decide))).trans (W3_main_arg1 m g c),
      (k _ (mem_uc main_arg2 (by decide))).trans (W3_main_arg2 m g c),
      (k _ (mem_uc main_arg3 (by decide))).trans (W3_main_arg3 m g c),
      (k _ (mem_uc main_arg4 (by decide))).trans (W3_main_arg4 m g c),
      (k _ (mem_uc main_arg5 (by decide))).trans (W3_main_arg5 m g c),
      (k _ (mem_uc main_arg6 (by decide))).trans (W3_main_arg6 m g c),
      (k _ (mem_uc main_arg7 (by decide))).trans (W3_main_arg7 m g c)⟩
  · obtain ⟨e0, e1, e2, e3, e4, e5, e6, e7⟩ := ha c
    exact ⟨e0.trans (h c).arg_xr, e1.trans (h c).arg_xi, e2.trans (h c).arg_br, e3.trans (h c).arg_bi, e4.trans (h c).arg_hr,
      e5.trans (h c).arg_hi, e6.trans (h c).arg_tr, e7.trans (h c).arg_ti, (h c).same_tr, (h c).same_ti⟩

end Cert.Phase.LastPass
-- ==== Proof.ResidualPoint.lean ====
module

public import proofs.«01_k».proof.Proof.Body
public import proofs.«01_k».proof.Proof.Gate
public import proofs.«01_k».proof.Proof.Gen.Kernel2Ideal.Frame
public import Idealize.ShloMosaic.Lib.Pipeline.ValueKit
public import Idealize.ShloMosaic.Lib.WholeRead

@[expose] public section

set_option maxRecDepth 16384

noncomputable section

/-! The thresholding call: what each grid point leaves, in terms of the body's operations. -/

namespace Cert.Phase.Residual

open Idealize.ShloMosaic Idealize.SL.Sem Idealize.ShloMosaic.ValueIdx Cert.Kernel2Ideal
open Cert.Kernel2Ideal.Gen Idealize.ShloMosaic.TcCoe
open Idealize.ShloMosaic.Pipeline (Dat Cfg Window)

/-- What a load of one plane reads. -/
theorem seen (arg1 : Memref sig .tc .vmem S4x512x512 .f32) (harg1 : arg1.IsWhole) (X : FVec Ideal S4 .f32) (n : Fin 4)
    (inb : ∀ a, (![n.val, 0, 0] : Fin 3 → ℕ) a + S1x512x512.size a ≤ S4x512x512.size a) :
    View.readAt (Elt Ideal) arg1.view (Rect.unit (s := S4x512x512) ![n.val, 0, 0] S1x512x512.size inb).toLoadRect (harg1.unread X) = part X n := by
  funext x
  rw [Memref.IsWhole.readAt_unread]
  have e : (Rect.unit (s := S4x512x512) ![n.val, 0, 0] S1x512x512.size inb).toLoadRect.idx x = ValueIdx.ix3 n (x 1) (x 2) := by
    funext a
    refine Fin.ext ?_
    fin_cases a
    · show n.val + 1 * (x 0).val = n.val
      have : (x 0).val < 1 := (x 0).isLt
      omega
    · show 0 + 1 * (x 1).val = (x 1).val
      omega
    · show 0 + 1 * (x 2).val = (x 2).val
      omega
  exact congrArg X e

/-- The transformed object a point stores, real part, of its blocks and the threshold. -/
def leaveRe (r : EReal) (x1 x2 x3 x4 : Vec Ideal S1x512x512 .f32) (x5 x6 x7 x8 x9 x10 : Vec Ideal S512x512 .f32) : FVec Ideal S1x512x512 .f32 :=
  k0_pay8 (F := Ideal) (k0_pay16 x7) (k0_pay17 x8)
    (k0_pay39 (k0_pay16 x7) (k0_pay17 x8) (k0_pay22 r x1 x2) (k0_pay25 r x1 x2 x3) x4 x5 x6 x10)
    (k0_pay40 (k0_pay16 x7) (k0_pay17 x8) (k0_pay22 r x1 x2) (k0_pay25 r x1 x2 x3) x4 x5 x6 x10) x9
/-- The transformed object a point stores, imaginary part. -/
def leaveIm (r : EReal) (x1 x2 x3 x4 : Vec Ideal S1x512x512 .f32) (x5 x6 x7 x8 x9 x10 : Vec Ideal S512x512 .f32) : FVec Ideal S1x512x512 .f32 :=
  k0_pay9 (F := Ideal) (k0_pay16 x7) (k0_pay17 x8)
    (k0_pay39 (k0_pay16 x7) (k0_pay17 x8) (k0_pay22 r x1 x2) (k0_pay25 r x1 x2 x3) x4 x5 x6 x10)
    (k0_pay40 (k0_pay16 x7) (k0_pay17 x8) (k0_pay22 r x1 x2) (k0_pay25 r x1 x2 x3) x4 x5 x6 x10) x9

section body

variable (c : Dev nD) (i : grid0.Coords)
  (arg1 : Memref sig .tc .vmem S4x512x512 .f32) (harg1 : arg1.IsWhole) (arg2 : Memref sig .tc .vmem S1x512x512 .f32) (harg2 : arg2.IsWhole) (arg3 : Memref sig .tc .vmem S1x512x512 .f32) (harg3 : arg3.IsWhole) (arg4 : Memref sig .tc .vmem S1x512x512 .f32) (harg4 : arg4.IsWhole)
  (arg5 : Memref sig .tc .vmem S1x512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole)
  (arg9 : Memref sig .tc .vmem S512x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S1x512x512 .f32) (harg12 : arg12.IsWhole)
  (arg13 : Memref sig .tc .vmem S1x512x512 .f32) (harg13 : arg13.IsWhole) (arg14 : Memref sig .tc .vmem S1x512x512 .f32) (harg14 : arg14.IsWhole) (arg15 : Memref sig .tc .vmem S1x512x512 .f32) (harg15 : arg15.IsWhole) (arg16 : Memref sig .tc .smem Cert.Kernel2Ideal.S1 .f32) (harg16 : arg16.IsWhole)

/-- One trip of the loop. -/
theorem trip (hc : k0_cond1 i = 1#1) (X : FVec Ideal S4 .f32) (k : Fin k0_t1_loop.trips) (acc : BitVec 32 × BitVec 32) :
    tripR_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc (harg1.unread X) k acc
      = (if 2000 ≤ reach X (Ideal.ofBits .f32 (acc.1 + acc.2)) then acc.1 + acc.2 else acc.1, Scalar.divsi acc.2 2#32) := by
  unfold tripR_k0_t1 trip_k0_t1
  dsimp only
  delta trip_k0_t1.sl.v141 trip_k0_t1.sl.v142
  refine congrArg₂ Prod.mk ?_ rfl
  delta trip_k0_t1.sl.v140 trip_k0_t1.sl.v139 trip_k0_t1.sl.v129 trip_k0_t1.sl.v119 trip_k0_t1.sl.v109
  delta trip_k0_t1.sl.v108 trip_k0_t1.sl.v118 trip_k0_t1.sl.v128 trip_k0_t1.sl.v138
  rw [← step_eq X (acc.1 + acc.2) acc.1 shapeCasts_S1x512x512_S512x512 shapeCasts_S512x512_S1x512x512 reduces_S1x512x512_S1
      shapeCasts_S1_S1x1x1 natLt_1_32 (fun a => ⟨(![0, 0, 0] : Fin 3 → ℕ) a, inpos_S1x1x1_p0_0_0 a⟩),
    ← seen arg1 harg1 X 0 inb_S4x512x512_S1x512x512_0_0_0, ← seen arg1 harg1 X 1 inb_S4x512x512_S1x512x512_1_0_0,
    ← seen arg1 harg1 X 2 inb_S4x512x512_S1x512x512_2_0_0, ← seen arg1 harg1 X 3 inb_S4x512x512_S1x512x512_3_0_0]
  rfl

/-- The loop ends at the last pattern whose value is at most the threshold. -/
theorem loop (hc : k0_cond1 i = 1#1) (X : FVec Ideal S4 .f32) (v : EReal) (hv : Threshold X v) :
    (st_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc (harg1.unread X) (0#32, 1073741824#32) 31).1 = BitVec.ofNat 32 (last v) := by
  have n : k0_t1_loop.trips = 31 := by decide +kernel
  refine search_last X v hv.below hv.many hv.few (fun k => st_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc (harg1.unread X) (0#32, 1073741824#32) k) (st_k0_t1_zero ..) fun k hk => ?_
  have e := st_k0_t1_succ (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc (harg1.unread X) (0#32, 1073741824#32) ⟨k, by rw [n]; exact hk⟩
  rw [trip c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc X] at e
  exact e

/-- The word the search stores. -/
theorem word (hc : k0_cond1 i = 1#1) (X : FVec Ideal S4 .f32) (v : EReal) (hv : Threshold X v) :
    k0_pay15 (F := Ideal) (st_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc (harg1.unread X) (0#32, 1073741824#32)
      (Scf.trips 0#32 (Scalar.addi 0#32 31#32) 1#32)).1 = ((val (last v) : ℝ) : EReal) := by
  have n : Scf.trips 0#32 (Scalar.addi 0#32 31#32) 1#32 = 31 := by decide +kernel
  rw [n, loop c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc X v hv]
  exact ofBits_val (last v) (last_lt v)

variable (X : FVec Ideal S4 .f32) (x1 x2 x3 x4 : Vec Ideal S1x512x512 .f32) (x5 x6 x7 x8 x9 x10 : Vec Ideal S512x512 .f32)

/-- What the first point leaves in the scratch word. -/
theorem scratch (hc0 : cond0_0 i) (v : EReal) (hv : Threshold X v) :
    sout0_A_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 X x1 x2 x3 x4 x5 x6 x7 x8 x9 x10 = fun _ => ((val (last v) : ℝ) : EReal) := by
  unfold sout0_A_0
  frame_out
  exact funext fun _ => word c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 X v hv

/-- What the first point leaves for the kept part, real part. -/
theorem first11 (hc0 : cond0_0 i) (v : EReal) (hv : Threshold X v) :
    out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 X x1 x2 x3 x4 x5 x6 x7 x8 x9 x10 = k0_pay23 (F := Ideal) ((val (last v) : ℝ) : EReal) x1 x2 := by
  unfold out0_A_11
  frame_out
  rw [word c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 X v hv]

/-- What a later point leaves for the kept part, real part. -/
theorem later11 (hc0 : ¬cond0_0 i) (r : EReal) :
    out0_B_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 X x1 x2 x3 x4 x5 x6 x7 x8 x9 x10 (fun _ => r) = k0_pay23 (F := Ideal) r x1 x2 := by
  unfold out0_B_11
  frame_out

/-- What the first point leaves for the kept part, imaginary part. -/
theorem first12 (hc0 : cond0_0 i) (v : EReal) (hv : Threshold X v) :
    out0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 X x1 x2 x3 x4 x5 x6 x7 x8 x9 x10 = k0_pay24 (F := Ideal) ((val (last v) : ℝ) : EReal) x1 x2 := by
  unfold out0_A_12
  frame_out
  rw [word c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 X v hv]

/-- What a later point leaves for the kept part, imaginary part. -/
theorem later12 (hc0 : ¬cond0_0 i) (r : EReal) :
    out0_B_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 X x1 x2 x3 x4 x5 x6 x7 x8 x9 x10 (fun _ => r) = k0_pay24 (F := Ideal) r x1 x2 := by
  unfold out0_B_12
  frame_out

/-- What the first point leaves for the transformed object, real part. -/
theorem first13 (hc0 : cond0_0 i) (v : EReal) (hv : Threshold X v) :
    out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 X x1 x2 x3 x4 x5 x6 x7 x8 x9 x10 = leaveRe ((val (last v) : ℝ) : EReal) x1 x2 x3 x4 x5 x6 x7 x8 x9 x10 := by
  unfold out0_A_13
  frame_out
  rw [word c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 X v hv]
  rfl

/-- What a later point leaves for the transformed object, real part. -/
theorem later13 (hc0 : ¬cond0_0 i) (r : EReal) :
    out0_B_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 X x1 x2 x3 x4 x5 x6 x7 x8 x9 x10 (fun _ => r) = leaveRe r x1 x2 x3 x4 x5 x6 x7 x8 x9 x10 := by
  unfold out0_B_13
  frame_out
  rfl

/-- What the first point leaves for the transformed object, imaginary part. -/
theorem first14 (hc0 : cond0_0 i) (v : EReal) (hv : Threshold X v) :
    out0_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 X x1 x2 x3 x4 x5 x6 x7 x8 x9 x10 = leaveIm ((val (last v) : ℝ) : EReal) x1 x2 x3 x4 x5 x6 x7 x8 x9 x10 := by
  unfold out0_A_14
  frame_out
  rw [word c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 X v hv]
  rfl

/-- What a later point leaves for the transformed object, imaginary part. -/
theorem later14 (hc0 : ¬cond0_0 i) (r : EReal) :
    out0_B_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 X x1 x2 x3 x4 x5 x6 x7 x8 x9 x10 (fun _ => r) = leaveIm r x1 x2 x3 x4 x5 x6 x7 x8 x9 x10 := by
  unfold out0_B_14
  frame_out
  rfl

end body

end Cert.Phase.Residual
-- ==== Proof.ResidualSpec.lean ====
module

public import proofs.«01_k».proof.Proof.Gate
public import proofs.«01_k».proof.Proof.Orthogonal

@[expose] public section

noncomputable section

/-! What the thresholding call computes, on one plane of real numbers. -/

namespace Cert.Phase

open Idealize.ShloMosaic

/-- The modulus below which an entry of the object is dropped. -/
def floor : ℝ := val 0x3C23D70A
/-- It is what the constant's word denotes. -/
theorem ofBits_floor : Ideal.ofBits .f32 0x3C23D70A#32 = (floor : EReal) := ofBits_val 0x3C23D70A (by norm_num)

/-- A plane kept where another exceeds the floor, and zero elsewhere. -/
def sift (M Z : Plane) : Plane := Matrix.of fun i j => if floor < M i j then Z i j else 0

/-- The sifted plane, as a body computes it. -/
theorem sift_up (M Z : Plane) :
    select (cmpf .ogt (up M) (broadcast S2 (Scalar.ofBits (F := Ideal) .f32 0x3C23D70A#32))) (up Z) (broadcast S2 (Scalar.ofBits (F := Ideal) .f32 0x00000000#32)) = up (sift M Z) := by
  funext i
  show (if Ideal.cmp .ogt ((M (i 0) (i 1) : ℝ) : EReal) (Ideal.ofBits .f32 0x3C23D70A#32) = 1#1 then ((Z (i 0) (i 1) : ℝ) : EReal) else Ideal.ofBits .f32 0x00000000#32)
    = (((if floor < M (i 0) (i 1) then Z (i 0) (i 1) else 0 : ℝ)) : EReal)
  have z : Ideal.ofBits .f32 0x00000000#32 = ((0 : ℝ) : EReal) := by simp [Ideal.ofBits, Ideal.ieee]
  rw [z, ofBits_floor]
  unfold Ideal.cmp
  by_cases h : floor < M (i 0) (i 1) <;> simp [h]

/-- The sifted planes, as the host computes them. -/
theorem sift_stack (M Z : Fin 4 → Plane) (hb : S0.BroadcastsInDim S4 ![]) :
    mulf (stack Z) (uitofp .f32 (cmpf .ogt (stack M) (broadcastInDim S4 ![] hb (constant S0 .f32 0x3C23D70A#32)))) = stack (fun n => sift (M n) (Z n)) := by
  rw [broadcastInDim_stack (u := S0) rfl ![] hb floor (constant S0 .f32 0x3C23D70A#32) (fun _ => ofBits_floor)]
  funext i
  show ((Z (i 0) (i 1) (i 2) : ℝ) : EReal) * (((Ideal.cmp .ogt ((M (i 0) (i 1) (i 2) : ℝ) : EReal) (floor : EReal)).toNat : ℝ) : EReal)
    = (((if floor < M (i 0) (i 1) (i 2) then Z (i 0) (i 1) (i 2) else 0 : ℝ)) : EReal)
  unfold Ideal.cmp
  by_cases h : floor < M (i 0) (i 1) (i 2) <;> simp [h]

/-- The planes one grid point of the thresholding call works on. -/
structure Rest where
  /-- The sparse part that is kept, real part. -/
  br : Plane
  /-- The sparse part that is kept, imaginary part. -/
  bi : Plane
  /-- The transform of the measurement with the phase, real part. -/
  qr : Plane
  /-- The transform of the measurement with the phase, imaginary part. -/
  qi : Plane
  /-- The propagator, real part. -/
  tr : Plane
  /-- The propagator, imaginary part. -/
  ti : Plane

namespace Rest

variable (a : Rest)

/-- What remains, real part. -/
def dRe : Plane := a.qr - a.br
/-- What remains, imaginary part. -/
def dIm : Plane := a.qi - a.bi
/-- What remains, propagated back, real part. -/
def vRe : Plane := had a.dRe a.tr + had a.dIm a.ti
/-- What remains, propagated back, imaginary part. -/
def vIm : Plane := had a.dIm a.tr - had a.dRe a.ti
/-- The object, real part. -/
def xRe : Plane := invRe cosTable sinTable a.vRe a.vIm
/-- The object, imaginary part. -/
def xIm : Plane := invIm cosTable sinTable a.vRe a.vIm
/-- The object without its small entries, real part. -/
def sRe : Plane := sift (modulus a.xRe a.xIm) a.xRe
/-- The object without its small entries, imaginary part. -/
def sIm : Plane := sift (modulus a.xRe a.xIm) a.xIm
/-- Its transform, real part. -/
def fRe : Plane := fwdRe cosTable sinTable a.sRe a.sIm
/-- Its transform, imaginary part. -/
def fIm : Plane := fwdIm cosTable sinTable a.sRe a.sIm

/-- The transform of the difference of two inverses is the difference, real part. -/
theorem dRe_back : fwdRe cosTable sinTable (invRe cosTable sinTable a.qr a.qi - invRe cosTable sinTable a.br a.bi)
    (invIm cosTable sinTable a.qr a.qi - invIm cosTable sinTable a.br a.bi) = a.dRe := by
  rw [fwdRe_sub, tables.fwdRe_inv, tables.fwdRe_inv]
  rfl
/-- The transform of the difference of two inverses is the difference, imaginary part. -/
theorem dIm_back : fwdIm cosTable sinTable (invRe cosTable sinTable a.qr a.qi - invRe cosTable sinTable a.br a.bi)
    (invIm cosTable sinTable a.qr a.qi - invIm cosTable sinTable a.br a.bi) = a.dIm := by
  rw [fwdIm_sub, tables.fwdIm_inv, tables.fwdIm_inv]
  rfl
/-- The product with the conjugate, written out, real part. -/
theorem vRe_host : had a.dRe a.tr - had a.dIm (-a.ti) = a.vRe := by
  ext i j
  simp [vRe, had]
/-- The product with the conjugate, written out, imaginary part. -/
theorem vIm_host : had a.dRe (-a.ti) + had a.dIm a.tr = a.vIm := by
  ext i j
  simp [vIm, had]
  ring

end Rest

/-- The planes of one grid point, after the threshold `v`. -/
def rest (v : EReal) (br bi qr qi tr ti : Plane) : Rest := ⟨gate v (modulus br bi) br, gate v (modulus br bi) bi, qr, qi, tr, ti⟩

end Cert.Phase
-- ==== Proof.Residual.lean ====
module

public import proofs.«01_k».proof.Proof.ResidualPoint
public import proofs.«01_k».proof.Proof.ResidualSpec
public import proofs.«01_k».proof.Proof.Tables

@[expose] public section

set_option maxRecDepth 16384

noncomputable section

/-! The thresholding call: what its four results hold, of real planes. -/

namespace Cert.Phase.Residual

open Idealize.ShloMosaic Idealize.SL.Sem Idealize.ShloMosaic.ValueIdx Cert.Kernel2Ideal
open Cert.Kernel2Ideal.Gen Idealize.ShloMosaic.TcCoe
open Idealize.ShloMosaic.Pipeline (Dat Cfg Window)

/-- The body's test of a block against a threshold. -/
theorem kept (r : EReal) (a b : Plane) :
    k0_pay20 (F := Ideal) r (blk a) (blk b) = cmpf .oge (up (modulus a b)) (broadcast S2 ((r : EReal) : Ideal .f32)) := by
  unfold k0_pay20 k0_pay18 k0_pay19
  dsimp only
  rw [shapeCast_up, shapeCast_up, modulus_up]
/-- The kept part of a block, real part. -/
theorem pay21 (r : EReal) (a b : Plane) : k0_pay21 (F := Ideal) r (blk a) (blk b) = up (gate r (modulus a b) a) := by
  unfold k0_pay21
  dsimp only
  rw [kept, k0_pay18, shapeCast_up]
  exact (sieve_body _ _ _).trans (sieve_up _ _ _)
/-- The kept part of a block, imaginary part. -/
theorem pay22 (r : EReal) (a b : Plane) : k0_pay22 (F := Ideal) r (blk a) (blk b) = up (gate r (modulus a b) b) := by
  unfold k0_pay22
  dsimp only
  rw [kept, k0_pay19, shapeCast_up]
  exact (sieve_body _ _ _).trans (sieve_up _ _ _)
/-- The kept part as it is stored, real part. -/
theorem pay23 (r : EReal) (a b : Plane) : k0_pay23 (F := Ideal) r (blk a) (blk b) = blk (gate r (modulus a b) a) := by
  unfold k0_pay23
  dsimp only
  rw [pay21, shapeCast_blk]
/-- The kept part as it is stored, imaginary part. -/
theorem pay24 (r : EReal) (a b : Plane) : k0_pay24 (F := Ideal) r (blk a) (blk b) = blk (gate r (modulus a b) b) := by
  unfold k0_pay24
  dsimp only
  rw [pay22, shapeCast_blk]
/-- What remains of a block, real part. -/
theorem pay25 (r : EReal) (a b p : Plane) : k0_pay25 (F := Ideal) r (blk a) (blk b) (blk p) = up (p - gate r (modulus a b) a) := by
  unfold k0_pay25
  dsimp only
  rw [pay21, shapeCast_up, subf_up]
/-- What remains of a block, imaginary part. -/
theorem pay26 (b q : Plane) : k0_pay26 (F := Ideal) (up b) (blk q) = up (q - b) := by
  unfold k0_pay26
  dsimp only
  rw [shapeCast_up, subf_up]

section point

variable (C S b d q t u : Plane)

/-- The back-propagated part, real part. -/
theorem pay27 : k0_pay27 (F := Ideal) (up b) (up d) (blk q) (up t) (up u) = up (had d t + had (q - b) u) := by
  unfold k0_pay27
  dsimp only
  rw [pay26, mulf_up, mulf_up, addf_up]
/-- The back-propagated part, imaginary part. -/
theorem pay28 : k0_pay28 (F := Ideal) (up b) (up d) (blk q) (up t) (up u) = up (had (q - b) t - had d u) := by
  unfold k0_pay28
  dsimp only
  rw [pay26, mulf_up, mulf_up, subf_up]
/-- The inverse the body computes, real part. -/
theorem pay36 : k0_pay36 (F := Ideal) (up C) (up S) (up b) (up d) (blk q) (up t) (up u) (up (C + S))
    = up (invRe C S (had d t + had (q - b) u) (had (q - b) t - had d u)) := by
  have k : k0_pay36 (F := Ideal) (up C) (up S) (up b) (up d) (blk q) (up t) (up u) (up (C + S))
      = ifftRe (k0_pay27 (up b) (up d) (blk q) (up t) (up u)) (k0_pay28 (up b) (up d) (blk q) (up t) (up u)) (up C) (up S)
        (shapeCast S2 (up (C + S)) shapeCasts_S512x512_S512x512) := rfl
  rw [k, pay27, pay28, shapeCast_self]
  exact ifftRe_up _ _ C S
/-- The inverse the body computes, imaginary part. -/
theorem pay37 : k0_pay37 (F := Ideal) (up C) (up S) (up b) (up d) (blk q) (up t) (up u) (up (C + S))
    = up (invIm C S (had d t + had (q - b) u) (had (q - b) t - had d u)) := by
  have k : k0_pay37 (F := Ideal) (up C) (up S) (up b) (up d) (blk q) (up t) (up u) (up (C + S))
      = ifftIm (k0_pay27 (up b) (up d) (blk q) (up t) (up u)) (k0_pay28 (up b) (up d) (blk q) (up t) (up u)) (up C) (up S)
        (shapeCast S2 (up (C + S)) shapeCasts_S512x512_S512x512) := rfl
  rw [k, pay27, pay28, shapeCast_self]
  exact ifftIm_up _ _ C S
/-- The transform the body stores, real part. -/
theorem pay8 (x y : Plane) : k0_pay8 (F := Ideal) (up C) (up S) (up x) (up y) (up (C - S)) = blk (fwdRe C S x y) := by
  have k : k0_pay8 (F := Ideal) (up C) (up S) (up x) (up y) (up (C - S))
      = shapeCast S1x512x512 (fftRe (up x) (up y) (up C) (up S) (shapeCast S2 (up (C - S)) shapeCasts_S512x512_S512x512)) shapeCasts_S512x512_S1x512x512 := rfl
  rw [k, shapeCast_self, fftRe_up]
  exact shapeCast_blk _ _
/-- The transform the body stores, imaginary part. -/
theorem pay9 (x y : Plane) : k0_pay9 (F := Ideal) (up C) (up S) (up x) (up y) (up (C - S)) = blk (fwdIm C S x y) := by
  have k : k0_pay9 (F := Ideal) (up C) (up S) (up x) (up y) (up (C - S))
      = shapeCast S1x512x512 (fftIm (up x) (up y) (up C) (up S) (shapeCast S2 (up (C - S)) shapeCasts_S512x512_S512x512)) shapeCasts_S512x512_S1x512x512 := rfl
  rw [k, shapeCast_self, fftIm_up]
  exact shapeCast_blk _ _

end point

/-- The object without its small entries, real part, as the body computes it. -/
theorem pay39 (r : EReal) (a b p q t u : Plane) : k0_pay39 (F := Ideal) (up cosTable) (up sinTable) (up (gate r (modulus a b) b))
    (up (p - gate r (modulus a b) a)) (blk q) (up t) (up u) (up (cosTable + sinTable)) = up (rest r a b p q t u).sRe := by
  unfold k0_pay39 k0_pay38
  dsimp only
  rw [pay36, pay37, modulus_up]
  exact sift_up _ _
/-- The object without its small entries, imaginary part, as the body computes it. -/
theorem pay40 (r : EReal) (a b p q t u : Plane) : k0_pay40 (F := Ideal) (up cosTable) (up sinTable) (up (gate r (modulus a b) b))
    (up (p - gate r (modulus a b) a)) (blk q) (up t) (up u) (up (cosTable + sinTable)) = up (rest r a b p q t u).sIm := by
  unfold k0_pay40 k0_pay38
  dsimp only
  rw [pay36, pay37, modulus_up]
  exact sift_up _ _
/-- A table as the body reads it. -/
theorem pay16 (T : Plane) : k0_pay16 (F := Ideal) (up T) = up T := shapeCast_self _ _
/-- The other table as the body reads it. -/
theorem pay17 (T : Plane) : k0_pay17 (F := Ideal) (up T) = up T := shapeCast_self _ _
/-- What a point stores of real blocks, real part. -/
theorem leaveRe_up (r : EReal) (a b p q t u : Plane) :
    leaveRe r (blk a) (blk b) (blk p) (blk q) (up t) (up u) (up cosTable) (up sinTable) (up (cosTable - sinTable)) (up (cosTable + sinTable))
      = blk (rest r a b p q t u).fRe := by
  unfold leaveRe
  rw [pay16, pay17, pay22, pay25, pay39, pay40, pay8]
  rfl
/-- What a point stores of real blocks, imaginary part. -/
theorem leaveIm_up (r : EReal) (a b p q t u : Plane) :
    leaveIm r (blk a) (blk b) (blk p) (blk q) (up t) (up u) (up cosTable) (up sinTable) (up (cosTable - sinTable)) (up (cosTable + sinTable))
      = blk (rest r a b p q t u).fIm := by
  unfold leaveIm
  rw [pay16, pay17, pay22, pay25, pay39, pay40, pay9]
  rfl

variable (m : (ℓ : Loc nD τ sig) → Buf (Elt Ideal) ℓ)

/-- The plane a grid point works on. -/
def plane (t : Fin cfg0.N) : Fin 4 := ⟨t.val, t.isLt⟩

/-- The cosine table as the region finds it. -/
theorem V_C (c : Dev nD) : V m c main_v11 = up cosTable := by
  entry_read
  have k := cos_kernel
  rw [← kernel_angles] at k
  exact k

/-- The sine table as the region finds it. -/
theorem V_S (c : Dev nD) : V m c main_v12 = up sinTable := by
  entry_read
  have k := sin_kernel
  rw [← kernel_angles] at k
  exact k

/-- The difference of the tables as the region finds it. -/
theorem V_D (c : Dev nD) : V m c main_v13 = up (cosTable - sinTable) := by
  entry_read
  have kc := cos_kernel
  have ks := sin_kernel
  rw [← kernel_angles] at kc ks
  exact (congrArg₂ subf kc ks).trans (subf_up _ _)

/-- The sum of the tables as the region finds it. -/
theorem V_E (c : Dev nD) : V m c main_v14 = up (cosTable + sinTable) := by
  entry_read
  have kc := cos_kernel
  have ks := sin_kernel
  rw [← kernel_angles] at kc ks
  exact (congrArg₂ addf kc ks).trans (addf_up _ _)

/-- Window 0's block is the whole array. -/
theorem block0 (c : Dev nD) (A : FVec Ideal S4 .f32) (h : m ((c : Thread nD τ).loc main_arg0) = A) (t : Fin cfg0.N) :
    iblk m c 0 t = A := by
  have e : ∀ t : Fin cfg0.N, win0_0.index t = ![0, 0, 0] := (by decide +kernel : ∀ t : Fin grid0.N, _)
  funext y
  have k : (win0_0.blk t).view.emb y = y := by blk_ext [e]
  blk_simp [iblk]
  rw [V_main_arg0, h, k]

/-- Where window 1's block lies. -/
theorem emb1 (t : Fin cfg0.N) (y : S1.Idx) : (win0_1.blk t).view.emb y = ValueIdx.ix3 (plane t) (y 1) (y 2) := by
  have e : ∀ t : Fin cfg0.N, win0_1.index t = ![t.val, 0, 0] := (by decide +kernel : ∀ t : Fin grid0.N, _)
  blk_ext [e, plane]

/-- Window 1's block is its plane. -/
theorem block1 (c : Dev nD) (A : Fin 4 → Plane) (h : m ((c : Thread nD τ).loc main_arg1) = stack A) (t : Fin cfg0.N) :
    iblk m c 1 t = blk (A (plane t)) := by
  funext y
  blk_simp [iblk]
  rw [V_main_arg1, h, emb1]
  rfl

/-- Where window 2's block lies. -/
theorem emb2 (t : Fin cfg0.N) (y : S1.Idx) : (win0_2.blk t).view.emb y = ValueIdx.ix3 (plane t) (y 1) (y 2) := by
  have e : ∀ t : Fin cfg0.N, win0_2.index t = ![t.val, 0, 0] := (by decide +kernel : ∀ t : Fin grid0.N, _)
  blk_ext [e, plane]

/-- Window 2's block is its plane. -/
theorem block2 (c : Dev nD) (A : Fin 4 → Plane) (h : m ((c : Thread nD τ).loc main_arg2) = stack A) (t : Fin cfg0.N) :
    iblk m c 2 t = blk (A (plane t)) := by
  funext y
  blk_simp [iblk]
  rw [V_main_arg2, h, emb2]
  rfl

/-- Where window 3's block lies. -/
theorem emb3 (t : Fin cfg0.N) (y : S1.Idx) : (win0_3.blk t).view.emb y = ValueIdx.ix3 (plane t) (y 1) (y 2) := by
  have e : ∀ t : Fin cfg0.N, win0_3.index t = ![t.val, 0, 0] := (by decide +kernel : ∀ t : Fin grid0.N, _)
  blk_ext [e, plane]

/-- Window 3's block is its plane. -/
theorem block3 (c : Dev nD) (A : Fin 4 → Plane) (h : m ((c : Thread nD τ).loc main_arg3) = stack A) (t : Fin cfg0.N) :
    iblk m c 3 t = blk (A (plane t)) := by
  funext y
  blk_simp [iblk]
  rw [V_main_arg3, h, emb3]
  rfl

/-- Where window 4's block lies. -/
theorem emb4 (t : Fin cfg0.N) (y : S1.Idx) : (win0_4.blk t).view.emb y = ValueIdx.ix3 (plane t) (y 1) (y 2) := by
  have e : ∀ t : Fin cfg0.N, win0_4.index t = ![t.val, 0, 0] := (by decide +kernel : ∀ t : Fin grid0.N, _)
  blk_ext [e, plane]

/-- Window 4's block is its plane. -/
theorem block4 (c : Dev nD) (A : Fin 4 → Plane) (h : m ((c : Thread nD τ).loc main_arg4) = stack A) (t : Fin cfg0.N) :
    iblk m c 4 t = blk (A (plane t)) := by
  funext y
  blk_simp [iblk]
  rw [V_main_arg4, h, emb4]
  rfl

/-- Where window 11's block lies. -/
theorem emb11 (t : Fin cfg0.N) (y : S1.Idx) : (win0_11.blk t).view.emb y = ValueIdx.ix3 (plane t) (y 1) (y 2) := by
  have e : ∀ t : Fin cfg0.N, win0_11.index t = ![t.val, 0, 0] := (by decide +kernel : ∀ t : Fin grid0.N, _)
  blk_ext [e, plane]

/-- Where window 12's block lies. -/
theorem emb12 (t : Fin cfg0.N) (y : S1.Idx) : (win0_12.blk t).view.emb y = ValueIdx.ix3 (plane t) (y 1) (y 2) := by
  have e : ∀ t : Fin cfg0.N, win0_12.index t = ![t.val, 0, 0] := (by decide +kernel : ∀ t : Fin grid0.N, _)
  blk_ext [e, plane]

/-- Where window 13's block lies. -/
theorem emb13 (t : Fin cfg0.N) (y : S1.Idx) : (win0_13.blk t).view.emb y = ValueIdx.ix3 (plane t) (y 1) (y 2) := by
  have e : ∀ t : Fin cfg0.N, win0_13.index t = ![t.val, 0, 0] := (by decide +kernel : ∀ t : Fin grid0.N, _)
  blk_ext [e, plane]

/-- Where window 14's block lies. -/
theorem emb14 (t : Fin cfg0.N) (y : S1.Idx) : (win0_14.blk t).view.emb y = ValueIdx.ix3 (plane t) (y 1) (y 2) := by
  have e : ∀ t : Fin cfg0.N, win0_14.index t = ![t.val, 0, 0] := (by decide +kernel : ∀ t : Fin grid0.N, _)
  blk_ext [e, plane]

/-- Window 5's block is the whole argument. -/
theorem block5 (c : Dev nD) (A : Plane) (h : m ((c : Thread nD τ).loc main_arg5) = up A) (t : Fin cfg0.N) : iblk m c 5 t = up A := by
  have e : ∀ t : Fin cfg0.N, win0_5.index t = ![0, 0] := (by decide +kernel : ∀ t : Fin grid0.N, _)
  funext y
  have k : (win0_5.blk t).view.emb y = y := by blk_ext [e]
  blk_simp [iblk]
  rw [V_main_arg5, h, k]

/-- Window 6's block is the whole argument. -/
theorem block6 (c : Dev nD) (A : Plane) (h : m ((c : Thread nD τ).loc main_arg6) = up A) (t : Fin cfg0.N) : iblk m c 6 t = up A := by
  have e : ∀ t : Fin cfg0.N, win0_6.index t = ![0, 0] := (by decide +kernel : ∀ t : Fin grid0.N, _)
  funext y
  have k : (win0_6.blk t).view.emb y = y := by blk_ext [e]
  blk_simp [iblk]
  rw [V_main_arg6, h, k]

/-- Window 7's block is the whole table. -/
theorem block7 (c : Dev nD) (t : Fin cfg0.N) : iblk m c 7 t = up cosTable := by
  have e : ∀ t : Fin cfg0.N, win0_7.index t = ![0, 0] := (by decide +kernel : ∀ t : Fin grid0.N, _)
  funext y
  have k : (win0_7.blk t).view.emb y = y := by blk_ext [e]
  blk_simp [iblk]
  rw [V_C, k]

/-- Window 8's block is the whole table. -/
theorem block8 (c : Dev nD) (t : Fin cfg0.N) : iblk m c 8 t = up sinTable := by
  have e : ∀ t : Fin cfg0.N, win0_8.index t = ![0, 0] := (by decide +kernel : ∀ t : Fin grid0.N, _)
  funext y
  have k : (win0_8.blk t).view.emb y = y := by blk_ext [e]
  blk_simp [iblk]
  rw [V_S, k]

/-- Window 9's block is the whole table. -/
theorem block9 (c : Dev nD) (t : Fin cfg0.N) : iblk m c 9 t = up (cosTable - sinTable) := by
  have e : ∀ t : Fin cfg0.N, win0_9.index t = ![0, 0] := (by decide +kernel : ∀ t : Fin grid0.N, _)
  funext y
  have k : (win0_9.blk t).view.emb y = y := by blk_ext [e]
  blk_simp [iblk]
  rw [V_D, k]

/-- Window 10's block is the whole table. -/
theorem block10 (c : Dev nD) (t : Fin cfg0.N) : iblk m c 10 t = up (cosTable + sinTable) := by
  have e : ∀ t : Fin cfg0.N, win0_10.index t = ![0, 0] := (by decide +kernel : ∀ t : Fin grid0.N, _)
  funext y
  have k : (win0_10.blk t).view.emb y = y := by blk_ext [e]
  blk_simp [iblk]
  rw [V_E, k]

section run

variable (c : Dev nD) (X : FVec Ideal S4 .f32) (A B P Q : Fin 4 → Plane) (T U : Plane)
  (hX : m ((c : Thread nD τ).loc main_arg0) = X) (hA : m ((c : Thread nD τ).loc main_arg1) = stack A)
  (hB : m ((c : Thread nD τ).loc main_arg2) = stack B) (hP : m ((c : Thread nD τ).loc main_arg3) = stack P)
  (hQ : m ((c : Thread nD τ).loc main_arg4) = stack Q) (hT : m ((c : Thread nD τ).loc main_arg5) = up T)
  (hU : m ((c : Thread nD τ).loc main_arg6) = up U) (v : EReal) (hv : Threshold X v)

/-- The planes of member `n`, after the threshold the search finds. -/
abbrev at' (n : Fin 4) : Rest := rest (val (last v) : EReal) (A n) (B n) (P n) (Q n) T U

include hX hA hB hP hQ hT hU hv

/-- What every point leaves. -/
theorem outs : ∀ (n : ℕ) (hn : n < cfg0.N), outsAt0 m c n hn
      = (blk (at' A B P Q T U v (plane ⟨n, hn⟩)).br, blk (at' A B P Q T U v (plane ⟨n, hn⟩)).bi,
        blk (at' A B P Q T U v (plane ⟨n, hn⟩)).fRe, blk (at' A B P Q T U v (plane ⟨n, hn⟩)).fIm, fun _ => ((val (last v) : ℝ) : EReal))
  | 0, hn => by
    refine (outsAt0_A m c ⟨0, hn⟩ (Nat.zero_mod _)).trans ?_
    simp only [block0 m c X hX, block1 m c A hA, block2 m c B hB, block3 m c P hP, block4 m c Q hQ, block5 m c T hT, block6 m c U hU,
      block7 m c, block8 m c, block9 m c, block10 m c]
    rw [first11 (v := v) (hv := hv), first12 (v := v) (hv := hv), first13 (v := v) (hv := hv), first14 (v := v) (hv := hv), scratch (v := v) (hv := hv), pay23, pay24, leaveRe_up, leaveIm_up]
    rfl
  | n + 1, hn => by
    have h4 : n + 1 < 4 := hn
    refine (outsAt0_B m c ⟨n + 1, hn⟩ (by show ¬ (n + 1) % 4 = 0; omega)).trans ?_
    have e : (outsAt0 m c ((⟨n + 1, hn⟩ : Fin cfg0.N).val - 1) (Nat.lt_of_le_of_lt (Nat.sub_le _ _) (⟨n + 1, hn⟩ : Fin cfg0.N).isLt)).2.2.2.2
        = fun _ => ((val (last v) : ℝ) : EReal) := congrArg (fun p => p.2.2.2.2) (outs n (Nat.lt_of_succ_lt hn))
    rw [e, block0 m c X hX, block1 m c A hA, block2 m c B hB, block3 m c P hP, block4 m c Q hQ, block5 m c T hT, block6 m c U hU,
      block7 m c, block8 m c, block9 m c, block10 m c, later11, later12, later13, later14, pay23, pay24, leaveRe_up, leaveIm_up]
    rfl

/-- The kept part's array, real part, after the run. -/
theorem final11 : (dats m 0 c).arrAt 11 cfg0.N = stack (fun n => (at' A B P Q T U v n).br) := by
  refine (dats m 0 c).arrAt_eq_of_covers 11 _ (by decide +kernel) fun t hf y => ?_
  blk_simp
  rw [after0_11, outs m c X A B P Q T U hX hA hB hP hQ hT hU v hv t.val t.isLt, emb11]
  rfl

/-- The kept part's array, imaginary part, after the run. -/
theorem final12 : (dats m 0 c).arrAt 12 cfg0.N = stack (fun n => (at' A B P Q T U v n).bi) := by
  refine (dats m 0 c).arrAt_eq_of_covers 12 _ (by decide +kernel) fun t hf y => ?_
  blk_simp
  rw [after0_12, outs m c X A B P Q T U hX hA hB hP hQ hT hU v hv t.val t.isLt, emb12]
  rfl

/-- The transformed object's array, real part, after the run. -/
theorem final13 : (dats m 0 c).arrAt 13 cfg0.N = stack (fun n => (at' A B P Q T U v n).fRe) := by
  refine (dats m 0 c).arrAt_eq_of_covers 13 _ (by decide +kernel) fun t hf y => ?_
  blk_simp
  rw [after0_13, outs m c X A B P Q T U hX hA hB hP hQ hT hU v hv t.val t.isLt, emb13]
  rfl

/-- The transformed object's array, imaginary part, after the run. -/
theorem final14 : (dats m 0 c).arrAt 14 cfg0.N = stack (fun n => (at' A B P Q T U v n).fIm) := by
  refine (dats m 0 c).arrAt_eq_of_covers 14 _ (by decide +kernel) fun t hf y => ?_
  blk_simp
  rw [after0_14, outs m c X A B P Q T U hX hA hB hP hQ hT hU v hv t.val t.isLt, emb14]
  rfl

end run

end Cert.Phase.Residual
-- ==== Proof.ResidualReference.lean ====
module

public import proofs.«01_k».proof.Proof.Host
public import proofs.«01_k».proof.Proof.ResidualSpec
public import proofs.«01_k».proof.Proof.Gen.Reference2Ideal.Run

@[expose] public section

set_option maxRecDepth 8192

noncomputable section

/-! The thresholding call's reference: what its four results are, of real planes. -/

namespace Cert.Phase.Residual.Reference

open Idealize.ShloMosaic Idealize.SL.Sem Cert.Reference2Ideal Cert.Reference2Ideal.Value
open Cert.Reference2Ideal.Gen Idealize.ShloMosaic.TcCoe

section stages

variable (V : Valuation τ sig (Elt Ideal)) (X : FVec Ideal S4 .f32) (A B P Q : Fin 4 → Plane) (T U : Plane) (v : EReal)
  (hX : V (Proc.devRef .tc main_arg0) = X) (hA : V (Proc.devRef .tc main_arg1) = stack A)
  (hB : V (Proc.devRef .tc main_arg2) = stack B) (hP : V (Proc.devRef .tc main_arg3) = stack P)
  (hQ : V (Proc.devRef .tc main_arg4) = stack Q) (hT : V (Proc.devRef .tc main_arg5) = up T)
  (hU : V (Proc.devRef .tc main_arg6) = up U) (hv : Threshold X v)

/-- The planes of member `n`. -/
abbrev of (n : Fin 4) : Rest := rest v (A n) (B n) (P n) (Q n) T U

include hX hv in
/-- The kept entries of any four planes. -/
theorem gates (Z : Fin 4 → Plane) : mulf (stack Z) (uitofp .f32 (cmpf .oge (stack (fun n => modulus (A n) (B n)))
      (broadcastInDim S4x512x512 ![] bcast_S_S4x512x512 (largest (V (Proc.devRef .tc main_arg0)) shapeCasts_S4x512x512_S1048576 sliceFits_S1048576_S2000 reducesTo_S2000_S_d0 h_S_))))
    = stack (fun n => gate v (modulus (A n) (B n)) (Z n)) :=
  (sieve_host v (stack fun n => modulus (A n) (B n)) (stack Z) _ (by rw [hX]; exact hv.host _ _ _ _) bcast_S_S4x512x512).trans (sieve_stack _ _ _)

include hX hA hB hv

/-- The kept part, real part. -/
theorem keptRe : res_main_v23 V = stack (fun n => (of A B P Q T U v n).br) := by
  refine Eq.trans ?_ (gates V X A B v hX hv A)
  rw [← modulus_stack, ← hA, ← hB]
  rfl
/-- The kept part, imaginary part. -/
theorem keptIm : res_main_v24 V = stack (fun n => (of A B P Q T U v n).bi) := by
  refine Eq.trans ?_ (gates V X A B v hX hv B)
  rw [← modulus_stack, ← hA, ← hB]
  rfl

include hP hQ

/-- The difference of the two inverses, real part. -/
theorem diffRe : res_main_v65 V = stack (fun n => invRe cosTable sinTable (P n) (Q n)
    - invRe cosTable sinTable (of A B P Q T U v n).br (of A B P Q T U v n).bi) := by
  have k : res_main_v65 V = subf (hifftRe (V (Proc.devRef .tc main_arg3)) (V (Proc.devRef .tc main_arg4)) hcos hsin)
    (hifftRe (res_main_v23 V) (res_main_v24 V) hcos hsin) := rfl
  rw [k, keptRe V X A B P Q T U v hX hA hB hv, keptIm V X A B P Q T U v hX hA hB hv, hP, hQ, hifftRe_stack, hifftRe_stack, subf_stack]
/-- The difference of the two inverses, imaginary part. -/
theorem diffIm : res_main_v66 V = stack (fun n => invIm cosTable sinTable (P n) (Q n)
    - invIm cosTable sinTable (of A B P Q T U v n).br (of A B P Q T U v n).bi) := by
  have k : res_main_v66 V = subf (hifftIm (V (Proc.devRef .tc main_arg3)) (V (Proc.devRef .tc main_arg4)) hcos hsin)
    (hifftIm (res_main_v23 V) (res_main_v24 V) hcos hsin) := rfl
  rw [k, keptRe V X A B P Q T U v hX hA hB hv, keptIm V X A B P Q T U v hX hA hB hv, hP, hQ, hifftIm_stack, hifftIm_stack, subf_stack]
/-- Its transform, real part. -/
theorem restRe : res_main_v77 V = stack (fun n => (of A B P Q T U v n).dRe) := by
  have k : res_main_v77 V = hfftRe (res_main_v65 V) (res_main_v66 V) hcos hsin := rfl
  rw [k, diffRe V X A B P Q T U v hX hA hB hP hQ hv, diffIm V X A B P Q T U v hX hA hB hP hQ hv, hfftRe_stack]
  exact congrArg stack (funext fun n => (of A B P Q T U v n).dRe_back)
/-- Its transform, imaginary part. -/
theorem restIm : res_main_v82 V = stack (fun n => (of A B P Q T U v n).dIm) := by
  have k : res_main_v82 V = hfftIm (res_main_v65 V) (res_main_v66 V) hcos hsin := rfl
  rw [k, diffRe V X A B P Q T U v hX hA hB hP hQ hv, diffIm V X A B P Q T U v hX hA hB hP hQ hv, hfftIm_stack]
  exact congrArg stack (funext fun n => (of A B P Q T U v n).dIm_back)

include hT hU

/-- What remains, propagated back, real part. -/
theorem backRe : res_main_v90 V = stack (fun n => (of A B P Q T U v n).vRe) := by
  unfold res_main_v90 res_main_v83
  rw [restRe V X A B P Q T U v hX hA hB hP hQ hv, restIm V X A B P Q T U v hX hA hB hP hQ hv, hT, hU, negf_up,
    repeat_stack, repeat_stack, mulf_stack, mulf_stack, subf_stack]
  exact congrArg stack (funext fun n => (of A B P Q T U v n).vRe_host)
/-- What remains, propagated back, imaginary part. -/
theorem backIm : res_main_v97 V = stack (fun n => (of A B P Q T U v n).vIm) := by
  unfold res_main_v97 res_main_v83
  rw [restRe V X A B P Q T U v hX hA hB hP hQ hv, restIm V X A B P Q T U v hX hA hB hP hQ hv, hT, hU, negf_up,
    repeat_stack, repeat_stack, mulf_stack, mulf_stack, addf_stack]
  exact congrArg stack (funext fun n => (of A B P Q T U v n).vIm_host)
/-- The object, real part. -/
theorem objectRe : res_main_v110 V = stack (fun n => (of A B P Q T U v n).xRe) := by
  have k : res_main_v110 V = hifftRe (res_main_v90 V) (res_main_v97 V) hcos hsin := rfl
  rw [k, backRe V X A B P Q T U v hX hA hB hP hQ hT hU hv, backIm V X A B P Q T U v hX hA hB hP hQ hT hU hv, hifftRe_stack]
  rfl
/-- The object, imaginary part. -/
theorem objectIm : res_main_v117 V = stack (fun n => (of A B P Q T U v n).xIm) := by
  have k : res_main_v117 V = hifftIm (res_main_v90 V) (res_main_v97 V) hcos hsin := rfl
  rw [k, backRe V X A B P Q T U v hX hA hB hP hQ hT hU hv, backIm V X A B P Q T U v hX hA hB hP hQ hT hU hv, hifftIm_stack]
  rfl
/-- The object without its small entries, real part. -/
theorem largeRe : res_main_v125 V = stack (fun n => (of A B P Q T U v n).sRe) := by
  unfold res_main_v125 res_main_v124
  rw [objectRe V X A B P Q T U v hX hA hB hP hQ hT hU hv, objectIm V X A B P Q T U v hX hA hB hP hQ hT hU hv, modulus_stack]
  exact sift_stack _ _ _
/-- The object without its small entries, imaginary part. -/
theorem largeIm : res_main_v126 V = stack (fun n => (of A B P Q T U v n).sIm) := by
  unfold res_main_v126 res_main_v124
  rw [objectRe V X A B P Q T U v hX hA hB hP hQ hT hU hv, objectIm V X A B P Q T U v hX hA hB hP hQ hT hU hv, modulus_stack]
  exact sift_stack _ _ _
/-- Its transform, real part. -/
theorem lastRe : hfftRe (res_main_v125 V) (res_main_v126 V) hcos hsin = stack (fun n => (of A B P Q T U v n).fRe) := by
  rw [largeRe V X A B P Q T U v hX hA hB hP hQ hT hU hv, largeIm V X A B P Q T U v hX hA hB hP hQ hT hU hv, hfftRe_stack]
  rfl
/-- Its transform, imaginary part. -/
theorem lastIm : hfftIm (res_main_v125 V) (res_main_v126 V) hcos hsin = stack (fun n => (of A B P Q T U v n).fIm) := by
  rw [largeRe V X A B P Q T U v hX hA hB hP hQ hT hU hv, largeIm V X A B P Q T U v hX hA hB hP hQ hT hU hv, hfftIm_stack]
  rfl

end stages

variable (m : (ℓ : Loc nD τ sig) → Buf (Elt Ideal) ℓ) (g : Dev nD → PrngReg)

/-- The run of the reference, of real planes. -/
theorem run (X : Dev nD → FVec Ideal S4 .f32) (A B P Q : Dev nD → Fin 4 → Plane) (T U : Dev nD → Plane) (hX : ∀ c : Dev nD, m ((c.tc : Thread nD τ).loc main_arg0) = X c)
    (hA : ∀ c : Dev nD, m ((c.tc : Thread nD τ).loc main_arg1) = stack (A c)) (hB : ∀ c : Dev nD, m ((c.tc : Thread nD τ).loc main_arg2) = stack (B c))
    (hP : ∀ c : Dev nD, m ((c.tc : Thread nD τ).loc main_arg3) = stack (P c)) (hQ : ∀ c : Dev nD, m ((c.tc : Thread nD τ).loc main_arg4) = stack (Q c))
    (hT : ∀ c : Dev nD, m ((c.tc : Thread nD τ).loc main_arg5) = up (T c)) (hU : ∀ c : Dev nD, m ((c.tc : Thread nD τ).loc main_arg6) = up (U c))
    (v : Dev nD → EReal) (hv : ∀ c, Threshold (X c) (v c)) :
    θ_run (defs (F := Ideal)) (onTc (τ := τ) (main (F := Ideal))) ⟨m, fun _ => 0, g⟩ fun r => ∀ c : Dev nD,
      r.2.mem ((c.tc : Thread nD τ).loc main_v23) = stack (fun n => (of (A c) (B c) (P c) (Q c) (T c) (U c) (v c) n).br)
      ∧ r.2.mem ((c.tc : Thread nD τ).loc main_v24) = stack (fun n => (of (A c) (B c) (P c) (Q c) (T c) (U c) (v c) n).bi)
      ∧ r.2.mem ((c.tc : Thread nD τ).loc main_v137) = stack (fun n => (of (A c) (B c) (P c) (Q c) (T c) (U c) (v c) n).fRe)
      ∧ r.2.mem ((c.tc : Thread nD τ).loc main_v142) = stack (fun n => (of (A c) (B c) (P c) (Q c) (T c) (U c) (v c) n).fIm)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine (θ_run defs _ _).mono (fun r h c => ?_) (Cert.Reference2Ideal.Value.run m g)
  obtain ⟨h0, h1, h2, h3, hs⟩ := h c
  refine ⟨h0.trans ?_, h1.trans ?_, h2.trans ?_, h3.trans ?_, hs⟩
  · exact keptRe _ (X c) (A c) (B c) (P c) (Q c) (T c) (U c) (v c) (hX c) (hA c) (hB c) (hv c)
  · exact keptIm _ (X c) (A c) (B c) (P c) (Q c) (T c) (U c) (v c) (hX c) (hA c) (hB c) (hv c)
  · rw [← lastRe (StableHlo.launchContents m c) (X c) (A c) (B c) (P c) (Q c) (T c) (U c) (v c) (hX c) (hA c) (hB c) (hP c) (hQ c) (hT c) (hU c) (hv c)]
    rfl
  · rw [← lastIm (StableHlo.launchContents m c) (X c) (A c) (B c) (P c) (Q c) (T c) (U c) (v c) (hX c) (hA c) (hB c) (hP c) (hQ c) (hT c) (hU c) (hv c)]
    rfl

end Cert.Phase.Residual.Reference
-- ==== Proof.AgreeResidual.lean ====
module

public import proofs.«01_k».proof.Defs
public import proofs.«01_k».proof.Proof.Residual
public import proofs.«01_k».proof.Proof.ResidualReference
public import proofs.«01_k».proof.Proof.Finite
public import proofs.«01_k».proof.Proof.Separation

@[expose] public section

noncomputable section

/-! The thresholding call and its reference leave the same results. -/

namespace Cert.Phase.Residual

open Idealize.ShloMosaic Idealize.SL.Sem Idealize.ShloMosaic.TcCoe
open Cert.Kernel2Ideal Cert.Kernel2Ideal.Gen

/-- The thresholding call's four results are the reference's, where no modulus lies just below the threshold. -/
theorem agrees : Cert.algebraic_Kernel2Ideal_Reference2Ideal_pre_separated := by
  intro m g m' g' hp ha
  have eA : ∀ c : Dev Cert.Kernel2Ideal.nD, ∃ A : Fin 4 → Plane, m ((c.tc : Thread nD τ).loc main_arg1) = stack A :=
    fun c => stack_of_finite _ _ (hp c).1
  have eB : ∀ c : Dev Cert.Kernel2Ideal.nD, ∃ B : Fin 4 → Plane, m ((c.tc : Thread nD τ).loc main_arg2) = stack B :=
    fun c => stack_of_finite _ _ (hp c).2.1
  have eP : ∀ c : Dev Cert.Kernel2Ideal.nD, ∃ P : Fin 4 → Plane, m ((c.tc : Thread nD τ).loc main_arg3) = stack P :=
    fun c => stack_of_finite _ _ (hp c).2.2.1
  have eQ : ∀ c : Dev Cert.Kernel2Ideal.nD, ∃ Q : Fin 4 → Plane, m ((c.tc : Thread nD τ).loc main_arg4) = stack Q :=
    fun c => stack_of_finite _ _ (hp c).2.2.2.1
  have eT : ∀ c : Dev Cert.Kernel2Ideal.nD, ∃ T : Plane, m ((c.tc : Thread nD τ).loc main_arg5) = up T :=
    fun c => up_of_finite _ _ (hp c).2.2.2.2.1
  have eU : ∀ c : Dev Cert.Kernel2Ideal.nD, ∃ U : Plane, m ((c.tc : Thread nD τ).loc main_arg6) = up U :=
    fun c => up_of_finite _ _ (hp c).2.2.2.2.2.1
  choose A hA using eA
  choose B hB using eB
  choose P hP using eP
  choose Q hQ using eQ
  choose T hT using eT
  choose U hU using eU
  have ev : ∀ c : Dev Cert.Kernel2Ideal.nD, ∃ v, Threshold (m ((c.tc : Thread nD τ).loc main_arg0)) v ∧ Separated v (stack fun n => modulus (A c n) (B c n)) := fun c => by
    refine separated_of _ _ Separation.facts2.shapeCasts_S4x512x512_S1048576 Separation.facts2.sliceFits_S1048576_S2000
      Separation.facts2.reducesTo_S2000_S_d0 Separation.facts2.h_S_ Separation.facts2.bcast_S_S4x512x512 Separation.facts2.bcast_S_S4x512x512
      (hp c).2.2.2.2.2.2.1 ?_
    rw [← modulus_stack, ← hA c, ← hB c]
    exact (hp c).2.2.2.2.2.2.2
  choose v hv sep using ev
  have same : ∀ (c : Dev Cert.Kernel2Ideal.nD) (n : Fin 4), at' (A c) (B c) (P c) (Q c) (T c) (U c) (v c) n
      = rest (v c) (A c n) (B c n) (P c n) (Q c n) (T c) (U c) := fun c n => by
    have k : ∀ Z : Fin 4 → Plane, gate (val (last (v c)) : EReal) (modulus (A c n) (B c n)) (Z n) = gate (v c) (modulus (A c n) (B c n)) (Z n) := fun Z => by
      have e := sieve_last (v c) (stack fun n => modulus (A c n) (B c n)) (sep c) (fun i => EReal.coe_nonneg.mpr (modulus_nonneg _ _ _ _)) (stack Z)
      rw [sieve_stack, sieve_stack] at e
      exact stack_inj e n
    unfold at' rest
    rw [k (A c), k (B c)]
  have alike : ∀ (c : Dev Cert.Kernel2Ideal.nD) (f : Rest → Plane), stack (fun n => f (at' (A c) (B c) (P c) (Q c) (T c) (U c) (v c) n))
      = stack (fun n => f (rest (v c) (A c n) (B c n) (P c n) (Q c n) (T c) (U c))) := fun c f =>
    congrArg stack (funext fun n => congrArg f (same c n))
  refine ⟨fun c => stack (fun n => (rest (v c) (A c n) (B c n) (P c n) (Q c n) (T c) (U c)).br),
    fun c => stack (fun n => (rest (v c) (A c n) (B c n) (P c n) (Q c n) (T c) (U c)).bi),
    fun c => stack (fun n => (rest (v c) (A c n) (B c n) (P c n) (Q c n) (T c) (U c)).fRe),
    fun c => stack (fun n => (rest (v c) (A c n) (B c n) (P c n) (Q c n) (T c) (U c)).fIm), ?_,
    Reference.run m' g' (fun c => m ((c.tc : Thread nD τ).loc main_arg0)) A B P Q T U (fun c => (ha c).1) (fun c => (ha c).2.1.trans (hA c)) (fun c => (ha c).2.2.1.trans (hB c))
      (fun c => (ha c).2.2.2.1.trans (hP c)) (fun c => (ha c).2.2.2.2.1.trans (hQ c)) (fun c => (ha c).2.2.2.2.2.1.trans (hT c))
      (fun c => (ha c).2.2.2.2.2.2.trans (hU c)) v hv⟩
  refine (θ_run _ _ _).mono (fun r h c => ?_) (run_main m g)
  exact ⟨((h c).1 11).trans ((final11 m c _ (A c) (B c) (P c) (Q c) (T c) (U c) rfl (hA c) (hB c) (hP c) (hQ c) (hT c) (hU c) (v c) (hv c)).trans (alike c Rest.br)),
    ((h c).1 12).trans ((final12 m c _ (A c) (B c) (P c) (Q c) (T c) (U c) rfl (hA c) (hB c) (hP c) (hQ c) (hT c) (hU c) (v c) (hv c)).trans (alike c Rest.bi)),
    ((h c).1 13).trans ((final13 m c _ (A c) (B c) (P c) (Q c) (T c) (U c) rfl (hA c) (hB c) (hP c) (hQ c) (hT c) (hU c) (v c) (hv c)).trans (alike c Rest.fRe)),
    ((h c).1 14).trans ((final14 m c _ (A c) (B c) (P c) (Q c) (T c) (U c) rfl (hA c) (hB c) (hP c) (hQ c) (hT c) (hU c) (v c) (hv c)).trans (alike c Rest.fIm)),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).1 3).trans (((dats m 0 c).arrAt_in 3 rfl _).trans ((A_eq m c 3).trans (V_main_arg3 m c))),
    ((h c).1 4).trans (((dats m 0 c).arrAt_in 4 rfl _).trans ((A_eq m c 4).trans (V_main_arg4 m c))),
    ((h c).1 5).trans (((dats m 0 c).arrAt_in 5 rfl _).trans ((A_eq m c 5).trans (V_main_arg5 m c))),
    ((h c).1 6).trans (((dats m 0 c).arrAt_in 6 rfl _).trans ((A_eq m c 6).trans (V_main_arg6 m c)))⟩

end Cert.Phase.Residual
-- ==== Proof.lean ====
/- The proof of the certificate's claims: for the five calls and for the last pass of two calls, that each runs and leaves
   its arguments alone, that its idealization preserves it, and that what it leaves is what its reference leaves. The
   frames of the single calls are generated, that of the last pass is in Proof/LastPassRun.lean and Proof/LastPassBits.lean;
   the references' are in Proof/References.lean; the values in Proof/AgreeMain.lean, Proof/AgreeFirst.lean,
   Proof/Propagator.lean, Proof/AgreeMask.lean, Proof/AgreeResidual.lean, Proof/AgreeLastPass.lean. -/
module

public import proofs.«01_k».proof.Defs
public import Idealize.ShloMosaic.Lib.Quiescent
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Loops
public import proofs.«01_k».proof.Proof.Gen.Kernel2.Frame.RunA
public import proofs.«01_k».proof.Proof.Gen.Kernel2.Frame.RunB
public import proofs.«01_k».proof.Proof.Gen.Kernel2.Frame.Runs
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Loops
public import proofs.«01_k».proof.Proof.Gen.Kernel2Ideal.Frame.RunA
public import proofs.«01_k».proof.Proof.Gen.Kernel2Ideal.Frame.RunB
public import proofs.«01_k».proof.Proof.Gen.Kernel2Ideal.Frame.Runs
public import proofs.«01_k».proof.Proof.Gen.Kernel2Ideal.Frame
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Loops
public import proofs.«01_k».proof.Proof.Gen.Kernel4.Frame.RunA
public import proofs.«01_k».proof.Proof.Gen.Kernel4.Frame.RunB
public import proofs.«01_k».proof.Proof.Gen.Kernel4.Frame.Runs
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Loops
public import proofs.«01_k».proof.Proof.Gen.Kernel4Ideal.Frame.RunA
public import proofs.«01_k».proof.Proof.Gen.Kernel4Ideal.Frame.RunB
public import proofs.«01_k».proof.Proof.Gen.Kernel4Ideal.Frame.Runs
public import proofs.«01_k».proof.Proof.Gen.Kernel4Ideal.Frame
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Loops
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Loops
public import proofs.«01_k».proof.Proof.Gen.Reference6Ideal
public import proofs.«01_k».proof.Proof.Gen.Reference6Ideal.Run
public import proofs.«01_k».proof.Proof.Gen.Pre_separated6
public import proofs.«01_k».proof.Proof.Gen.ReferenceIdeal
public import proofs.«01_k».proof.Proof.Gen.Reference2Ideal
public import proofs.«01_k».proof.Proof.Gen.Reference3Ideal
public import proofs.«01_k».proof.Proof.Gen.Reference4Ideal
public import proofs.«01_k».proof.Proof.Gen.Reference5Ideal
public import proofs.«01_k».proof.Proof.Gen.Pre_finite
public import proofs.«01_k».proof.Proof.Gen.Pre_finite3
public import proofs.«01_k».proof.Proof.Gen.ReferenceIdeal.Run
public import proofs.«01_k».proof.Proof.Gen.Reference2Ideal.Run
public import proofs.«01_k».proof.Proof.Gen.Reference3Ideal.Run
public import proofs.«01_k».proof.Proof.Gen.Reference4Ideal.Run
public import proofs.«01_k».proof.Proof.Gen.Reference5Ideal.Run
public import proofs.«01_k».proof.Proof.References
public import proofs.«01_k».proof.Proof.AgreeMain
public import proofs.«01_k».proof.Proof.AgreeFirst
public import proofs.«01_k».proof.Proof.Propagator
public import proofs.«01_k».proof.Proof.AgreeMask
public import proofs.«01_k».proof.Proof.LastPassBits
public import proofs.«01_k».proof.Proof.AgreeLastPass
public import proofs.«01_k».proof.Proof.AgreeResidual

@[expose] public section

noncomputable section

namespace Cert.Proof

open Idealize.ShloMosaic Idealize.SL.Sem

/-- Every claim of the certificate. -/
theorem claim : Cert.Claim := ⟨Cert.Kernel.Gen.facts,
  Cert.KernelIdeal.Gen.facts,
  Cert.ReferenceIdeal.Gen.facts,
  Cert.Kernel2.Gen.facts,
  Cert.Kernel2Ideal.Gen.facts,
  Cert.Reference2Ideal.Gen.facts,
  Cert.Kernel3.Gen.facts,
  Cert.Kernel3Ideal.Gen.facts,
  Cert.Reference3Ideal.Gen.facts,
  Cert.Kernel4.Gen.facts,
  Cert.Kernel4Ideal.Gen.facts,
  Cert.Reference4Ideal.Gen.facts,
  Cert.Kernel5.Gen.facts,
  Cert.Kernel5Ideal.Gen.facts,
  Cert.Reference5Ideal.Gen.facts,
  Cert.Kernel6.Gen.facts,
  Cert.Kernel6Ideal.Gen.facts,
  Cert.Reference6Ideal.Gen.facts,
  Cert.Pre_finite.Gen.facts,
  Cert.Phase.Separation.facts2,
  Cert.Pre_finite3.Gen.facts,
  Cert.Phase.Separation.facts4,
  Cert.Pre_separated6.Gen.facts,
  fun m ρ _ => Cert.Kernel.Gen.frame m ρ,
  fun m ρ _ => Cert.KernelIdeal.Gen.frame m ρ,
  fun m ρ _ => Cert.KernelIdeal.Gen.frame m ρ,
  Cert.Phase.kept,
  fun m ρ _ => Cert.Phase.kept m ρ trivial,
  fun m ρ _ => Cert.Kernel2.Gen.frame m ρ,
  fun m ρ _ => Cert.Kernel2Ideal.Gen.frame m ρ,
  fun m ρ _ => Cert.Kernel2Ideal.Gen.frame m ρ,
  Cert.Phase.kept2,
  fun m ρ _ => Cert.Phase.kept2 m ρ trivial,
  fun m ρ _ => Cert.Kernel3.Gen.frame m ρ,
  fun m ρ _ => Cert.Kernel3Ideal.Gen.frame m ρ,
  fun m ρ _ => Cert.Kernel3Ideal.Gen.frame m ρ,
  Cert.Phase.kept3,
  fun m ρ _ => Cert.Phase.kept3 m ρ trivial,
  fun m ρ _ => Cert.Kernel4.Gen.frame m ρ,
  fun m ρ _ => Cert.Kernel4Ideal.Gen.frame m ρ,
  fun m ρ _ => Cert.Kernel4Ideal.Gen.frame m ρ,
  Cert.Phase.kept4,
  fun m ρ _ => Cert.Phase.kept4 m ρ trivial,
  fun m ρ _ => Cert.Kernel5.Gen.frame m ρ,
  fun m ρ _ => Cert.Kernel5Ideal.Gen.frame m ρ,
  Cert.Phase.kept5,
  Cert.Phase.LastPass.frame,
  fun m ρ _ => Cert.Kernel6Ideal.Gen.frame m ρ,
  fun m ρ _ => Cert.Kernel6Ideal.Gen.frame m ρ,
  Cert.Phase.kept6,
  fun m ρ _ => Cert.Phase.kept6 m ρ trivial,
  trivial,
  trivial,
  trivial,
  trivial,
  trivial,
  trivial,
  Cert.Phase.Main.agrees,
  Cert.Phase.Residual.agrees,
  Cert.Phase.First.agrees,
  Cert.Phase.Mask.agrees,
  Cert.Phase.Propagator.agrees,
  Cert.Phase.LastPass.agrees⟩

end Cert.Proof

end
